-- ==== Defs.lean ====
def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_real_scores [hPre_real_scores : Cert.Pre_real_scores.Facts] (m : (ℓ : Loc Cert.LatentIdeal.nD Cert.LatentIdeal.τ Cert.LatentIdeal.sig) → Buf (Elt Ideal) ℓ) : Prop :=
  ∀ c : Dev Cert.LatentIdeal.nD,
    (Cert.Pre_real_scores.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3))) = (fun _ => 1#1)

def Pre_LatentRefIdeal (m : (ℓ : Loc Cert.LatentRefIdeal.nD Cert.LatentRefIdeal.τ Cert.LatentRefIdeal.sig) → Buf (Elt Ideal) ℓ) : Prop :=
  True

def Pre_LatentRefIdeal_real_scores [hPre_real_scores : Cert.Pre_real_scores.Facts] (m : (ℓ : Loc Cert.LatentRefIdeal.nD Cert.LatentRefIdeal.τ Cert.LatentRefIdeal.sig) → Buf (Elt Ideal) ℓ) : Prop :=
  ∀ c : Dev Cert.LatentRefIdeal.nD,
    (Cert.Pre_real_scores.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2)) (m ((c.tc : Thread Cert.LatentRefIdeal.nD Cert.LatentRefIdeal.τ).loc Cert.LatentRefIdeal.main_arg3))) = (fun _ => 1#1)

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptIdeal_real_proj [hPre_real_proj : Cert.Pre_real_proj.Facts] (m : (ℓ : Loc Cert.PromptIdeal.nD Cert.PromptIdeal.τ Cert.PromptIdeal.sig) → Buf (Elt Ideal) ℓ) : Prop :=
  ∀ c : Dev Cert.PromptIdeal.nD,
    (Cert.Pre_real_proj.fn (F := Ideal) (m ((c.tc : Thread Cert.PromptIdeal.nD Cert.PromptIdeal.τ).loc Cert.PromptIdeal.main_arg0))) = (fun _ => 1#1)

def Pre_PromptRefIdeal (m : (ℓ : Loc Cert.PromptRefIdeal.nD Cert.PromptRefIdeal.τ Cert.PromptRefIdeal.sig) → Buf (Elt Ideal) ℓ) : Prop :=
  True

def Pre_PromptRefIdeal_real_proj [hPre_real_proj : Cert.Pre_real_proj.Facts] (m : (ℓ : Loc Cert.PromptRefIdeal.nD Cert.PromptRefIdeal.τ Cert.PromptRefIdeal.sig) → Buf (Elt Ideal) ℓ) : Prop :=
  ∀ c : Dev Cert.PromptRefIdeal.nD,
    (Cert.Pre_real_proj.fn (F := Ideal) (m ((c.tc : Thread Cert.PromptRefIdeal.nD Cert.PromptRefIdeal.τ).loc Cert.PromptRefIdeal.main_arg0))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_real_mlp [hPre_real_mlp : Cert.Pre_real_mlp.Facts] (m : (ℓ : Loc Cert.MlpIdeal.nD Cert.MlpIdeal.τ Cert.MlpIdeal.sig) → Buf (Elt Ideal) ℓ) : Prop :=
  ∀ c : Dev Cert.MlpIdeal.nD,
    (Cert.Pre_real_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_real_mlp [hPre_real_mlp : Cert.Pre_real_mlp.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_real_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))) = (fun _ => 1#1)

def Pre_FinalPrompt (m : (ℓ : Loc Cert.FinalPrompt.nD Cert.FinalPrompt.τ Cert.FinalPrompt.sig) → Buf (Elt Bits) ℓ) : Prop :=
  True

def Pre_FinalPromptIdeal (m : (ℓ : Loc Cert.FinalPromptIdeal.nD Cert.FinalPromptIdeal.τ Cert.FinalPromptIdeal.sig) → Buf (Elt Ideal) ℓ) : Prop :=
  True

def Pre_FinalPromptIdeal_real_final [hPre_real_final : Cert.Pre_real_final.Facts] (m : (ℓ : Loc Cert.FinalPromptIdeal.nD Cert.FinalPromptIdeal.τ Cert.FinalPromptIdeal.sig) → Buf (Elt Ideal) ℓ) : Prop :=
  ∀ c : Dev Cert.FinalPromptIdeal.nD,
    (Cert.Pre_real_final.fn (F := Ideal) (m ((c.tc : Thread Cert.FinalPromptIdeal.nD Cert.FinalPromptIdeal.τ).loc Cert.FinalPromptIdeal.main_arg0)) (m ((c.tc : Thread Cert.FinalPromptIdeal.nD Cert.FinalPromptIdeal.τ).loc Cert.FinalPromptIdeal.main_arg1)) (m ((c.tc : Thread Cert.FinalPromptIdeal.nD Cert.FinalPromptIdeal.τ).loc Cert.FinalPromptIdeal.main_arg2)) (m ((c.tc : Thread Cert.FinalPromptIdeal.nD Cert.FinalPromptIdeal.τ).loc Cert.FinalPromptIdeal.main_arg3)) (m ((c.tc : Thread Cert.FinalPromptIdeal.nD Cert.FinalPromptIdeal.τ).loc Cert.FinalPromptIdeal.main_arg4)) (m ((c.tc : Thread Cert.FinalPromptIdeal.nD Cert.FinalPromptIdeal.τ).loc Cert.FinalPromptIdeal.main_arg5))) = (fun _ => 1#1)

def Pre_FinalPromptRefIdeal (m : (ℓ : Loc Cert.FinalPromptRefIdeal.nD Cert.FinalPromptRefIdeal.τ Cert.FinalPromptRefIdeal.sig) → Buf (Elt Ideal) ℓ) : Prop :=
  True

def Pre_FinalPromptRefIdeal_real_final [hPre_real_final : Cert.Pre_real_final.Facts] (m : (ℓ : Loc Cert.FinalPromptRefIdeal.nD Cert.FinalPromptRefIdeal.τ Cert.FinalPromptRefIdeal.sig) → Buf (Elt Ideal) ℓ) : Prop :=
  ∀ c : Dev Cert.FinalPromptRefIdeal.nD,
    (Cert.Pre_real_final.fn (F := Ideal) (m ((c.tc : Thread Cert.FinalPromptRefIdeal.nD Cert.FinalPromptRefIdeal.τ).loc Cert.FinalPromptRefIdeal.main_arg0)) (m ((c.tc : Thread Cert.FinalPromptRefIdeal.nD Cert.FinalPromptRefIdeal.τ).loc Cert.FinalPromptRefIdeal.main_arg1)) (m ((c.tc : Thread Cert.FinalPromptRefIdeal.nD Cert.FinalPromptRefIdeal.τ).loc Cert.FinalPromptRefIdeal.main_arg2)) (m ((c.tc : Thread Cert.FinalPromptRefIdeal.nD Cert.FinalPromptRefIdeal.τ).loc Cert.FinalPromptRefIdeal.main_arg3)) (m ((c.tc : Thread Cert.FinalPromptRefIdeal.nD Cert.FinalPromptRefIdeal.τ).loc Cert.FinalPromptRefIdeal.main_arg4)) (m ((c.tc : Thread Cert.FinalPromptRefIdeal.nD Cert.FinalPromptRefIdeal.τ).loc Cert.FinalPromptRefIdeal.main_arg5))) = (fun _ => 1#1)

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_FinalSampleIdeal_real_final [hPre_real_final : Cert.Pre_real_final.Facts] (m : (ℓ : Loc Cert.FinalSampleIdeal.nD Cert.FinalSampleIdeal.τ Cert.FinalSampleIdeal.sig) → Buf (Elt Ideal) ℓ) : Prop :=
  ∀ c : Dev Cert.FinalSampleIdeal.nD,
    (Cert.Pre_real_final.fn (F := Ideal) (m ((c.tc : Thread Cert.FinalSampleIdeal.nD Cert.FinalSampleIdeal.τ).loc Cert.FinalSampleIdeal.main_arg0)) (m ((c.tc : Thread Cert.FinalSampleIdeal.nD Cert.FinalSampleIdeal.τ).loc Cert.FinalSampleIdeal.main_arg1)) (m ((c.tc : Thread Cert.FinalSampleIdeal.nD Cert.FinalSampleIdeal.τ).loc Cert.FinalSampleIdeal.main_arg2)) (m ((c.tc : Thread Cert.FinalSampleIdeal.nD Cert.FinalSampleIdeal.τ).loc Cert.FinalSampleIdeal.main_arg3)) (m ((c.tc : Thread Cert.FinalSampleIdeal.nD Cert.FinalSampleIdeal.τ).loc Cert.FinalSampleIdeal.main_arg4)) (m ((c.tc : Thread Cert.FinalSampleIdeal.nD Cert.FinalSampleIdeal.τ).loc Cert.FinalSampleIdeal.main_arg5))) = (fun _ => 1#1)

def Pre_FinalSampleRefIdeal (m : (ℓ : Loc Cert.FinalSampleRefIdeal.nD Cert.FinalSampleRefIdeal.τ Cert.FinalSampleRefIdeal.sig) → Buf (Elt Ideal) ℓ) : Prop :=
  True

def Pre_FinalSampleRefIdeal_real_final [hPre_real_final : Cert.Pre_real_final.Facts] (m : (ℓ : Loc Cert.FinalSampleRefIdeal.nD Cert.FinalSampleRefIdeal.τ Cert.FinalSampleRefIdeal.sig) → Buf (Elt Ideal) ℓ) : Prop :=
  ∀ c : Dev Cert.FinalSampleRefIdeal.nD,
    (Cert.Pre_real_final.fn (F := Ideal) (m ((c.tc : Thread Cert.FinalSampleRefIdeal.nD Cert.FinalSampleRefIdeal.τ).loc Cert.FinalSampleRefIdeal.main_arg0)) (m ((c.tc : Thread Cert.FinalSampleRefIdeal.nD Cert.FinalSampleRefIdeal.τ).loc Cert.FinalSampleRefIdeal.main_arg1)) (m ((c.tc : Thread Cert.FinalSampleRefIdeal.nD Cert.FinalSampleRefIdeal.τ).loc Cert.FinalSampleRefIdeal.main_arg2)) (m ((c.tc : Thread Cert.FinalSampleRefIdeal.nD Cert.FinalSampleRefIdeal.τ).loc Cert.FinalSampleRefIdeal.main_arg3)) (m ((c.tc : Thread Cert.FinalSampleRefIdeal.nD Cert.FinalSampleRefIdeal.τ).loc Cert.FinalSampleRefIdeal.main_arg4)) (m ((c.tc : Thread Cert.FinalSampleRefIdeal.nD Cert.FinalSampleRefIdeal.τ).loc Cert.FinalSampleRefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentIdeal_pre_real_scores [hLatentIdeal : Cert.LatentIdeal.Facts] [hPre_real_scores : Cert.Pre_real_scores.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_real_scores m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3))
      ∧ r.2.sem = fun _ => 0)

def quiescent_LatentRefIdeal_pre_real_scores [hLatentRefIdeal : Cert.LatentRefIdeal.Facts] [hPre_real_scores : Cert.Pre_real_scores.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal_real_scores m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0))
      ∧ r.2.sem = fun _ => 0)

def quiescent_PromptIdeal_pre_real_proj [hPromptIdeal : Cert.PromptIdeal.Facts] [hPre_real_proj : Cert.Pre_real_proj.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal_real_proj m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0))
      ∧ r.2.sem = fun _ => 0)

def quiescent_PromptRefIdeal_pre_real_proj [hPromptRefIdeal : Cert.PromptRefIdeal.Facts] [hPre_real_proj : Cert.Pre_real_proj.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal_real_proj m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpIdeal_pre_real_mlp [hMlpIdeal : Cert.MlpIdeal.Facts] [hPre_real_mlp : Cert.Pre_real_mlp.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_real_mlp m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpRefIdeal_pre_real_mlp [hMlpRefIdeal : Cert.MlpRefIdeal.Facts] [hPre_real_mlp : Cert.Pre_real_mlp.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_real_mlp m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_FinalPrompt [hFinalPrompt : Cert.FinalPrompt.Facts] : Prop :=
  ∀ (m : (ℓ : Loc Cert.FinalPrompt.nD Cert.FinalPrompt.τ Cert.FinalPrompt.sig) → Buf (Elt Bits) ℓ) (g : Dev Cert.FinalPrompt.nD → PrngReg), Pre_FinalPrompt m →
    θ_run (Cert.FinalPrompt.defs (F := Bits)) (onTc (τ := Cert.FinalPrompt.τ) (Cert.FinalPrompt.main (F := Bits))) ⟨m, fun _ => 0, g⟩ (fun r => (∀ c : Dev Cert.FinalPrompt.nD,
      r.2.mem ((c.tc : Thread Cert.FinalPrompt.nD Cert.FinalPrompt.τ).loc Cert.FinalPrompt.main_arg0) = m ((c.tc : Thread Cert.FinalPrompt.nD Cert.FinalPrompt.τ).loc Cert.FinalPrompt.main_arg0)
      ∧ r.2.mem ((c.tc : Thread Cert.FinalPrompt.nD Cert.FinalPrompt.τ).loc Cert.FinalPrompt.main_arg1) = m ((c.tc : Thread Cert.FinalPrompt.nD Cert.FinalPrompt.τ).loc Cert.FinalPrompt.main_arg1)
      ∧ r.2.mem ((c.tc : Thread Cert.FinalPrompt.nD Cert.FinalPrompt.τ).loc Cert.FinalPrompt.main_arg2) = m ((c.tc : Thread Cert.FinalPrompt.nD Cert.FinalPrompt.τ).loc Cert.FinalPrompt.main_arg2)
      ∧ r.2.mem ((c.tc : Thread Cert.FinalPrompt.nD Cert.FinalPrompt.τ).loc Cert.FinalPrompt.main_arg3) = m ((c.tc : Thread Cert.FinalPrompt.nD Cert.FinalPrompt.τ).loc Cert.FinalPrompt.main_arg3)
      ∧ r.2.mem ((c.tc : Thread Cert.FinalPrompt.nD Cert.FinalPrompt.τ).loc Cert.FinalPrompt.main_arg4) = m ((c.tc : Thread Cert.FinalPrompt.nD Cert.FinalPrompt.τ).loc Cert.FinalPrompt.main_arg4)
      ∧ r.2.mem ((c.tc : Thread Cert.FinalPrompt.nD Cert.FinalPrompt.τ).loc Cert.FinalPrompt.main_arg5) = m ((c.tc : Thread Cert.FinalPrompt.nD Cert.FinalPrompt.τ).loc Cert.FinalPrompt.main_arg5))
      ∧ r.2.sem = fun _ => 0)

def quiescent_FinalPromptIdeal [hFinalPromptIdeal : Cert.FinalPromptIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg), Pre_FinalPromptIdeal m →
    θ_run (Cert.FinalPromptIdeal.defs (F := Ideal)) (onTc (τ := Cert.FinalPromptIdeal.τ) (Cert.FinalPromptIdeal.main (F := Ideal))) ⟨m, fun _ => 0, g⟩ (fun r => (∀ c : Dev Cert.FinalPromptIdeal.nD,
      r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
      ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1)
      ∧ r.2.mem ((c.tc : Thread Cert.FinalPromptIdeal.nD Cert.FinalPromptIdeal.τ).loc Cert.FinalPromptIdeal.main_arg2) = m ((c.tc : Thread Cert.FinalPromptIdeal.nD Cert.FinalPromptIdeal.τ).loc Cert.FinalPromptIdeal.main_arg2)
      ∧ r.2.mem ((c.tc : Thread Cert.FinalPromptIdeal.nD Cert.FinalPromptIdeal.τ).loc Cert.FinalPromptIdeal.main_arg3) = m ((c.tc : Thread Cert.FinalPromptIdeal.nD Cert.FinalPromptIdeal.τ).loc Cert.FinalPromptIdeal.main_arg3)
      ∧ r.2.mem ((c.tc : Thread Cert.FinalPromptIdeal.nD Cert.FinalPromptIdeal.τ).loc Cert.FinalPromptIdeal.main_arg4) = m ((c.tc : Thread Cert.FinalPromptIdeal.nD Cert.FinalPromptIdeal.τ).loc Cert.FinalPromptIdeal.main_arg4)
      ∧ r.2.mem ((c.tc : Thread Cert.FinalPromptIdeal.nD Cert.FinalPromptIdeal.τ).loc Cert.FinalPromptIdeal.main_arg5) = m ((c.tc : Thread Cert.FinalPromptIdeal.nD Cert.FinalPromptIdeal.τ).loc Cert.FinalPromptIdeal.main_arg5))
      ∧ r.2.sem = fun _ => 0)

def quiescent_FinalPromptIdeal_pre_real_final [hFinalPromptIdeal : Cert.FinalPromptIdeal.Facts] [hPre_real_final : Cert.Pre_real_final.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg), Pre_FinalPromptIdeal_real_final m →
    θ_run (Cert.FinalPromptIdeal.defs (F := Ideal)) (onTc (τ := Cert.FinalPromptIdeal.τ) (Cert.FinalPromptIdeal.main (F := Ideal))) ⟨m, fun _ => 0, g⟩ (fun r => (∀ c : Dev Cert.FinalPromptIdeal.nD,
      r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
      ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1)
      ∧ r.2.mem ((c.tc : Thread Cert.FinalPromptIdeal.nD Cert.FinalPromptIdeal.τ).loc Cert.FinalPromptIdeal.main_arg2) = m ((c.tc : Thread Cert.FinalPromptIdeal.nD Cert.FinalPromptIdeal.τ).loc Cert.FinalPromptIdeal.main_arg2)
      ∧ r.2.mem ((c.tc : Thread Cert.FinalPromptIdeal.nD Cert.FinalPromptIdeal.τ).loc Cert.FinalPromptIdeal.main_arg3) = m ((c.tc : Thread Cert.FinalPromptIdeal.nD Cert.FinalPromptIdeal.τ).loc Cert.FinalPromptIdeal.main_arg3)
      ∧ r.2.mem ((c.tc : Thread Cert.FinalPromptIdeal.nD Cert.FinalPromptIdeal.τ).loc Cert.FinalPromptIdeal.main_arg4) = m ((c.tc : Thread Cert.FinalPromptIdeal.nD Cert.FinalPromptIdeal.τ).loc Cert.FinalPromptIdeal.main_arg4)
      ∧ r.2.mem ((c.tc : Thread Cert.FinalPromptIdeal.nD Cert.FinalPromptIdeal.τ).loc Cert.FinalPromptIdeal.main_arg5) = m ((c.tc : Thread Cert.FinalPromptIdeal.nD Cert.FinalPromptIdeal.τ).loc Cert.FinalPromptIdeal.main_arg5))
      ∧ r.2.sem = fun _ => 0)

def quiescent_FinalPromptRefIdeal [hFinalPromptRefIdeal : Cert.FinalPromptRefIdeal.Facts] : Prop :=
  ∀ (m : (ℓ : Loc Cert.FinalPromptRefIdeal.nD Cert.FinalPromptRefIdeal.τ Cert.FinalPromptRefIdeal.sig) → Buf (Elt Ideal) ℓ) (g : Dev Cert.FinalPromptRefIdeal.nD → PrngReg), Pre_FinalPromptRefIdeal m →
    θ_run (Cert.FinalPromptRefIdeal.defs (F := Ideal)) (onTc (τ := Cert.FinalPromptRefIdeal.τ) (Cert.FinalPromptRefIdeal.main (F := Ideal))) ⟨m, fun _ => 0, g⟩ (fun r => (∀ c : Dev Cert.FinalPromptRefIdeal.nD,
      r.2.mem ((c.tc : Thread Cert.FinalPromptRefIdeal.nD Cert.FinalPromptRefIdeal.τ).loc Cert.FinalPromptRefIdeal.main_arg0) = m ((c.tc : Thread Cert.FinalPromptRefIdeal.nD Cert.FinalPromptRefIdeal.τ).loc Cert.FinalPromptRefIdeal.main_arg0)
      ∧ r.2.mem ((c.tc : Thread Cert.FinalPromptRefIdeal.nD Cert.FinalPromptRefIdeal.τ).loc Cert.FinalPromptRefIdeal.main_arg1) = m ((c.tc : Thread Cert.FinalPromptRefIdeal.nD Cert.FinalPromptRefIdeal.τ).loc Cert.FinalPromptRefIdeal.main_arg1)
      ∧ r.2.mem ((c.tc : Thread Cert.FinalPromptRefIdeal.nD Cert.FinalPromptRefIdeal.τ).loc Cert.FinalPromptRefIdeal.main_arg2) = m ((c.tc : Thread Cert.FinalPromptRefIdeal.nD Cert.FinalPromptRefIdeal.τ).loc Cert.FinalPromptRefIdeal.main_arg2)
      ∧ r.2.mem ((c.tc : Thread Cert.FinalPromptRefIdeal.nD Cert.FinalPromptRefIdeal.τ).loc Cert.FinalPromptRefIdeal.main_arg3) = m ((c.tc : Thread Cert.FinalPromptRefIdeal.nD Cert.FinalPromptRefIdeal.τ).loc Cert.FinalPromptRefIdeal.main_arg3)
      ∧ r.2.mem ((c.tc : Thread Cert.FinalPromptRefIdeal.nD Cert.FinalPromptRefIdeal.τ).loc Cert.FinalPromptRefIdeal.main_arg4) = m ((c.tc : Thread Cert.FinalPromptRefIdeal.nD Cert.FinalPromptRefIdeal.τ).loc Cert.FinalPromptRefIdeal.main_arg4)
      ∧ r.2.mem ((c.tc : Thread Cert.FinalPromptRefIdeal.nD Cert.FinalPromptRefIdeal.τ).loc Cert.FinalPromptRefIdeal.main_arg5) = m ((c.tc : Thread Cert.FinalPromptRefIdeal.nD Cert.FinalPromptRefIdeal.τ).loc Cert.FinalPromptRefIdeal.main_arg5))
      ∧ r.2.sem = fun _ => 0)

def quiescent_FinalPromptRefIdeal_pre_real_final [hFinalPromptRefIdeal : Cert.FinalPromptRefIdeal.Facts] [hPre_real_final : Cert.Pre_real_final.Facts] : Prop :=
  ∀ (m : (ℓ : Loc Cert.FinalPromptRefIdeal.nD Cert.FinalPromptRefIdeal.τ Cert.FinalPromptRefIdeal.sig) → Buf (Elt Ideal) ℓ) (g : Dev Cert.FinalPromptRefIdeal.nD → PrngReg), Pre_FinalPromptRefIdeal_real_final m →
    θ_run (Cert.FinalPromptRefIdeal.defs (F := Ideal)) (onTc (τ := Cert.FinalPromptRefIdeal.τ) (Cert.FinalPromptRefIdeal.main (F := Ideal))) ⟨m, fun _ => 0, g⟩ (fun r => (∀ c : Dev Cert.FinalPromptRefIdeal.nD,
      r.2.mem ((c.tc : Thread Cert.FinalPromptRefIdeal.nD Cert.FinalPromptRefIdeal.τ).loc Cert.FinalPromptRefIdeal.main_arg0) = m ((c.tc : Thread Cert.FinalPromptRefIdeal.nD Cert.FinalPromptRefIdeal.τ).loc Cert.FinalPromptRefIdeal.main_arg0)
      ∧ r.2.mem ((c.tc : Thread Cert.FinalPromptRefIdeal.nD Cert.FinalPromptRefIdeal.τ).loc Cert.FinalPromptRefIdeal.main_arg1) = m ((c.tc : Thread Cert.FinalPromptRefIdeal.nD Cert.FinalPromptRefIdeal.τ).loc Cert.FinalPromptRefIdeal.main_arg1)
      ∧ r.2.mem ((c.tc : Thread Cert.FinalPromptRefIdeal.nD Cert.FinalPromptRefIdeal.τ).loc Cert.FinalPromptRefIdeal.main_arg2) = m ((c.tc : Thread Cert.FinalPromptRefIdeal.nD Cert.FinalPromptRefIdeal.τ).loc Cert.FinalPromptRefIdeal.main_arg2)
      ∧ r.2.mem ((c.tc : Thread Cert.FinalPromptRefIdeal.nD Cert.FinalPromptRefIdeal.τ).loc Cert.FinalPromptRefIdeal.main_arg3) = m ((c.tc : Thread Cert.FinalPromptRefIdeal.nD Cert.FinalPromptRefIdeal.τ).loc Cert.FinalPromptRefIdeal.main_arg3)
      ∧ r.2.mem ((c.tc : Thread Cert.FinalPromptRefIdeal.nD Cert.FinalPromptRefIdeal.τ).loc Cert.FinalPromptRefIdeal.main_arg4) = m ((c.tc : Thread Cert.FinalPromptRefIdeal.nD Cert.FinalPromptRefIdeal.τ).loc Cert.FinalPromptRefIdeal.main_arg4)
      ∧ r.2.mem ((c.tc : Thread Cert.FinalPromptRefIdeal.nD Cert.FinalPromptRefIdeal.τ).loc Cert.FinalPromptRefIdeal.main_arg5) = m ((c.tc : Thread Cert.FinalPromptRefIdeal.nD Cert.FinalPromptRefIdeal.τ).loc Cert.FinalPromptRefIdeal.main_arg5))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1)
      ∧ r.2.mem ((c.tc : Thread Cert.FinalSample.nD Cert.FinalSample.τ).loc Cert.FinalSample.main_arg2) = m ((c.tc : Thread Cert.FinalSample.nD Cert.FinalSample.τ).loc Cert.FinalSample.main_arg2)
      ∧ r.2.mem ((c.tc : Thread Cert.FinalSample.nD Cert.FinalSample.τ).loc Cert.FinalSample.main_arg3) = m ((c.tc : Thread Cert.FinalSample.nD Cert.FinalSample.τ).loc Cert.FinalSample.main_arg3)
      ∧ r.2.mem ((c.tc : Thread Cert.FinalSample.nD Cert.FinalSample.τ).loc Cert.FinalSample.main_arg4) = m ((c.tc : Thread Cert.FinalSample.nD Cert.FinalSample.τ).loc Cert.FinalSample.main_arg4)
      ∧ r.2.mem ((c.tc : Thread Cert.FinalSample.nD Cert.FinalSample.τ).loc Cert.FinalSample.main_arg5) = m ((c.tc : Thread Cert.FinalSample.nD Cert.FinalSample.τ).loc Cert.FinalSample.main_arg5))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
      ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
      ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3)
      ∧ r.2.mem ((c.tc : Thread Cert.FinalSampleIdeal.nD Cert.FinalSampleIdeal.τ).loc Cert.FinalSampleIdeal.main_arg4) = m ((c.tc : Thread Cert.FinalSampleIdeal.nD Cert.FinalSampleIdeal.τ).loc Cert.FinalSampleIdeal.main_arg4)
      ∧ r.2.mem ((c.tc : Thread Cert.FinalSampleIdeal.nD Cert.FinalSampleIdeal.τ).loc Cert.FinalSampleIdeal.main_arg5) = m ((c.tc : Thread Cert.FinalSampleIdeal.nD Cert.FinalSampleIdeal.τ).loc Cert.FinalSampleIdeal.main_arg5))
      ∧ r.2.sem = fun _ => 0)

def quiescent_FinalSampleIdeal_pre_real_final [hFinalSampleIdeal : Cert.FinalSampleIdeal.Facts] [hPre_real_final : Cert.Pre_real_final.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal_real_final m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
      ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
      ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3)
      ∧ r.2.mem ((c.tc : Thread Cert.FinalSampleIdeal.nD Cert.FinalSampleIdeal.τ).loc Cert.FinalSampleIdeal.main_arg4) = m ((c.tc : Thread Cert.FinalSampleIdeal.nD Cert.FinalSampleIdeal.τ).loc Cert.FinalSampleIdeal.main_arg4)
      ∧ r.2.mem ((c.tc : Thread Cert.FinalSampleIdeal.nD Cert.FinalSampleIdeal.τ).loc Cert.FinalSampleIdeal.main_arg5) = m ((c.tc : Thread Cert.FinalSampleIdeal.nD Cert.FinalSampleIdeal.τ).loc Cert.FinalSampleIdeal.main_arg5))
      ∧ r.2.sem = fun _ => 0)

def quiescent_FinalSampleRefIdeal [hFinalSampleRefIdeal : Cert.FinalSampleRefIdeal.Facts] : Prop :=
  ∀ (m : (ℓ : Loc Cert.FinalSampleRefIdeal.nD Cert.FinalSampleRefIdeal.τ Cert.FinalSampleRefIdeal.sig) → Buf (Elt Ideal) ℓ) (g : Dev Cert.FinalSampleRefIdeal.nD → PrngReg), Pre_FinalSampleRefIdeal m →
    θ_run (Cert.FinalSampleRefIdeal.defs (F := Ideal)) (onTc (τ := Cert.FinalSampleRefIdeal.τ) (Cert.FinalSampleRefIdeal.main (F := Ideal))) ⟨m, fun _ => 0, g⟩ (fun r => (∀ c : Dev Cert.FinalSampleRefIdeal.nD,
      r.2.mem ((c.tc : Thread Cert.FinalSampleRefIdeal.nD Cert.FinalSampleRefIdeal.τ).loc Cert.FinalSampleRefIdeal.main_arg0) = m ((c.tc : Thread Cert.FinalSampleRefIdeal.nD Cert.FinalSampleRefIdeal.τ).loc Cert.FinalSampleRefIdeal.main_arg0)
      ∧ r.2.mem ((c.tc : Thread Cert.FinalSampleRefIdeal.nD Cert.FinalSampleRefIdeal.τ).loc Cert.FinalSampleRefIdeal.main_arg1) = m ((c.tc : Thread Cert.FinalSampleRefIdeal.nD Cert.FinalSampleRefIdeal.τ).loc Cert.FinalSampleRefIdeal.main_arg1)
      ∧ r.2.mem ((c.tc : Thread Cert.FinalSampleRefIdeal.nD Cert.FinalSampleRefIdeal.τ).loc Cert.FinalSampleRefIdeal.main_arg2) = m ((c.tc : Thread Cert.FinalSampleRefIdeal.nD Cert.FinalSampleRefIdeal.τ).loc Cert.FinalSampleRefIdeal.main_arg2)
      ∧ r.2.mem ((c.tc : Thread Cert.FinalSampleRefIdeal.nD Cert.FinalSampleRefIdeal.τ).loc Cert.FinalSampleRefIdeal.main_arg3) = m ((c.tc : Thread Cert.FinalSampleRefIdeal.nD Cert.FinalSampleRefIdeal.τ).loc Cert.FinalSampleRefIdeal.main_arg3)
      ∧ r.2.mem ((c.tc : Thread Cert.FinalSampleRefIdeal.nD Cert.FinalSampleRefIdeal.τ).loc Cert.FinalSampleRefIdeal.main_arg4) = m ((c.tc : Thread Cert.FinalSampleRefIdeal.nD Cert.FinalSampleRefIdeal.τ).loc Cert.FinalSampleRefIdeal.main_arg4)
      ∧ r.2.mem ((c.tc : Thread Cert.FinalSampleRefIdeal.nD Cert.FinalSampleRefIdeal.τ).loc Cert.FinalSampleRefIdeal.main_arg5) = m ((c.tc : Thread Cert.FinalSampleRefIdeal.nD Cert.FinalSampleRefIdeal.τ).loc Cert.FinalSampleRefIdeal.main_arg5))
      ∧ r.2.sem = fun _ => 0)

def quiescent_FinalSampleRefIdeal_pre_real_final [hFinalSampleRefIdeal : Cert.FinalSampleRefIdeal.Facts] [hPre_real_final : Cert.Pre_real_final.Facts] : Prop :=
  ∀ (m : (ℓ : Loc Cert.FinalSampleRefIdeal.nD Cert.FinalSampleRefIdeal.τ Cert.FinalSampleRefIdeal.sig) → Buf (Elt Ideal) ℓ) (g : Dev Cert.FinalSampleRefIdeal.nD → PrngReg), Pre_FinalSampleRefIdeal_real_final m →
    θ_run (Cert.FinalSampleRefIdeal.defs (F := Ideal)) (onTc (τ := Cert.FinalSampleRefIdeal.τ) (Cert.FinalSampleRefIdeal.main (F := Ideal))) ⟨m, fun _ => 0, g⟩ (fun r => (∀ c : Dev Cert.FinalSampleRefIdeal.nD,
      r.2.mem ((c.tc : Thread Cert.FinalSampleRefIdeal.nD Cert.FinalSampleRefIdeal.τ).loc Cert.FinalSampleRefIdeal.main_arg0) = m ((c.tc : Thread Cert.FinalSampleRefIdeal.nD Cert.FinalSampleRefIdeal.τ).loc Cert.FinalSampleRefIdeal.main_arg0)
      ∧ r.2.mem ((c.tc : Thread Cert.FinalSampleRefIdeal.nD Cert.FinalSampleRefIdeal.τ).loc Cert.FinalSampleRefIdeal.main_arg1) = m ((c.tc : Thread Cert.FinalSampleRefIdeal.nD Cert.FinalSampleRefIdeal.τ).loc Cert.FinalSampleRefIdeal.main_arg1)
      ∧ r.2.mem ((c.tc : Thread Cert.FinalSampleRefIdeal.nD Cert.FinalSampleRefIdeal.τ).loc Cert.FinalSampleRefIdeal.main_arg2) = m ((c.tc : Thread Cert.FinalSampleRefIdeal.nD Cert.FinalSampleRefIdeal.τ).loc Cert.FinalSampleRefIdeal.main_arg2)
      ∧ r.2.mem ((c.tc : Thread Cert.FinalSampleRefIdeal.nD Cert.FinalSampleRefIdeal.τ).loc Cert.FinalSampleRefIdeal.main_arg3) = m ((c.tc : Thread Cert.FinalSampleRefIdeal.nD Cert.FinalSampleRefIdeal.τ).loc Cert.FinalSampleRefIdeal.main_arg3)
      ∧ r.2.mem ((c.tc : Thread Cert.FinalSampleRefIdeal.nD Cert.FinalSampleRefIdeal.τ).loc Cert.FinalSampleRefIdeal.main_arg4) = m ((c.tc : Thread Cert.FinalSampleRefIdeal.nD Cert.FinalSampleRefIdeal.τ).loc Cert.FinalSampleRefIdeal.main_arg4)
      ∧ r.2.mem ((c.tc : Thread Cert.FinalSampleRefIdeal.nD Cert.FinalSampleRefIdeal.τ).loc Cert.FinalSampleRefIdeal.main_arg5) = m ((c.tc : Thread Cert.FinalSampleRefIdeal.nD Cert.FinalSampleRefIdeal.τ).loc Cert.FinalSampleRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5))
      ∧ r.2.sem = fun _ => 0)

def preserves_Latent_LatentIdeal : Prop :=
  True

def algebraic_LatentIdeal_LatentRefIdeal_pre_real_scores [hLatentIdeal : Cert.LatentIdeal.Facts] [hLatentRefIdeal : Cert.LatentRefIdeal.Facts] [hPre_real_scores : Cert.Pre_real_scores.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal_real_scores m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)
      ∧ m' ((c.tc : Thread Cert.LatentRefIdeal.nD Cert.LatentRefIdeal.τ).loc Cert.LatentRefIdeal.main_arg3) = m ((c.tc : Thread Cert.LatentIdeal.nD Cert.LatentIdeal.τ).loc Cert.LatentIdeal.main_arg3)) →
    ∃ (v0 : (c : Dev Cert.LatentIdeal.nD) → Buf (Elt Ideal) ((c.tc : Thread Cert.LatentIdeal.nD Cert.LatentIdeal.τ).loc Cert.LatentIdeal.main_v4)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v4) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v31) = v0 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2)
          ∧ r.2.mem ((c.tc : Thread Cert.LatentRefIdeal.nD Cert.LatentRefIdeal.τ).loc Cert.LatentRefIdeal.main_arg3) = m' ((c.tc : Thread Cert.LatentRefIdeal.nD Cert.LatentRefIdeal.τ).loc Cert.LatentRefIdeal.main_arg3))

def preserves_Prompt_PromptIdeal : Prop :=
  True

def algebraic_PromptIdeal_PromptRefIdeal_on_prompt_rows_pre_real_proj [hPromptIdeal : Cert.PromptIdeal.Facts] [hPromptRefIdeal : Cert.PromptRefIdeal.Facts] [hPre_real_proj : Cert.Pre_real_proj.Facts] [hOn_prompt_rows : Cert.On_prompt_rows.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal_real_proj m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)) →
    ∃ (v0 : (c : Dev Cert.PromptIdeal.nD) → Buf (Elt Ideal) ((c.tc : Thread Cert.PromptIdeal.nD Cert.PromptIdeal.τ).loc Cert.PromptIdeal.main_v0)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          (∀ i : (⟨2, ![6144, 1024]⟩ : Shape).Idx, (Cert.On_prompt_rows.fn (F := Ideal) (m ((c.tc : Thread Cert.PromptIdeal.nD Cert.PromptIdeal.τ).loc Cert.PromptIdeal.main_arg0))) i = 1#1 → r.2.mem ((c.tc : Thread Cert.PromptIdeal.nD Cert.PromptIdeal.τ).loc Cert.PromptIdeal.main_v0) i = v0 c i)
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          (∀ i : (⟨2, ![6144, 1024]⟩ : Shape).Idx, (Cert.On_prompt_rows.fn (F := Ideal) (m ((c.tc : Thread Cert.PromptIdeal.nD Cert.PromptIdeal.τ).loc Cert.PromptIdeal.main_arg0))) i = 1#1 → r.2.mem ((c.tc : Thread Cert.PromptRefIdeal.nD Cert.PromptRefIdeal.τ).loc Cert.PromptRefIdeal.main_v27) i = v0 c i)
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0))

def preserves_Mlp_MlpIdeal : Prop :=
  True

def algebraic_MlpIdeal_MlpRefIdeal_pre_real_mlp [hMlpIdeal : Cert.MlpIdeal.Facts] [hMlpRefIdeal : Cert.MlpRefIdeal.Facts] [hPre_real_mlp : Cert.Pre_real_mlp.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_real_mlp m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v24) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_FinalPrompt_FinalPromptIdeal : Prop :=
  True

def algebraic_FinalPromptIdeal_FinalPromptRefIdeal_pre_real_final [hFinalPromptIdeal : Cert.FinalPromptIdeal.Facts] [hFinalPromptRefIdeal : Cert.FinalPromptRefIdeal.Facts] [hPre_real_final : Cert.Pre_real_final.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg)
    (m' : (ℓ : Loc Cert.FinalPromptRefIdeal.nD Cert.FinalPromptRefIdeal.τ Cert.FinalPromptRefIdeal.sig) → Buf (Elt Ideal) ℓ) (g' : Dev Cert.FinalPromptRefIdeal.nD → PrngReg), Pre_FinalPromptIdeal_real_final m →
    (∀ c : Dev Cert.FinalPromptIdeal.nD,
      m' ((c.tc : Thread Cert.FinalPromptRefIdeal.nD Cert.FinalPromptRefIdeal.τ).loc Cert.FinalPromptRefIdeal.main_arg0) = m ((c.tc : Thread Cert.FinalPromptIdeal.nD Cert.FinalPromptIdeal.τ).loc Cert.FinalPromptIdeal.main_arg0)
      ∧ m' ((c.tc : Thread Cert.FinalPromptRefIdeal.nD Cert.FinalPromptRefIdeal.τ).loc Cert.FinalPromptRefIdeal.main_arg1) = m ((c.tc : Thread Cert.FinalPromptIdeal.nD Cert.FinalPromptIdeal.τ).loc Cert.FinalPromptIdeal.main_arg1)
      ∧ m' ((c.tc : Thread Cert.FinalPromptRefIdeal.nD Cert.FinalPromptRefIdeal.τ).loc Cert.FinalPromptRefIdeal.main_arg2) = m ((c.tc : Thread Cert.FinalPromptIdeal.nD Cert.FinalPromptIdeal.τ).loc Cert.FinalPromptIdeal.main_arg2)
      ∧ m' ((c.tc : Thread Cert.FinalPromptRefIdeal.nD Cert.FinalPromptRefIdeal.τ).loc Cert.FinalPromptRefIdeal.main_arg3) = m ((c.tc : Thread Cert.FinalPromptIdeal.nD Cert.FinalPromptIdeal.τ).loc Cert.FinalPromptIdeal.main_arg3)
      ∧ m' ((c.tc : Thread Cert.FinalPromptRefIdeal.nD Cert.FinalPromptRefIdeal.τ).loc Cert.FinalPromptRefIdeal.main_arg4) = m ((c.tc : Thread Cert.FinalPromptIdeal.nD Cert.FinalPromptIdeal.τ).loc Cert.FinalPromptIdeal.main_arg4)
      ∧ m' ((c.tc : Thread Cert.FinalPromptRefIdeal.nD Cert.FinalPromptRefIdeal.τ).loc Cert.FinalPromptRefIdeal.main_arg5) = m ((c.tc : Thread Cert.FinalPromptIdeal.nD Cert.FinalPromptIdeal.τ).loc Cert.FinalPromptIdeal.main_arg5)) →
    ∃ (v0 : (c : Dev Cert.FinalPromptIdeal.nD) → Buf (Elt Ideal) ((c.tc : Thread Cert.FinalPromptIdeal.nD Cert.FinalPromptIdeal.τ).loc Cert.FinalPromptIdeal.main_v5)),
      θ_run (Cert.FinalPromptIdeal.defs (F := Ideal)) (onTc (τ := Cert.FinalPromptIdeal.τ) (Cert.FinalPromptIdeal.main (F := Ideal))) ⟨m, fun _ => 0, g⟩ (fun r => ∀ c : Dev Cert.FinalPromptIdeal.nD,
          r.2.mem ((c.tc : Thread Cert.FinalPromptIdeal.nD Cert.FinalPromptIdeal.τ).loc Cert.FinalPromptIdeal.main_v5) = v0 c
          ∧ r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
          ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1)
          ∧ r.2.mem ((c.tc : Thread Cert.FinalPromptIdeal.nD Cert.FinalPromptIdeal.τ).loc Cert.FinalPromptIdeal.main_arg2) = m ((c.tc : Thread Cert.FinalPromptIdeal.nD Cert.FinalPromptIdeal.τ).loc Cert.FinalPromptIdeal.main_arg2)
          ∧ r.2.mem ((c.tc : Thread Cert.FinalPromptIdeal.nD Cert.FinalPromptIdeal.τ).loc Cert.FinalPromptIdeal.main_arg3) = m ((c.tc : Thread Cert.FinalPromptIdeal.nD Cert.FinalPromptIdeal.τ).loc Cert.FinalPromptIdeal.main_arg3)
          ∧ r.2.mem ((c.tc : Thread Cert.FinalPromptIdeal.nD Cert.FinalPromptIdeal.τ).loc Cert.FinalPromptIdeal.main_arg4) = m ((c.tc : Thread Cert.FinalPromptIdeal.nD Cert.FinalPromptIdeal.τ).loc Cert.FinalPromptIdeal.main_arg4)
          ∧ r.2.mem ((c.tc : Thread Cert.FinalPromptIdeal.nD Cert.FinalPromptIdeal.τ).loc Cert.FinalPromptIdeal.main_arg5) = m ((c.tc : Thread Cert.FinalPromptIdeal.nD Cert.FinalPromptIdeal.τ).loc Cert.FinalPromptIdeal.main_arg5))
      ∧ θ_run (Cert.FinalPromptRefIdeal.defs (F := Ideal)) (onTc (τ := Cert.FinalPromptRefIdeal.τ) (Cert.FinalPromptRefIdeal.main (F := Ideal))) ⟨m', fun _ => 0, g'⟩ (fun r => ∀ c : Dev Cert.FinalPromptRefIdeal.nD,
          r.2.mem ((c.tc : Thread Cert.FinalPromptRefIdeal.nD Cert.FinalPromptRefIdeal.τ).loc Cert.FinalPromptRefIdeal.main_v38) = v0 c
          ∧ r.2.mem ((c.tc : Thread Cert.FinalPromptRefIdeal.nD Cert.FinalPromptRefIdeal.τ).loc Cert.FinalPromptRefIdeal.main_arg0) = m' ((c.tc : Thread Cert.FinalPromptRefIdeal.nD Cert.FinalPromptRefIdeal.τ).loc Cert.FinalPromptRefIdeal.main_arg0)
          ∧ r.2.mem ((c.tc : Thread Cert.FinalPromptRefIdeal.nD Cert.FinalPromptRefIdeal.τ).loc Cert.FinalPromptRefIdeal.main_arg1) = m' ((c.tc : Thread Cert.FinalPromptRefIdeal.nD Cert.FinalPromptRefIdeal.τ).loc Cert.FinalPromptRefIdeal.main_arg1)
          ∧ r.2.mem ((c.tc : Thread Cert.FinalPromptRefIdeal.nD Cert.FinalPromptRefIdeal.τ).loc Cert.FinalPromptRefIdeal.main_arg2) = m' ((c.tc : Thread Cert.FinalPromptRefIdeal.nD Cert.FinalPromptRefIdeal.τ).loc Cert.FinalPromptRefIdeal.main_arg2)
          ∧ r.2.mem ((c.tc : Thread Cert.FinalPromptRefIdeal.nD Cert.FinalPromptRefIdeal.τ).loc Cert.FinalPromptRefIdeal.main_arg3) = m' ((c.tc : Thread Cert.FinalPromptRefIdeal.nD Cert.FinalPromptRefIdeal.τ).loc Cert.FinalPromptRefIdeal.main_arg3)
          ∧ r.2.mem ((c.tc : Thread Cert.FinalPromptRefIdeal.nD Cert.FinalPromptRefIdeal.τ).loc Cert.FinalPromptRefIdeal.main_arg4) = m' ((c.tc : Thread Cert.FinalPromptRefIdeal.nD Cert.FinalPromptRefIdeal.τ).loc Cert.FinalPromptRefIdeal.main_arg4)
          ∧ r.2.mem ((c.tc : Thread Cert.FinalPromptRefIdeal.nD Cert.FinalPromptRefIdeal.τ).loc Cert.FinalPromptRefIdeal.main_arg5) = m' ((c.tc : Thread Cert.FinalPromptRefIdeal.nD Cert.FinalPromptRefIdeal.τ).loc Cert.FinalPromptRefIdeal.main_arg5))

def preserves_FinalSample_FinalSampleIdeal : Prop :=
  True

def algebraic_FinalSampleIdeal_FinalSampleRefIdeal_pre_real_final [hFinalSampleIdeal : Cert.FinalSampleIdeal.Facts] [hFinalSampleRefIdeal : Cert.FinalSampleRefIdeal.Facts] [hPre_real_final : Cert.Pre_real_final.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.FinalSampleRefIdeal.nD Cert.FinalSampleRefIdeal.τ Cert.FinalSampleRefIdeal.sig) → Buf (Elt Ideal) ℓ) (g' : Dev Cert.FinalSampleRefIdeal.nD → PrngReg), Pre_FinalSampleIdeal_real_final m →
    (∀ c : Dev Cert.FinalSampleIdeal.nD,
      m' ((c.tc : Thread Cert.FinalSampleRefIdeal.nD Cert.FinalSampleRefIdeal.τ).loc Cert.FinalSampleRefIdeal.main_arg0) = m ((c.tc : Thread Cert.FinalSampleIdeal.nD Cert.FinalSampleIdeal.τ).loc Cert.FinalSampleIdeal.main_arg0)
      ∧ m' ((c.tc : Thread Cert.FinalSampleRefIdeal.nD Cert.FinalSampleRefIdeal.τ).loc Cert.FinalSampleRefIdeal.main_arg1) = m ((c.tc : Thread Cert.FinalSampleIdeal.nD Cert.FinalSampleIdeal.τ).loc Cert.FinalSampleIdeal.main_arg1)
      ∧ m' ((c.tc : Thread Cert.FinalSampleRefIdeal.nD Cert.FinalSampleRefIdeal.τ).loc Cert.FinalSampleRefIdeal.main_arg2) = m ((c.tc : Thread Cert.FinalSampleIdeal.nD Cert.FinalSampleIdeal.τ).loc Cert.FinalSampleIdeal.main_arg2)
      ∧ m' ((c.tc : Thread Cert.FinalSampleRefIdeal.nD Cert.FinalSampleRefIdeal.τ).loc Cert.FinalSampleRefIdeal.main_arg3) = m ((c.tc : Thread Cert.FinalSampleIdeal.nD Cert.FinalSampleIdeal.τ).loc Cert.FinalSampleIdeal.main_arg3)
      ∧ m' ((c.tc : Thread Cert.FinalSampleRefIdeal.nD Cert.FinalSampleRefIdeal.τ).loc Cert.FinalSampleRefIdeal.main_arg4) = m ((c.tc : Thread Cert.FinalSampleIdeal.nD Cert.FinalSampleIdeal.τ).loc Cert.FinalSampleIdeal.main_arg4)
      ∧ m' ((c.tc : Thread Cert.FinalSampleRefIdeal.nD Cert.FinalSampleRefIdeal.τ).loc Cert.FinalSampleRefIdeal.main_arg5) = m ((c.tc : Thread Cert.FinalSampleIdeal.nD Cert.FinalSampleIdeal.τ).loc Cert.FinalSampleIdeal.main_arg5)) →
    ∃ (v0 : (c : Dev Cert.FinalSampleIdeal.nD) → Buf (Elt Ideal) ((c.tc : Thread Cert.FinalSampleIdeal.nD Cert.FinalSampleIdeal.τ).loc Cert.FinalSampleIdeal.main_v5)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v5) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
          ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
          ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3)
          ∧ r.2.mem ((c.tc : Thread Cert.FinalSampleIdeal.nD Cert.FinalSampleIdeal.τ).loc Cert.FinalSampleIdeal.main_arg4) = m ((c.tc : Thread Cert.FinalSampleIdeal.nD Cert.FinalSampleIdeal.τ).loc Cert.FinalSampleIdeal.main_arg4)
          ∧ r.2.mem ((c.tc : Thread Cert.FinalSampleIdeal.nD Cert.FinalSampleIdeal.τ).loc Cert.FinalSampleIdeal.main_arg5) = m ((c.tc : Thread Cert.FinalSampleIdeal.nD Cert.FinalSampleIdeal.τ).loc Cert.FinalSampleIdeal.main_arg5))
      ∧ θ_run (Cert.FinalSampleRefIdeal.defs (F := Ideal)) (onTc (τ := Cert.FinalSampleRefIdeal.τ) (Cert.FinalSampleRefIdeal.main (F := Ideal))) ⟨m', fun _ => 0, g'⟩ (fun r => ∀ c : Dev Cert.FinalSampleRefIdeal.nD,
          r.2.mem ((c.tc : Thread Cert.FinalSampleRefIdeal.nD Cert.FinalSampleRefIdeal.τ).loc Cert.FinalSampleRefIdeal.main_v38) = v0 c
          ∧ r.2.mem ((c.tc : Thread Cert.FinalSampleRefIdeal.nD Cert.FinalSampleRefIdeal.τ).loc Cert.FinalSampleRefIdeal.main_arg0) = m' ((c.tc : Thread Cert.FinalSampleRefIdeal.nD Cert.FinalSampleRefIdeal.τ).loc Cert.FinalSampleRefIdeal.main_arg0)
          ∧ r.2.mem ((c.tc : Thread Cert.FinalSampleRefIdeal.nD Cert.FinalSampleRefIdeal.τ).loc Cert.FinalSampleRefIdeal.main_arg1) = m' ((c.tc : Thread Cert.FinalSampleRefIdeal.nD Cert.FinalSampleRefIdeal.τ).loc Cert.FinalSampleRefIdeal.main_arg1)
          ∧ r.2.mem ((c.tc : Thread Cert.FinalSampleRefIdeal.nD Cert.FinalSampleRefIdeal.τ).loc Cert.FinalSampleRefIdeal.main_arg2) = m' ((c.tc : Thread Cert.FinalSampleRefIdeal.nD Cert.FinalSampleRefIdeal.τ).loc Cert.FinalSampleRefIdeal.main_arg2)
          ∧ r.2.mem ((c.tc : Thread Cert.FinalSampleRefIdeal.nD Cert.FinalSampleRefIdeal.τ).loc Cert.FinalSampleRefIdeal.main_arg3) = m' ((c.tc : Thread Cert.FinalSampleRefIdeal.nD Cert.FinalSampleRefIdeal.τ).loc Cert.FinalSampleRefIdeal.main_arg3)
          ∧ r.2.mem ((c.tc : Thread Cert.FinalSampleRefIdeal.nD Cert.FinalSampleRefIdeal.τ).loc Cert.FinalSampleRefIdeal.main_arg4) = m' ((c.tc : Thread Cert.FinalSampleRefIdeal.nD Cert.FinalSampleRefIdeal.τ).loc Cert.FinalSampleRefIdeal.main_arg4)
          ∧ r.2.mem ((c.tc : Thread Cert.FinalSampleRefIdeal.nD Cert.FinalSampleRefIdeal.τ).loc Cert.FinalSampleRefIdeal.main_arg5) = m' ((c.tc : Thread Cert.FinalSampleRefIdeal.nD Cert.FinalSampleRefIdeal.τ).loc Cert.FinalSampleRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v11_1)) (v2 : (c : Dev Cert.InProjIdeal.nD) → Buf (Elt Ideal) ((c.tc : Thread Cert.InProjIdeal.nD Cert.InProjIdeal.τ).loc Cert.InProjIdeal.main_v11_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11_0) = v0 c
          ∧ r.2.mem ((c.tc : Thread Cert.InProjIdeal.nD Cert.InProjIdeal.τ).loc Cert.InProjIdeal.main_v11_1) = v1 c
          ∧ r.2.mem ((c.tc : Thread Cert.InProjIdeal.nD Cert.InProjIdeal.τ).loc Cert.InProjIdeal.main_v11_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v83) = v0 c
          ∧ r.2.mem ((c.tc : Thread Cert.InProjRefIdeal.nD Cert.InProjRefIdeal.τ).loc Cert.InProjRefIdeal.main_v85) = v1 c
          ∧ r.2.mem ((c.tc : Thread Cert.InProjRefIdeal.nD Cert.InProjRefIdeal.τ).loc Cert.InProjRefIdeal.main_v86) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v22) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v40) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)) →
    ∃ (v0 : (c : Dev Cert.PoolIdeal.nD) → Buf (Elt Ideal) ((c.tc : Thread Cert.PoolIdeal.nD Cert.PoolIdeal.τ).loc Cert.PoolIdeal.main_v3_0)) (v1 : (c : Dev Cert.PoolIdeal.nD) → Buf (Elt Ideal) ((c.tc : Thread Cert.PoolIdeal.nD Cert.PoolIdeal.τ).loc Cert.PoolIdeal.main_v3_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3_0) = v0 c
          ∧ r.2.mem ((c.tc : Thread Cert.PoolIdeal.nD Cert.PoolIdeal.τ).loc Cert.PoolIdeal.main_v3_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v104) = v0 c
          ∧ r.2.mem ((c.tc : Thread Cert.PoolRefIdeal.nD Cert.PoolRefIdeal.τ).loc Cert.PoolRefIdeal.main_v136) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5))

def Claim : Prop :=
  ∃ (hLatent : Cert.Latent.Facts) (hLatentIdeal : Cert.LatentIdeal.Facts) (hLatentRefIdeal : Cert.LatentRefIdeal.Facts) (hPrompt : Cert.Prompt.Facts) (hPromptIdeal : Cert.PromptIdeal.Facts) (hPromptRefIdeal : Cert.PromptRefIdeal.Facts) (hMlp : Cert.Mlp.Facts) (hMlpIdeal : Cert.MlpIdeal.Facts) (hMlpRefIdeal : Cert.MlpRefIdeal.Facts) (hFinalPrompt : Cert.FinalPrompt.Facts) (hFinalPromptIdeal : Cert.FinalPromptIdeal.Facts) (hFinalPromptRefIdeal : Cert.FinalPromptRefIdeal.Facts) (hFinalSample : Cert.FinalSample.Facts) (hFinalSampleIdeal : Cert.FinalSampleIdeal.Facts) (hFinalSampleRefIdeal : Cert.FinalSampleRefIdeal.Facts) (hInProj : Cert.InProj.Facts) (hInProjIdeal : Cert.InProjIdeal.Facts) (hInProjRefIdeal : Cert.InProjRefIdeal.Facts) (hAda : Cert.Ada.Facts) (hAdaIdeal : Cert.AdaIdeal.Facts) (hAdaRefIdeal : Cert.AdaRefIdeal.Facts) (hMod : Cert.Mod.Facts) (hModIdeal : Cert.ModIdeal.Facts) (hModRefIdeal : Cert.ModRefIdeal.Facts) (hPool : Cert.Pool.Facts) (hPoolIdeal : Cert.PoolIdeal.Facts) (hPoolRefIdeal : Cert.PoolRefIdeal.Facts) (hPre_real_scores : Cert.Pre_real_scores.Facts) (hPre_real_proj : Cert.Pre_real_proj.Facts) (hPre_real_mlp : Cert.Pre_real_mlp.Facts) (hPre_real_final : Cert.Pre_real_final.Facts) (hOn_prompt_rows : Cert.On_prompt_rows.Facts),
    quiescent_Latent (hLatent := hLatent)
    ∧ quiescent_LatentIdeal (hLatentIdeal := hLatentIdeal)
    ∧ quiescent_LatentIdeal_pre_real_scores (hLatentIdeal := hLatentIdeal) (hPre_real_scores := hPre_real_scores)
    ∧ quiescent_LatentRefIdeal (hLatentRefIdeal := hLatentRefIdeal)
    ∧ quiescent_LatentRefIdeal_pre_real_scores (hLatentRefIdeal := hLatentRefIdeal) (hPre_real_scores := hPre_real_scores)
    ∧ quiescent_Prompt (hPrompt := hPrompt)
    ∧ quiescent_PromptIdeal (hPromptIdeal := hPromptIdeal)
    ∧ quiescent_PromptIdeal_pre_real_proj (hPromptIdeal := hPromptIdeal) (hPre_real_proj := hPre_real_proj)
    ∧ quiescent_PromptRefIdeal (hPromptRefIdeal := hPromptRefIdeal)
    ∧ quiescent_PromptRefIdeal_pre_real_proj (hPromptRefIdeal := hPromptRefIdeal) (hPre_real_proj := hPre_real_proj)
    ∧ quiescent_Mlp (hMlp := hMlp)
    ∧ quiescent_MlpIdeal (hMlpIdeal := hMlpIdeal)
    ∧ quiescent_MlpIdeal_pre_real_mlp (hMlpIdeal := hMlpIdeal) (hPre_real_mlp := hPre_real_mlp)
    ∧ quiescent_MlpRefIdeal (hMlpRefIdeal := hMlpRefIdeal)
    ∧ quiescent_MlpRefIdeal_pre_real_mlp (hMlpRefIdeal := hMlpRefIdeal) (hPre_real_mlp := hPre_real_mlp)
    ∧ quiescent_FinalPrompt (hFinalPrompt := hFinalPrompt)
    ∧ quiescent_FinalPromptIdeal (hFinalPromptIdeal := hFinalPromptIdeal)
    ∧ quiescent_FinalPromptIdeal_pre_real_final (hFinalPromptIdeal := hFinalPromptIdeal) (hPre_real_final := hPre_real_final)
    ∧ quiescent_FinalPromptRefIdeal (hFinalPromptRefIdeal := hFinalPromptRefIdeal)
    ∧ quiescent_FinalPromptRefIdeal_pre_real_final (hFinalPromptRefIdeal := hFinalPromptRefIdeal) (hPre_real_final := hPre_real_final)
    ∧ quiescent_FinalSample (hFinalSample := hFinalSample)
    ∧ quiescent_FinalSampleIdeal (hFinalSampleIdeal := hFinalSampleIdeal)
    ∧ quiescent_FinalSampleIdeal_pre_real_final (hFinalSampleIdeal := hFinalSampleIdeal) (hPre_real_final := hPre_real_final)
    ∧ quiescent_FinalSampleRefIdeal (hFinalSampleRefIdeal := hFinalSampleRefIdeal)
    ∧ quiescent_FinalSampleRefIdeal_pre_real_final (hFinalSampleRefIdeal := hFinalSampleRefIdeal) (hPre_real_final := hPre_real_final)
    ∧ quiescent_InProj (hInProj := hInProj)
    ∧ quiescent_InProjIdeal (hInProjIdeal := hInProjIdeal)
    ∧ quiescent_InProjRefIdeal (hInProjRefIdeal := hInProjRefIdeal)
    ∧ quiescent_Ada (hAda := hAda)
    ∧ quiescent_AdaIdeal (hAdaIdeal := hAdaIdeal)
    ∧ quiescent_AdaRefIdeal (hAdaRefIdeal := hAdaRefIdeal)
    ∧ quiescent_Mod (hMod := hMod)
    ∧ quiescent_ModIdeal (hModIdeal := hModIdeal)
    ∧ quiescent_ModRefIdeal (hModRefIdeal := hModRefIdeal)
    ∧ quiescent_Pool (hPool := hPool)
    ∧ quiescent_PoolIdeal (hPoolIdeal := hPoolIdeal)
    ∧ quiescent_PoolRefIdeal (hPoolRefIdeal := hPoolRefIdeal)
    ∧ preserves_Latent_LatentIdeal
    ∧ algebraic_LatentIdeal_LatentRefIdeal_pre_real_scores (hLatentIdeal := hLatentIdeal) (hLatentRefIdeal := hLatentRefIdeal) (hPre_real_scores := hPre_real_scores)
    ∧ preserves_Prompt_PromptIdeal
    ∧ algebraic_PromptIdeal_PromptRefIdeal_on_prompt_rows_pre_real_proj (hPromptIdeal := hPromptIdeal) (hPromptRefIdeal := hPromptRefIdeal) (hPre_real_proj := hPre_real_proj) (hOn_prompt_rows := hOn_prompt_rows)
    ∧ preserves_Mlp_MlpIdeal
    ∧ algebraic_MlpIdeal_MlpRefIdeal_pre_real_mlp (hMlpIdeal := hMlpIdeal) (hMlpRefIdeal := hMlpRefIdeal) (hPre_real_mlp := hPre_real_mlp)
    ∧ preserves_FinalPrompt_FinalPromptIdeal
    ∧ algebraic_FinalPromptIdeal_FinalPromptRefIdeal_pre_real_final (hFinalPromptIdeal := hFinalPromptIdeal) (hFinalPromptRefIdeal := hFinalPromptRefIdeal) (hPre_real_final := hPre_real_final)
    ∧ preserves_FinalSample_FinalSampleIdeal
    ∧ algebraic_FinalSampleIdeal_FinalSampleRefIdeal_pre_real_final (hFinalSampleIdeal := hFinalSampleIdeal) (hFinalSampleRefIdeal := hFinalSampleRefIdeal) (hPre_real_final := hPre_real_final)
    ∧ preserves_InProj_InProjIdeal
    ∧ algebraic_InProjIdeal_InProjRefIdeal (hInProjIdeal := hInProjIdeal) (hInProjRefIdeal := hInProjRefIdeal)
    ∧ preserves_Ada_AdaIdeal
    ∧ algebraic_AdaIdeal_AdaRefIdeal (hAdaIdeal := hAdaIdeal) (hAdaRefIdeal := hAdaRefIdeal)
    ∧ preserves_Mod_ModIdeal
    ∧ algebraic_ModIdeal_ModRefIdeal (hModIdeal := hModIdeal) (hModRefIdeal := hModRefIdeal)
    ∧ preserves_Pool_PoolIdeal
    ∧ algebraic_PoolIdeal_PoolRefIdeal (hPoolIdeal := hPoolIdeal) (hPoolRefIdeal := hPoolRefIdeal)
-- ==== On_prompt_rows.lean ====
abbrev S6144x6656 : Shape := ⟨2, ![6144, 6656]⟩
abbrev S6144x1024 : Shape := ⟨2, ![6144, 1024]⟩
abbrev S_ : Shape := ⟨0, ![]⟩

class Facts : Prop where
  bcast_S_S6144x1024 : S_.BroadcastsInDim S6144x1024 (![] : Fin 0 → Fin S6144x1024.rank)

variable [Facts]

def fn {F : FTy → Type} [FloatOps F] (main_arg0 : FVec F S6144x6656 .f32) : IVec S6144x1024 1 :=
  let main_v0 : IVec S6144x1024 32 := iotaInDim S6144x1024 32 0
  let main_c : IVec S_ 32 := constantI S_ 32 4096#32
  let main_v1 : IVec S6144x1024 32 := broadcastInDim S6144x1024 ![] bcast_S_S6144x1024 main_c
  let main_v2 : IVec S6144x1024 1 := cmpi .slt main_v0 main_v1
  main_v2
-- ==== Pre_real_final.lean ====
abbrev S6144x2048 : Shape := ⟨2, ![6144, 2048]⟩
abbrev S2x2048x8192 : Shape := ⟨3, ![2, 2048, 8192]⟩
abbrev S2x8192x2048 : Shape := ⟨3, ![2, 8192, 2048]⟩
abbrev S2x16x1x12288 : Shape := ⟨4, ![2, 16, 1, 12288]⟩
abbrev S2048 : Shape := ⟨1, ![2048]⟩
abbrev S_ : Shape := ⟨0, ![]⟩

class Facts : Prop where
  bcast_S_S6144x2048 : S_.BroadcastsInDim S6144x2048 (![] : Fin 0 → Fin S6144x2048.rank)
  reducesTo_S6144x2048_S_d0_1 : S6144x2048.ReducesTo [0, 1] S_
  h_S_ : 0 < S_.numel
  bcast_S_S2x2048x8192 : S_.BroadcastsInDim S2x2048x8192 (![] : Fin 0 → Fin S2x2048x8192.rank)
  reducesTo_S2x2048x8192_S_d0_1_2 : S2x2048x8192.ReducesTo [0, 1, 2] S_
  bcast_S_S2x8192x2048 : S_.BroadcastsInDim S2x8192x2048 (![] : Fin 0 → Fin S2x8192x2048.rank)
  reducesTo_S2x8192x2048_S_d0_1_2 : S2x8192x2048.ReducesTo [0, 1, 2] S_
  bcast_S_S2x16x1x12288 : S_.BroadcastsInDim S2x16x1x12288 (![] : Fin 0 → Fin S2x16x1x12288.rank)
  reducesTo_S2x16x1x12288_S_d0_1_2_3 : S2x16x1x12288.ReducesTo [0, 1, 2, 3] S_

variable [Facts]

def fn_part1 {F : FTy → Type} [FloatOps F] (main_v13 : IVec S_ 1) (main_v16 : IVec S2x16x1x12288 1) : IVec S_ 1 :=
  let main_c_5 : IVec S_ 1 := constantI S_ 1 1#1
  let main_v17 : IVec S_ 1 := (fun x v => Host.reduce IntOp.andi x v reducesTo_S2x16x1x12288_S_d0_1_2_3 h_S_) main_v16 main_c_5
  let main_v18 : IVec S_ 1 := andi main_v13 main_v17
  main_v18

def fn {F : FTy → Type} [FloatOps F] (main_arg0 : FVec F S6144x2048 .bf16) (main_arg1 : FVec F S6144x2048 .f32) (main_arg2 : FVec F S2x2048x8192 .f32) (main_arg3 : FVec F S2x8192x2048 .f32) (main_arg4 : FVec F S2x16x1x12288 .f32) (main_arg5 : FVec F S2048 .f32) : IVec S_ 1 :=
  let main_v0 : FVec F S6144x2048 .bf16 := Host.absf main_arg0
  let main_cst : FVec F S_ .bf16 := constant S_ .bf16 0x7F80#16
  let main_v1 : FVec F S6144x2048 .bf16 := broadcastInDim S6144x2048 ![] bcast_S_S6144x2048 main_cst
  let main_v2 : IVec S6144x2048 1 := cmpf .olt main_v0 main_v1
  let main_c : IVec S_ 1 := constantI S_ 1 1#1
  let main_v3 : IVec S_ 1 := (fun x v => Host.reduce IntOp.andi x v reducesTo_S6144x2048_S_d0_1 h_S_) main_v2 main_c
  let main_v4 : FVec F S2x2048x8192 .f32 := Host.absf main_arg2
  let main_cst_0 : FVec F S_ .f32 := constant S_ .f32 0x7F800000#32
  let main_v5 : FVec F S2x2048x8192 .f32 := broadcastInDim S2x2048x8192 ![] bcast_S_S2x2048x8192 main_cst_0
  let main_v6 : IVec S2x2048x8192 1 := cmpf .olt main_v4 main_v5
  let main_c_1 : IVec S_ 1 := constantI S_ 1 1#1
  let main_v7 : IVec S_ 1 := (fun x v => Host.reduce IntOp.andi x v reducesTo_S2x2048x8192_S_d0_1_2 h_S_) main_v6 main_c_1
  let main_v8 : IVec S_ 1 := andi main_v3 main_v7
  let main_v9 : FVec F S2x8192x2048 .f32 := Host.absf main_arg3
  let main_cst_2 : FVec F S_ .f32 := constant S_ .f32 0x7F800000#32
  let main_v10 : FVec F S2x8192x2048 .f32 := broadcastInDim S2x8192x2048 ![] bcast_S_S2x8192x2048 main_cst_2
  let main_v11 : IVec S2x8192x2048 1 := cmpf .olt main_v9 main_v10
  let main_c_3 : IVec S_ 1 := constantI S_ 1 1#1
  let main_v12 : IVec S_ 1 := (fun x v => Host.reduce IntOp.andi x v reducesTo_S2x8192x2048_S_d0_1_2 h_S_) main_v11 main_c_3
  let main_v13 : IVec S_ 1 := andi main_v8 main_v12
  let main_v14 : FVec F S2x16x1x12288 .f32 := Host.absf main_arg4
  let main_cst_4 : FVec F S_ .f32 := constant S_ .f32 0x7F800000#32
  let main_v15 : FVec F S2x16x1x12288 .f32 := broadcastInDim S2x16x1x12288 ![] bcast_S_S2x16x1x12288 main_cst_4
  let main_v16 : IVec S2x16x1x12288 1 := cmpf .olt main_v14 main_v15
  fn_part1 (F := F) main_v13 main_v16
-- ==== Pre_real_mlp.lean ====
abbrev S6144x2048 : Shape := ⟨2, ![6144, 2048]⟩
abbrev S2x2048x8192 : Shape := ⟨3, ![2, 2048, 8192]⟩
abbrev S2x8192x2048 : Shape := ⟨3, ![2, 8192, 2048]⟩
abbrev S2x16x1x12288 : Shape := ⟨4, ![2, 16, 1, 12288]⟩
abbrev S_ : Shape := ⟨0, ![]⟩

class Facts : Prop where
  bcast_S_S6144x2048 : S_.BroadcastsInDim S6144x2048 (![] : Fin 0 → Fin S6144x2048.rank)
  reducesTo_S6144x2048_S_d0_1 : S6144x2048.ReducesTo [0, 1] S_
  h_S_ : 0 < S_.numel
  bcast_S_S2x2048x8192 : S_.BroadcastsInDim S2x2048x8192 (![] : Fin 0 → Fin S2x2048x8192.rank)
  reducesTo_S2x2048x8192_S_d0_1_2 : S2x2048x8192.ReducesTo [0, 1, 2] S_
  bcast_S_S2x8192x2048 : S_.BroadcastsInDim S2x8192x2048 (![] : Fin 0 → Fin S2x8192x2048.rank)
  reducesTo_S2x8192x2048_S_d0_1_2 : S2x8192x2048.ReducesTo [0, 1, 2] S_
  bcast_S_S2x16x1x12288 : S_.BroadcastsInDim S2x16x1x12288 (![] : Fin 0 → Fin S2x16x1x12288.rank)
  reducesTo_S2x16x1x12288_S_d0_1_2_3 : S2x16x1x12288.ReducesTo [0, 1, 2, 3] S_

variable [Facts]

def fn_part1 {F : FTy → Type} [FloatOps F] (main_v13 : IVec S_ 1) (main_v16 : IVec S2x16x1x12288 1) : IVec S_ 1 :=
  let main_c_5 : IVec S_ 1 := constantI S_ 1 1#1
  let main_v17 : IVec S_ 1 := (fun x v => Host.reduce IntOp.andi x v reducesTo_S2x16x1x12288_S_d0_1_2_3 h_S_) main_v16 main_c_5
  let main_v18 : IVec S_ 1 := andi main_v13 main_v17
  main_v18

def fn {F : FTy → Type} [FloatOps F] (main_arg0 : FVec F S6144x2048 .bf16) (main_arg1 : FVec F S6144x2048 .f32) (main_arg2 : FVec F S2x2048x8192 .f32) (main_arg3 : FVec F S2x8192x2048 .f32) (main_arg4 : FVec F S2x16x1x12288 .f32) : IVec S_ 1 :=
  let main_v0 : FVec F S6144x2048 .bf16 := Host.absf main_arg0
  let main_cst : FVec F S_ .bf16 := constant S_ .bf16 0x7F80#16
  let main_v1 : FVec F S6144x2048 .bf16 := broadcastInDim S6144x2048 ![] bcast_S_S6144x2048 main_cst
  let main_v2 : IVec S6144x2048 1 := cmpf .olt main_v0 main_v1
  let main_c : IVec S_ 1 := constantI S_ 1 1#1
  let main_v3 : IVec S_ 1 := (fun x v => Host.reduce IntOp.andi x v reducesTo_S6144x2048_S_d0_1 h_S_) main_v2 main_c
  let main_v4 : FVec F S2x2048x8192 .f32 := Host.absf main_arg2
  let main_cst_0 : FVec F S_ .f32 := constant S_ .f32 0x7F800000#32
  let main_v5 : FVec F S2x2048x8192 .f32 := broadcastInDim S2x2048x8192 ![] bcast_S_S2x2048x8192 main_cst_0
  let main_v6 : IVec S2x2048x8192 1 := cmpf .olt main_v4 main_v5
  let main_c_1 : IVec S_ 1 := constantI S_ 1 1#1
  let main_v7 : IVec S_ 1 := (fun x v => Host.reduce IntOp.andi x v reducesTo_S2x2048x8192_S_d0_1_2 h_S_) main_v6 main_c_1
  let main_v8 : IVec S_ 1 := andi main_v3 main_v7
  let main_v9 : FVec F S2x8192x2048 .f32 := Host.absf main_arg3
  let main_cst_2 : FVec F S_ .f32 := constant S_ .f32 0x7F800000#32
  let main_v10 : FVec F S2x8192x2048 .f32 := broadcastInDim S2x8192x2048 ![] bcast_S_S2x8192x2048 main_cst_2
  let main_v11 : IVec S2x8192x2048 1 := cmpf .olt main_v9 main_v10
  let main_c_3 : IVec S_ 1 := constantI S_ 1 1#1
  let main_v12 : IVec S_ 1 := (fun x v => Host.reduce IntOp.andi x v reducesTo_S2x8192x2048_S_d0_1_2 h_S_) main_v11 main_c_3
  let main_v13 : IVec S_ 1 := andi main_v8 main_v12
  let main_v14 : FVec F S2x16x1x12288 .f32 := Host.absf main_arg4
  let main_cst_4 : FVec F S_ .f32 := constant S_ .f32 0x7F800000#32
  let main_v15 : FVec F S2x16x1x12288 .f32 := broadcastInDim S2x16x1x12288 ![] bcast_S_S2x16x1x12288 main_cst_4
  let main_v16 : IVec S2x16x1x12288 1 := cmpf .olt main_v14 main_v15
  fn_part1 (F := F) main_v13 main_v16
-- ==== Pre_real_proj.lean ====
abbrev S6144x6656 : Shape := ⟨2, ![6144, 6656]⟩
abbrev S_ : Shape := ⟨0, ![]⟩

class Facts : Prop where
  bcast_S_S6144x6656 : S_.BroadcastsInDim S6144x6656 (![] : Fin 0 → Fin S6144x6656.rank)
  reducesTo_S6144x6656_S_d0_1 : S6144x6656.ReducesTo [0, 1] S_
  h_S_ : 0 < S_.numel

variable [Facts]

def fn {F : FTy → Type} [FloatOps F] (main_arg0 : FVec F S6144x6656 .f32) : IVec S_ 1 :=
  let main_v0 : FVec F S6144x6656 .f32 := Host.absf main_arg0
  let main_cst : FVec F S_ .f32 := constant S_ .f32 0x7F800000#32
  let main_v1 : FVec F S6144x6656 .f32 := broadcastInDim S6144x6656 ![] bcast_S_S6144x6656 main_cst
  let main_v2 : IVec S6144x6656 1 := cmpf .olt main_v0 main_v1
  let main_c : IVec S_ 1 := constantI S_ 1 1#1
  let main_v3 : IVec S_ 1 := (fun x v => Host.reduce IntOp.andi x v reducesTo_S6144x6656_S_d0_1 h_S_) main_v2 main_c
  main_v3
-- ==== Pre_real_scores.lean ====
abbrev S6144x6656 : Shape := ⟨2, ![6144, 6656]⟩
abbrev S2x1x256x2x128 : Shape := ⟨5, ![2, 1, 256, 2, 128]⟩
abbrev S6144x1024 : Shape := ⟨2, ![6144, 1024]⟩
abbrev S_ : Shape := ⟨0, ![]⟩

class Facts : Prop where
  bcast_S_S6144x6656 : S_.BroadcastsInDim S6144x6656 (![] : Fin 0 → Fin S6144x6656.rank)
  reducesTo_S6144x6656_S_d0_1 : S6144x6656.ReducesTo [0, 1] S_
  h_S_ : 0 < S_.numel
  bcast_S_S2x1x256x2x128 : S_.BroadcastsInDim S2x1x256x2x128 (![] : Fin 0 → Fin S2x1x256x2x128.rank)
  reducesTo_S2x1x256x2x128_S_d0_1_2_3_4 : S2x1x256x2x128.ReducesTo [0, 1, 2, 3, 4] S_

variable [Facts]

def fn {F : FTy → Type} [FloatOps F] (main_arg0 : FVec F S6144x6656 .f32) (main_arg1 : FVec F S2x1x256x2x128 .f32) (main_arg2 : FVec F S2x1x256x2x128 .f32) (main_arg3 : FVec F S6144x1024 .bf16) : IVec S_ 1 :=
  let main_v0 : FVec F S6144x6656 .f32 := Host.absf main_arg0
  let main_cst : FVec F S_ .f32 := constant S_ .f32 0x7F800000#32
  let main_v1 : FVec F S6144x6656 .f32 := broadcastInDim S6144x6656 ![] bcast_S_S6144x6656 main_cst
  let main_v2 : IVec S6144x6656 1 := cmpf .olt main_v0 main_v1
  let main_c : IVec S_ 1 := constantI S_ 1 1#1
  let main_v3 : IVec S_ 1 := (fun x v => Host.reduce IntOp.andi x v reducesTo_S6144x6656_S_d0_1 h_S_) main_v2 main_c
  let main_v4 : FVec F S2x1x256x2x128 .f32 := Host.absf main_arg1
  let main_cst_0 : FVec F S_ .f32 := constant S_ .f32 0x7F800000#32
  let main_v5 : FVec F S2x1x256x2x128 .f32 := broadcastInDim S2x1x256x2x128 ![] bcast_S_S2x1x256x2x128 main_cst_0
  let main_v6 : IVec S2x1x256x2x128 1 := cmpf .olt main_v4 main_v5
  let main_c_1 : IVec S_ 1 := constantI S_ 1 1#1
  let main_v7 : IVec S_ 1 := (fun x v => Host.reduce IntOp.andi x v reducesTo_S2x1x256x2x128_S_d0_1_2_3_4 h_S_) main_v6 main_c_1
  let main_v8 : IVec S_ 1 := andi main_v3 main_v7
  main_v8
-- ==== Latent.lean ====
abbrev S6144x6656 : Shape := ⟨2, ![6144, 6656]⟩
abbrev S2x1x256x2x128 : Shape := ⟨5, ![2, 1, 256, 2, 128]⟩
abbrev S6144x1024 : Shape := ⟨2, ![6144, 1024]⟩
abbrev S2x256x2x128 : Shape := ⟨4, ![2, 256, 2, 128]⟩
abbrev S2x256x256 : Shape := ⟨3, ![2, 256, 256]⟩
abbrev S256x512 : Shape := ⟨2, ![256, 512]⟩
abbrev S1024x128 : Shape := ⟨2, ![1024, 128]⟩
abbrev S1x256x128 : Shape := ⟨3, ![1, 256, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 9
  | .vmem => 12
  | .smem => 0
  | _ => 0

abbrev bufTy : (tb : Table) → Fin (tcTables nBuf tb) → BufTy
  | .hbm, ⟨0, _⟩ => ⟨S6144x6656, .f32⟩
  | .hbm, ⟨1, _⟩ => ⟨S2x1x256x2x128, .f32⟩
  | .hbm, ⟨2, _⟩ => ⟨S2x1x256x2x128, .f32⟩
  | .hbm, ⟨3, _⟩ => ⟨S6144x1024, .bf16⟩
  | .hbm, ⟨4, _⟩ => ⟨S2x256x2x128, .f32⟩
  | .hbm, ⟨5, _⟩ => ⟨S2x256x256, .f32⟩
  | .hbm, ⟨6, _⟩ => ⟨S2x256x2x128, .f32⟩
  | .hbm, ⟨7, _⟩ => ⟨S2x256x256, .f32⟩
  | .hbm, ⟨8, _⟩ => ⟨S6144x1024, .bf16⟩
  | .local _ .vmem, ⟨0, _⟩ => ⟨S256x512, .f32⟩
  | .local _ .vmem, ⟨1, _⟩ => ⟨S256x512, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S256x512, .bf16⟩
  | .local _ .vmem, ⟨11, _⟩ => ⟨S256x512, .bf16⟩
  | _, _ => ⟨S6144x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c8_i32 : BitVec 32 := 8#32
  let v1 : BitVec 32 := Scalar.addi c8_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c10_i32 : BitVec 32 := 10#32
  let v1 : BitVec 32 := Scalar.addi c10_i32 arg1
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== LatentRefIdeal.lean ====
abbrev S6144x6656 : Shape := ⟨2, ![6144, 6656]⟩
abbrev S2x1x256x2x128 : Shape := ⟨5, ![2, 1, 256, 2, 128]⟩
abbrev S6144x1024 : Shape := ⟨2, ![6144, 1024]⟩
abbrev S2048x1536 : Shape := ⟨2, ![2048, 1536]⟩
abbrev S2048x1024 : Shape := ⟨2, ![2048, 1024]⟩
abbrev S2048x256 : Shape := ⟨2, ![2048, 256]⟩
abbrev S2x1024x2x4x128 : Shape := ⟨5, ![2, 1024, 2, 4, 128]⟩
abbrev S2x1024x2x128 : Shape := ⟨4, ![2, 1024, 2, 128]⟩
abbrev S2x256x2x128 : Shape := ⟨4, ![2, 256, 2, 128]⟩
abbrev S2x1280x2x128 : Shape := ⟨4, ![2, 1280, 2, 128]⟩
abbrev S4096x1024 : Shape := ⟨2, ![4096, 1024]⟩
abbrev S2x2x1280x1024x4 : Shape := ⟨5, ![2, 2, 1280, 1024, 4]⟩
abbrev S2x2x4x1024x1280 : Shape := ⟨5, ![2, 2, 4, 1024, 1280]⟩
abbrev S_ : Shape := ⟨0, ![]⟩
abbrev S2x2x4x1024 : Shape := ⟨4, ![2, 2, 4, 1024]⟩
abbrev S2x2x4x1024x1 : Shape := ⟨5, ![2, 2, 4, 1024, 1]⟩
abbrev S2x2x128x4x1024 : Shape := ⟨5, ![2, 2, 128, 4, 1024]⟩

abbrev nBuf : Space → Nat
  | .hbm => 40
  | .vmem => 0
  | .smem => 0
  | _ => 0

abbrev bufTy : (tb : Table) → Fin (tcTables nBuf tb) → BufTy
  | .hbm, ⟨0, _⟩ => ⟨S6144x6656, .f32⟩
  | .hbm, ⟨1, _⟩ => ⟨S2x1x256x2x128, .f32⟩
  | .hbm, ⟨2, _⟩ => ⟨S2x1x256x2x128, .f32⟩
  | .hbm, ⟨3, _⟩ => ⟨S6144x1024, .bf16⟩
  | .hbm, ⟨4, _⟩ => ⟨S2048x1536, .f32⟩
  | .hbm, ⟨5, _⟩ => ⟨S2048x1024, .f32⟩
  | .hbm, ⟨6, _⟩ => ⟨S2048x256, .f32⟩
  | .hbm, ⟨7, _⟩ => ⟨S2048x256, .f32⟩
  | .hbm, ⟨8, _⟩ => ⟨S2x1024x2x4x128, .f32⟩
  | .hbm, ⟨9, _⟩ => ⟨S2x1024x2x128, .f32⟩
  | .hbm, ⟨10, _⟩ => ⟨S2x256x2x128, .f32⟩
  | .hbm, ⟨11, _⟩ => ⟨S2x1280x2x128, .f32⟩
  | .hbm, ⟨12, _⟩ => ⟨S2x1024x2x128, .f32⟩
  | .hbm, ⟨13, _⟩ => ⟨S2x256x2x128, .f32⟩
  | .hbm, ⟨14, _⟩ => ⟨S2x1280x2x128, .f32⟩
  | .hbm, ⟨15, _⟩ => ⟨S4096x1024, .bf16⟩
  | .hbm, ⟨16, _⟩ => ⟨S2x2x1280x1024x4, .f32⟩
  | .hbm, ⟨17, _⟩ => ⟨S2x2x4x1024x1280, .f32⟩
  | .hbm, ⟨18, _⟩ => ⟨S_, .f32⟩
  | .hbm, ⟨19, _⟩ => ⟨S2x2x4x1024x1280, .f32⟩
  | .hbm, ⟨20, _⟩ => ⟨S2x2x4x1024x1280, .f32⟩
  | .hbm, ⟨21, _⟩ => ⟨S_, .f32⟩
  | .hbm, ⟨22, _⟩ => ⟨S2x2x4x1024, .f32⟩
  | .hbm, ⟨23, _⟩ => ⟨S_, .f32⟩
  | .hbm, ⟨24, _⟩ => ⟨S2x2x4x1024, .f32⟩
  | .hbm, ⟨25, _⟩ => ⟨S2x2x4x1024, .f32⟩
  | .hbm, ⟨26, _⟩ => ⟨S2x2x4x1024x1, .f32⟩
  | .hbm, ⟨27, _⟩ => ⟨S2x2x4x1024x1280, .f32⟩
  | .hbm, ⟨28, _⟩ => ⟨S2x2x4x1024x1280, .f32⟩
  | .hbm, ⟨29, _⟩ => ⟨S2x2x4x1024x1280, .f32⟩
  | .hbm, ⟨30, _⟩ => ⟨S_, .f32⟩
  | .hbm, ⟨31, _⟩ => ⟨S2x2x4x1024, .f32⟩
  | .hbm, ⟨32, _⟩ => ⟨S2x2x4x1024x1, .f32⟩
  | .hbm, ⟨33, _⟩ => ⟨S2x2x4x1024x1280, .f32⟩
  | .hbm, ⟨34, _⟩ => ⟨S2x2x4x1024x1280, .f32⟩
  | .hbm, ⟨35, _⟩ => ⟨S2x2x128x4x1024, .f32⟩
  | .hbm, ⟨36, _⟩ => ⟨S2x1024x2x4x128, .f32⟩
  | .hbm, ⟨37, _⟩ => ⟨S2048x1024, .f32⟩
  | .hbm, ⟨38, _⟩ => ⟨S2048x1024, .bf16⟩
  | .hbm, ⟨39, _⟩ => ⟨S6144x1024, .bf16⟩
  | _, _ => ⟨S6144x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Prompt.lean ====
abbrev S6144x6656 : Shape := ⟨2, ![6144, 6656]⟩
abbrev S6144x1024 : Shape := ⟨2, ![6144, 1024]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S6144x6656, .f32⟩
  | .hbm, ⟨1, _⟩ => ⟨S6144x1024, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .bf16⟩
  | .local _ .vmem, ⟨7, _⟩ => ⟨S256x512, .bf16⟩
  | _, _ => ⟨S6144x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c10_i32 : BitVec 32 := 10#32
  let v1 : BitVec 32 := Scalar.addi c10_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== PromptRefIdeal.lean ====
abbrev S6144x6656 : Shape := ⟨2, ![6144, 6656]⟩
abbrev S4096x1536 : Shape := ⟨2, ![4096, 1536]⟩
abbrev S4096x1024 : Shape := ⟨2, ![4096, 1024]⟩
abbrev S4096x256 : Shape := ⟨2, ![4096, 256]⟩
abbrev S16x256x2x4x128 : Shape := ⟨5, ![16, 256, 2, 4, 128]⟩
abbrev S16x256x2x128 : Shape := ⟨4, ![16, 256, 2, 128]⟩
abbrev S16x2x256x256x4 : Shape := ⟨5, ![16, 2, 256, 256, 4]⟩
abbrev S16x2x4x256x256 : Shape := ⟨5, ![16, 2, 4, 256, 256]⟩
abbrev S_ : Shape := ⟨0, ![]⟩
abbrev S16x2x4x256 : Shape := ⟨4, ![16, 2, 4, 256]⟩
abbrev S16x2x4x256x1 : Shape := ⟨5, ![16, 2, 4, 256, 1]⟩
abbrev S16x2x128x4x256 : Shape := ⟨5, ![16, 2, 128, 4, 256]⟩
abbrev S2048x1024 : Shape := ⟨2, ![2048, 1024]⟩
abbrev S6144x1024 : Shape := ⟨2, ![6144, 1024]⟩

abbrev nBuf : Space → Nat
  | .hbm => 34
  | .vmem => 0
  | .smem => 0
  | _ => 0

abbrev bufTy : (tb : Table) → Fin (tcTables nBuf tb) → BufTy
  | .hbm, ⟨0, _⟩ => ⟨S6144x6656, .f32⟩
  | .hbm, ⟨1, _⟩ => ⟨S4096x1536, .f32⟩
  | .hbm, ⟨2, _⟩ => ⟨S4096x1024, .f32⟩
  | .hbm, ⟨3, _⟩ => ⟨S4096x256, .f32⟩
  | .hbm, ⟨4, _⟩ => ⟨S4096x256, .f32⟩
  | .hbm, ⟨5, _⟩ => ⟨S16x256x2x4x128, .f32⟩
  | .hbm, ⟨6, _⟩ => ⟨S16x256x2x128, .f32⟩
  | .hbm, ⟨7, _⟩ => ⟨S16x256x2x128, .f32⟩
  | .hbm, ⟨8, _⟩ => ⟨S16x2x256x256x4, .f32⟩
  | .hbm, ⟨9, _⟩ => ⟨S16x2x4x256x256, .f32⟩
  | .hbm, ⟨10, _⟩ => ⟨S_, .f32⟩
  | .hbm, ⟨11, _⟩ => ⟨S16x2x4x256x256, .f32⟩
  | .hbm, ⟨12, _⟩ => ⟨S16x2x4x256x256, .f32⟩
  | .hbm, ⟨13, _⟩ => ⟨S_, .f32⟩
  | .hbm, ⟨14, _⟩ => ⟨S16x2x4x256, .f32⟩
  | .hbm, ⟨15, _⟩ => ⟨S_, .f32⟩
  | .hbm, ⟨16, _⟩ => ⟨S16x2x4x256, .f32⟩
  | .hbm, ⟨17, _⟩ => ⟨S16x2x4x256, .f32⟩
  | .hbm, ⟨18, _⟩ => ⟨S16x2x4x256x1, .f32⟩
  | .hbm, ⟨19, _⟩ => ⟨S16x2x4x256x256, .f32⟩
  | .hbm, ⟨20, _⟩ => ⟨S16x2x4x256x256, .f32⟩
  | .hbm, ⟨21, _⟩ => ⟨S16x2x4x256x256, .f32⟩
  | .hbm, ⟨22, _⟩ => ⟨S_, .f32⟩
  | .hbm, ⟨23, _⟩ => ⟨S16x2x4x256, .f32⟩
  | .hbm, ⟨24, _⟩ => ⟨S16x2x4x256x1, .f32⟩
  | .hbm, ⟨25, _⟩ => ⟨S16x2x4x256x256, .f32⟩
  | .hbm, ⟨26, _⟩ => ⟨S16x2x4x256x256, .f32⟩
  | .hbm, ⟨27, _⟩ => ⟨S16x2x128x4x256, .f32⟩
  | .hbm, ⟨28, _⟩ => ⟨S16x256x2x4x128, .f32⟩
  | .hbm, ⟨29, _⟩ => ⟨S4096x1024, .f32⟩
  | .hbm, ⟨30, _⟩ => ⟨S4096x1024, .bf16⟩
  | .hbm, ⟨31, _⟩ => ⟨S_, .bf16⟩
  | .hbm, ⟨32, _⟩ => ⟨S2048x1024, .bf16⟩
  | .hbm, ⟨33, _⟩ => ⟨S6144x1024, .bf16⟩
  | _, _ => ⟨S6144x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_3 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Mlp.lean ====
abbrev S6144x2048 : Shape := ⟨2, ![6144, 2048]⟩
abbrev S2x2048x8192 : Shape := ⟨3, ![2, 2048, 8192]⟩
abbrev S2x8192x2048 : Shape := ⟨3, ![2, 8192, 2048]⟩
abbrev S2x16x1x12288 : Shape := ⟨4, ![2, 16, 1, 12288]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S1024x2048 : Shape := ⟨2, ![1024, 2048]⟩
abbrev S2048x256 : Shape := ⟨2, ![2048, 256]⟩
abbrev S256x2048 : Shape := ⟨2, ![256, 2048]⟩
abbrev S1x1x1x2048 : Shape := ⟨4, ![1, 1, 1, 2048]⟩
abbrev S1024x256 : Shape := ⟨2, ![1024, 256]⟩
abbrev S1x2048 : Shape := ⟨2, ![1, 2048]⟩

abbrev nBuf : Space → Nat
  | .hbm => 10
  | .vmem => 12
  | .smem => 0
  | _ => 0

abbrev bufTy : (tb : Table) → Fin (tcTables nBuf tb) → BufTy
  | .hbm, ⟨0, _⟩ => ⟨S6144x2048, .bf16⟩
  | .hbm, ⟨1, _⟩ => ⟨S6144x2048, .f32⟩
  | .hbm, ⟨2, _⟩ => ⟨S2x2048x8192, .f32⟩
  | .hbm, ⟨3, _⟩ => ⟨S2x8192x2048, .f32⟩
  | .hbm, ⟨4, _⟩ => ⟨S2x16x1x12288, .f32⟩
  | .hbm, ⟨5, _⟩ => ⟨S1x2048x8192, .f32⟩
  | .hbm, ⟨6, _⟩ => ⟨S2048x8192, .f32⟩
  | .hbm, ⟨7, _⟩ => ⟨S1x8192x2048, .f32⟩
  | .hbm, ⟨8, _⟩ => ⟨S8192x2048, .f32⟩
  | .hbm, ⟨9, _⟩ => ⟨S6144x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S2048x256, .f32⟩
  | .local _ .vmem, ⟨4, _⟩ => ⟨S256x2048, .f32⟩
  | .local _ .vmem, ⟨5, _⟩ => ⟨S256x2048, .f32⟩
  | .local _ .vmem, ⟨6, _⟩ => ⟨S1024x2048, .f32⟩
  | .local _ .vmem, ⟨7, _⟩ => ⟨S1024x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1024x2048, .f32⟩
  | .local _ .vmem, ⟨11, _⟩ => ⟨S1024x2048, .f32⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 1 := Scalar.cmpi .slt v0 c4_i32
  let c4_i32_0 : BitVec 32 := 4#32
  let v2 : BitVec 32 := Scalar.subi v0 c4_i32_0
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi c1_i32_7 v19
  let c0_i32_8 : BitVec 32 := 0#32
  let v21 : BitVec 32 := Scalar.select v1 c0_i32_8 v20
  let c0_i32_9 : BitVec 32 := 0#32
  let c0_i32_10 : BitVec 32 := 0#32
  let c5_i32 : BitVec 32 := 5#32
  let c0_i32_11 : BitVec 32 := 0#32
  ![c0_i32_9.toNat, v21.toNat, c0_i32_10.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S6144x2048 : Shape := ⟨2, ![6144, 2048]⟩
abbrev S2x2048x8192 : Shape := ⟨3, ![2, 2048, 8192]⟩
abbrev S2x8192x2048 : Shape := ⟨3, ![2, 8192, 2048]⟩
abbrev S2x16x1x12288 : Shape := ⟨4, ![2, 16, 1, 12288]⟩
abbrev S1x16x1x12288 : Shape := ⟨4, ![1, 16, 1, 12288]⟩
abbrev S16x12288 : Shape := ⟨2, ![16, 12288]⟩
abbrev S16x2048 : Shape := ⟨2, ![16, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S1x2048 : Shape := ⟨2, ![1, 2048]⟩
abbrev S4096x2048 : Shape := ⟨2, ![4096, 2048]⟩
abbrev S2x2048 : Shape := ⟨2, ![2, 2048]⟩
abbrev S2x1024x2048 : Shape := ⟨3, ![2, 1024, 2048]⟩
abbrev S2048x2048 : Shape := ⟨2, ![2048, 2048]⟩
abbrev S6144x8192 : Shape := ⟨2, ![6144, 8192]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S6144x2048, .f32⟩
  | .hbm, ⟨2, _⟩ => ⟨S2x2048x8192, .f32⟩
  | .hbm, ⟨3, _⟩ => ⟨S2x8192x2048, .f32⟩
  | .hbm, ⟨4, _⟩ => ⟨S2x16x1x12288, .f32⟩
  | .hbm, ⟨5, _⟩ => ⟨S1x16x1x12288, .f32⟩
  | .hbm, ⟨6, _⟩ => ⟨S16x12288, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S1x2048x8192, .f32⟩
  | .hbm, ⟨14, _⟩ => ⟨S2048x8192, .f32⟩
  | .hbm, ⟨15, _⟩ => ⟨S1x8192x2048, .f32⟩
  | .hbm, ⟨16, _⟩ => ⟨S8192x2048, .f32⟩
  | .hbm, ⟨17, _⟩ => ⟨S1x2048, .f32⟩
  | .hbm, ⟨18, _⟩ => ⟨S4096x2048, .f32⟩
  | .hbm, ⟨19, _⟩ => ⟨S2x2048, .f32⟩
  | .hbm, ⟨20, _⟩ => ⟨S2x1024x2048, .f32⟩
  | .hbm, ⟨21, _⟩ => ⟨S2048x2048, .f32⟩
  | .hbm, ⟨22, _⟩ => ⟨S6144x2048, .f32⟩
  | .hbm, ⟨23, _⟩ => ⟨S6144x2048, .f32⟩
  | .hbm, ⟨24, _⟩ => ⟨S6144x8192, .f32⟩
  | .hbm, ⟨25, _⟩ => ⟨S_, .f32⟩
  | .hbm, ⟨26, _⟩ => ⟨S6144x8192, .f32⟩
  | .hbm, ⟨27, _⟩ => ⟨S6144x8192, .f32⟩
  | .hbm, ⟨28, _⟩ => ⟨S6144x8192, .f32⟩
  | .hbm, ⟨29, _⟩ => ⟨S6144x2048, .f32⟩
  | .hbm, ⟨30, _⟩ => ⟨S6144x2048, .f32⟩
  | .hbm, ⟨31, _⟩ => ⟨S6144x2048, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_cst : Ref sig .tc := ⟨.hbm, 25, rfl⟩
abbrev main_call0_v0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== FinalPrompt.lean ====
abbrev S6144x2048 : Shape := ⟨2, ![6144, 2048]⟩
abbrev S2x2048x8192 : Shape := ⟨3, ![2, 2048, 8192]⟩
abbrev S2x8192x2048 : Shape := ⟨3, ![2, 8192, 2048]⟩
abbrev S2x16x1x12288 : Shape := ⟨4, ![2, 16, 1, 12288]⟩
abbrev S2048 : Shape := ⟨1, ![2048]⟩
abbrev S1x2048 : Shape := ⟨2, ![1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S4096x2048 : Shape := ⟨2, ![4096, 2048]⟩
abbrev S1024x2048 : Shape := ⟨2, ![1024, 2048]⟩
abbrev S2048x256 : Shape := ⟨2, ![2048, 256]⟩
abbrev S256x2048 : Shape := ⟨2, ![256, 2048]⟩
abbrev S1x1x1x2048 : Shape := ⟨4, ![1, 1, 1, 2048]⟩
abbrev S1024x256 : Shape := ⟨2, ![1024, 256]⟩
abbrev S1024 : Shape := ⟨1, ![1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S6144x2048, .bf16⟩
  | .hbm, ⟨1, _⟩ => ⟨S6144x2048, .f32⟩
  | .hbm, ⟨2, _⟩ => ⟨S2x2048x8192, .f32⟩
  | .hbm, ⟨3, _⟩ => ⟨S2x8192x2048, .f32⟩
  | .hbm, ⟨4, _⟩ => ⟨S2x16x1x12288, .f32⟩
  | .hbm, ⟨5, _⟩ => ⟨S2048, .f32⟩
  | .hbm, ⟨6, _⟩ => ⟨S1x2048, .f32⟩
  | .hbm, ⟨7, _⟩ => ⟨S1x2048x8192, .f32⟩
  | .hbm, ⟨8, _⟩ => ⟨S2048x8192, .f32⟩
  | .hbm, ⟨9, _⟩ => ⟨S1x8192x2048, .f32⟩
  | .hbm, ⟨10, _⟩ => ⟨S8192x2048, .f32⟩
  | .hbm, ⟨11, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S2048x256, .f32⟩
  | .local _ .vmem, ⟨4, _⟩ => ⟨S256x2048, .f32⟩
  | .local _ .vmem, ⟨5, _⟩ => ⟨S256x2048, .f32⟩
  | .local _ .vmem, ⟨6, _⟩ => ⟨S1024x2048, .f32⟩
  | .local _ .vmem, ⟨7, _⟩ => ⟨S1024x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 1 := Scalar.cmpi .slt v0 c4_i32
  let c4_i32_0 : BitVec 32 := 4#32
  let v2 : BitVec 32 := Scalar.subi v0 c4_i32_0
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi c1_i32_7 v19
  let c0_i32_8 : BitVec 32 := 0#32
  let v21 : BitVec 32 := Scalar.select v1 c0_i32_8 v20
  let c1_i32_9 : BitVec 32 := 1#32
  let c0_i32_10 : BitVec 32 := 0#32
  let c5_i32 : BitVec 32 := 5#32
  let c0_i32_11 : BitVec 32 := 0#32
  ![c1_i32_9.toNat, v21.toNat, c0_i32_10.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FinalPromptRefIdeal.lean ====
abbrev S6144x2048 : Shape := ⟨2, ![6144, 2048]⟩
abbrev S2x2048x8192 : Shape := ⟨3, ![2, 2048, 8192]⟩
abbrev S2x8192x2048 : Shape := ⟨3, ![2, 8192, 2048]⟩
abbrev S2x16x1x12288 : Shape := ⟨4, ![2, 16, 1, 12288]⟩
abbrev S2048 : Shape := ⟨1, ![2048]⟩
abbrev S1x16x1x12288 : Shape := ⟨4, ![1, 16, 1, 12288]⟩
abbrev S16x12288 : Shape := ⟨2, ![16, 12288]⟩
abbrev S16x2048 : Shape := ⟨2, ![16, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S1x2048 : Shape := ⟨2, ![1, 2048]⟩
abbrev S4096x2048 : Shape := ⟨2, ![4096, 2048]⟩
abbrev S2x2048 : Shape := ⟨2, ![2, 2048]⟩
abbrev S2x1024x2048 : Shape := ⟨3, ![2, 1024, 2048]⟩
abbrev S2048x2048 : Shape := ⟨2, ![2048, 2048]⟩
abbrev S6144x8192 : Shape := ⟨2, ![6144, 8192]⟩
abbrev S_ : Shape := ⟨0, ![]⟩
abbrev S6144 : Shape := ⟨1, ![6144]⟩
abbrev S6144x1 : Shape := ⟨2, ![6144, 1]⟩

abbrev nBuf : Space → Nat
  | .hbm => 50
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S6144x2048, .f32⟩
  | .hbm, ⟨2, _⟩ => ⟨S2x2048x8192, .f32⟩
  | .hbm, ⟨3, _⟩ => ⟨S2x8192x2048, .f32⟩
  | .hbm, ⟨4, _⟩ => ⟨S2x16x1x12288, .f32⟩
  | .hbm, ⟨5, _⟩ => ⟨S2048, .f32⟩
  | .hbm, ⟨6, _⟩ => ⟨S1x16x1x12288, .f32⟩
  | .hbm, ⟨7, _⟩ => ⟨S16x12288, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S1x2048x8192, .f32⟩
  | .hbm, ⟨15, _⟩ => ⟨S2048x8192, .f32⟩
  | .hbm, ⟨16, _⟩ => ⟨S1x8192x2048, .f32⟩
  | .hbm, ⟨17, _⟩ => ⟨S8192x2048, .f32⟩
  | .hbm, ⟨18, _⟩ => ⟨S1x2048, .f32⟩
  | .hbm, ⟨19, _⟩ => ⟨S4096x2048, .f32⟩
  | .hbm, ⟨20, _⟩ => ⟨S2x2048, .f32⟩
  | .hbm, ⟨21, _⟩ => ⟨S2x1024x2048, .f32⟩
  | .hbm, ⟨22, _⟩ => ⟨S2048x2048, .f32⟩
  | .hbm, ⟨23, _⟩ => ⟨S6144x2048, .f32⟩
  | .hbm, ⟨24, _⟩ => ⟨S6144x2048, .f32⟩
  | .hbm, ⟨25, _⟩ => ⟨S6144x8192, .f32⟩
  | .hbm, ⟨26, _⟩ => ⟨S_, .f32⟩
  | .hbm, ⟨27, _⟩ => ⟨S6144x8192, .f32⟩
  | .hbm, ⟨28, _⟩ => ⟨S6144x8192, .f32⟩
  | .hbm, ⟨29, _⟩ => ⟨S6144x8192, .f32⟩
  | .hbm, ⟨30, _⟩ => ⟨S6144x2048, .f32⟩
  | .hbm, ⟨31, _⟩ => ⟨S6144x2048, .f32⟩
  | .hbm, ⟨32, _⟩ => ⟨S6144x2048, .f32⟩
  | .hbm, ⟨33, _⟩ => ⟨S6144x2048, .f32⟩
  | .hbm, ⟨34, _⟩ => ⟨S_, .f32⟩
  | .hbm, ⟨35, _⟩ => ⟨S6144, .f32⟩
  | .hbm, ⟨36, _⟩ => ⟨S6144x1, .f32⟩
  | .hbm, ⟨37, _⟩ => ⟨S_, .f32⟩
  | .hbm, ⟨38, _⟩ => ⟨S6144x1, .f32⟩
  | .hbm, ⟨39, _⟩ => ⟨S6144x1, .f32⟩
  | .hbm, ⟨40, _⟩ => ⟨S_, .f32⟩
  | .hbm, ⟨41, _⟩ => ⟨S6144x1, .f32⟩
  | .hbm, ⟨42, _⟩ => ⟨S6144x1, .f32⟩
  | .hbm, ⟨43, _⟩ => ⟨S6144x1, .f32⟩
  | .hbm, ⟨44, _⟩ => ⟨S6144x2048, .f32⟩
  | .hbm, ⟨45, _⟩ => ⟨S6144x2048, .f32⟩
  | .hbm, ⟨46, _⟩ => ⟨S1x2048, .f32⟩
  | .hbm, ⟨47, _⟩ => ⟨S6144x2048, .f32⟩
  | .hbm, ⟨48, _⟩ => ⟨S6144x2048, .f32⟩
  | .hbm, ⟨49, _⟩ => ⟨S4096x2048, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_cst : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== FinalSample.lean ====
abbrev S6144x2048 : Shape := ⟨2, ![6144, 2048]⟩
abbrev S2x2048x8192 : Shape := ⟨3, ![2, 2048, 8192]⟩
abbrev S2x8192x2048 : Shape := ⟨3, ![2, 8192, 2048]⟩
abbrev S2x16x1x12288 : Shape := ⟨4, ![2, 16, 1, 12288]⟩
abbrev S2048 : Shape := ⟨1, ![2048]⟩
abbrev S1x2048 : Shape := ⟨2, ![1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S2048x2048 : Shape := ⟨2, ![2048, 2048]⟩
abbrev S1024x2048 : Shape := ⟨2, ![1024, 2048]⟩
abbrev S2048x256 : Shape := ⟨2, ![2048, 256]⟩
abbrev S256x2048 : Shape := ⟨2, ![256, 2048]⟩
abbrev S1x1x1x2048 : Shape := ⟨4, ![1, 1, 1, 2048]⟩
abbrev S1024x256 : Shape := ⟨2, ![1024, 256]⟩
abbrev S1024 : Shape := ⟨1, ![1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S6144x2048, .bf16⟩
  | .hbm, ⟨1, _⟩ => ⟨S6144x2048, .f32⟩
  | .hbm, ⟨2, _⟩ => ⟨S2x2048x8192, .f32⟩
  | .hbm, ⟨3, _⟩ => ⟨S2x8192x2048, .f32⟩
  | .hbm, ⟨4, _⟩ => ⟨S2x16x1x12288, .f32⟩
  | .hbm, ⟨5, _⟩ => ⟨S2048, .f32⟩
  | .hbm, ⟨6, _⟩ => ⟨S1x2048, .f32⟩
  | .hbm, ⟨7, _⟩ => ⟨S1x2048x8192, .f32⟩
  | .hbm, ⟨8, _⟩ => ⟨S2048x8192, .f32⟩
  | .hbm, ⟨9, _⟩ => ⟨S1x8192x2048, .f32⟩
  | .hbm, ⟨10, _⟩ => ⟨S8192x2048, .f32⟩
  | .hbm, ⟨11, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S2048x256, .f32⟩
  | .local _ .vmem, ⟨4, _⟩ => ⟨S256x2048, .f32⟩
  | .local _ .vmem, ⟨5, _⟩ => ⟨S256x2048, .f32⟩
  | .local _ .vmem, ⟨6, _⟩ => ⟨S1024x2048, .f32⟩
  | .local _ .vmem, ⟨7, _⟩ => ⟨S1024x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c4_i32_0 : BitVec 32 := 4#32
  let v1 : BitVec 1 := Scalar.cmpi .slt v0 c4_i32_0
  let c4_i32_1 : BitVec 32 := 4#32
  let v2 : BitVec 32 := Scalar.subi v0 c4_i32_1
  let c1_i32 : BitVec 32 := 1#32
  let v3 : BitVec 32 := Scalar.divsi v2 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi c1_i32_7 v19
  let c0_i32_8 : BitVec 32 := 0#32
  let v21 : BitVec 32 := Scalar.select v1 c0_i32_8 v20
  let c1_i32_9 : BitVec 32 := 1#32
  let c0_i32_10 : BitVec 32 := 0#32
  let c5_i32 : BitVec 32 := 5#32
  let c0_i32_11 : BitVec 32 := 0#32
  ![c1_i32_9.toNat, v21.toNat, c0_i32_10.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FinalSampleRefIdeal.lean ====
abbrev S6144x2048 : Shape := ⟨2, ![6144, 2048]⟩
abbrev S2x2048x8192 : Shape := ⟨3, ![2, 2048, 8192]⟩
abbrev S2x8192x2048 : Shape := ⟨3, ![2, 8192, 2048]⟩
abbrev S2x16x1x12288 : Shape := ⟨4, ![2, 16, 1, 12288]⟩
abbrev S2048 : Shape := ⟨1, ![2048]⟩
abbrev S1x16x1x12288 : Shape := ⟨4, ![1, 16, 1, 12288]⟩
abbrev S16x12288 : Shape := ⟨2, ![16, 12288]⟩
abbrev S16x2048 : Shape := ⟨2, ![16, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S1x2048 : Shape := ⟨2, ![1, 2048]⟩
abbrev S4096x2048 : Shape := ⟨2, ![4096, 2048]⟩
abbrev S2x2048 : Shape := ⟨2, ![2, 2048]⟩
abbrev S2x1024x2048 : Shape := ⟨3, ![2, 1024, 2048]⟩
abbrev S2048x2048 : Shape := ⟨2, ![2048, 2048]⟩
abbrev S6144x8192 : Shape := ⟨2, ![6144, 8192]⟩
abbrev S_ : Shape := ⟨0, ![]⟩
abbrev S6144 : Shape := ⟨1, ![6144]⟩
abbrev S6144x1 : Shape := ⟨2, ![6144, 1]⟩

abbrev nBuf : Space → Nat
  | .hbm => 50
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S6144x2048, .f32⟩
  | .hbm, ⟨2, _⟩ => ⟨S2x2048x8192, .f32⟩
  | .hbm, ⟨3, _⟩ => ⟨S2x8192x2048, .f32⟩
  | .hbm, ⟨4, _⟩ => ⟨S2x16x1x12288, .f32⟩
  | .hbm, ⟨5, _⟩ => ⟨S2048, .f32⟩
  | .hbm, ⟨6, _⟩ => ⟨S1x16x1x12288, .f32⟩
  | .hbm, ⟨7, _⟩ => ⟨S16x12288, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S1x2048x8192, .f32⟩
  | .hbm, ⟨15, _⟩ => ⟨S2048x8192, .f32⟩
  | .hbm, ⟨16, _⟩ => ⟨S1x8192x2048, .f32⟩
  | .hbm, ⟨17, _⟩ => ⟨S8192x2048, .f32⟩
  | .hbm, ⟨18, _⟩ => ⟨S1x2048, .f32⟩
  | .hbm, ⟨19, _⟩ => ⟨S4096x2048, .f32⟩
  | .hbm, ⟨20, _⟩ => ⟨S2x2048, .f32⟩
  | .hbm, ⟨21, _⟩ => ⟨S2x1024x2048, .f32⟩
  | .hbm, ⟨22, _⟩ => ⟨S2048x2048, .f32⟩
  | .hbm, ⟨23, _⟩ => ⟨S6144x2048, .f32⟩
  | .hbm, ⟨24, _⟩ => ⟨S6144x2048, .f32⟩
  | .hbm, ⟨25, _⟩ => ⟨S6144x8192, .f32⟩
  | .hbm, ⟨26, _⟩ => ⟨S_, .f32⟩
  | .hbm, ⟨27, _⟩ => ⟨S6144x8192, .f32⟩
  | .hbm, ⟨28, _⟩ => ⟨S6144x8192, .f32⟩
  | .hbm, ⟨29, _⟩ => ⟨S6144x8192, .f32⟩
  | .hbm, ⟨30, _⟩ => ⟨S6144x2048, .f32⟩
  | .hbm, ⟨31, _⟩ => ⟨S6144x2048, .f32⟩
  | .hbm, ⟨32, _⟩ => ⟨S6144x2048, .f32⟩
  | .hbm, ⟨33, _⟩ => ⟨S6144x2048, .f32⟩
  | .hbm, ⟨34, _⟩ => ⟨S_, .f32⟩
  | .hbm, ⟨35, _⟩ => ⟨S6144, .f32⟩
  | .hbm, ⟨36, _⟩ => ⟨S6144x1, .f32⟩
  | .hbm, ⟨37, _⟩ => ⟨S_, .f32⟩
  | .hbm, ⟨38, _⟩ => ⟨S6144x1, .f32⟩
  | .hbm, ⟨39, _⟩ => ⟨S6144x1, .f32⟩
  | .hbm, ⟨40, _⟩ => ⟨S_, .f32⟩
  | .hbm, ⟨41, _⟩ => ⟨S6144x1, .f32⟩
  | .hbm, ⟨42, _⟩ => ⟨S6144x1, .f32⟩
  | .hbm, ⟨43, _⟩ => ⟨S6144x1, .f32⟩
  | .hbm, ⟨44, _⟩ => ⟨S6144x2048, .f32⟩
  | .hbm, ⟨45, _⟩ => ⟨S6144x2048, .f32⟩
  | .hbm, ⟨46, _⟩ => ⟨S1x2048, .f32⟩
  | .hbm, ⟨47, _⟩ => ⟨S6144x2048, .f32⟩
  | .hbm, ⟨48, _⟩ => ⟨S6144x2048, .f32⟩
  | .hbm, ⟨49, _⟩ => ⟨S2048x2048, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_cst : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== InProj.lean ====
abbrev S6144x2048 : Shape := ⟨2, ![6144, 2048]⟩
abbrev S1x2048x6656 : Shape := ⟨3, ![1, 2048, 6656]⟩
abbrev S1x128 : Shape := ⟨2, ![1, 128]⟩
abbrev S1024x128 : Shape := ⟨2, ![1024, 128]⟩
abbrev S2048x6656 : Shape := ⟨2, ![2048, 6656]⟩
abbrev S_ : Shape := ⟨0, ![]⟩
abbrev S6144x6656 : Shape := ⟨2, ![6144, 6656]⟩
abbrev S4096x256 : Shape := ⟨2, ![4096, 256]⟩
abbrev S2048x2048 : Shape := ⟨2, ![2048, 2048]⟩
abbrev S2048x512 : Shape := ⟨2, ![2048, 512]⟩
abbrev S2048x256 : Shape := ⟨2, ![2048, 256]⟩
abbrev S2048x128 : Shape := ⟨2, ![2048, 128]⟩
abbrev S2048 : Shape := ⟨1, ![2048]⟩
abbrev S2048x1 : Shape := ⟨2, ![2048, 1]⟩

abbrev nBuf : Space → Nat
  | .hbm => 66
  | .vmem => 15
  | .smem => 0
  | _ => 0

abbrev bufTy : (tb : Table) → Fin (tcTables nBuf tb) → BufTy
  | .hbm, ⟨0, _⟩ => ⟨S6144x2048, .bf16⟩
  | .hbm, ⟨1, _⟩ => ⟨S1x2048x6656, .f32⟩
  | .hbm, ⟨2, _⟩ => ⟨S1x128, .f32⟩
  | .hbm, ⟨3, _⟩ => ⟨S1x128, .f32⟩
  | .hbm, ⟨4, _⟩ => ⟨S1024x128, .f32⟩
  | .hbm, ⟨5, _⟩ => ⟨S1024x128, .f32⟩
  | .hbm, ⟨6, _⟩ => ⟨S2048x6656, .f32⟩
  | .hbm, ⟨7, _⟩ => ⟨S1024x128, .i32⟩
  | .hbm, ⟨8, _⟩ => ⟨S_, .i32⟩
  | .hbm, ⟨9, _⟩ => ⟨S_, .i32⟩
  | .hbm, ⟨10, _⟩ => ⟨S1024x128, .i32⟩
  | .hbm, ⟨11, _⟩ => ⟨S1024x128, .i32⟩
  | .hbm, ⟨12, _⟩ => ⟨S1024x128, .i32⟩
  | .hbm, ⟨13, _⟩ => ⟨S_, .i32⟩
  | .hbm, ⟨14, _⟩ => ⟨S1024x128, .i32⟩
  | .hbm, ⟨15, _⟩ => ⟨S1024x128, .i1⟩
  | .hbm, ⟨16, _⟩ => ⟨S1024x128, .i32⟩
  | .hbm, ⟨17, _⟩ => ⟨S1024x128, .i32⟩
  | .hbm, ⟨18, _⟩ => ⟨S_, .i32⟩
  | .hbm, ⟨19, _⟩ => ⟨S1024x128, .i32⟩
  | .hbm, ⟨20, _⟩ => ⟨S1024x128, .i1⟩
  | .hbm, ⟨21, _⟩ => ⟨S1024x128, .i1⟩
  | .hbm, ⟨22, _⟩ => ⟨S_, .i32⟩
  | .hbm, ⟨23, _⟩ => ⟨S1024x128, .i32⟩
  | .hbm, ⟨24, _⟩ => ⟨S1024x128, .i32⟩
  | .hbm, ⟨25, _⟩ => ⟨S1024x128, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S1024x128, .i32⟩
  | .hbm, ⟨33, _⟩ => ⟨S1024x128, .i32⟩
  | .hbm, ⟨34, _⟩ => ⟨S_, .i32⟩
  | .hbm, ⟨35, _⟩ => ⟨S1024x128, .i32⟩
  | .hbm, ⟨36, _⟩ => ⟨S1024x128, .i1⟩
  | .hbm, ⟨37, _⟩ => ⟨S_, .i32⟩
  | .hbm, ⟨38, _⟩ => ⟨S1024x128, .i32⟩
  | .hbm, ⟨39, _⟩ => ⟨S1024x128, .i1⟩
  | .hbm, ⟨40, _⟩ => ⟨S_, .i32⟩
  | .hbm, ⟨41, _⟩ => ⟨S_, .i1⟩
  | .hbm, ⟨42, _⟩ => ⟨S1024x128, .i1⟩
  | .hbm, ⟨43, _⟩ => ⟨S1024x128, .i1⟩
  | .hbm, ⟨44, _⟩ => ⟨S1024x128, .i1⟩
  | .hbm, ⟨45, _⟩ => ⟨S1024x128, .i32⟩
  | .hbm, ⟨46, _⟩ => ⟨S1024x128, .i32⟩
  | .hbm, ⟨47, _⟩ => ⟨S1024x128, .i32⟩
  | .hbm, ⟨48, _⟩ => ⟨S_, .i32⟩
  | .hbm, ⟨49, _⟩ => ⟨S1024x128, .i32⟩
  | .hbm, ⟨50, _⟩ => ⟨S1024x128, .i1⟩
  | .hbm, ⟨51, _⟩ => ⟨S1024x128, .f32⟩
  | .hbm, ⟨52, _⟩ => ⟨S_, .f32⟩
  | .hbm, ⟨53, _⟩ => ⟨S_, .f32⟩
  | .hbm, ⟨54, _⟩ => ⟨S1024x128, .f32⟩
  | .hbm, ⟨55, _⟩ => ⟨S1024x128, .f32⟩
  | .hbm, ⟨56, _⟩ => ⟨S_, .i32⟩
  | .hbm, ⟨57, _⟩ => ⟨S1024x128, .i32⟩
  | .hbm, ⟨58, _⟩ => ⟨S1024x128, .i1⟩
  | .hbm, ⟨59, _⟩ => ⟨S_, .f32⟩
  | .hbm, ⟨60, _⟩ => ⟨S_, .f32⟩
  | .hbm, ⟨61, _⟩ => ⟨S1024x128, .f32⟩
  | .hbm, ⟨62, _⟩ => ⟨S1024x128, .f32⟩
  | .hbm, ⟨63, _⟩ => ⟨S6144x6656, .f32⟩
  | .hbm, ⟨64, _⟩ => ⟨S4096x256, .f32⟩
  | .hbm, ⟨65, _⟩ => ⟨S4096x256, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S2048x512, .f32⟩
  | .local _ .vmem, ⟨10, _⟩ => ⟨S2048x512, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_c_1 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_v7 : Ref sig .tc := ⟨.hbm, 55, rfl⟩
abbrev main_c_2 : Ref sig .tc := ⟨.hbm, 56, rfl⟩
abbrev main_v8 : Ref sig .tc := ⟨.hbm, 57, rfl⟩
abbrev main_v9 : Ref sig .tc := ⟨.hbm, 58, rfl⟩
abbrev main_cst_3 : Ref sig .tc := ⟨.hbm, 59, rfl⟩
abbrev main_call3_v0 : Ref sig .tc := ⟨.hbm, 60, rfl⟩
abbrev main_call3_v1 : Ref sig .tc := ⟨.hbm, 61, rfl⟩
abbrev main_v10 : Ref sig .tc := ⟨.hbm, 62, rfl⟩
abbrev main_v11_0 : Ref sig .tc := ⟨.hbm, 63, rfl⟩
abbrev main_v11_1 : Ref sig .tc := ⟨.hbm, 64, rfl⟩
abbrev main_v11_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![3, 13], ![false, false]⟩

def k0_cond1 (i : grid0.Coords) : BitVec 1 :=
  let arg1 : BitVec 32 := BitVec.ofNat 32 (i 1).val
  let c2_i32_3 : BitVec 32 := 2#32
  let v6 : BitVec 1 := Scalar.cmpi .slt arg1 c2_i32_3
  let v7 : BitVec 32 := Scalar.extui v6
  let c0_i32 : BitVec 32 := 0#32
  let v8 : BitVec 1 := Scalar.cmpi .ne v7 c0_i32
  v8

def k0_cond2 (i : grid0.Coords) : BitVec 1 :=
  let arg0 : BitVec 32 := BitVec.ofNat 32 (i 0).val
  let c2_i32 : BitVec 32 := 2#32
  let v0 : BitVec 1 := Scalar.cmpi .sge arg0 c2_i32
  let v38 : BitVec 32 := Scalar.extui v0
  let c0_i32_15 : BitVec 32 := 0#32
  let v39 : BitVec 1 := Scalar.cmpi .ne v38 c0_i32_15
  v39

def k0_cond3 (i : grid0.Coords) : BitVec 1 :=
  let arg0 : BitVec 32 := BitVec.ofNat 32 (i 0).val
  let c2_i32 : BitVec 32 := 2#32
  let v0 : BitVec 1 := Scalar.cmpi .sge arg0 c2_i32
  let v_true : BitVec 1 := 1#1
  let v40 : BitVec 1 := Scalar.xori v0 v_true
  let v41 : BitVec 32 := Scalar.extui v40
  let c0_i32_16 : BitVec 32 := 0#32
  let v42 : BitVec 1 := Scalar.cmpi .ne v41 c0_i32_16
  v42

def k0_cond4 (i : grid0.Coords) : BitVec 1 :=
  let arg0 : BitVec 32 := BitVec.ofNat 32 (i 0).val
  let c2_i32 : BitVec 32 := 2#32
  let v0 : BitVec 1 := Scalar.cmpi .sge arg0 c2_i32
  let v57 : BitVec 32 := Scalar.extui v0
  let c0_i32_22 : BitVec 32 := 0#32
  let v58 : BitVec 1 := Scalar.cmpi .ne v57 c0_i32_22
  v58

def k0_cond5 (i : grid0.Coords) : BitVec 1 :=
  let arg0 : BitVec 32 := BitVec.ofNat 32 (i 0).val
  let c2_i32 : BitVec 32 := 2#32
  let v0 : BitVec 1 := Scalar.cmpi .sge arg0 c2_i32
  let true_23 : BitVec 1 := 1#1
  let v59 : BitVec 1 := Scalar.xori v0 true_23
  let v60 : BitVec 32 := Scalar.extui v59
  let c0_i32_24 : BitVec 32 := 0#32
  let v61 : BitVec 1 := Scalar.cmpi .ne v60 c0_i32_24
  v61

def k0_cond6 (i : grid0.Coords) : BitVec 1 :=
  let arg0 : BitVec 32 := BitVec.ofNat 32 (i 0).val
  let c2_i32 : BitVec 32 := 2#32
  let v0 : BitVec 1 := Scalar.cmpi .sge arg0 c2_i32
  let v76 : BitVec 32 := Scalar.extui v0
  let c0_i32_30 : BitVec 32 := 0#32
  let v77 : BitVec 1 := Scalar.cmpi .ne v76 c0_i32_30
  v77

def k0_cond7 (i : grid0.Coords) : BitVec 1 :=
  let arg0 : BitVec 32 := BitVec.ofNat 32 (i 0).val
  let c2_i32 : BitVec 32 := 2#32
  let v0 : BitVec 1 := Scalar.cmpi .sge arg0 c2_i32
  let true_31 : BitVec 1 := 1#1
  let v78 : BitVec 1 := Scalar.xori v0 true_31
  let v79 : BitVec 32 := Scalar.extui v78
  let c0_i32_32 : BitVec 32 := 0#32
  let v80 : BitVec 1 := Scalar.cmpi .ne v79 c0_i32_32
  v80

def k0_cond8 (i : grid0.Coords) : BitVec 1 :=
  let arg0 : BitVec 32 := BitVec.ofNat 32 (i 0).val
  let c2_i32 : BitVec 32 := 2#32
  let v0 : BitVec 1 := Scalar.cmpi .sge arg0 c2_i32
  let v95 : BitVec 32 := Scalar.extui v0
  let c0_i32_38 : BitVec 32 := 0#32
  let v96 : BitVec 1 := Scalar.cmpi .ne v95 c0_i32_38
  v96

def k0_cond9 (i : grid0.Coords) : BitVec 1 :=
  let arg0 : BitVec 32 := BitVec.ofNat 32 (i 0).val
  let c2_i32 : BitVec 32 := 2#32
  let v0 : BitVec 1 := Scalar.cmpi .sge arg0 c2_i32
  let true_39 : BitVec 1 := 1#1
  let v97 : BitVec 1 := Scalar.xori v0 true_39
  let v98 : BitVec 32 := Scalar.extui v97
  let c0_i32_40 : BitVec 32 := 0#32
  let v99 : BitVec 1 := Scalar.cmpi .ne v98 c0_i32_40
  v99

def k0_cond10 (i : grid0.Coords) : BitVec 1 :=
  let arg1 : BitVec 32 := BitVec.ofNat 32 (i 1).val
  let c2_i32_4 : BitVec 32 := 2#32
  let v9 : BitVec 1 := Scalar.cmpi .eq arg1 c2_i32_4
  let v10 : BitVec 32 := Scalar.extui v9
  let c0_i32_5 : BitVec 32 := 0#32
  let v11 : BitVec 1 := Scalar.cmpi .ne v10 c0_i32_5
  v11

def k0_cond11 (i : grid0.Coords) : BitVec 1 :=
  let arg0 : BitVec 32 := BitVec.ofNat 32 (i 0).val
  let c2_i32 : BitVec 32 := 2#32
  let v0 : BitVec 1 := Scalar.cmpi .sge arg0 c2_i32
  let v38 : BitVec 32 := Scalar.extui v0
  let c0_i32_15 : BitVec 32 := 0#32
  let v39 : BitVec 1 := Scalar.cmpi .ne v38 c0_i32_15
  v39

def k0_cond12 (i : grid0.Coords) : BitVec 1 :=
  let arg0 : BitVec 32 := BitVec.ofNat 32 (i 0).val
  let c2_i32 : BitVec 32 := 2#32
  let v0 : BitVec 1 := Scalar.cmpi .sge arg0 c2_i32
  let v_true : BitVec 1 := 1#1
  let v40 : BitVec 1 := Scalar.xori v0 v_true
  let v41 : BitVec 32 := Scalar.extui v40
  let c0_i32_16 : BitVec 32 := 0#32
  let v42 : BitVec 1 := Scalar.cmpi .ne v41 c0_i32_16
  v42

def k0_cond13 (i : grid0.Coords) : BitVec 1 :=
  let arg0 : BitVec 32 := BitVec.ofNat 32 (i 0).val
  let c2_i32 : BitVec 32 := 2#32
  let v0 : BitVec 1 := Scalar.cmpi .sge arg0 c2_i32
  let v57 : BitVec 32 := Scalar.extui v0
  let c0_i32_22 : BitVec 32 := 0#32
  let v58 : BitVec 1 := Scalar.cmpi .ne v57 c0_i32_22
  v58

def k0_cond14 (i : grid0.Coords) : BitVec 1 :=
  let arg0 : BitVec 32 := BitVec.ofNat 32 (i 0).val
  let c2_i32 : BitVec 32 := 2#32
  let v0 : BitVec 1 := Scalar.cmpi .sge arg0 c2_i32
  let true_23 : BitVec 1 := 1#1
  let v59 : BitVec 1 := Scalar.xori v0 true_23
  let v60 : BitVec 32 := Scalar.extui v59
  let c0_i32_24 : BitVec 32 := 0#32
  let v61 : BitVec 1 := Scalar.cmpi .ne v60 c0_i32_24
  v61

def k0_cond16 (i : grid0.Coords) : BitVec 1 :=
  let arg1 : BitVec 32 := BitVec.ofNat 32 (i 1).val
  let c3_i32 : BitVec 32 := 3#32
  let v12 : BitVec 1 := Scalar.cmpi .sge arg1 c3_i32
  let c5_i32 : BitVec 32 := 5#32
  let v13 : BitVec 1 := Scalar.cmpi .slt arg1 c5_i32
  let v14 : BitVec 1 := Scalar.andi v12 v13
  let c11_i32 : BitVec 32 := 11#32
  let v15 : BitVec 1 := Scalar.cmpi .sge arg1 c11_i32
  let v16 : BitVec 1 := Scalar.ori v14 v15
  let v17 : BitVec 32 := Scalar.extui v16
  let c0_i32_6 : BitVec 32 := 0#32
  let v18 : BitVec 1 := Scalar.cmpi .ne v17 c0_i32_6
  v18

def k0_cond17 (i : grid0.Coords) : BitVec 1 :=
  let arg1 : BitVec 32 := BitVec.ofNat 32 (i 1).val
  let c5_i32_7 : BitVec 32 := 5#32
  let v19 : BitVec 1 := Scalar.cmpi .sge arg1 c5_i32_7
  let c11_i32_8 : BitVec 32 := 11#32
  let v20 : BitVec 1 := Scalar.cmpi .slt arg1 c11_i32_8
  let v21 : BitVec 1 := Scalar.andi v19 v20
  let v22 : BitVec 32 := Scalar.extui v21
  let c0_i32_9 : BitVec 32 := 0#32
  let v23 : BitVec 1 := Scalar.cmpi .ne v22 c0_i32_9
  v23

def k0_cond15 (i : grid0.Coords) : BitVec 1 :=
  let arg0 : BitVec 32 := BitVec.ofNat 32 (i 0).val
  let c2_i32 : BitVec 32 := 2#32
  let v0 : BitVec 1 := Scalar.cmpi .sge arg0 c2_i32
  let true_26 : BitVec 1 := 1#1
  let v64 : BitVec 1 := Scalar.xori v0 true_26
  let v65 : BitVec 32 := Scalar.extui v64
  let c0_i32_27 : BitVec 32 := 0#32
  let v66 : BitVec 1 := Scalar.cmpi .ne v65 c0_i32_27
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  let c0_i32_0 : BitVec 32 := 0#32
  ![v0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InProjRefIdeal.lean ====
abbrev S6144x2048 : Shape := ⟨2, ![6144, 2048]⟩
abbrev S1x2048x6656 : Shape := ⟨3, ![1, 2048, 6656]⟩
abbrev S1x128 : Shape := ⟨2, ![1, 128]⟩
abbrev S1024x128 : Shape := ⟨2, ![1024, 128]⟩
abbrev S2048x6656 : Shape := ⟨2, ![2048, 6656]⟩
abbrev S6144x6656 : Shape := ⟨2, ![6144, 6656]⟩
abbrev S6144x1024 : Shape := ⟨2, ![6144, 1024]⟩
abbrev S6144x256 : Shape := ⟨2, ![6144, 256]⟩
abbrev S6144x8x128 : Shape := ⟨3, ![6144, 8, 128]⟩
abbrev S128 : Shape := ⟨1, ![128]⟩
abbrev S_ : Shape := ⟨0, ![]⟩
abbrev S6144x8 : Shape := ⟨2, ![6144, 8]⟩
abbrev S6144x8x1 : Shape := ⟨3, ![6144, 8, 1]⟩
abbrev S1x1x128 : Shape := ⟨3, ![1, 1, 128]⟩
abbrev S6144x2x128 : Shape := ⟨3, ![6144, 2, 128]⟩
abbrev S6144x2 : Shape := ⟨2, ![6144, 2]⟩
abbrev S6144x2x1 : Shape := ⟨3, ![6144, 2, 1]⟩
abbrev S2048x8x128 : Shape := ⟨3, ![2048, 8, 128]⟩
abbrev S2x1024x8x128 : Shape := ⟨4, ![2, 1024, 8, 128]⟩
abbrev S2x1024x8x32 : Shape := ⟨4, ![2, 1024, 8, 32]⟩
abbrev S1x1024x1x128 : Shape := ⟨4, ![1, 1024, 1, 128]⟩
abbrev S4096x8x128 : Shape := ⟨3, ![4096, 8, 128]⟩
abbrev S2048x2x128 : Shape := ⟨3, ![2048, 2, 128]⟩
abbrev S2x1024x2x128 : Shape := ⟨4, ![2, 1024, 2, 128]⟩
abbrev S2x1024x2x32 : Shape := ⟨4, ![2, 1024, 2, 32]⟩
abbrev S4096x2x128 : Shape := ⟨3, ![4096, 2, 128]⟩
abbrev S4096x256 : Shape := ⟨2, ![4096, 256]⟩

abbrev nBuf : Space → Nat
  | .hbm => 115
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S1x2048x6656, .f32⟩
  | .hbm, ⟨2, _⟩ => ⟨S1x128, .f32⟩
  | .hbm, ⟨3, _⟩ => ⟨S1x128, .f32⟩
  | .hbm, ⟨4, _⟩ => ⟨S1024x128, .f32⟩
  | .hbm, ⟨5, _⟩ => ⟨S1024x128, .f32⟩
  | .hbm, ⟨6, _⟩ => ⟨S6144x2048, .f32⟩
  | .hbm, ⟨7, _⟩ => ⟨S2048x6656, .f32⟩
  | .hbm, ⟨8, _⟩ => ⟨S6144x6656, .f32⟩
  | .hbm, ⟨9, _⟩ => ⟨S6144x1024, .f32⟩
  | .hbm, ⟨10, _⟩ => ⟨S6144x256, .f32⟩
  | .hbm, ⟨11, _⟩ => ⟨S6144x256, .f32⟩
  | .hbm, ⟨12, _⟩ => ⟨S6144x1024, .f32⟩
  | .hbm, ⟨13, _⟩ => ⟨S6144x1024, .f32⟩
  | .hbm, ⟨14, _⟩ => ⟨S6144x1024, .f32⟩
  | .hbm, ⟨15, _⟩ => ⟨S6144x1024, .f32⟩
  | .hbm, ⟨16, _⟩ => ⟨S6144x1024, .f32⟩
  | .hbm, ⟨17, _⟩ => ⟨S6144x8x128, .f32⟩
  | .hbm, ⟨18, _⟩ => ⟨S128, .f32⟩
  | .hbm, ⟨19, _⟩ => ⟨S6144x8x128, .f32⟩
  | .hbm, ⟨20, _⟩ => ⟨S_, .f32⟩
  | .hbm, ⟨21, _⟩ => ⟨S6144x8, .f32⟩
  | .hbm, ⟨22, _⟩ => ⟨S6144x8x1, .f32⟩
  | .hbm, ⟨23, _⟩ => ⟨S_, .f32⟩
  | .hbm, ⟨24, _⟩ => ⟨S6144x8x1, .f32⟩
  | .hbm, ⟨25, _⟩ => ⟨S6144x8x1, .f32⟩
  | .hbm, ⟨26, _⟩ => ⟨S_, .f32⟩
  | .hbm, ⟨27, _⟩ => ⟨S6144x8x1, .f32⟩
  | .hbm, ⟨28, _⟩ => ⟨S6144x8x1, .f32⟩
  | .hbm, ⟨29, _⟩ => ⟨S6144x8x1, .f32⟩
  | .hbm, ⟨30, _⟩ => ⟨S6144x8x128, .f32⟩
  | .hbm, ⟨31, _⟩ => ⟨S6144x8x128, .f32⟩
  | .hbm, ⟨32, _⟩ => ⟨S1x1x128, .f32⟩
  | .hbm, ⟨33, _⟩ => ⟨S6144x8x128, .f32⟩
  | .hbm, ⟨34, _⟩ => ⟨S6144x8x128, .f32⟩
  | .hbm, ⟨35, _⟩ => ⟨S6144x2x128, .f32⟩
  | .hbm, ⟨36, _⟩ => ⟨S128, .f32⟩
  | .hbm, ⟨37, _⟩ => ⟨S6144x2x128, .f32⟩
  | .hbm, ⟨38, _⟩ => ⟨S_, .f32⟩
  | .hbm, ⟨39, _⟩ => ⟨S6144x2, .f32⟩
  | .hbm, ⟨40, _⟩ => ⟨S6144x2x1, .f32⟩
  | .hbm, ⟨41, _⟩ => ⟨S_, .f32⟩
  | .hbm, ⟨42, _⟩ => ⟨S6144x2x1, .f32⟩
  | .hbm, ⟨43, _⟩ => ⟨S6144x2x1, .f32⟩
  | .hbm, ⟨44, _⟩ => ⟨S_, .f32⟩
  | .hbm, ⟨45, _⟩ => ⟨S6144x2x1, .f32⟩
  | .hbm, ⟨46, _⟩ => ⟨S6144x2x1, .f32⟩
  | .hbm, ⟨47, _⟩ => ⟨S6144x2x1, .f32⟩
  | .hbm, ⟨48, _⟩ => ⟨S6144x2x128, .f32⟩
  | .hbm, ⟨49, _⟩ => ⟨S6144x2x128, .f32⟩
  | .hbm, ⟨50, _⟩ => ⟨S1x1x128, .f32⟩
  | .hbm, ⟨51, _⟩ => ⟨S6144x2x128, .f32⟩
  | .hbm, ⟨52, _⟩ => ⟨S6144x2x128, .f32⟩
  | .hbm, ⟨53, _⟩ => ⟨S2048x8x128, .f32⟩
  | .hbm, ⟨54, _⟩ => ⟨S2x1024x8x128, .f32⟩
  | .hbm, ⟨55, _⟩ => ⟨S2x1024x8x32, .f32⟩
  | .hbm, ⟨56, _⟩ => ⟨S2x1024x8x32, .f32⟩
  | .hbm, ⟨57, _⟩ => ⟨S2x1024x8x32, .f32⟩
  | .hbm, ⟨58, _⟩ => ⟨S2x1024x8x32, .f32⟩
  | .hbm, ⟨59, _⟩ => ⟨S1x1024x1x128, .f32⟩
  | .hbm, ⟨60, _⟩ => ⟨S2x1024x8x128, .f32⟩
  | .hbm, ⟨61, _⟩ => ⟨S2x1024x8x128, .f32⟩
  | .hbm, ⟨62, _⟩ => ⟨S2x1024x8x32, .f32⟩
  | .hbm, ⟨63, _⟩ => ⟨S2x1024x8x32, .f32⟩
  | .hbm, ⟨64, _⟩ => ⟨S2x1024x8x128, .f32⟩
  | .hbm, ⟨65, _⟩ => ⟨S1x1024x1x128, .f32⟩
  | .hbm, ⟨66, _⟩ => ⟨S2x1024x8x128, .f32⟩
  | .hbm, ⟨67, _⟩ => ⟨S2x1024x8x128, .f32⟩
  | .hbm, ⟨68, _⟩ => ⟨S2x1024x8x128, .f32⟩
  | .hbm, ⟨69, _⟩ => ⟨S2048x8x128, .f32⟩
  | .hbm, ⟨70, _⟩ => ⟨S4096x8x128, .f32⟩
  | .hbm, ⟨71, _⟩ => ⟨S6144x8x128, .f32⟩
  | .hbm, ⟨72, _⟩ => ⟨S6144x1024, .f32⟩
  | .hbm, ⟨73, _⟩ => ⟨S2048x2x128, .f32⟩
  | .hbm, ⟨74, _⟩ => ⟨S2x1024x2x128, .f32⟩
  | .hbm, ⟨75, _⟩ => ⟨S2x1024x2x32, .f32⟩
  | .hbm, ⟨76, _⟩ => ⟨S2x1024x2x32, .f32⟩
  | .hbm, ⟨77, _⟩ => ⟨S2x1024x2x32, .f32⟩
  | .hbm, ⟨78, _⟩ => ⟨S2x1024x2x32, .f32⟩
  | .hbm, ⟨79, _⟩ => ⟨S1x1024x1x128, .f32⟩
  | .hbm, ⟨80, _⟩ => ⟨S2x1024x2x128, .f32⟩
  | .hbm, ⟨81, _⟩ => ⟨S2x1024x2x128, .f32⟩
  | .hbm, ⟨82, _⟩ => ⟨S2x1024x2x32, .f32⟩
  | .hbm, ⟨83, _⟩ => ⟨S2x1024x2x32, .f32⟩
  | .hbm, ⟨84, _⟩ => ⟨S2x1024x2x128, .f32⟩
  | .hbm, ⟨85, _⟩ => ⟨S1x1024x1x128, .f32⟩
  | .hbm, ⟨86, _⟩ => ⟨S2x1024x2x128, .f32⟩
  | .hbm, ⟨87, _⟩ => ⟨S2x1024x2x128, .f32⟩
  | .hbm, ⟨88, _⟩ => ⟨S2x1024x2x128, .f32⟩
  | .hbm, ⟨89, _⟩ => ⟨S2048x2x128, .f32⟩
  | .hbm, ⟨90, _⟩ => ⟨S4096x2x128, .f32⟩
  | .hbm, ⟨91, _⟩ => ⟨S6144x2x128, .f32⟩
  | .hbm, ⟨92, _⟩ => ⟨S6144x256, .f32⟩
  | .hbm, ⟨93, _⟩ => ⟨S6144x1024, .f32⟩
  | .hbm, ⟨94, _⟩ => ⟨S6144x1024, .f32⟩
  | .hbm, ⟨95, _⟩ => ⟨S_, .f32⟩
  | .hbm, ⟨96, _⟩ => ⟨S6144x1024, .f32⟩
  | .hbm, ⟨97, _⟩ => ⟨S6144x1024, .f32⟩
  | .hbm, ⟨98, _⟩ => ⟨S_, .f32⟩
  | .hbm, ⟨99, _⟩ => ⟨S6144x1024, .f32⟩
  | .hbm, ⟨100, _⟩ => ⟨S6144x1024, .f32⟩
  | .hbm, ⟨101, _⟩ => ⟨S6144x1024, .f32⟩
  | .hbm, ⟨102, _⟩ => ⟨S6144x1024, .f32⟩
  | .hbm, ⟨103, _⟩ => ⟨S6144x1024, .f32⟩
  | .hbm, ⟨104, _⟩ => ⟨S_, .f32⟩
  | .hbm, ⟨105, _⟩ => ⟨S6144x1024, .f32⟩
  | .hbm, ⟨106, _⟩ => ⟨S6144x1024, .f32⟩
  | .hbm, ⟨107, _⟩ => ⟨S_, .f32⟩
  | .hbm, ⟨108, _⟩ => ⟨S6144x1024, .f32⟩
  | .hbm, ⟨109, _⟩ => ⟨S6144x1024, .f32⟩
  | .hbm, ⟨110, _⟩ => ⟨S6144x1024, .f32⟩
  | .hbm, ⟨111, _⟩ => ⟨S6144x6656, .f32⟩
  | .hbm, ⟨112, _⟩ => ⟨S4096x2x128, .f32⟩
  | .hbm, ⟨113, _⟩ => ⟨S4096x256, .f32⟩
  | .hbm, ⟨114, _⟩ => ⟨S4096x256, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_call0_v0 : Ref sig .tc := ⟨.hbm, 93, rfl⟩
abbrev main_call0_v1 : Ref sig .tc := ⟨.hbm, 94, rfl⟩
abbrev main_call0_cst : Ref sig .tc := ⟨.hbm, 95, rfl⟩
abbrev main_call0_v2 : Ref sig .tc := ⟨.hbm, 96, rfl⟩
abbrev main_call0_v3 : Ref sig .tc := ⟨.hbm, 97, rfl⟩
abbrev main_call0_cst_0 : Ref sig .tc := ⟨.hbm, 98, rfl⟩
abbrev main_call0_v4 : Ref sig .tc := ⟨.hbm, 99, rfl⟩
abbrev main_call0_v5 : Ref sig .tc := ⟨.hbm, 100, rfl⟩
abbrev main_v81 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩

abbrev nD : Nat := 1
abbrev τ : Topo := Topo.v7x

variable {F : FTy → Type} [FloatOps F]
-- ==== Ada.lean ====
abbrev S2x2048 : Shape := ⟨2, ![2, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S13x2048 : Shape := ⟨2, ![13, 2048]⟩
abbrev S16x2048 : Shape := ⟨2, ![16, 2048]⟩
abbrev S2x1x12288 : Shape := ⟨3, ![2, 1, 12288]⟩
abbrev S2x16x12288 : Shape := ⟨3, ![2, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S13x2048, .f32⟩
  | .hbm, ⟨7, _⟩ => ⟨S16x2048, .f32⟩
  | .hbm, ⟨8, _⟩ => ⟨S2x1x12288, .f32⟩
  | .hbm, ⟨9, _⟩ => ⟨S2x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S2x2048 : Shape := ⟨2, ![2, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S13x2048 : Shape := ⟨2, ![13, 2048]⟩
abbrev S16x2048 : Shape := ⟨2, ![16, 2048]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩
abbrev S1x16x12288 : Shape := ⟨3, ![1, 16, 12288]⟩
abbrev S2x16x12288 : Shape := ⟨3, ![2, 16, 12288]⟩

abbrev nBuf : Space → Nat
  | .hbm => 36
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S13x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S_, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S1x2048x12288, .f32⟩
  | .hbm, ⟨18, _⟩ => ⟨S2048x12288, .f32⟩
  | .hbm, ⟨19, _⟩ => ⟨S16x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S16x12288, .f32⟩
  | .hbm, ⟨24, _⟩ => ⟨S16x12288, .f32⟩
  | .hbm, ⟨25, _⟩ => ⟨S1x2048x12288, .f32⟩
  | .hbm, ⟨26, _⟩ => ⟨S2048x12288, .f32⟩
  | .hbm, ⟨27, _⟩ => ⟨S16x12288, .f32⟩
  | .hbm, ⟨28, _⟩ => ⟨S1x12288, .f32⟩
  | .hbm, ⟨29, _⟩ => ⟨S12288, .f32⟩
  | .hbm, ⟨30, _⟩ => ⟨S1x12288, .f32⟩
  | .hbm, ⟨31, _⟩ => ⟨S16x12288, .f32⟩
  | .hbm, ⟨32, _⟩ => ⟨S16x12288, .f32⟩
  | .hbm, ⟨33, _⟩ => ⟨S1x16x12288, .f32⟩
  | .hbm, ⟨34, _⟩ => ⟨S1x16x12288, .f32⟩
  | .hbm, ⟨35, _⟩ => ⟨S2x16x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Mod.lean ====
abbrev S4096x2048 : Shape := ⟨2, ![4096, 2048]⟩
abbrev S2048x2048 : Shape := ⟨2, ![2048, 2048]⟩
abbrev S2x2048 : Shape := ⟨2, ![2, 2048]⟩
abbrev S2x16x1x12288 : Shape := ⟨4, ![2, 16, 1, 12288]⟩
abbrev S1x2048 : Shape := ⟨2, ![1, 2048]⟩
abbrev S6144x2048 : Shape := ⟨2, ![6144, 2048]⟩
abbrev S512x2048 : Shape := ⟨2, ![512, 2048]⟩
abbrev S1x1x1x2048 : Shape := ⟨4, ![1, 1, 1, 2048]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2x2048, .f32⟩
  | .hbm, ⟨3, _⟩ => ⟨S2x16x1x12288, .f32⟩
  | .hbm, ⟨4, _⟩ => ⟨S1x2048, .f32⟩
  | .hbm, ⟨5, _⟩ => ⟨S6144x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S512x2048, .bf16⟩
  | .local _ .vmem, ⟨10, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![c0_i32_7.toNat, v20.toNat, c0_i32_8.toNat, c0_i32_9.toNat]

def cc0_transform_4 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c1_i32_9 : BitVec 32 := 1#32
  let c0_i32_10 : BitVec 32 := 0#32
  ![c0_i32_7.toNat, v20.toNat, c0_i32_8.toNat, c1_i32_9.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ModRefIdeal.lean ====
abbrev S4096x2048 : Shape := ⟨2, ![4096, 2048]⟩
abbrev S2048x2048 : Shape := ⟨2, ![2048, 2048]⟩
abbrev S2x2048 : Shape := ⟨2, ![2, 2048]⟩
abbrev S2x16x1x12288 : Shape := ⟨4, ![2, 16, 1, 12288]⟩
abbrev S1x16x1x12288 : Shape := ⟨4, ![1, 16, 1, 12288]⟩
abbrev S16x12288 : Shape := ⟨2, ![16, 12288]⟩
abbrev S16x2048 : Shape := ⟨2, ![16, 2048]⟩
abbrev S6144x2048 : Shape := ⟨2, ![6144, 2048]⟩
abbrev S1x2048 : Shape := ⟨2, ![1, 2048]⟩
abbrev S2048 : Shape := ⟨1, ![2048]⟩
abbrev S_ : Shape := ⟨0, ![]⟩
abbrev S6144 : Shape := ⟨1, ![6144]⟩
abbrev S6144x1 : Shape := ⟨2, ![6144, 1]⟩
abbrev S2x1024x2048 : Shape := ⟨3, ![2, 1024, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2x2048, .f32⟩
  | .hbm, ⟨3, _⟩ => ⟨S2x16x1x12288, .f32⟩
  | .hbm, ⟨4, _⟩ => ⟨S1x16x1x12288, .f32⟩
  | .hbm, ⟨5, _⟩ => ⟨S16x12288, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S6144x2048, .f32⟩
  | .hbm, ⟨13, _⟩ => ⟨S1x2048, .f32⟩
  | .hbm, ⟨14, _⟩ => ⟨S2048, .f32⟩
  | .hbm, ⟨15, _⟩ => ⟨S6144x2048, .f32⟩
  | .hbm, ⟨16, _⟩ => ⟨S_, .f32⟩
  | .hbm, ⟨17, _⟩ => ⟨S6144, .f32⟩
  | .hbm, ⟨18, _⟩ => ⟨S6144x1, .f32⟩
  | .hbm, ⟨19, _⟩ => ⟨S_, .f32⟩
  | .hbm, ⟨20, _⟩ => ⟨S6144x1, .f32⟩
  | .hbm, ⟨21, _⟩ => ⟨S6144x1, .f32⟩
  | .hbm, ⟨22, _⟩ => ⟨S_, .f32⟩
  | .hbm, ⟨23, _⟩ => ⟨S6144x1, .f32⟩
  | .hbm, ⟨24, _⟩ => ⟨S6144x1, .f32⟩
  | .hbm, ⟨25, _⟩ => ⟨S6144x1, .f32⟩
  | .hbm, ⟨26, _⟩ => ⟨S6144x2048, .f32⟩
  | .hbm, ⟨27, _⟩ => ⟨S6144x2048, .f32⟩
  | .hbm, ⟨28, _⟩ => ⟨S1x2048, .f32⟩
  | .hbm, ⟨29, _⟩ => ⟨S6144x2048, .f32⟩
  | .hbm, ⟨30, _⟩ => ⟨S6144x2048, .f32⟩
  | .hbm, ⟨31, _⟩ => ⟨S1x2048, .f32⟩
  | .hbm, ⟨32, _⟩ => ⟨S4096x2048, .f32⟩
  | .hbm, ⟨33, _⟩ => ⟨S2x2048, .f32⟩
  | .hbm, ⟨34, _⟩ => ⟨S2x1024x2048, .f32⟩
  | .hbm, ⟨35, _⟩ => ⟨S2048x2048, .f32⟩
  | .hbm, ⟨36, _⟩ => ⟨S6144x2048, .f32⟩
  | .hbm, ⟨37, _⟩ => ⟨S_, .f32⟩
  | .hbm, ⟨38, _⟩ => ⟨S6144x2048, .f32⟩
  | .hbm, ⟨39, _⟩ => ⟨S6144x2048, .f32⟩
  | .hbm, ⟨40, _⟩ => ⟨S6144x2048, .f32⟩
  | .hbm, ⟨41, _⟩ => ⟨S1x2048, .f32⟩
  | .hbm, ⟨42, _⟩ => ⟨S4096x2048, .f32⟩
  | .hbm, ⟨43, _⟩ => ⟨S2x2048, .f32⟩
  | .hbm, ⟨44, _⟩ => ⟨S2x1024x2048, .f32⟩
  | .hbm, ⟨45, _⟩ => ⟨S2048x2048, .f32⟩
  | .hbm, ⟨46, _⟩ => ⟨S6144x2048, .f32⟩
  | .hbm, ⟨47, _⟩ => ⟨S6144x2048, .f32⟩
  | .hbm, ⟨48, _⟩ => ⟨S6144x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== Pool.lean ====
abbrev S6144x2048 : Shape := ⟨2, ![6144, 2048]⟩
abbrev S1x4x512x512 : Shape := ⟨4, ![1, 4, 512, 512]⟩
abbrev S1x2048 : Shape := ⟨2, ![1, 2048]⟩
abbrev S2x2048 : Shape := ⟨2, ![2, 2048]⟩
abbrev S2x16x1x12288 : Shape := ⟨4, ![2, 16, 1, 12288]⟩
abbrev S4x512x512 : Shape := ⟨3, ![4, 512, 512]⟩
abbrev S1024x2048 : Shape := ⟨2, ![1024, 2048]⟩
abbrev S1x1x1x2048 : Shape := ⟨4, ![1, 1, 1, 2048]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩
abbrev S1x1x1x512 : Shape := ⟨4, ![1, 1, 1, 512]⟩
abbrev S1x512x512 : Shape := ⟨3, ![1, 512, 512]⟩
abbrev S512x512 : Shape := ⟨2, ![512, 512]⟩

abbrev nBuf : Space → Nat
  | .hbm => 11
  | .vmem => 20
  | .smem => 0
  | _ => 0

abbrev bufTy : (tb : Table) → Fin (tcTables nBuf tb) → BufTy
  | .hbm, ⟨0, _⟩ => ⟨S6144x2048, .f32⟩
  | .hbm, ⟨1, _⟩ => ⟨S1x4x512x512, .f32⟩
  | .hbm, ⟨2, _⟩ => ⟨S1x2048, .f32⟩
  | .hbm, ⟨3, _⟩ => ⟨S2x2048, .f32⟩
  | .hbm, ⟨4, _⟩ => ⟨S2x2048, .f32⟩
  | .hbm, ⟨5, _⟩ => ⟨S2x16x1x12288, .f32⟩
  | .hbm, ⟨6, _⟩ => ⟨S4x512x512, .f32⟩
  | .hbm, ⟨7, _⟩ => ⟨S1x2048, .f32⟩
  | .hbm, ⟨8, _⟩ => ⟨S1x2048, .f32⟩
  | .hbm, ⟨9, _⟩ => ⟨S6144x2048, .f32⟩
  | .hbm, ⟨10, _⟩ => ⟨S6144x2048, .bf16⟩
  | .local _ .vmem, ⟨0, _⟩ => ⟨S1024x2048, .f32⟩
  | .local _ .vmem, ⟨1, _⟩ => ⟨S1024x2048, .f32⟩
  | .local _ .vmem, ⟨2, _⟩ => ⟨S4x512x512, .f32⟩
  | .local _ .vmem, ⟨3, _⟩ => ⟨S1x2048, .f32⟩
  | .local _ .vmem, ⟨4, _⟩ => ⟨S1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S1x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S1x1x1x2048, .f32⟩
  | .local _ .vmem, ⟨15, _⟩ => ⟨S1x1x1x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | .local _ .vmem, ⟨19, _⟩ => ⟨S1024x2048, .bf16⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c1_i32_8 : BitVec 32 := 1#32
  let c0_i32_9 : BitVec 32 := 0#32
  let c0_i32_10 : BitVec 32 := 0#32
  let c0_i32_11 : BitVec 32 := 0#32
  ![c1_i32_8.toNat, v20.toNat, c0_i32_9.toNat, c0_i32_10.toNat]

def cc0_transform_5 (i : grid0.Coords) : Fin 4 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c1_i32_8 : BitVec 32 := 1#32
  let c0_i32_9 : BitVec 32 := 0#32
  let c1_i32_10 : BitVec 32 := 1#32
  let c0_i32_11 : BitVec 32 := 0#32
  ![c1_i32_8.toNat, v20.toNat, c0_i32_9.toNat, c1_i32_10.toNat]

def cc0_transform_6 (i : grid0.Coords) : Fin 4 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c1_i32_8 : BitVec 32 := 1#32
  let c0_i32_9 : BitVec 32 := 0#32
  let c2_i32 : BitVec 32 := 2#32
  let c0_i32_10 : BitVec 32 := 0#32
  ![c1_i32_8.toNat, v20.toNat, c0_i32_9.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c1_i32_8 : BitVec 32 := 1#32
  let c0_i32_9 : BitVec 32 := 0#32
  let c3_i32 : BitVec 32 := 3#32
  let c0_i32_10 : BitVec 32 := 0#32
  ![c1_i32_8.toNat, v20.toNat, c0_i32_9.toNat, c3_i32.toNat]

def cc0_transform_9 (i : grid0.Coords) : Fin 4 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c1_i32_8 : BitVec 32 := 1#32
  let c0_i32_9 : BitVec 32 := 0#32
  let c4_i32_10 : BitVec 32 := 4#32
  let c0_i32_11 : BitVec 32 := 0#32
  ![c1_i32_8.toNat, v20.toNat, c0_i32_9.toNat, c4_i32_10.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PoolRefIdeal.lean ====
abbrev S6144x2048 : Shape := ⟨2, ![6144, 2048]⟩
abbrev S1x4x512x512 : Shape := ⟨4, ![1, 4, 512, 512]⟩
abbrev S1x2048 : Shape := ⟨2, ![1, 2048]⟩
abbrev S2x2048 : Shape := ⟨2, ![2, 2048]⟩
abbrev S2x16x1x12288 : Shape := ⟨4, ![2, 16, 1, 12288]⟩
abbrev S1x16x1x12288 : Shape := ⟨4, ![1, 16, 1, 12288]⟩
abbrev S16x12288 : Shape := ⟨2, ![16, 12288]⟩
abbrev S16x2048 : Shape := ⟨2, ![16, 2048]⟩
abbrev S2048 : Shape := ⟨1, ![2048]⟩
abbrev S_ : Shape := ⟨0, ![]⟩
abbrev S6144 : Shape := ⟨1, ![6144]⟩
abbrev S6144x1 : Shape := ⟨2, ![6144, 1]⟩
abbrev S4096x2048 : Shape := ⟨2, ![4096, 2048]⟩
abbrev S2x1024x2048 : Shape := ⟨3, ![2, 1024, 2048]⟩
abbrev S2048x2048 : Shape := ⟨2, ![2048, 2048]⟩
abbrev S6144x4x512 : Shape := ⟨3, ![6144, 4, 512]⟩
abbrev S4x6144x512 : Shape := ⟨3, ![4, 6144, 512]⟩
abbrev S4 : Shape := ⟨1, ![4]⟩
abbrev S4x1 : Shape := ⟨2, ![4, 1]⟩
abbrev S1x6144 : Shape := ⟨2, ![1, 6144]⟩
abbrev S4x6144 : Shape := ⟨2, ![4, 6144]⟩
abbrev S4x6144x1 : Shape := ⟨3, ![4, 6144, 1]⟩
abbrev S1x1x6144 : Shape := ⟨3, ![1, 1, 6144]⟩
abbrev S4x6144x6144 : Shape := ⟨3, ![4, 6144, 6144]⟩
abbrev S4x512x512 : Shape := ⟨3, ![4, 512, 512]⟩

abbrev nBuf : Space → Nat
  | .hbm => 158
  | .vmem => 0
  | .smem => 0
  | _ => 0

abbrev hbmTy0_0 (i : Nat) : BufTy := match i % 128 with
  | 0 => ⟨S6144x2048, .f32⟩
  | 1 => ⟨S1x4x512x512, .f32⟩
  | 2 => ⟨S1x2048, .f32⟩
  | 3 => ⟨S2x2048, .f32⟩
  | 4 => ⟨S2x2048, .f32⟩
  | 5 => ⟨S2x16x1x12288, .f32⟩
  | 6 => ⟨S1x16x1x12288, .f32⟩
  | 7 => ⟨S16x12288, .f32⟩
  | 8 => ⟨S16x2048, .f32⟩
  | 9 => ⟨S16x2048, .f32⟩
  | 10 => ⟨S16x2048, .f32⟩
  | 11 => ⟨S16x2048, .f32⟩
  | 12 => ⟨S16x2048, .f32⟩
  | 13 => ⟨S16x2048, .f32⟩
  | 14 => ⟨S1x2048, .f32⟩
  | 15 => ⟨S2048, .f32⟩
  | 16 => ⟨S6144x2048, .f32⟩
  | 17 => ⟨S_, .f32⟩
  | 18 => ⟨S6144, .f32⟩
  | 19 => ⟨S6144x1, .f32⟩
  | 20 => ⟨S_, .f32⟩
  | 21 => ⟨S6144x1, .f32⟩
  | 22 => ⟨S6144x1, .f32⟩
  | 23 => ⟨S_, .f32⟩
  | 24 => ⟨S6144x1, .f32⟩
  | 25 => ⟨S6144x1, .f32⟩
  | 26 => ⟨S6144x1, .f32⟩
  | 27 => ⟨S6144x2048, .f32⟩
  | 28 => ⟨S6144x2048, .f32⟩
  | 29 => ⟨S1x2048, .f32⟩
  | 30 => ⟨S6144x2048, .f32⟩
  | 31 => ⟨S6144x2048, .f32⟩
  | 32 => ⟨S1x2048, .f32⟩
  | 33 => ⟨S4096x2048, .f32⟩
  | 34 => ⟨S2x2048, .f32⟩
  | 35 => ⟨S2x1024x2048, .f32⟩
  | 36 => ⟨S2048x2048, .f32⟩
  | 37 => ⟨S6144x2048, .f32⟩
  | 38 => ⟨S_, .f32⟩
  | 39 => ⟨S6144x2048, .f32⟩
  | 40 => ⟨S6144x2048, .f32⟩
  | 41 => ⟨S6144x2048, .f32⟩
  | 42 => ⟨S1x2048, .f32⟩
  | 43 => ⟨S4096x2048, .f32⟩
  | 44 => ⟨S2x2048, .f32⟩
  | 45 => ⟨S2x1024x2048, .f32⟩
  | 46 => ⟨S2048x2048, .f32⟩
  | 47 => ⟨S6144x2048, .f32⟩
  | 48 => ⟨S6144x2048, .f32⟩
  | 49 => ⟨S6144x4x512, .f32⟩
  | 50 => ⟨S4x6144x512, .f32⟩
  | 51 => ⟨S_, .i32⟩
  | 52 => ⟨S4, .i32⟩
  | 53 => ⟨S4, .i32⟩
  | 54 => ⟨S4, .i32⟩
  | 55 => ⟨S4x1, .i32⟩
  | 56 => ⟨S6144, .i32⟩
  | 57 => ⟨S_, .i32⟩
  | 58 => ⟨S6144, .i32⟩
  | 59 => ⟨S6144, .i1⟩
  | 60 => ⟨S_, .i32⟩
  | 61 => ⟨S_, .i32⟩
  | 62 => ⟨S6144, .i32⟩
  | 63 => ⟨S6144, .i32⟩
  | 64 => ⟨S6144, .i32⟩
  | 65 => ⟨S6144, .i32⟩
  | 66 => ⟨S1x6144, .i32⟩
  | 67 => ⟨S4x6144, .i32⟩
  | 68 => ⟨S4x6144, .i32⟩
  | 69 => ⟨S4x6144, .i32⟩
  | 70 => ⟨S_, .i32⟩
  | 71 => ⟨S4x6144, .i32⟩
  | 72 => ⟨S4x6144, .i32⟩
  | 73 => ⟨S1x6144, .i32⟩
  | 74 => ⟨S4x6144, .i32⟩
  | 75 => ⟨S4x6144, .i32⟩
  | 76 => ⟨S4x6144, .i32⟩
  | 77 => ⟨S1x6144, .i32⟩
  | 78 => ⟨S4x6144, .i32⟩
  | 79 => ⟨S4x6144, .i32⟩
  | 80 => ⟨S6144, .i32⟩
  | 81 => ⟨S1x6144, .i32⟩
  | 82 => ⟨S4x6144, .i32⟩
  | 83 => ⟨S4x6144, .i32⟩
  | 84 => ⟨S4x6144x1, .i32⟩
  | 85 => ⟨S1x1x6144, .i32⟩
  | 86 => ⟨S4x6144x6144, .i32⟩
  | 87 => ⟨S4x6144x6144, .i32⟩
  | 88 => ⟨S4x6144x6144, .i1⟩
  | 89 => ⟨S1x6144, .i32⟩
  | 90 => ⟨S4x6144, .i32⟩
  | 91 => ⟨S4x6144, .i32⟩
  | 92 => ⟨S4x6144x1, .i32⟩
  | 93 => ⟨S1x1x6144, .i32⟩
  | 94 => ⟨S4x6144x6144, .i32⟩
  | 95 => ⟨S4x6144x6144, .i32⟩
  | 96 => ⟨S4x6144x6144, .i1⟩
  | 97 => ⟨S4x6144x6144, .i1⟩
  | 98 => ⟨S4x6144x6144, .f32⟩
  | 99 => ⟨S4x6144x512, .f32⟩
  | 100 => ⟨S4x6144, .i32⟩
  | 101 => ⟨S4x6144, .f32⟩
  | 102 => ⟨S4x6144x1, .f32⟩
  | 103 => ⟨S4x6144x512, .f32⟩
  | 104 => ⟨S4x6144x512, .f32⟩
  | 105 => ⟨S4x6144x512, .f32⟩
  | 106 => ⟨S4x512x512, .f32⟩
  | 107 => ⟨S4x6144x512, .f32⟩
  | 108 => ⟨S1x2048, .f32⟩
  | 109 => ⟨S4096x2048, .f32⟩
  | 110 => ⟨S2x2048, .f32⟩
  | 111 => ⟨S2x1024x2048, .f32⟩
  | 112 => ⟨S2048x2048, .f32⟩
  | 113 => ⟨S6144x2048, .f32⟩
  | 114 => ⟨S6144x4x512, .f32⟩
  | 115 => ⟨S6144x2048, .f32⟩
  | 116 => ⟨S2048, .f32⟩
  | 117 => ⟨S1x2048, .f32⟩
  | 118 => ⟨S6144x2048, .f32⟩
  | 119 => ⟨S6144x2048, .f32⟩
  | 120 => ⟨S6144x2048, .f32⟩
  | 121 => ⟨S6144x2048, .f32⟩
  | 122 => ⟨S1x2048, .f32⟩
  | 123 => ⟨S2048, .f32⟩
  | 124 => ⟨S6144x2048, .f32⟩
  | 125 => ⟨S_, .f32⟩
  | 126 => ⟨S6144, .f32⟩
  | 127 => ⟨S6144x1, .f32⟩
  | _ => ⟨S6144x2048, .f32⟩

abbrev hbmTy0_1 (i : Nat) : BufTy := match i % 128 with
  | 0 => ⟨S_, .f32⟩
  | 1 => ⟨S6144x1, .f32⟩
  | 2 => ⟨S6144x1, .f32⟩
  | 3 => ⟨S_, .f32⟩
  | 4 => ⟨S6144x1, .f32⟩
  | 5 => ⟨S6144x1, .f32⟩
  | 6 => ⟨S6144x1, .f32⟩
  | 7 => ⟨S6144x2048, .f32⟩
  | 8 => ⟨S6144x2048, .f32⟩
  | 9 => ⟨S1x2048, .f32⟩
  | 10 => ⟨S6144x2048, .f32⟩
  | 11 => ⟨S6144x2048, .f32⟩
  | 12 => ⟨S1x2048, .f32⟩
  | 13 => ⟨S4096x2048, .f32⟩
  | 14 => ⟨S2x2048, .f32⟩
  | 15 => ⟨S2x1024x2048, .f32⟩
  | 16 => ⟨S2048x2048, .f32⟩
  | 17 => ⟨S6144x2048, .f32⟩
  | 18 => ⟨S_, .f32⟩
  | 19 => ⟨S6144x2048, .f32⟩
  | 20 => ⟨S6144x2048, .f32⟩
  | 21 => ⟨S6144x2048, .f32⟩
  | 22 => ⟨S1x2048, .f32⟩
  | 23 => ⟨S4096x2048, .f32⟩
  | 24 => ⟨S2x2048, .f32⟩
  | 25 => ⟨S2x1024x2048, .f32⟩
  | 26 => ⟨S2048x2048, .f32⟩
  | 27 => ⟨S6144x2048, .f32⟩
  | 28 => ⟨S6144x2048, .f32⟩
  | 29 => ⟨S6144x2048, .bf16⟩
  | _ => ⟨S6144x2048, .f32⟩

abbrev hbmTy (i : Nat) : BufTy := match i / 128 with
  | 0 => hbmTy0_0 i
  | 1 => hbmTy0_1 i
  | _ => ⟨S6144x2048, .f32⟩

abbrev bufTy : (tb : Table) → Fin (tcTables nBuf tb) → BufTy
  | .hbm, ⟨i, _⟩ => hbmTy i
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_3 : Ref sig .tc := ⟨.hbm, 57, rfl⟩
abbrev main_v46 : Ref sig .tc := ⟨.hbm, 58, rfl⟩
abbrev main_v47 : Ref sig .tc := ⟨.hbm, 59, rfl⟩
abbrev main_c_4 : Ref sig .tc := ⟨.hbm, 60, rfl⟩
abbrev main_c_5 : Ref sig .tc := ⟨.hbm, 61, rfl⟩
abbrev main_call0_v0 : Ref sig .tc := ⟨.hbm, 62, rfl⟩
abbrev main_call0_v1 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_7 : Ref sig .tc := ⟨.hbm, 125, rfl⟩
abbrev main_v108 : Ref sig .tc := ⟨.hbm, 126, rfl⟩
abbrev main_v109 : Ref sig .tc := ⟨.hbm, 127, rfl⟩
abbrev main_cst_8 : Ref sig .tc := ⟨.hbm, 128, rfl⟩
abbrev main_v110 : Ref sig .tc := ⟨.hbm, 129, rfl⟩
abbrev main_v111 : Ref sig .tc := ⟨.hbm, 130, rfl⟩
abbrev main_cst_9 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_cst_10 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩

abbrev nD : Nat := 1
abbrev τ : Topo := Topo.v7x

variable {F : FTy → Type} [FloatOps F]
-- ==== Proof.InProjSkeleton.lean ====
/-
  The body of the in-projection kernel, restated with names: each value it computes from what it
  has read is a definition, and the body is the sequence of its loads, stores and branches over
  them. That the printed body is this sequence holds by unfolding.
-/
module

public import proofs.«01_k».proof.Proof.Gen.InProjIdeal.Frame

@[expose] public section

set_option synthInstance.maxSize 4096
set_option maxRecDepth 65536

noncomputable section

namespace Cert.InProjRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A value the in-projection body computes from values it has read. -/
noncomputable def k0_pay1 (v1 : Vec F S2048x2048 .bf16) (v2 : Vec F S2048x512 .f32) : FVec F S2048x512 .f32 :=
  have v3 : FVec F S2048x512 .f32 := shapeCast S2048x512 v2 shapeCasts_S2048x512_S2048x512
  have v4 : FVec F S2048x512 .bf16 := truncf .bf16 v3 bitsLt_bf16_f32
  have cst : FVec F S2048x512 .f32 := constant S2048x512 .f32 0x00000000#32
  have v5 : FVec F S2048x512 .f32 := matmul dot_S2048x2048_S2048x512_S2048x512_1_0_0_1_n_n none v1 v4 cst
  v5

/-- A value the in-projection body computes from values it has read. -/
noncomputable def k0_pay2 (v62 : FVec F S2048x128 .f32) (v63 : Vec F S1x128 .f32) : FVec F S2048x128 .f32 :=
  have v64 : FVec F S2048x128 .f32 := mulf v62 v62
  have v65 : FVec F S2048 .f32 := multiReduction .add [1] S2048 v64 0x00000000#32 reduces_S2048x128_S2048 (.inl rfl) rfl
  have v66 : FVec F S2048x1 .f32 := shapeCast S2048x1 v65 shapeCasts_S2048_S2048x1
  have cst_28 : F .f32 := Scalar.ofBits .f32 0x43000000#32
  have v67 : FVec F S2048x1 .f32 := broadcast S2048x1 cst_28
  have v68 : FVec F S2048x1 .f32 := divf v66 v67
  have cst_29 : F .f32 := Scalar.ofBits .f32 0x358637BD#32
  have v69 : FVec F S2048x1 .f32 := broadcast S2048x1 cst_29
  have v70 : FVec F S2048x1 .f32 := addf v68 v69
  have v71 : FVec F S2048x1 .f32 := rsqrt v70
  have v72 : FVec F S2048x128 .f32 := broadcastTo S2048x128 v71 broadcasts_S2048x1_S2048x128
  have v73 : FVec F S2048x128 .f32 := mulf v62 v72
  have v74 : FVec F S2048x128 .f32 := broadcastTo S2048x128 v63 broadcasts_S1x128_S2048x128
  have v75 : FVec F S2048x128 .f32 := mulf v73 v74
  v75

/-- A value the in-projection body computes from values it has read. -/
noncomputable def k0_pay3 (v62 : FVec F S2048x128 .f32) (v63 : Vec F S1x128 .f32) (v101 : Vec F S1024x128 .f32) (v102 : Vec F S1024x128 .f32) (v104 : Vec F S1024x128 .f32) : FVec F S1024x128 .f32 :=
  have v100 : FVec F S1024x128 .f32 := extractStridedSlice S1024x128 ![0, 0] (k0_pay2 v62 v63) slices_S2048x128_o0_0_S1024x128
  have v103 : FVec F S1024x128 .f32 := shapeCast S1024x128 v102 shapeCasts_S1024x128_S1024x128
  have v105 : FVec F S1024x128 .f32 := shapeCast S1024x128 v104 shapeCasts_S1024x128_S1024x128
  have v106 : FVec F S1024x128 .f32 := mulf v100 v101
  have v107 : FVec F S1024x128 .f32 := dynamicRotate 1 96#32 none v100 rotates_S1024x128_d1
  have v108 : FVec F S1024x128 .f32 := mulf v107 v103
  have v109 : FVec F S1024x128 .f32 := addf v106 v108
  have v110 : FVec F S1024x128 .f32 := dynamicRotate 1 32#32 none v100 rotates_S1024x128_d1
  have v111 : FVec F S1024x128 .f32 := mulf v110 v105
  have v112 : FVec F S1024x128 .f32 := addf v109 v111
  v112

/-- A value the in-projection body computes from values it has read. -/
noncomputable def k0_pay4 (v62 : FVec F S2048x128 .f32) (v63 : Vec F S1x128 .f32) (v115 : Vec F S1024x128 .f32) (v116 : Vec F S1024x128 .f32) (v118 : Vec F S1024x128 .f32) : FVec F S1024x128 .f32 :=
  have v114 : FVec F S1024x128 .f32 := extractStridedSlice S1024x128 ![1024, 0] (k0_pay2 v62 v63) slices_S2048x128_o1024_0_S1024x128
  have v117 : FVec F S1024x128 .f32 := shapeCast S1024x128 v116 shapeCasts_S1024x128_S1024x128
  have v119 : FVec F S1024x128 .f32 := shapeCast S1024x128 v118 shapeCasts_S1024x128_S1024x128
  have v120 : FVec F S1024x128 .f32 := mulf v114 v115
  have v121 : FVec F S1024x128 .f32 := dynamicRotate 1 96#32 none v114 rotates_S1024x128_d1
  have v122 : FVec F S1024x128 .f32 := mulf v121 v117
  have v123 : FVec F S1024x128 .f32 := addf v120 v122
  have v124 : FVec F S1024x128 .f32 := dynamicRotate 1 32#32 none v114 rotates_S1024x128_d1
  have v125 : FVec F S1024x128 .f32 := mulf v124 v119
  have v126 : FVec F S1024x128 .f32 := addf v123 v125
  v126

/-- A value the in-projection body computes from values it has read. -/
noncomputable def k0_pay5 (v1 : Vec F S2048x2048 .bf16) (v2 : Vec F S2048x512 .f32) (v82 : Vec F S1x128 .f32) : FVec F S2048x128 .f32 :=
  have v81 : FVec F S2048x128 .f32 := extractStridedSlice S2048x128 ![0, 384] (k0_pay1 v1 v2) slices_S2048x512_o0_384_S2048x128
  have v83 : FVec F S2048x128 .f32 := mulf v81 v81
  have v84 : FVec F S2048 .f32 := multiReduction .add [1] S2048 v83 0x00000000#32 reduces_S2048x128_S2048 (.inl rfl) rfl
  have v85 : FVec F S2048x1 .f32 := shapeCast S2048x1 v84 shapeCasts_S2048_S2048x1
  have cst_36 : F .f32 := Scalar.ofBits .f32 0x43000000#32
  have v86 : FVec F S2048x1 .f32 := broadcast S2048x1 cst_36
  have v87 : FVec F S2048x1 .f32 := divf v85 v86
  have cst_37 : F .f32 := Scalar.ofBits .f32 0x358637BD#32
  have v88 : FVec F S2048x1 .f32 := broadcast S2048x1 cst_37
  have v89 : FVec F S2048x1 .f32 := addf v87 v88
  have v90 : FVec F S2048x1 .f32 := rsqrt v89
  have v91 : FVec F S2048x128 .f32 := broadcastTo S2048x128 v90 broadcasts_S2048x1_S2048x128
  have v92 : FVec F S2048x128 .f32 := mulf v81 v91
  have v93 : FVec F S2048x128 .f32 := broadcastTo S2048x128 v82 broadcasts_S1x128_S2048x128
  have v94 : FVec F S2048x128 .f32 := mulf v92 v93
  v94

/-- A value the in-projection body computes from values it has read. -/
noncomputable def k0_pay6 (v1 : Vec F S2048x2048 .bf16) (v2 : Vec F S2048x512 .f32) (v82 : Vec F S1x128 .f32) (v101 : Vec F S1024x128 .f32) (v102 : Vec F S1024x128 .f32) (v104 : Vec F S1024x128 .f32) : FVec F S1024x128 .f32 :=
  have v100 : FVec F S1024x128 .f32 := extractStridedSlice S1024x128 ![0, 0] (k0_pay5 v1 v2 v82) slices_S2048x128_o0_0_S1024x128
  have v103 : FVec F S1024x128 .f32 := shapeCast S1024x128 v102 shapeCasts_S1024x128_S1024x128
  have v105 : FVec F S1024x128 .f32 := shapeCast S1024x128 v104 shapeCasts_S1024x128_S1024x128
  have v106 : FVec F S1024x128 .f32 := mulf v100 v101
  have v107 : FVec F S1024x128 .f32 := dynamicRotate 1 96#32 none v100 rotates_S1024x128_d1
  have v108 : FVec F S1024x128 .f32 := mulf v107 v103
  have v109 : FVec F S1024x128 .f32 := addf v106 v108
  have v110 : FVec F S1024x128 .f32 := dynamicRotate 1 32#32 none v100 rotates_S1024x128_d1
  have v111 : FVec F S1024x128 .f32 := mulf v110 v105
  have v112 : FVec F S1024x128 .f32 := addf v109 v111
  v112

/-- A value the in-projection body computes from values it has read. -/
noncomputable def k0_pay7 (v1 : Vec F S2048x2048 .bf16) (v2 : Vec F S2048x512 .f32) (v82 : Vec F S1x128 .f32) (v115 : Vec F S1024x128 .f32) (v116 : Vec F S1024x128 .f32) (v118 : Vec F S1024x128 .f32) : FVec F S1024x128 .f32 :=
  have v114 : FVec F S1024x128 .f32 := extractStridedSlice S1024x128 ![1024, 0] (k0_pay5 v1 v2 v82) slices_S2048x128_o1024_0_S1024x128
  have v117 : FVec F S1024x128 .f32 := shapeCast S1024x128 v116 shapeCasts_S1024x128_S1024x128
  have v119 : FVec F S1024x128 .f32 := shapeCast S1024x128 v118 shapeCasts_S1024x128_S1024x128
  have v120 : FVec F S1024x128 .f32 := mulf v114 v115
  have v121 : FVec F S1024x128 .f32 := dynamicRotate 1 96#32 none v114 rotates_S1024x128_d1
  have v122 : FVec F S1024x128 .f32 := mulf v121 v117
  have v123 : FVec F S1024x128 .f32 := addf v120 v122
  have v124 : FVec F S1024x128 .f32 := dynamicRotate 1 32#32 none v114 rotates_S1024x128_d1
  have v125 : FVec F S1024x128 .f32 := mulf v124 v119
  have v126 : FVec F S1024x128 .f32 := addf v123 v125
  v126

/-- A value the in-projection body computes from values it has read. -/
noncomputable def k0_pay8 (v1 : Vec F S2048x2048 .bf16) (v2 : Vec F S2048x512 .f32) : FVec F S2048x512 .f32 :=
  have cst_10 : F .f32 := Scalar.ofBits .f32 0x00000000#32
  have v24 : FVec F S2048x512 .f32 := broadcast S2048x512 cst_10
  have v25 : FVec F S2048x512 .f32 := subf v24 (k0_pay1 v1 v2)
  have v26 : FVec F S2048x512 .f32 := exp v25
  have cst_11 : F .f32 := Scalar.ofBits .f32 0x3F800000#32
  have v27 : FVec F S2048x512 .f32 := broadcast S2048x512 cst_11
  have v28 : FVec F S2048x512 .f32 := addf v27 v26
  have cst_12 : F .f32 := Scalar.ofBits .f32 0x3F800000#32
  have v29 : FVec F S2048x512 .f32 := broadcast S2048x512 cst_12
  have v30 : FVec F S2048x512 .f32 := divf v29 v28
  have v31 : FVec F S2048x512 .f32 := mulf (k0_pay1 v1 v2) v30
  v31

/-- A value the in-projection body computes from values it has read. -/
noncomputable def k0_pay9 (v5 : FVec F S2048x512 .f32) (v25 : Vec F S1x128 .f32) : FVec F S2048x128 .f32 :=
  have v24 : FVec F S2048x128 .f32 := extractStridedSlice S2048x128 ![0, 0] v5 slices_S2048x512_o0_0_S2048x128
  have v26 : FVec F S2048x128 .f32 := mulf v24 v24
  have v27 : FVec F S2048 .f32 := multiReduction .add [1] S2048 v26 0x00000000#32 reduces_S2048x128_S2048 (.inl rfl) rfl
  have v28 : FVec F S2048x1 .f32 := shapeCast S2048x1 v27 shapeCasts_S2048_S2048x1
  have cst_13 : F .f32 := Scalar.ofBits .f32 0x43000000#32
  have v29 : FVec F S2048x1 .f32 := broadcast S2048x1 cst_13
  have v30 : FVec F S2048x1 .f32 := divf v28 v29
  have cst_14 : F .f32 := Scalar.ofBits .f32 0x358637BD#32
  have v31 : FVec F S2048x1 .f32 := broadcast S2048x1 cst_14
  have v32 : FVec F S2048x1 .f32 := addf v30 v31
  have v33 : FVec F S2048x1 .f32 := rsqrt v32
  have v34 : FVec F S2048x128 .f32 := broadcastTo S2048x128 v33 broadcasts_S2048x1_S2048x128
  have v35 : FVec F S2048x128 .f32 := mulf v24 v34
  have v36 : FVec F S2048x128 .f32 := broadcastTo S2048x128 v25 broadcasts_S1x128_S2048x128
  have v37 : FVec F S2048x128 .f32 := mulf v35 v36
  v37

/-- A value the in-projection body computes from values it has read. -/
noncomputable def k0_pay10 (v5 : FVec F S2048x512 .f32) (v25 : Vec F S1x128 .f32) (v101 : Vec F S1024x128 .f32) (v102 : Vec F S1024x128 .f32) (v104 : Vec F S1024x128 .f32) : FVec F S1024x128 .f32 :=
  have v100 : FVec F S1024x128 .f32 := extractStridedSlice S1024x128 ![0, 0] (k0_pay9 v5 v25) slices_S2048x128_o0_0_S1024x128
  have v103 : FVec F S1024x128 .f32 := shapeCast S1024x128 v102 shapeCasts_S1024x128_S1024x128
  have v105 : FVec F S1024x128 .f32 := shapeCast S1024x128 v104 shapeCasts_S1024x128_S1024x128
  have v106 : FVec F S1024x128 .f32 := mulf v100 v101
  have v107 : FVec F S1024x128 .f32 := dynamicRotate 1 96#32 none v100 rotates_S1024x128_d1
  have v108 : FVec F S1024x128 .f32 := mulf v107 v103
  have v109 : FVec F S1024x128 .f32 := addf v106 v108
  have v110 : FVec F S1024x128 .f32 := dynamicRotate 1 32#32 none v100 rotates_S1024x128_d1
  have v111 : FVec F S1024x128 .f32 := mulf v110 v105
  have v112 : FVec F S1024x128 .f32 := addf v109 v111
  v112

/-- A value the in-projection body computes from values it has read. -/
noncomputable def k0_pay11 (v5 : FVec F S2048x512 .f32) (v25 : Vec F S1x128 .f32) (v115 : Vec F S1024x128 .f32) (v116 : Vec F S1024x128 .f32) (v118 : Vec F S1024x128 .f32) : FVec F S1024x128 .f32 :=
  have v114 : FVec F S1024x128 .f32 := extractStridedSlice S1024x128 ![1024, 0] (k0_pay9 v5 v25) slices_S2048x128_o1024_0_S1024x128
  have v117 : FVec F S1024x128 .f32 := shapeCast S1024x128 v116 shapeCasts_S1024x128_S1024x128
  have v119 : FVec F S1024x128 .f32 := shapeCast S1024x128 v118 shapeCasts_S1024x128_S1024x128
  have v120 : FVec F S1024x128 .f32 := mulf v114 v115
  have v121 : FVec F S1024x128 .f32 := dynamicRotate 1 96#32 none v114 rotates_S1024x128_d1
  have v122 : FVec F S1024x128 .f32 := mulf v121 v117
  have v123 : FVec F S1024x128 .f32 := addf v120 v122
  have v124 : FVec F S1024x128 .f32 := dynamicRotate 1 32#32 none v114 rotates_S1024x128_d1
  have v125 : FVec F S1024x128 .f32 := mulf v124 v119
  have v126 : FVec F S1024x128 .f32 := addf v123 v125
  v126

/-- A value the in-projection body computes from values it has read. -/
noncomputable def k0_pay12 (v5 : FVec F S2048x512 .f32) (v44 : Vec F S1x128 .f32) : FVec F S2048x128 .f32 :=
  have v43 : FVec F S2048x128 .f32 := extractStridedSlice S2048x128 ![0, 128] v5 slices_S2048x512_o0_128_S2048x128
  have v45 : FVec F S2048x128 .f32 := mulf v43 v43
  have v46 : FVec F S2048 .f32 := multiReduction .add [1] S2048 v45 0x00000000#32 reduces_S2048x128_S2048 (.inl rfl) rfl
  have v47 : FVec F S2048x1 .f32 := shapeCast S2048x1 v46 shapeCasts_S2048_S2048x1
  have cst_20 : F .f32 := Scalar.ofBits .f32 0x43000000#32
  have v48 : FVec F S2048x1 .f32 := broadcast S2048x1 cst_20
  have v49 : FVec F S2048x1 .f32 := divf v47 v48
  have cst_21 : F .f32 := Scalar.ofBits .f32 0x358637BD#32
  have v50 : FVec F S2048x1 .f32 := broadcast S2048x1 cst_21
  have v51 : FVec F S2048x1 .f32 := addf v49 v50
  have v52 : FVec F S2048x1 .f32 := rsqrt v51
  have v53 : FVec F S2048x128 .f32 := broadcastTo S2048x128 v52 broadcasts_S2048x1_S2048x128
  have v54 : FVec F S2048x128 .f32 := mulf v43 v53
  have v55 : FVec F S2048x128 .f32 := broadcastTo S2048x128 v44 broadcasts_S1x128_S2048x128
  have v56 : FVec F S2048x128 .f32 := mulf v54 v55
  v56

/-- A value the in-projection body computes from values it has read. -/
noncomputable def k0_pay13 (v5 : FVec F S2048x512 .f32) (v44 : Vec F S1x128 .f32) (v101 : Vec F S1024x128 .f32) (v102 : Vec F S1024x128 .f32) (v104 : Vec F S1024x128 .f32) : FVec F S1024x128 .f32 :=
  have v100 : FVec F S1024x128 .f32 := extractStridedSlice S1024x128 ![0, 0] (k0_pay12 v5 v44) slices_S2048x128_o0_0_S1024x128
  have v103 : FVec F S1024x128 .f32 := shapeCast S1024x128 v102 shapeCasts_S1024x128_S1024x128
  have v105 : FVec F S1024x128 .f32 := shapeCast S1024x128 v104 shapeCasts_S1024x128_S1024x128
  have v106 : FVec F S1024x128 .f32 := mulf v100 v101
  have v107 : FVec F S1024x128 .f32 := dynamicRotate 1 96#32 none v100 rotates_S1024x128_d1
  have v108 : FVec F S1024x128 .f32 := mulf v107 v103
  have v109 : FVec F S1024x128 .f32 := addf v106 v108
  have v110 : FVec F S1024x128 .f32 := dynamicRotate 1 32#32 none v100 rotates_S1024x128_d1
  have v111 : FVec F S1024x128 .f32 := mulf v110 v105
  have v112 : FVec F S1024x128 .f32 := addf v109 v111
  v112

/-- A value the in-projection body computes from values it has read. -/
noncomputable def k0_pay14 (v5 : FVec F S2048x512 .f32) (v44 : Vec F S1x128 .f32) (v115 : Vec F S1024x128 .f32) (v116 : Vec F S1024x128 .f32) (v118 : Vec F S1024x128 .f32) : FVec F S1024x128 .f32 :=
  have v114 : FVec F S1024x128 .f32 := extractStridedSlice S1024x128 ![1024, 0] (k0_pay12 v5 v44) slices_S2048x128_o1024_0_S1024x128
  have v117 : FVec F S1024x128 .f32 := shapeCast S1024x128 v116 shapeCasts_S1024x128_S1024x128
  have v119 : FVec F S1024x128 .f32 := shapeCast S1024x128 v118 shapeCasts_S1024x128_S1024x128
  have v120 : FVec F S1024x128 .f32 := mulf v114 v115
  have v121 : FVec F S1024x128 .f32 := dynamicRotate 1 96#32 none v114 rotates_S1024x128_d1
  have v122 : FVec F S1024x128 .f32 := mulf v121 v117
  have v123 : FVec F S1024x128 .f32 := addf v120 v122
  have v124 : FVec F S1024x128 .f32 := dynamicRotate 1 32#32 none v114 rotates_S1024x128_d1
  have v125 : FVec F S1024x128 .f32 := mulf v124 v119
  have v126 : FVec F S1024x128 .f32 := addf v123 v125
  v126

/-- A value the in-projection body computes from values it has read. -/
noncomputable def k0_pay15 (v5 : FVec F S2048x512 .f32) : FVec F S2048x128 .f32 :=
  have v62 : FVec F S2048x128 .f32 := extractStridedSlice S2048x128 ![0, 256] v5 slices_S2048x512_o0_256_S2048x128
  v62

/-- A value the in-projection body computes from values it has read. -/
noncomputable def k0_pay16 (v5 : FVec F S2048x512 .f32) (v25 : Vec F S1x128 .f32) : FVec F S2048x128 .f32 :=
  have v24 : FVec F S2048x128 .f32 := extractStridedSlice S2048x128 ![0, 0] v5 slices_S2048x512_o0_0_S2048x128
  have v26 : FVec F S2048x128 .f32 := mulf v24 v24
  have v27 : FVec F S2048 .f32 := multiReduction .add [1] S2048 v26 0x00000000#32 reduces_S2048x128_S2048 (.inl rfl) rfl
  have v28 : FVec F S2048x1 .f32 := shapeCast S2048x1 v27 shapeCasts_S2048_S2048x1
  have cst_13 : F .f32 := Scalar.ofBits .f32 0x43000000#32
  have v29 : FVec F S2048x1 .f32 := broadcast S2048x1 cst_13
  have v30 : FVec F S2048x1 .f32 := divf v28 v29
  have cst_14 : F .f32 := Scalar.ofBits .f32 0x358637BD#32
  have v31 : FVec F S2048x1 .f32 := broadcast S2048x1 cst_14
  have v32 : FVec F S2048x1 .f32 := addf v30 v31
  have v33 : FVec F S2048x1 .f32 := rsqrt v32
  have v34 : FVec F S2048x128 .f32 := broadcastTo S2048x128 v33 broadcasts_S2048x1_S2048x128
  have v35 : FVec F S2048x128 .f32 := mulf v24 v34
  have v36 : FVec F S2048x128 .f32 := broadcastTo S2048x128 v25 broadcasts_S1x128_S2048x128
  have v37 : FVec F S2048x128 .f32 := mulf v35 v36
  v37

/-- A value the in-projection body computes from values it has read. -/
noncomputable def k0_pay17 (v5 : FVec F S2048x512 .f32) (v25 : Vec F S1x128 .f32) (v68 : Vec F S1024x128 .f32) (v69 : Vec F S1024x128 .f32) (v71 : Vec F S1024x128 .f32) : FVec F S1024x128 .f32 :=
  have v67 : FVec F S1024x128 .f32 := extractStridedSlice S1024x128 ![0, 0] (k0_pay16 v5 v25) slices_S2048x128_o0_0_S1024x128
  have v70 : FVec F S1024x128 .f32 := shapeCast S1024x128 v69 shapeCasts_S1024x128_S1024x128
  have v72 : FVec F S1024x128 .f32 := shapeCast S1024x128 v71 shapeCasts_S1024x128_S1024x128
  have v73 : FVec F S1024x128 .f32 := mulf v67 v68
  have v74 : FVec F S1024x128 .f32 := dynamicRotate 1 96#32 none v67 rotates_S1024x128_d1
  have v75 : FVec F S1024x128 .f32 := mulf v74 v70
  have v76 : FVec F S1024x128 .f32 := addf v73 v75
  have v77 : FVec F S1024x128 .f32 := dynamicRotate 1 32#32 none v67 rotates_S1024x128_d1
  have v78 : FVec F S1024x128 .f32 := mulf v77 v72
  have v79 : FVec F S1024x128 .f32 := addf v76 v78
  v79

/-- A value the in-projection body computes from values it has read. -/
noncomputable def k0_pay18 (v5 : FVec F S2048x512 .f32) (v25 : Vec F S1x128 .f32) (v82 : Vec F S1024x128 .f32) (v83 : Vec F S1024x128 .f32) (v85 : Vec F S1024x128 .f32) : FVec F S1024x128 .f32 :=
  have v81 : FVec F S1024x128 .f32 := extractStridedSlice S1024x128 ![1024, 0] (k0_pay16 v5 v25) slices_S2048x128_o1024_0_S1024x128
  have v84 : FVec F S1024x128 .f32 := shapeCast S1024x128 v83 shapeCasts_S1024x128_S1024x128
  have v86 : FVec F S1024x128 .f32 := shapeCast S1024x128 v85 shapeCasts_S1024x128_S1024x128
  have v87 : FVec F S1024x128 .f32 := mulf v81 v82
  have v88 : FVec F S1024x128 .f32 := dynamicRotate 1 96#32 none v81 rotates_S1024x128_d1
  have v89 : FVec F S1024x128 .f32 := mulf v88 v84
  have v90 : FVec F S1024x128 .f32 := addf v87 v89
  have v91 : FVec F S1024x128 .f32 := dynamicRotate 1 32#32 none v81 rotates_S1024x128_d1
  have v92 : FVec F S1024x128 .f32 := mulf v91 v86
  have v93 : FVec F S1024x128 .f32 := addf v90 v92
  v93

/-- A value the in-projection body computes from values it has read. -/
noncomputable def k0_pay19 (v5 : FVec F S2048x512 .f32) (v44 : Vec F S1x128 .f32) : FVec F S2048x128 .f32 :=
  have v43 : FVec F S2048x128 .f32 := extractStridedSlice S2048x128 ![0, 128] v5 slices_S2048x512_o0_128_S2048x128
  have v45 : FVec F S2048x128 .f32 := mulf v43 v43
  have v46 : FVec F S2048 .f32 := multiReduction .add [1] S2048 v45 0x00000000#32 reduces_S2048x128_S2048 (.inl rfl) rfl
  have v47 : FVec F S2048x1 .f32 := shapeCast S2048x1 v46 shapeCasts_S2048_S2048x1
  have cst_20 : F .f32 := Scalar.ofBits .f32 0x43000000#32
  have v48 : FVec F S2048x1 .f32 := broadcast S2048x1 cst_20
  have v49 : FVec F S2048x1 .f32 := divf v47 v48
  have cst_21 : F .f32 := Scalar.ofBits .f32 0x358637BD#32
  have v50 : FVec F S2048x1 .f32 := broadcast S2048x1 cst_21
  have v51 : FVec F S2048x1 .f32 := addf v49 v50
  have v52 : FVec F S2048x1 .f32 := rsqrt v51
  have v53 : FVec F S2048x128 .f32 := broadcastTo S2048x128 v52 broadcasts_S2048x1_S2048x128
  have v54 : FVec F S2048x128 .f32 := mulf v43 v53
  have v55 : FVec F S2048x128 .f32 := broadcastTo S2048x128 v44 broadcasts_S1x128_S2048x128
  have v56 : FVec F S2048x128 .f32 := mulf v54 v55
  v56

/-- A value the in-projection body computes from values it has read. -/
noncomputable def k0_pay20 (v5 : FVec F S2048x512 .f32) (v44 : Vec F S1x128 .f32) (v68 : Vec F S1024x128 .f32) (v69 : Vec F S1024x128 .f32) (v71 : Vec F S1024x128 .f32) : FVec F S1024x128 .f32 :=
  have v67 : FVec F S1024x128 .f32 := extractStridedSlice S1024x128 ![0, 0] (k0_pay19 v5 v44) slices_S2048x128_o0_0_S1024x128
  have v70 : FVec F S1024x128 .f32 := shapeCast S1024x128 v69 shapeCasts_S1024x128_S1024x128
  have v72 : FVec F S1024x128 .f32 := shapeCast S1024x128 v71 shapeCasts_S1024x128_S1024x128
  have v73 : FVec F S1024x128 .f32 := mulf v67 v68
  have v74 : FVec F S1024x128 .f32 := dynamicRotate 1 96#32 none v67 rotates_S1024x128_d1
  have v75 : FVec F S1024x128 .f32 := mulf v74 v70
  have v76 : FVec F S1024x128 .f32 := addf v73 v75
  have v77 : FVec F S1024x128 .f32 := dynamicRotate 1 32#32 none v67 rotates_S1024x128_d1
  have v78 : FVec F S1024x128 .f32 := mulf v77 v72
  have v79 : FVec F S1024x128 .f32 := addf v76 v78
  v79

/-- A value the in-projection body computes from values it has read. -/
noncomputable def k0_pay21 (v5 : FVec F S2048x512 .f32) (v44 : Vec F S1x128 .f32) (v82 : Vec F S1024x128 .f32) (v83 : Vec F S1024x128 .f32) (v85 : Vec F S1024x128 .f32) : FVec F S1024x128 .f32 :=
  have v81 : FVec F S1024x128 .f32 := extractStridedSlice S1024x128 ![1024, 0] (k0_pay19 v5 v44) slices_S2048x128_o1024_0_S1024x128
  have v84 : FVec F S1024x128 .f32 := shapeCast S1024x128 v83 shapeCasts_S1024x128_S1024x128
  have v86 : FVec F S1024x128 .f32 := shapeCast S1024x128 v85 shapeCasts_S1024x128_S1024x128
  have v87 : FVec F S1024x128 .f32 := mulf v81 v82
  have v88 : FVec F S1024x128 .f32 := dynamicRotate 1 96#32 none v81 rotates_S1024x128_d1
  have v89 : FVec F S1024x128 .f32 := mulf v88 v84
  have v90 : FVec F S1024x128 .f32 := addf v87 v89
  have v91 : FVec F S1024x128 .f32 := dynamicRotate 1 32#32 none v81 rotates_S1024x128_d1
  have v92 : FVec F S1024x128 .f32 := mulf v91 v86
  have v93 : FVec F S1024x128 .f32 := addf v90 v92
  v93

/-- A value the in-projection body computes from values it has read. -/
noncomputable def k0_pay22 (v5 : FVec F S2048x512 .f32) : FVec F S2048x256 .f32 :=
  have v62 : FVec F S2048x256 .f32 := extractStridedSlice S2048x256 ![0, 256] v5 slices_S2048x512_o0_256_S2048x256
  v62

/-- The in-projection body, or a part of it, restated over the named values. -/
noncomputable def cc0_in_projection_skel (i : grid0.Coords) (arg2 : Memref sig .tc .vmem S2048x2048 .bf16) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2048x512 .f32) (harg9 : arg9.IsWhole) (arg10 : Memref sig .tc .vmem S2048x256 .f32) (harg10 : arg10.IsWhole) (arg11 : Memref sig .tc .vmem S2048x256 .f32) (harg11 : arg11.IsWhole) :
    Prog (TpuEff nD τ sig (Elt F) Λ₀ .tc) PUnit := do
  let arg0 : BitVec 32 := BitVec.ofNat 32 (i 0).val

  let v0 : BitVec 1 := Scalar.cmpi .sge arg0 2#32
  let v1 : Vec F S2048x2048 .bf16 ← Prog.lift (.load arg2 (Rect.unit (s := S2048x2048) ![0, 0] S2048x2048.size inb_S2048x2048_S2048x2048_0_0).toLoadRect (View.loadsAt_vmem h_S2048x2048))
  let v2 : Vec F S2048x512 .f32 ← Prog.lift (.load arg3 (Rect.unit (s := S2048x512) ![0, 0] S2048x512.size inb_S2048x512_S2048x512_0_0).toLoadRect (View.loadsAt_vmem h_S2048x512))

  if k0_h1 : k0_cond1 i = 1#1 then do
    let v62 : FVec F S2048x128 .f32 ← k0_part1 i arg2 harg2 arg3 harg3 arg4 harg4 arg5 harg5 arg6 harg6 arg7 harg7 arg8 harg8 arg9 harg9 arg10 harg10 arg11 harg11 v0 (k0_pay1 v1 v2)
    let v63 : Vec F S1x128 .f32 ← Prog.lift (.load arg4 (Rect.unit (s := S1x128) ![0, 0] S1x128.size inb_S1x128_S1x128_0_0).toLoadRect (View.loadsAt_vmem h_S1x128))

    if k0_h6 : k0_cond6 i = 1#1 then do
      let v101 : Vec F S1024x128 .f32 ← Prog.lift (.load arg6 (Rect.unit (s := S1024x128) ![0, 0] S1024x128.size inb_S1024x128_S1024x128_0_0).toLoadRect (View.loadsAt_vmem h_S1024x128))
      let v102 : Vec F S1024x128 .f32 ← Prog.lift (.load arg7 (Rect.unit (s := S1024x128) ![0, 0] S1024x128.size inb_S1024x128_S1024x128_0_0).toLoadRect (View.loadsAt_vmem h_S1024x128))
      let v104 : Vec F S1024x128 .f32 ← Prog.lift (.load arg8 (Rect.unit (s := S1024x128) ![0, 0] S1024x128.size inb_S1024x128_S1024x128_0_0).toLoadRect (View.loadsAt_vmem h_S1024x128))
      let v113 : Vec F S1024x128 .f32 ← Prog.lift (.load arg9 (Rect.unit (s := S2048x512) ![0, 256] S1024x128.size inb_S2048x512_S1024x128_0_256).toLoadRect (View.loadsAt_vmem h_S1024x128))
      Prog.lift (.store arg9 (Rect.unit (s := S2048x512) ![0, 256] S1024x128.size inb_S2048x512_S1024x128_0_256) (k0_pay3 v62 v63 v101 v102 v104) Finset.univ (View.stores_vmem_bits_univ h_S1024x128 rfl) (.inl rfl))
      let v115 : Vec F S1024x128 .f32 ← Prog.lift (.load arg6 (Rect.unit (s := S1024x128) ![0, 0] S1024x128.size inb_S1024x128_S1024x128_0_0).toLoadRect (View.loadsAt_vmem h_S1024x128))
      let v116 : Vec F S1024x128 .f32 ← Prog.lift (.load arg7 (Rect.unit (s := S1024x128) ![0, 0] S1024x128.size inb_S1024x128_S1024x128_0_0).toLoadRect (View.loadsAt_vmem h_S1024x128))
      let v118 : Vec F S1024x128 .f32 ← Prog.lift (.load arg8 (Rect.unit (s := S1024x128) ![0, 0] S1024x128.size inb_S1024x128_S1024x128_0_0).toLoadRect (View.loadsAt_vmem h_S1024x128))
      let v127 : Vec F S1024x128 .f32 ← Prog.lift (.load arg9 (Rect.unit (s := S2048x512) ![1024, 256] S1024x128.size inb_S2048x512_S1024x128_1024_256).toLoadRect (View.loadsAt_vmem h_S1024x128))
      Prog.lift (.store arg9 (Rect.unit (s := S2048x512) ![1024, 256] S1024x128.size inb_S2048x512_S1024x128_1024_256) (k0_pay4 v62 v63 v115 v116 v118) Finset.univ (View.stores_vmem_bits_univ h_S1024x128 rfl) (.inl rfl))
      pure ⟨⟩
    else do
      pure ⟨⟩

    if k0_h7 : k0_cond7 i = 1#1 then do
      let v100 : Vec F S2048x128 .f32 ← Prog.lift (.load arg9 (Rect.unit (s := S2048x512) ![0, 256] S2048x128.size inb_S2048x512_S2048x128_0_256).toLoadRect (View.loadsAt_vmem h_S2048x128))
      Prog.lift (.store arg9 (Rect.unit (s := S2048x512) ![0, 256] S2048x128.size inb_S2048x512_S2048x128_0_256) (k0_pay2 v62 v63) Finset.univ (View.stores_vmem_bits_univ h_S2048x128 rfl) (.inl rfl))
      pure ⟨⟩
    else do
      pure ⟨⟩
    let v82 : Vec F S1x128 .f32 ← Prog.lift (.load arg4 (Rect.unit (s := S1x128) ![0, 0] S1x128.size inb_S1x128_S1x128_0_0).toLoadRect (View.loadsAt_vmem h_S1x128))

    if k0_h8 : k0_cond8 i = 1#1 then do
      let v101 : Vec F S1024x128 .f32 ← Prog.lift (.load arg6 (Rect.unit (s := S1024x128) ![0, 0] S1024x128.size inb_S1024x128_S1024x128_0_0).toLoadRect (View.loadsAt_vmem h_S1024x128))
      let v102 : Vec F S1024x128 .f32 ← Prog.lift (.load arg7 (Rect.unit (s := S1024x128) ![0, 0] S1024x128.size inb_S1024x128_S1024x128_0_0).toLoadRect (View.loadsAt_vmem h_S1024x128))
      let v104 : Vec F S1024x128 .f32 ← Prog.lift (.load arg8 (Rect.unit (s := S1024x128) ![0, 0] S1024x128.size inb_S1024x128_S1024x128_0_0).toLoadRect (View.loadsAt_vmem h_S1024x128))
      let v113 : Vec F S1024x128 .f32 ← Prog.lift (.load arg9 (Rect.unit (s := S2048x512) ![0, 384] S1024x128.size inb_S2048x512_S1024x128_0_384).toLoadRect (View.loadsAt_vmem h_S1024x128))
      Prog.lift (.store arg9 (Rect.unit (s := S2048x512) ![0, 384] S1024x128.size inb_S2048x512_S1024x128_0_384) (k0_pay6 v1 v2 v82 v101 v102 v104) Finset.univ (View.stores_vmem_bits_univ h_S1024x128 rfl) (.inl rfl))
      let v115 : Vec F S1024x128 .f32 ← Prog.lift (.load arg6 (Rect.unit (s := S1024x128) ![0, 0] S1024x128.size inb_S1024x128_S1024x128_0_0).toLoadRect (View.loadsAt_vmem h_S1024x128))
      let v116 : Vec F S1024x128 .f32 ← Prog.lift (.load arg7 (Rect.unit (s := S1024x128) ![0, 0] S1024x128.size inb_S1024x128_S1024x128_0_0).toLoadRect (View.loadsAt_vmem h_S1024x128))
      let v118 : Vec F S1024x128 .f32 ← Prog.lift (.load arg8 (Rect.unit (s := S1024x128) ![0, 0] S1024x128.size inb_S1024x128_S1024x128_0_0).toLoadRect (View.loadsAt_vmem h_S1024x128))
      let v127 : Vec F S1024x128 .f32 ← Prog.lift (.load arg9 (Rect.unit (s := S2048x512) ![1024, 384] S1024x128.size inb_S2048x512_S1024x128_1024_384).toLoadRect (View.loadsAt_vmem h_S1024x128))
      Prog.lift (.store arg9 (Rect.unit (s := S2048x512) ![1024, 384] S1024x128.size inb_S2048x512_S1024x128_1024_384) (k0_pay7 v1 v2 v82 v115 v116 v118) Finset.univ (View.stores_vmem_bits_univ h_S1024x128 rfl) (.inl rfl))
      pure ⟨⟩
    else do
      pure ⟨⟩

    if k0_h9 : k0_cond9 i = 1#1 then do
      let v100 : Vec F S2048x128 .f32 ← Prog.lift (.load arg9 (Rect.unit (s := S2048x512) ![0, 384] S2048x128.size inb_S2048x512_S2048x128_0_384).toLoadRect (View.loadsAt_vmem h_S2048x128))
      Prog.lift (.store arg9 (Rect.unit (s := S2048x512) ![0, 384] S2048x128.size inb_S2048x512_S2048x128_0_384) (k0_pay5 v1 v2 v82) Finset.univ (View.stores_vmem_bits_univ h_S2048x128 rfl) (.inl rfl))
      pure ⟨⟩
    else do
      pure ⟨⟩
    pure ⟨⟩
  else do
    pure ⟨⟩

  if k0_h10 : k0_cond10 i = 1#1 then do
    let v62 : FVec F S2048x256 .f32 ← k0_part2 i arg2 harg2 arg3 harg3 arg4 harg4 arg5 harg5 arg6 harg6 arg7 harg7 arg8 harg8 arg9 harg9 arg10 harg10 arg11 harg11 v0 (k0_pay1 v1 v2)
    let v63 : Vec F S2048x256 .f32 ← Prog.lift (.load arg9 (Rect.unit (s := S2048x512) ![0, 256] S2048x256.size inb_S2048x512_S2048x256_0_256).toLoadRect (View.loadsAt_vmem h_S2048x256))
    Prog.lift (.store arg9 (Rect.unit (s := S2048x512) ![0, 256] S2048x256.size inb_S2048x512_S2048x256_0_256) v62 Finset.univ (View.stores_vmem_bits_univ h_S2048x256 rfl) (.inl rfl))

    if k0_h15 : k0_cond15 i = 1#1 then do
      let v67 : Vec F S2048x256 .f32 ← Prog.lift (.load arg11 (Rect.unit (s := S2048x256) ![0, 0] S2048x256.size inb_S2048x256_S2048x256_0_0).toLoadRect (View.loadsAt_vmem h_S2048x256))
      Prog.lift (.store arg11 (Rect.unit (s := S2048x256) ![0, 0] S2048x256.size inb_S2048x256_S2048x256_0_0) v62 Finset.univ (View.stores_vmem_bits_univ h_S2048x256 rfl) (.inl rfl))
      pure ⟨⟩
    else do
      pure ⟨⟩
    pure ⟨⟩
  else do
    pure ⟨⟩

  if k0_h16 : k0_cond16 i = 1#1 then do
    let v32 : Vec F S2048x512 .f32 ← Prog.lift (.load arg9 (Rect.unit (s := S2048x512) ![0, 0] S2048x512.size inb_S2048x512_S2048x512_0_0).toLoadRect (View.loadsAt_vmem h_S2048x512))
    Prog.lift (.store arg9 (Rect.unit (s := S2048x512) ![0, 0] S2048x512.size inb_S2048x512_S2048x512_0_0) (k0_pay8 v1 v2) Finset.univ (View.stores_vmem_bits_univ h_S2048x512 rfl) (.inl rfl))
    pure ⟨⟩
  else do
    pure ⟨⟩

  if k0_h17 : k0_cond17 i = 1#1 then do
    let v24 : Vec F S2048x512 .f32 ← Prog.lift (.load arg9 (Rect.unit (s := S2048x512) ![0, 0] S2048x512.size inb_S2048x512_S2048x512_0_0).toLoadRect (View.loadsAt_vmem h_S2048x512))
    Prog.lift (.store arg9 (Rect.unit (s := S2048x512) ![0, 0] S2048x512.size inb_S2048x512_S2048x512_0_0) (k0_pay1 v1 v2) Finset.univ (View.stores_vmem_bits_univ h_S2048x512 rfl) (.inl rfl))
    pure ⟨⟩
  else do
    pure ⟨⟩
  pure ⟨⟩

/-- The body, or a part of it, is its restatement over the named values. -/
theorem cc0_in_projection_eq_skeleton : cc0_in_projection (F := F) = cc0_in_projection_skel (F := F) := rfl

/-- The in-projection body, or a part of it, restated over the named values. -/
noncomputable def k0_part1_skel (i : grid0.Coords) (arg2 : Memref sig .tc .vmem S2048x2048 .bf16) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2048x512 .f32) (harg9 : arg9.IsWhole) (arg10 : Memref sig .tc .vmem S2048x256 .f32) (harg10 : arg10.IsWhole) (arg11 : Memref sig .tc .vmem S2048x256 .f32) (harg11 : arg11.IsWhole) (v0 : BitVec 1) (v5 : FVec F S2048x512 .f32) :
    Prog (TpuEff nD τ sig (Elt F) Λ₀ .tc) (FVec F S2048x128 .f32) := do
  let v25 : Vec F S1x128 .f32 ← Prog.lift (.load arg4 (Rect.unit (s := S1x128) ![0, 0] S1x128.size inb_S1x128_S1x128_0_0).toLoadRect (View.loadsAt_vmem h_S1x128))

  if k0_h2 : k0_cond2 i = 1#1 then do
    let v101 : Vec F S1024x128 .f32 ← Prog.lift (.load arg6 (Rect.unit (s := S1024x128) ![0, 0] S1024x128.size inb_S1024x128_S1024x128_0_0).toLoadRect (View.loadsAt_vmem h_S1024x128))
    let v102 : Vec F S1024x128 .f32 ← Prog.lift (.load arg7 (Rect.unit (s := S1024x128) ![0, 0] S1024x128.size inb_S1024x128_S1024x128_0_0).toLoadRect (View.loadsAt_vmem h_S1024x128))
    let v104 : Vec F S1024x128 .f32 ← Prog.lift (.load arg8 (Rect.unit (s := S1024x128) ![0, 0] S1024x128.size inb_S1024x128_S1024x128_0_0).toLoadRect (View.loadsAt_vmem h_S1024x128))
    let v113 : Vec F S1024x128 .f32 ← Prog.lift (.load arg9 (Rect.unit (s := S2048x512) ![0, 0] S1024x128.size inb_S2048x512_S1024x128_0_0).toLoadRect (View.loadsAt_vmem h_S1024x128))
    Prog.lift (.store arg9 (Rect.unit (s := S2048x512) ![0, 0] S1024x128.size inb_S2048x512_S1024x128_0_0) (k0_pay10 v5 v25 v101 v102 v104) Finset.univ (View.stores_vmem_bits_univ h_S1024x128 rfl) (.inl rfl))
    let v115 : Vec F S1024x128 .f32 ← Prog.lift (.load arg6 (Rect.unit (s := S1024x128) ![0, 0] S1024x128.size inb_S1024x128_S1024x128_0_0).toLoadRect (View.loadsAt_vmem h_S1024x128))
    let v116 : Vec F S1024x128 .f32 ← Prog.lift (.load arg7 (Rect.unit (s := S1024x128) ![0, 0] S1024x128.size inb_S1024x128_S1024x128_0_0).toLoadRect (View.loadsAt_vmem h_S1024x128))
    let v118 : Vec F S1024x128 .f32 ← Prog.lift (.load arg8 (Rect.unit (s := S1024x128) ![0, 0] S1024x128.size inb_S1024x128_S1024x128_0_0).toLoadRect (View.loadsAt_vmem h_S1024x128))
    let v127 : Vec F S1024x128 .f32 ← Prog.lift (.load arg9 (Rect.unit (s := S2048x512) ![1024, 0] S1024x128.size inb_S2048x512_S1024x128_1024_0).toLoadRect (View.loadsAt_vmem h_S1024x128))
    Prog.lift (.store arg9 (Rect.unit (s := S2048x512) ![1024, 0] S1024x128.size inb_S2048x512_S1024x128_1024_0) (k0_pay11 v5 v25 v115 v116 v118) Finset.univ (View.stores_vmem_bits_univ h_S1024x128 rfl) (.inl rfl))
    pure ⟨⟩
  else do
    pure ⟨⟩

  if k0_h3 : k0_cond3 i = 1#1 then do
    let v100 : Vec F S2048x128 .f32 ← Prog.lift (.load arg9 (Rect.unit (s := S2048x512) ![0, 0] S2048x128.size inb_S2048x512_S2048x128_0_0).toLoadRect (View.loadsAt_vmem h_S2048x128))
    Prog.lift (.store arg9 (Rect.unit (s := S2048x512) ![0, 0] S2048x128.size inb_S2048x512_S2048x128_0_0) (k0_pay9 v5 v25) Finset.univ (View.stores_vmem_bits_univ h_S2048x128 rfl) (.inl rfl))
    pure ⟨⟩
  else do
    pure ⟨⟩
  let v44 : Vec F S1x128 .f32 ← Prog.lift (.load arg4 (Rect.unit (s := S1x128) ![0, 0] S1x128.size inb_S1x128_S1x128_0_0).toLoadRect (View.loadsAt_vmem h_S1x128))

  if k0_h4 : k0_cond4 i = 1#1 then do
    let v101 : Vec F S1024x128 .f32 ← Prog.lift (.load arg6 (Rect.unit (s := S1024x128) ![0, 0] S1024x128.size inb_S1024x128_S1024x128_0_0).toLoadRect (View.loadsAt_vmem h_S1024x128))
    let v102 : Vec F S1024x128 .f32 ← Prog.lift (.load arg7 (Rect.unit (s := S1024x128) ![0, 0] S1024x128.size inb_S1024x128_S1024x128_0_0).toLoadRect (View.loadsAt_vmem h_S1024x128))
    let v104 : Vec F S1024x128 .f32 ← Prog.lift (.load arg8 (Rect.unit (s := S1024x128) ![0, 0] S1024x128.size inb_S1024x128_S1024x128_0_0).toLoadRect (View.loadsAt_vmem h_S1024x128))
    let v113 : Vec F S1024x128 .f32 ← Prog.lift (.load arg9 (Rect.unit (s := S2048x512) ![0, 128] S1024x128.size inb_S2048x512_S1024x128_0_128).toLoadRect (View.loadsAt_vmem h_S1024x128))
    Prog.lift (.store arg9 (Rect.unit (s := S2048x512) ![0, 128] S1024x128.size inb_S2048x512_S1024x128_0_128) (k0_pay13 v5 v44 v101 v102 v104) Finset.univ (View.stores_vmem_bits_univ h_S1024x128 rfl) (.inl rfl))
    let v115 : Vec F S1024x128 .f32 ← Prog.lift (.load arg6 (Rect.unit (s := S1024x128) ![0, 0] S1024x128.size inb_S1024x128_S1024x128_0_0).toLoadRect (View.loadsAt_vmem h_S1024x128))
    let v116 : Vec F S1024x128 .f32 ← Prog.lift (.load arg7 (Rect.unit (s := S1024x128) ![0, 0] S1024x128.size inb_S1024x128_S1024x128_0_0).toLoadRect (View.loadsAt_vmem h_S1024x128))
    let v118 : Vec F S1024x128 .f32 ← Prog.lift (.load arg8 (Rect.unit (s := S1024x128) ![0, 0] S1024x128.size inb_S1024x128_S1024x128_0_0).toLoadRect (View.loadsAt_vmem h_S1024x128))
    let v127 : Vec F S1024x128 .f32 ← Prog.lift (.load arg9 (Rect.unit (s := S2048x512) ![1024, 128] S1024x128.size inb_S2048x512_S1024x128_1024_128).toLoadRect (View.loadsAt_vmem h_S1024x128))
    Prog.lift (.store arg9 (Rect.unit (s := S2048x512) ![1024, 128] S1024x128.size inb_S2048x512_S1024x128_1024_128) (k0_pay14 v5 v44 v115 v116 v118) Finset.univ (View.stores_vmem_bits_univ h_S1024x128 rfl) (.inl rfl))
    pure ⟨⟩
  else do
    pure ⟨⟩

  if k0_h5 : k0_cond5 i = 1#1 then do
    let v100 : Vec F S2048x128 .f32 ← Prog.lift (.load arg9 (Rect.unit (s := S2048x512) ![0, 128] S2048x128.size inb_S2048x512_S2048x128_0_128).toLoadRect (View.loadsAt_vmem h_S2048x128))
    Prog.lift (.store arg9 (Rect.unit (s := S2048x512) ![0, 128] S2048x128.size inb_S2048x512_S2048x128_0_128) (k0_pay12 v5 v44) Finset.univ (View.stores_vmem_bits_univ h_S2048x128 rfl) (.inl rfl))
    pure ⟨⟩
  else do
    pure ⟨⟩
  pure (k0_pay15 v5)

/-- The body, or a part of it, is its restatement over the named values. -/
theorem k0_part1_eq_skeleton : k0_part1 (F := F) = k0_part1_skel (F := F) := rfl

/-- The in-projection body, or a part of it, restated over the named values. -/
noncomputable def k0_part2_skel (i : grid0.Coords) (arg2 : Memref sig .tc .vmem S2048x2048 .bf16) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2048x512 .f32) (harg9 : arg9.IsWhole) (arg10 : Memref sig .tc .vmem S2048x256 .f32) (harg10 : arg10.IsWhole) (arg11 : Memref sig .tc .vmem S2048x256 .f32) (harg11 : arg11.IsWhole) (v0 : BitVec 1) (v5 : FVec F S2048x512 .f32) :
    Prog (TpuEff nD τ sig (Elt F) Λ₀ .tc) (FVec F S2048x256 .f32) := do
  let v25 : Vec F S1x128 .f32 ← Prog.lift (.load arg5 (Rect.unit (s := S1x128) ![0, 0] S1x128.size inb_S1x128_S1x128_0_0).toLoadRect (View.loadsAt_vmem h_S1x128))

  if k0_h11 : k0_cond11 i = 1#1 then do
    let v68 : Vec F S1024x128 .f32 ← Prog.lift (.load arg6 (Rect.unit (s := S1024x128) ![0, 0] S1024x128.size inb_S1024x128_S1024x128_0_0).toLoadRect (View.loadsAt_vmem h_S1024x128))
    let v69 : Vec F S1024x128 .f32 ← Prog.lift (.load arg7 (Rect.unit (s := S1024x128) ![0, 0] S1024x128.size inb_S1024x128_S1024x128_0_0).toLoadRect (View.loadsAt_vmem h_S1024x128))
    let v71 : Vec F S1024x128 .f32 ← Prog.lift (.load arg8 (Rect.unit (s := S1024x128) ![0, 0] S1024x128.size inb_S1024x128_S1024x128_0_0).toLoadRect (View.loadsAt_vmem h_S1024x128))
    let v80 : Vec F S1024x128 .f32 ← Prog.lift (.load arg9 (Rect.unit (s := S2048x512) ![0, 0] S1024x128.size inb_S2048x512_S1024x128_0_0).toLoadRect (View.loadsAt_vmem h_S1024x128))
    Prog.lift (.store arg9 (Rect.unit (s := S2048x512) ![0, 0] S1024x128.size inb_S2048x512_S1024x128_0_0) (k0_pay17 v5 v25 v68 v69 v71) Finset.univ (View.stores_vmem_bits_univ h_S1024x128 rfl) (.inl rfl))
    let v82 : Vec F S1024x128 .f32 ← Prog.lift (.load arg6 (Rect.unit (s := S1024x128) ![0, 0] S1024x128.size inb_S1024x128_S1024x128_0_0).toLoadRect (View.loadsAt_vmem h_S1024x128))
    let v83 : Vec F S1024x128 .f32 ← Prog.lift (.load arg7 (Rect.unit (s := S1024x128) ![0, 0] S1024x128.size inb_S1024x128_S1024x128_0_0).toLoadRect (View.loadsAt_vmem h_S1024x128))
    let v85 : Vec F S1024x128 .f32 ← Prog.lift (.load arg8 (Rect.unit (s := S1024x128) ![0, 0] S1024x128.size inb_S1024x128_S1024x128_0_0).toLoadRect (View.loadsAt_vmem h_S1024x128))
    let v94 : Vec F S1024x128 .f32 ← Prog.lift (.load arg9 (Rect.unit (s := S2048x512) ![1024, 0] S1024x128.size inb_S2048x512_S1024x128_1024_0).toLoadRect (View.loadsAt_vmem h_S1024x128))
    Prog.lift (.store arg9 (Rect.unit (s := S2048x512) ![1024, 0] S1024x128.size inb_S2048x512_S1024x128_1024_0) (k0_pay18 v5 v25 v82 v83 v85) Finset.univ (View.stores_vmem_bits_univ h_S1024x128 rfl) (.inl rfl))
    pure ⟨⟩
  else do
    pure ⟨⟩

  if k0_h12 : k0_cond12 i = 1#1 then do
    let v67 : Vec F S2048x128 .f32 ← Prog.lift (.load arg9 (Rect.unit (s := S2048x512) ![0, 0] S2048x128.size inb_S2048x512_S2048x128_0_0).toLoadRect (View.loadsAt_vmem h_S2048x128))
    Prog.lift (.store arg9 (Rect.unit (s := S2048x512) ![0, 0] S2048x128.size inb_S2048x512_S2048x128_0_0) (k0_pay16 v5 v25) Finset.univ (View.stores_vmem_bits_univ h_S2048x128 rfl) (.inl rfl))
    let v68 : Vec F S2048x128 .f32 ← Prog.lift (.load arg10 (Rect.unit (s := S2048x256) ![0, 0] S2048x128.size inb_S2048x256_S2048x128_0_0).toLoadRect (View.loadsAt_vmem h_S2048x128))
    Prog.lift (.store arg10 (Rect.unit (s := S2048x256) ![0, 0] S2048x128.size inb_S2048x256_S2048x128_0_0) (k0_pay16 v5 v25) Finset.univ (View.stores_vmem_bits_univ h_S2048x128 rfl) (.inl rfl))
    pure ⟨⟩
  else do
    pure ⟨⟩
  let v44 : Vec F S1x128 .f32 ← Prog.lift (.load arg5 (Rect.unit (s := S1x128) ![0, 0] S1x128.size inb_S1x128_S1x128_0_0).toLoadRect (View.loadsAt_vmem h_S1x128))

  if k0_h13 : k0_cond13 i = 1#1 then do
    let v68 : Vec F S1024x128 .f32 ← Prog.lift (.load arg6 (Rect.unit (s := S1024x128) ![0, 0] S1024x128.size inb_S1024x128_S1024x128_0_0).toLoadRect (View.loadsAt_vmem h_S1024x128))
    let v69 : Vec F S1024x128 .f32 ← Prog.lift (.load arg7 (Rect.unit (s := S1024x128) ![0, 0] S1024x128.size inb_S1024x128_S1024x128_0_0).toLoadRect (View.loadsAt_vmem h_S1024x128))
    let v71 : Vec F S1024x128 .f32 ← Prog.lift (.load arg8 (Rect.unit (s := S1024x128) ![0, 0] S1024x128.size inb_S1024x128_S1024x128_0_0).toLoadRect (View.loadsAt_vmem h_S1024x128))
    let v80 : Vec F S1024x128 .f32 ← Prog.lift (.load arg9 (Rect.unit (s := S2048x512) ![0, 128] S1024x128.size inb_S2048x512_S1024x128_0_128).toLoadRect (View.loadsAt_vmem h_S1024x128))
    Prog.lift (.store arg9 (Rect.unit (s := S2048x512) ![0, 128] S1024x128.size inb_S2048x512_S1024x128_0_128) (k0_pay20 v5 v44 v68 v69 v71) Finset.univ (View.stores_vmem_bits_univ h_S1024x128 rfl) (.inl rfl))
    let v82 : Vec F S1024x128 .f32 ← Prog.lift (.load arg6 (Rect.unit (s := S1024x128) ![0, 0] S1024x128.size inb_S1024x128_S1024x128_0_0).toLoadRect (View.loadsAt_vmem h_S1024x128))
    let v83 : Vec F S1024x128 .f32 ← Prog.lift (.load arg7 (Rect.unit (s := S1024x128) ![0, 0] S1024x128.size inb_S1024x128_S1024x128_0_0).toLoadRect (View.loadsAt_vmem h_S1024x128))
    let v85 : Vec F S1024x128 .f32 ← Prog.lift (.load arg8 (Rect.unit (s := S1024x128) ![0, 0] S1024x128.size inb_S1024x128_S1024x128_0_0).toLoadRect (View.loadsAt_vmem h_S1024x128))
    let v94 : Vec F S1024x128 .f32 ← Prog.lift (.load arg9 (Rect.unit (s := S2048x512) ![1024, 128] S1024x128.size inb_S2048x512_S1024x128_1024_128).toLoadRect (View.loadsAt_vmem h_S1024x128))
    Prog.lift (.store arg9 (Rect.unit (s := S2048x512) ![1024, 128] S1024x128.size inb_S2048x512_S1024x128_1024_128) (k0_pay21 v5 v44 v82 v83 v85) Finset.univ (View.stores_vmem_bits_univ h_S1024x128 rfl) (.inl rfl))
    pure ⟨⟩
  else do
    pure ⟨⟩

  if k0_h14 : k0_cond14 i = 1#1 then do
    let v67 : Vec F S2048x128 .f32 ← Prog.lift (.load arg9 (Rect.unit (s := S2048x512) ![0, 128] S2048x128.size inb_S2048x512_S2048x128_0_128).toLoadRect (View.loadsAt_vmem h_S2048x128))
    Prog.lift (.store arg9 (Rect.unit (s := S2048x512) ![0, 128] S2048x128.size inb_S2048x512_S2048x128_0_128) (k0_pay19 v5 v44) Finset.univ (View.stores_vmem_bits_univ h_S2048x128 rfl) (.inl rfl))
    let v68 : Vec F S2048x128 .f32 ← Prog.lift (.load arg10 (Rect.unit (s := S2048x256) ![0, 128] S2048x128.size inb_S2048x256_S2048x128_0_128).toLoadRect (View.loadsAt_vmem h_S2048x128))
    Prog.lift (.store arg10 (Rect.unit (s := S2048x256) ![0, 128] S2048x128.size inb_S2048x256_S2048x128_0_128) (k0_pay19 v5 v44) Finset.univ (View.stores_vmem_bits_univ h_S2048x128 rfl) (.inl rfl))
    pure ⟨⟩
  else do
    pure ⟨⟩
  pure (k0_pay22 v5)

/-- The body, or a part of it, is its restatement over the named values. -/
theorem k0_part2_eq_skeleton : k0_part2 (F := F) = k0_part2_skel (F := F) := rfl

end Cert.InProjRun

end
-- ==== Proof.InProjConds.lean ====
/-
  Where the branches of the in-projection body are taken: its grid has three row blocks of
  thirteen column blocks, point t being column block t mod 13 of row block t / 13.
-/
module

public import proofs.«01_k».proof.Proof.InProjSkeleton
public import Idealize.ShloMosaic.Lib.Pipeline.TableIdle

@[expose] public section

set_option synthInstance.maxSize 4096
set_option maxRecDepth 65536

noncomputable section

namespace Cert.InProjRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the branch is taken at a grid point. -/
abbrev cond0_0 (i : grid0.Coords) : Prop := k0_cond1 i = 1#1
/-- Where the branch is taken. -/
theorem hcond0_0 : ∀ t : Fin cfg0.N, cond0_0 (grid0.coords t) ↔ t.val % 13 ≤ 1 :=
  (by decide +kernel : ∀ t : Fin grid0.N, cond0_0 (grid0.coords t) ↔ t.val % 13 ≤ 1)

/-- Whether the branch is taken at a grid point. -/
abbrev cond0_1 (i : grid0.Coords) : Prop := k0_cond2 i = 1#1
/-- Where the branch is taken. -/
theorem hcond0_1 : ∀ t : Fin cfg0.N, cond0_1 (grid0.coords t) ↔ 26 ≤ t.val :=
  (by decide +kernel : ∀ t : Fin grid0.N, cond0_1 (grid0.coords t) ↔ 26 ≤ t.val)

/-- Whether the branch is taken at a grid point. -/
abbrev cond0_2 (i : grid0.Coords) : Prop := k0_cond3 i = 1#1
/-- Where the branch is taken. -/
theorem hcond0_2 : ∀ t : Fin cfg0.N, cond0_2 (grid0.coords t) ↔ t.val < 26 :=
  (by decide +kernel : ∀ t : Fin grid0.N, cond0_2 (grid0.coords t) ↔ t.val < 26)

/-- Whether the branch is taken at a grid point. -/
abbrev cond0_3 (i : grid0.Coords) : Prop := k0_cond4 i = 1#1
/-- Where the branch is taken. -/
theorem hcond0_3 : ∀ t : Fin cfg0.N, cond0_3 (grid0.coords t) ↔ 26 ≤ t.val :=
  (by decide +kernel : ∀ t : Fin grid0.N, cond0_3 (grid0.coords t) ↔ 26 ≤ t.val)

/-- Whether the branch is taken at a grid point. -/
abbrev cond0_4 (i : grid0.Coords) : Prop := k0_cond5 i = 1#1
/-- Where the branch is taken. -/
theorem hcond0_4 : ∀ t : Fin cfg0.N, cond0_4 (grid0.coords t) ↔ t.val < 26 :=
  (by decide +kernel : ∀ t : Fin grid0.N, cond0_4 (grid0.coords t) ↔ t.val < 26)

/-- Whether the branch is taken at a grid point. -/
abbrev cond0_5 (i : grid0.Coords) : Prop := k0_cond6 i = 1#1
/-- Where the branch is taken. -/
theorem hcond0_5 : ∀ t : Fin cfg0.N, cond0_5 (grid0.coords t) ↔ 26 ≤ t.val :=
  (by decide +kernel : ∀ t : Fin grid0.N, cond0_5 (grid0.coords t) ↔ 26 ≤ t.val)

/-- Whether the branch is taken at a grid point. -/
abbrev cond0_6 (i : grid0.Coords) : Prop := k0_cond7 i = 1#1
/-- Where the branch is taken. -/
theorem hcond0_6 : ∀ t : Fin cfg0.N, cond0_6 (grid0.coords t) ↔ t.val < 26 :=
  (by decide +kernel : ∀ t : Fin grid0.N, cond0_6 (grid0.coords t) ↔ t.val < 26)

/-- Whether the branch is taken at a grid point. -/
abbrev cond0_7 (i : grid0.Coords) : Prop := k0_cond8 i = 1#1
/-- Where the branch is taken. -/
theorem hcond0_7 : ∀ t : Fin cfg0.N, cond0_7 (grid0.coords t) ↔ 26 ≤ t.val :=
  (by decide +kernel : ∀ t : Fin grid0.N, cond0_7 (grid0.coords t) ↔ 26 ≤ t.val)

/-- Whether the branch is taken at a grid point. -/
abbrev cond0_8 (i : grid0.Coords) : Prop := k0_cond9 i = 1#1
/-- Where the branch is taken. -/
theorem hcond0_8 : ∀ t : Fin cfg0.N, cond0_8 (grid0.coords t) ↔ t.val < 26 :=
  (by decide +kernel : ∀ t : Fin grid0.N, cond0_8 (grid0.coords t) ↔ t.val < 26)

/-- Whether the branch is taken at a grid point. -/
abbrev cond0_9 (i : grid0.Coords) : Prop := k0_cond10 i = 1#1
/-- Where the branch is taken. -/
theorem hcond0_9 : ∀ t : Fin cfg0.N, cond0_9 (grid0.coords t) ↔ t.val % 13 = 2 :=
  (fun t => by
    have ht : t.val < 39 := Nat.lt_of_lt_of_eq t.isLt N_0
    have e0 : (grid0.coords t 0).val = t.val / 13 % 3 := Pipeline.Grid.coords_val t 0 (by decide) rfl
    have e1 : (grid0.coords t 1).val = t.val / 1 % 13 := Pipeline.Grid.coords_val t 1 (by decide) rfl
    simp only [cond0_9, k0_cond10, e0, e1]
    word_cmp
   : ∀ t : Fin grid0.N, cond0_9 (grid0.coords t) ↔ t.val % 13 = 2)

/-- Whether the branch is taken at a grid point. -/
abbrev cond0_10 (i : grid0.Coords) : Prop := k0_cond16 i = 1#1
/-- Where the branch is taken. -/
theorem hcond0_10 : ∀ t : Fin cfg0.N, cond0_10 (grid0.coords t) ↔ (t.val % 13 = 3 ∨ t.val % 13 = 4 ∨ t.val % 13 = 11 ∨ t.val % 13 = 12) :=
  (by decide +kernel : ∀ t : Fin grid0.N, cond0_10 (grid0.coords t) ↔ (t.val % 13 = 3 ∨ t.val % 13 = 4 ∨ t.val % 13 = 11 ∨ t.val % 13 = 12))

/-- Whether the branch is taken at a grid point. -/
abbrev cond0_11 (i : grid0.Coords) : Prop := k0_cond17 i = 1#1
/-- Where the branch is taken. -/
theorem hcond0_11 : ∀ t : Fin cfg0.N, cond0_11 (grid0.coords t) ↔ (5 ≤ t.val % 13 ∧ t.val % 13 ≤ 10) :=
  (by decide +kernel : ∀ t : Fin grid0.N, cond0_11 (grid0.coords t) ↔ (5 ≤ t.val % 13 ∧ t.val % 13 ≤ 10))

/-- Whether the branch is taken at a grid point. -/
abbrev cond0_12 (i : grid0.Coords) : Prop := k0_cond11 i = 1#1
/-- Where the branch is taken. -/
theorem hcond0_12 : ∀ t : Fin cfg0.N, cond0_12 (grid0.coords t) ↔ 26 ≤ t.val :=
  (by decide +kernel : ∀ t : Fin grid0.N, cond0_12 (grid0.coords t) ↔ 26 ≤ t.val)

/-- Whether the branch is taken at a grid point. -/
abbrev cond0_13 (i : grid0.Coords) : Prop := k0_cond12 i = 1#1
/-- Where the branch is taken. -/
theorem hcond0_13 : ∀ t : Fin cfg0.N, cond0_13 (grid0.coords t) ↔ t.val < 26 :=
  (by decide +kernel : ∀ t : Fin grid0.N, cond0_13 (grid0.coords t) ↔ t.val < 26)

/-- Whether the branch is taken at a grid point. -/
abbrev cond0_14 (i : grid0.Coords) : Prop := k0_cond13 i = 1#1
/-- Where the branch is taken. -/
theorem hcond0_14 : ∀ t : Fin cfg0.N, cond0_14 (grid0.coords t) ↔ 26 ≤ t.val :=
  (by decide +kernel : ∀ t : Fin grid0.N, cond0_14 (grid0.coords t) ↔ 26 ≤ t.val)

/-- Whether the branch is taken at a grid point. -/
abbrev cond0_15 (i : grid0.Coords) : Prop := k0_cond14 i = 1#1
/-- Where the branch is taken. -/
theorem hcond0_15 : ∀ t : Fin cfg0.N, cond0_15 (grid0.coords t) ↔ t.val < 26 :=
  (by decide +kernel : ∀ t : Fin grid0.N, cond0_15 (grid0.coords t) ↔ t.val < 26)

/-- Whether the branch is taken at a grid point. -/
abbrev cond0_16 (i : grid0.Coords) : Prop := k0_cond15 i = 1#1
/-- Where the branch is taken. -/
theorem hcond0_16 : ∀ t : Fin cfg0.N, cond0_16 (grid0.coords t) ↔ t.val < 26 :=
  (by decide +kernel : ∀ t : Fin grid0.N, cond0_16 (grid0.coords t) ↔ t.val < 26)

/-- The full view of an output buffer. -/
abbrev VO0_7 : View sig .tc .vmem S2048x512 .f32 := (Memref.whole cc0_stg7_0 : Memref sig .tc .vmem S2048x512 .f32).view
/-- The full view of an output buffer. -/
abbrev VO0_8 : View sig .tc .vmem S2048x256 .f32 := (Memref.whole cc0_stg8_0 : Memref sig .tc .vmem S2048x256 .f32).view
/-- The full view of an output buffer. -/
abbrev VO0_9 : View sig .tc .vmem S2048x256 .f32 := (Memref.whole cc0_stg9_0 : Memref sig .tc .vmem S2048x256 .f32).view

/-- The buffer a window uses at a point. -/
abbrev ms0_0 (t : Fin cfg0.N) : Memref sig .tc .vmem S2048x2048 .bf16 := win0_0.stage (cfg0.slots t 0)
/-- That buffer is whole. -/
abbrev hs0_0 (t : Fin cfg0.N) : (ms0_0 t).IsWhole := hstage0_0 ((cfg0.slots t 0).cast nbuf0_0)
/-- The buffer a window uses at a point. -/
abbrev ms0_1 (t : Fin cfg0.N) : Memref sig .tc .vmem S2048x512 .f32 := win0_1.stage (cfg0.slots t 1)
/-- That buffer is whole. -/
abbrev hs0_1 (t : Fin cfg0.N) : (ms0_1 t).IsWhole := hstage0_1 ((cfg0.slots t 1).cast nbuf0_1)
/-- The buffer a window uses at a point. -/
abbrev ms0_2 (t : Fin cfg0.N) : Memref sig .tc .vmem S1x128 .f32 := win0_2.stage (cfg0.slots t 2)
/-- That buffer is whole. -/
abbrev hs0_2 (t : Fin cfg0.N) : (ms0_2 t).IsWhole := hstage0_2 ((cfg0.slots t 2).cast nbuf0_2)
/-- The buffer a window uses at a point. -/
abbrev ms0_3 (t : Fin cfg0.N) : Memref sig .tc .vmem S1x128 .f32 := win0_3.stage (cfg0.slots t 3)
/-- That buffer is whole. -/
abbrev hs0_3 (t : Fin cfg0.N) : (ms0_3 t).IsWhole := hstage0_3 ((cfg0.slots t 3).cast nbuf0_3)
/-- The buffer a window uses at a point. -/
abbrev ms0_4 (t : Fin cfg0.N) : Memref sig .tc .vmem S1024x128 .f32 := win0_4.stage (cfg0.slots t 4)
/-- That buffer is whole. -/
abbrev hs0_4 (t : Fin cfg0.N) : (ms0_4 t).IsWhole := hstage0_4 ((cfg0.slots t 4).cast nbuf0_4)
/-- The buffer a window uses at a point. -/
abbrev ms0_5 (t : Fin cfg0.N) : Memref sig .tc .vmem S1024x128 .f32 := win0_5.stage (cfg0.slots t 5)
/-- That buffer is whole. -/
abbrev hs0_5 (t : Fin cfg0.N) : (ms0_5 t).IsWhole := hstage0_5 ((cfg0.slots t 5).cast nbuf0_5)
/-- The buffer a window uses at a point. -/
abbrev ms0_6 (t : Fin cfg0.N) : Memref sig .tc .vmem S1024x128 .f32 := win0_6.stage (cfg0.slots t 6)
/-- That buffer is whole. -/
abbrev hs0_6 (t : Fin cfg0.N) : (ms0_6 t).IsWhole := hstage0_6 ((cfg0.slots t 6).cast nbuf0_6)
/-- The buffer a window uses at a point. -/
abbrev ms0_7 (t : Fin cfg0.N) : Memref sig .tc .vmem S2048x512 .f32 := win0_7.stage (cfg0.slots t 7)
/-- That buffer is whole. -/
abbrev hs0_7 (t : Fin cfg0.N) : (ms0_7 t).IsWhole := hstage0_7 ((cfg0.slots t 7).cast nbuf0_7)
/-- The buffer a window uses at a point. -/
abbrev ms0_8 (t : Fin cfg0.N) : Memref sig .tc .vmem S2048x256 .f32 := win0_8.stage (cfg0.slots t 8)
/-- That buffer is whole. -/
abbrev hs0_8 (t : Fin cfg0.N) : (ms0_8 t).IsWhole := hstage0_8 ((cfg0.slots t 8).cast nbuf0_8)
/-- The buffer a window uses at a point. -/
abbrev ms0_9 (t : Fin cfg0.N) : Memref sig .tc .vmem S2048x256 .f32 := win0_9.stage (cfg0.slots t 9)
/-- That buffer is whole. -/
abbrev hs0_9 (t : Fin cfg0.N) : (ms0_9 t).IsWhole := hstage0_9 ((cfg0.slots t 9).cast nbuf0_9)

end Cert.InProjRun

end
-- ==== Proof.InProjRunC.lean ====
/-
  The in-projection body run once on the columns a silu is applied to: from the buffers at
  given contents it ends with the inputs as they were and each output at a list of written pieces.
-/
module

public import proofs.«01_k».proof.Proof.InProjConds

@[expose] public section

set_option synthInstance.maxSize 4096
set_option maxRecDepth 65536

noncomputable section

namespace Cert.InProjRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on the columns a silu is applied to, with the pieces it leaves in each output buffer. -/
noncomputable def kernelRun0_C (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2048x512 .f32) (harg9 : arg9.IsWhole) (arg10 : Memref sig .tc .vmem S2048x256 .f32) (harg10 : arg10.IsWhole) (arg11 : Memref sig .tc .vmem S2048x256 .f32) (harg11 : arg11.IsWhole) (hc0 : ¬cond0_0 i) (hc9 : ¬cond0_9 i) (hc10 : cond0_10 i) (hc11 : ¬cond0_11 i)
    (x0 : Vec F S2048x2048 .bf16) (x1 : Vec F S2048x512 .f32) (x2 : Vec F S1x128 .f32) (x3 : Vec F S1x128 .f32) (x4 : Vec F S1024x128 .f32) (x5 : Vec F S1024x128 .f32) (x6 : Vec F S1024x128 .f32) :
    { L7 : List (View.Piece (Elt F) S2048x512 .f32) //
      ∀ (xi8 : Vec F S2048x256 .f32) (xi9 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9) -∗ K ⟨⟩))
          ⊢ wp frame (wpE (defs₀ (F := F)) Variants.none c none) E (cc0_in_projection i arg2 harg2 arg3 harg3 arg4 harg4 arg5 harg5 arg6 harg6 arg7 harg7 arg8 harg8 arg9 harg9 arg10 harg10 arg11 harg11) K } := by
  refine ⟨?_, fun xi8 xi9 E K => ?run⟩
  case run =>
    simp only [cc0_in_projection_eq_skeleton]; unfold cc0_in_projection_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0 | sl_exact hc9 | sl_exact hc10 | sl_exact hc11)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact H9

end Cert.InProjRun

end
-- ==== Proof.InProjRunD.lean ====
/-
  The in-projection body run once on the columns copied as they are: from the buffers at
  given contents it ends with the inputs as they were and each output at a list of written pieces.
-/
module

public import proofs.«01_k».proof.Proof.InProjConds

@[expose] public section

set_option synthInstance.maxSize 4096
set_option maxRecDepth 65536

noncomputable section

namespace Cert.InProjRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on the columns copied as they are, with the pieces it leaves in each output buffer. -/
noncomputable def kernelRun0_D (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2048x512 .f32) (harg9 : arg9.IsWhole) (arg10 : Memref sig .tc .vmem S2048x256 .f32) (harg10 : arg10.IsWhole) (arg11 : Memref sig .tc .vmem S2048x256 .f32) (harg11 : arg11.IsWhole) (hc0 : ¬cond0_0 i) (hc9 : ¬cond0_9 i) (hc10 : ¬cond0_10 i) (hc11 : cond0_11 i)
    (x0 : Vec F S2048x2048 .bf16) (x1 : Vec F S2048x512 .f32) (x2 : Vec F S1x128 .f32) (x3 : Vec F S1x128 .f32) (x4 : Vec F S1024x128 .f32) (x5 : Vec F S1024x128 .f32) (x6 : Vec F S1024x128 .f32) :
    { L7 : List (View.Piece (Elt F) S2048x512 .f32) //
      ∀ (xi8 : Vec F S2048x256 .f32) (xi9 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9) -∗ K ⟨⟩))
          ⊢ wp frame (wpE (defs₀ (F := F)) Variants.none c none) E (cc0_in_projection i arg2 harg2 arg3 harg3 arg4 harg4 arg5 harg5 arg6 harg6 arg7 harg7 arg8 harg8 arg9 harg9 arg10 harg10 arg11 harg11) K } := by
  refine ⟨?_, fun xi8 xi9 E K => ?run⟩
  case run =>
    simp only [cc0_in_projection_eq_skeleton]; unfold cc0_in_projection_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0 | sl_exact hc9 | sl_exact hc10 | sl_exact hc11)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact H9

end Cert.InProjRun

end
-- ==== Proof.InProjRunA.lean ====
/-
  The in-projection body run once on the query columns of the prompt rows: from the buffers at
  given contents it ends with the inputs as they were and each output at a list of written pieces.
-/
module

public import proofs.«01_k».proof.Proof.InProjConds

@[expose] public section

set_option synthInstance.maxSize 4096
set_option maxRecDepth 65536

noncomputable section

namespace Cert.InProjRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on the query columns of the prompt rows, with the pieces it leaves in each output buffer. -/
noncomputable def kernelRun0_A (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2048x512 .f32) (harg9 : arg9.IsWhole) (arg10 : Memref sig .tc .vmem S2048x256 .f32) (harg10 : arg10.IsWhole) (arg11 : Memref sig .tc .vmem S2048x256 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : ¬cond0_10 i) (hc11 : ¬cond0_11 i)
    (x0 : Vec F S2048x2048 .bf16) (x1 : Vec F S2048x512 .f32) (x2 : Vec F S1x128 .f32) (x3 : Vec F S1x128 .f32) (x4 : Vec F S1024x128 .f32) (x5 : Vec F S1024x128 .f32) (x6 : Vec F S1024x128 .f32) :
    { L7 : List (View.Piece (Elt F) S2048x512 .f32) //
      ∀ (xi8 : Vec F S2048x256 .f32) (xi9 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9) -∗ K ⟨⟩))
          ⊢ wp frame (wpE (defs₀ (F := F)) Variants.none c none) E (cc0_in_projection i arg2 harg2 arg3 harg3 arg4 harg4 arg5 harg5 arg6 harg6 arg7 harg7 arg8 harg8 arg9 harg9 arg10 harg10 arg11 harg11) K } := by
  refine ⟨?_, fun xi8 xi9 E K => ?run⟩
  case run =>
    simp only [cc0_in_projection_eq_skeleton]; unfold cc0_in_projection_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact H9

end Cert.InProjRun

end
-- ==== Proof.InProjRunE.lean ====
/-
  The in-projection body run once on the query columns of the latent rows: from the buffers at
  given contents it ends with the inputs as they were and each output at a list of written pieces.
-/
module

public import proofs.«01_k».proof.Proof.InProjRunA

@[expose] public section

set_option synthInstance.maxSize 4096
set_option maxRecDepth 65536

noncomputable section

namespace Cert.InProjRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on the query columns of the latent rows, with the pieces it leaves in each output buffer. -/
noncomputable def kernelRun0_E (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2048x512 .f32) (harg9 : arg9.IsWhole) (arg10 : Memref sig .tc .vmem S2048x256 .f32) (harg10 : arg10.IsWhole) (arg11 : Memref sig .tc .vmem S2048x256 .f32) (harg11 : arg11.IsWhole) (hc0 : cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : ¬cond0_9 i) (hc10 : ¬cond0_10 i) (hc11 : ¬cond0_11 i)
    (x0 : Vec F S2048x2048 .bf16) (x1 : Vec F S2048x512 .f32) (x2 : Vec F S1x128 .f32) (x3 : Vec F S1x128 .f32) (x4 : Vec F S1024x128 .f32) (x5 : Vec F S1024x128 .f32) (x6 : Vec F S1024x128 .f32) :
    { L7 : List (View.Piece (Elt F) S2048x512 .f32) //
      ∀ (xi8 : Vec F S2048x256 .f32) (xi9 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9) -∗ K ⟨⟩))
          ⊢ wp frame (wpE (defs₀ (F := F)) Variants.none c none) E (cc0_in_projection i arg2 harg2 arg3 harg3 arg4 harg4 arg5 harg5 arg6 harg6 arg7 harg7 arg8 harg8 arg9 harg9 arg10 harg10 arg11 harg11) K } := by
  refine ⟨?_, fun xi8 xi9 E K => ?run⟩
  case run =>
    simp only [cc0_in_projection_eq_skeleton]; unfold cc0_in_projection_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact H9

end Cert.InProjRun

end
-- ==== Proof.InProjRunB.lean ====
/-
  The in-projection body run once on the key columns of the prompt rows: from the buffers at
  given contents it ends with the inputs as they were and each output at a list of written pieces.
-/
module

public import proofs.«01_k».proof.Proof.InProjConds

@[expose] public section

set_option synthInstance.maxSize 4096
set_option maxRecDepth 65536

noncomputable section

namespace Cert.InProjRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on the key columns of the prompt rows, with the pieces it leaves in each output buffer. -/
noncomputable def kernelRun0_B (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2048x512 .f32) (harg9 : arg9.IsWhole) (arg10 : Memref sig .tc .vmem S2048x256 .f32) (harg10 : arg10.IsWhole) (arg11 : Memref sig .tc .vmem S2048x256 .f32) (harg11 : arg11.IsWhole) (hc0 : ¬cond0_0 i) (hc9 : cond0_9 i) (hc10 : ¬cond0_10 i) (hc11 : ¬cond0_11 i) (hc12 : ¬cond0_12 i) (hc13 : cond0_13 i) (hc14 : ¬cond0_14 i) (hc15 : cond0_15 i) (hc16 : cond0_16 i)
    (x0 : Vec F S2048x2048 .bf16) (x1 : Vec F S2048x512 .f32) (x2 : Vec F S1x128 .f32) (x3 : Vec F S1x128 .f32) (x4 : Vec F S1024x128 .f32) (x5 : Vec F S1024x128 .f32) (x6 : Vec F S1024x128 .f32) :
    Σ' (L7 : List (View.Piece (Elt F) S2048x512 .f32)), Σ' (L8 : List (View.Piece (Elt F) S2048x256 .f32)), { L9 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0_in_projection i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_in_projection_eq_skeleton]; unfold cc0_in_projection_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc9 | sl_exact hc10 | sl_exact hc11 | sl_exact hc12 | sl_exact hc13 | sl_exact hc14 | sl_exact hc15 | sl_exact hc16)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

end Cert.InProjRun

end
-- ==== Proof.InProjRunF.lean ====
/-
  The in-projection body run once on the key columns of the latent rows: from the buffers at
  given contents it ends with the inputs as they were and each output at a list of written pieces.
-/
module

public import proofs.«01_k».proof.Proof.InProjRunB

@[expose] public section

set_option synthInstance.maxSize 4096
set_option maxRecDepth 65536

noncomputable section

namespace Cert.InProjRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on the key columns of the latent rows, with the pieces it leaves in each output buffer. -/
noncomputable def kernelRun0_F (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S2048x512 .f32) (harg9 : arg9.IsWhole) (arg10 : Memref sig .tc .vmem S2048x256 .f32) (harg10 : arg10.IsWhole) (arg11 : Memref sig .tc .vmem S2048x256 .f32) (harg11 : arg11.IsWhole) (hc0 : ¬cond0_0 i) (hc9 : cond0_9 i) (hc10 : ¬cond0_10 i) (hc11 : ¬cond0_11 i) (hc12 : cond0_12 i) (hc13 : ¬cond0_13 i) (hc14 : cond0_14 i) (hc15 : ¬cond0_15 i) (hc16 : ¬cond0_16 i)
    (x0 : Vec F S2048x2048 .bf16) (x1 : Vec F S2048x512 .f32) (x2 : Vec F S1x128 .f32) (x3 : Vec F S1x128 .f32) (x4 : Vec F S1024x128 .f32) (x5 : Vec F S1024x128 .f32) (x6 : Vec F S1024x128 .f32) :
    { L7 : List (View.Piece (Elt F) S2048x512 .f32) //
      ∀ (xi8 : Vec F S2048x256 .f32) (xi9 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9) -∗ K ⟨⟩))
          ⊢ wp frame (wpE (defs₀ (F := F)) Variants.none c none) E (cc0_in_projection i arg2 harg2 arg3 harg3 arg4 harg4 arg5 harg5 arg6 harg6 arg7 harg7 arg8 harg8 arg9 harg9 arg10 harg10 arg11 harg11) K } := by
  refine ⟨?_, fun xi8 xi9 E K => ?run⟩
  case run =>
    simp only [cc0_in_projection_eq_skeleton]; unfold cc0_in_projection_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0 | sl_exact hc9 | sl_exact hc10 | sl_exact hc11 | sl_exact hc12 | sl_exact hc13 | sl_exact hc14 | sl_exact hc15 | sl_exact hc16)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact H9

end Cert.InProjRun

end
-- ==== Proof.InProjFrame.lean ====
/-
  The in-projection kernel runs: its body at each grid point, what the point leaves in the three
  output buffers, and the whole pipeline. The two key/value buffers are written at one point of
  each of the first two row blocks and handed on unchanged until they are written back.
-/
module

public import proofs.«01_k».proof.Proof.InProjRunC
public import proofs.«01_k».proof.Proof.InProjRunD
public import proofs.«01_k».proof.Proof.InProjRunE
public import proofs.«01_k».proof.Proof.InProjRunF
public import Idealize.ShloMosaic.Lib.Claim

@[expose] public section

set_option synthInstance.maxSize 4096
set_option maxRecDepth 65536

noncomputable section

namespace Cert.InProjRun

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a point of the query columns of the prompt rows. -/
def runA (c : Dev nD) (t : Fin cfg0.N) (h : t.val % 13 ≤ 1 ∧ t.val < 26) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    ((hcond0_0 t).mpr (by omega)) (fun q => absurd ((hcond0_1 t).mp q) (by omega)) ((hcond0_2 t).mpr (by omega)) (fun q => absurd ((hcond0_3 t).mp q) (by omega)) ((hcond0_4 t).mpr (by omega)) (fun q => absurd ((hcond0_5 t).mp q) (by omega)) ((hcond0_6 t).mpr (by omega)) (fun q => absurd ((hcond0_7 t).mp q) (by omega)) ((hcond0_8 t).mpr (by omega)) (fun q => absurd ((hcond0_9 t).mp q) (by omega)) (fun q => absurd ((hcond0_10 t).mp q) (by omega)) (fun q => absurd ((hcond0_11 t).mp q) (by omega))
    (iblk m c 0 t) (iblk m c 1 t) (iblk m c 2 t) (iblk m c 3 t) (iblk m c 4 t) (iblk m c 5 t) (iblk m c 6 t)

/-- The body's run at a point of the key columns of the prompt rows. -/
def runB (c : Dev nD) (t : Fin cfg0.N) (h : t.val % 13 = 2 ∧ t.val < 26) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (fun q => absurd ((hcond0_0 t).mp q) (by omega)) ((hcond0_9 t).mpr (by omega)) (fun q => absurd ((hcond0_10 t).mp q) (by omega)) (fun q => absurd ((hcond0_11 t).mp q) (by omega)) (fun q => absurd ((hcond0_12 t).mp q) (by omega)) ((hcond0_13 t).mpr (by omega)) (fun q => absurd ((hcond0_14 t).mp q) (by omega)) ((hcond0_15 t).mpr (by omega)) ((hcond0_16 t).mpr (by omega))
    (iblk m c 0 t) (iblk m c 1 t) (iblk m c 2 t) (iblk m c 3 t) (iblk m c 4 t) (iblk m c 5 t) (iblk m c 6 t)

/-- The body's run at a point of the columns a silu is applied to. -/
def runC (c : Dev nD) (t : Fin cfg0.N) (h : t.val % 13 = 3 ∨ t.val % 13 = 4 ∨ t.val % 13 = 11 ∨ t.val % 13 = 12) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (fun q => absurd ((hcond0_0 t).mp q) (by omega)) (fun q => absurd ((hcond0_9 t).mp q) (by omega)) ((hcond0_10 t).mpr (by omega)) (fun q => absurd ((hcond0_11 t).mp q) (by omega))
    (iblk m c 0 t) (iblk m c 1 t) (iblk m c 2 t) (iblk m c 3 t) (iblk m c 4 t) (iblk m c 5 t) (iblk m c 6 t)

/-- The body's run at a point of the columns copied as they are. -/
def runD (c : Dev nD) (t : Fin cfg0.N) (h : 5 ≤ t.val % 13 ∧ t.val % 13 ≤ 10) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (fun q => absurd ((hcond0_0 t).mp q) (by omega)) (fun q => absurd ((hcond0_9 t).mp q) (by omega)) (fun q => absurd ((hcond0_10 t).mp q) (by omega)) ((hcond0_11 t).mpr (by omega))
    (iblk m c 0 t) (iblk m c 1 t) (iblk m c 2 t) (iblk m c 3 t) (iblk m c 4 t) (iblk m c 5 t) (iblk m c 6 t)

/-- The body's run at a point of the query columns of the latent rows. -/
def runE (c : Dev nD) (t : Fin cfg0.N) (h : t.val % 13 ≤ 1 ∧ 26 ≤ t.val) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    ((hcond0_0 t).mpr (by omega)) ((hcond0_1 t).mpr (by omega)) (fun q => absurd ((hcond0_2 t).mp q) (by omega)) ((hcond0_3 t).mpr (by omega)) (fun q => absurd ((hcond0_4 t).mp q) (by omega)) ((hcond0_5 t).mpr (by omega)) (fun q => absurd ((hcond0_6 t).mp q) (by omega)) ((hcond0_7 t).mpr (by omega)) (fun q => absurd ((hcond0_8 t).mp q) (by omega)) (fun q => absurd ((hcond0_9 t).mp q) (by omega)) (fun q => absurd ((hcond0_10 t).mp q) (by omega)) (fun q => absurd ((hcond0_11 t).mp q) (by omega))
    (iblk m c 0 t) (iblk m c 1 t) (iblk m c 2 t) (iblk m c 3 t) (iblk m c 4 t) (iblk m c 5 t) (iblk m c 6 t)

/-- The body's run at a point of the key columns of the latent rows. -/
def runF (c : Dev nD) (t : Fin cfg0.N) (h : t.val % 13 = 2 ∧ 26 ≤ t.val) :=
  kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (fun q => absurd ((hcond0_0 t).mp q) (by omega)) ((hcond0_9 t).mpr (by omega)) (fun q => absurd ((hcond0_10 t).mp q) (by omega)) (fun q => absurd ((hcond0_11 t).mp q) (by omega)) ((hcond0_12 t).mpr (by omega)) (fun q => absurd ((hcond0_13 t).mp q) (by omega)) ((hcond0_14 t).mpr (by omega)) (fun q => absurd ((hcond0_15 t).mp q) (by omega)) (fun q => absurd ((hcond0_16 t).mp q) (by omega))
    (iblk m c 0 t) (iblk m c 1 t) (iblk m c 2 t) (iblk m c 3 t) (iblk m c 4 t) (iblk m c 5 t) (iblk m c 6 t)

/-- Its pieces cover the block of output window 7. -/
theorem coverA_7 (c : Dev nD) (t : Fin cfg0.N) (h : t.val % 13 ≤ 1 ∧ t.val < 26) (y : S2048x512.Idx) :
    ∃ pc ∈ (runA m c t h).1, y ∈ pc.1.set :=
  View.cover_of_tiledL (runA m c t h).1 S2048x128.size (by sl_kernel_rfl) y

/-- Its pieces cover the block of output window 7. -/
theorem coverB_7 (c : Dev nD) (t : Fin cfg0.N) (h : t.val % 13 = 2 ∧ t.val < 26) (y : S2048x512.Idx) :
    ∃ pc ∈ (runB m c t h).1, y ∈ pc.1.set :=
  View.cover_of_tiledBy (runB m c t h).1 ![2048, 128] (by sl_kernel_rfl) y

/-- Its pieces cover the block of output window 8. -/
theorem coverB_8 (c : Dev nD) (t : Fin cfg0.N) (h : t.val % 13 = 2 ∧ t.val < 26) (y : S2048x256.Idx) :
    ∃ pc ∈ (runB m c t h).2.1, y ∈ pc.1.set :=
  View.cover_of_tiledL (runB m c t h).2.1 S2048x128.size (by sl_kernel_rfl) y

/-- Its pieces cover the block of output window 9. -/
theorem coverB_9 (c : Dev nD) (t : Fin cfg0.N) (h : t.val % 13 = 2 ∧ t.val < 26) (y : S2048x256.Idx) :
    ∃ pc ∈ (runB m c t h).2.2.1, y ∈ pc.1.set :=
  View.cover_of_tiledL (runB m c t h).2.2.1 S2048x256.size (by sl_kernel_rfl) y

/-- Its pieces cover the block of output window 7. -/
theorem coverC_7 (c : Dev nD) (t : Fin cfg0.N) (h : t.val % 13 = 3 ∨ t.val % 13 = 4 ∨ t.val % 13 = 11 ∨ t.val % 13 = 12) (y : S2048x512.Idx) :
    ∃ pc ∈ (runC m c t h).1, y ∈ pc.1.set :=
  View.cover_of_tiledL (runC m c t h).1 S2048x512.size (by sl_kernel_rfl) y

/-- Its pieces cover the block of output window 7. -/
theorem coverD_7 (c : Dev nD) (t : Fin cfg0.N) (h : 5 ≤ t.val % 13 ∧ t.val % 13 ≤ 10) (y : S2048x512.Idx) :
    ∃ pc ∈ (runD m c t h).1, y ∈ pc.1.set :=
  View.cover_of_tiledL (runD m c t h).1 S2048x512.size (by sl_kernel_rfl) y

/-- Its pieces cover the block of output window 7. -/
theorem coverE_7 (c : Dev nD) (t : Fin cfg0.N) (h : t.val % 13 ≤ 1 ∧ 26 ≤ t.val) (y : S2048x512.Idx) :
    ∃ pc ∈ (runE m c t h).1, y ∈ pc.1.set :=
  View.cover_of_tiledL (runE m c t h).1 S1024x128.size (by sl_kernel_rfl) y

/-- Its pieces cover the block of output window 7. -/
theorem coverF_7 (c : Dev nD) (t : Fin cfg0.N) (h : t.val % 13 = 2 ∧ 26 ≤ t.val) (y : S2048x512.Idx) :
    ∃ pc ∈ (runF m c t h).1, y ∈ pc.1.set :=
  View.cover_of_tiledBy (runF m c t h).1 ![1024, 128] (by sl_kernel_rfl) y

/-- What the body leaves in the projection's buffer at a point. -/
def out7 (c : Dev nD) (t : Fin cfg0.N) : Vec F S2048x512 .f32 :=
  if h : t.val % 13 ≤ 1 ∧ t.val < 26 then VO0_7.read (Elt F) (VO0_7.writes (Elt F) VO0_7.junk (runA m c t h).1) else
  if h : t.val % 13 = 2 ∧ t.val < 26 then VO0_7.read (Elt F) (VO0_7.writes (Elt F) VO0_7.junk (runB m c t h).1) else
  if h : t.val % 13 ≤ 1 ∧ 26 ≤ t.val then VO0_7.read (Elt F) (VO0_7.writes (Elt F) VO0_7.junk (runE m c t h).1) else
  if h : t.val % 13 = 2 ∧ 26 ≤ t.val then VO0_7.read (Elt F) (VO0_7.writes (Elt F) VO0_7.junk (runF m c t h).1) else
  if h : t.val % 13 = 3 ∨ t.val % 13 = 4 ∨ t.val % 13 = 11 ∨ t.val % 13 = 12 then VO0_7.read (Elt F) (VO0_7.writes (Elt F) VO0_7.junk (runC m c t h).1) else
  if h : 5 ≤ t.val % 13 ∧ t.val % 13 ≤ 10 then VO0_7.read (Elt F) (VO0_7.writes (Elt F) VO0_7.junk (runD m c t h).1) else
  VO0_7.read (Elt F) VO0_7.junk

/-- The projection's buffer at a point of the query columns of the prompt rows. -/
theorem out7_A (c : Dev nD) (t : Fin cfg0.N) (h : t.val % 13 ≤ 1 ∧ t.val < 26) :
    out7 m c t = VO0_7.read (Elt F) (VO0_7.writes (Elt F) VO0_7.junk (runA m c t h).1) := by
  unfold out7
  rw [dif_pos h]

/-- The projection's buffer at a point of the key columns of the prompt rows. -/
theorem out7_B (c : Dev nD) (t : Fin cfg0.N) (h : t.val % 13 = 2 ∧ t.val < 26) :
    out7 m c t = VO0_7.read (Elt F) (VO0_7.writes (Elt F) VO0_7.junk (runB m c t h).1) := by
  unfold out7
  rw [dif_neg (by omega), dif_pos h]

/-- The projection's buffer at a point of the query columns of the latent rows. -/
theorem out7_E (c : Dev nD) (t : Fin cfg0.N) (h : t.val % 13 ≤ 1 ∧ 26 ≤ t.val) :
    out7 m c t = VO0_7.read (Elt F) (VO0_7.writes (Elt F) VO0_7.junk (runE m c t h).1) := by
  unfold out7
  rw [dif_neg (by omega), dif_neg (by omega), dif_pos h]

/-- The projection's buffer at a point of the key columns of the latent rows. -/
theorem out7_F (c : Dev nD) (t : Fin cfg0.N) (h : t.val % 13 = 2 ∧ 26 ≤ t.val) :
    out7 m c t = VO0_7.read (Elt F) (VO0_7.writes (Elt F) VO0_7.junk (runF m c t h).1) := by
  unfold out7
  rw [dif_neg (by omega), dif_neg (by omega), dif_neg (by omega), dif_pos h]

/-- The projection's buffer at a point of the columns a silu is applied to. -/
theorem out7_C (c : Dev nD) (t : Fin cfg0.N) (h : t.val % 13 = 3 ∨ t.val % 13 = 4 ∨ t.val % 13 = 11 ∨ t.val % 13 = 12) :
    out7 m c t = VO0_7.read (Elt F) (VO0_7.writes (Elt F) VO0_7.junk (runC m c t h).1) := by
  unfold out7
  rw [dif_neg (by omega), dif_neg (by omega), dif_neg (by omega), dif_neg (by omega), dif_pos h]

/-- The projection's buffer at a point of the columns copied as they are. -/
theorem out7_D (c : Dev nD) (t : Fin cfg0.N) (h : 5 ≤ t.val % 13 ∧ t.val % 13 ≤ 10) :
    out7 m c t = VO0_7.read (Elt F) (VO0_7.writes (Elt F) VO0_7.junk (runD m c t h).1) := by
  unfold out7
  rw [dif_neg (by omega), dif_neg (by omega), dif_neg (by omega), dif_neg (by omega), dif_neg (by omega), dif_pos h]

/-- The point whose keys and values the two key/value buffers hold at a point: column block 2 of
    the first row block there, of the second one after it. -/
def src (t : Fin cfg0.N) : Fin cfg0.N :=
  if t.val < 13 then ⟨2, by rw [show cfg0.N = 39 from N_0]; omega⟩ else ⟨15, by rw [show cfg0.N = 39 from N_0]; omega⟩

/-- That point is one where keys and values are stored. -/
theorem src_B (t : Fin cfg0.N) : (src t).val % 13 = 2 ∧ (src t).val < 26 := by
  unfold src; split <;> exact ⟨rfl, by dsimp only; omega⟩

/-- At a point where they are stored it is the point itself. -/
theorem src_self (t : Fin cfg0.N) (h : t.val % 13 = 2 ∧ t.val < 26) : src t = t := by
  have : t.val = 2 ∨ t.val = 15 := by omega
  apply Fin.ext
  unfold src; rcases this with e | e
  · rw [if_pos (by omega)]; exact e.symm
  · rw [if_neg (by omega)]; exact e.symm

/-- It does not change from a point to the next except between the row blocks. -/
theorem src_pred (t : Fin cfg0.N) (h : t.val ≠ 13) : src ⟨t.val - 1, by omega⟩ = src t := by
  unfold src; dsimp only
  by_cases q : t.val < 13
  · rw [if_pos (by omega), if_pos q]
  · rw [if_neg (by omega), if_neg q]

/-- What the first key/value buffer holds after a point. -/
def out8 (c : Dev nD) (t : Fin cfg0.N) : Vec F S2048x256 .f32 :=
  VO0_8.read (Elt F) (VO0_8.writes (Elt F) VO0_8.junk (runB m c (src t) (src_B t)).2.1)

/-- What the second one holds. -/
def out9 (c : Dev nD) (t : Fin cfg0.N) : Vec F S2048x256 .f32 :=
  VO0_9.read (Elt F) (VO0_9.writes (Elt F) VO0_9.junk (runB m c (src t) (src_B t)).2.2.1)

/-- Both at a point of the stored keys. -/
theorem out8_B (c : Dev nD) (t : Fin cfg0.N) (h : t.val % 13 = 2 ∧ t.val < 26) :
    out8 m c t = VO0_8.read (Elt F) (VO0_8.writes (Elt F) VO0_8.junk (runB m c t h).2.1) := by
  have key : ∀ s (hs : s.val % 13 = 2 ∧ s.val < 26), s = t → (runB m c s hs).2.1 = (runB m c t h).2.1 := by
    intro s hs e; subst e; rfl
  unfold out8; rw [key _ (src_B t) (src_self t h)]

/-- The second one there. -/
theorem out9_B (c : Dev nD) (t : Fin cfg0.N) (h : t.val % 13 = 2 ∧ t.val < 26) :
    out9 m c t = VO0_9.read (Elt F) (VO0_9.writes (Elt F) VO0_9.junk (runB m c t h).2.2.1) := by
  have key : ∀ s (hs : s.val % 13 = 2 ∧ s.val < 26), s = t → (runB m c s hs).2.2.1 = (runB m c t h).2.2.1 := by
    intro s hs e; subst e; rfl
  unfold out9; rw [key _ (src_B t) (src_self t h)]

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
  Φ _ := Pipeline.ΦA spec0 c
  q _ := fullShare
  owed _ := 0

/-- The arrays are the contents at the pipeline's entry. -/
theorem A_eq (c : Dev nD) (w : Fin cfg0.W) : (dats m 0 c).A w = V m c (Pipeline.arrRef spec0 w) := by
  dsimp only [dats]

/-- Window 0 after a point. -/
theorem after0_0 (c : Dev nD) (t : Fin cfg0.N) : (dats m 0 c).after 0 t = iblk m c 0 t := by dsimp only [dats]
/-- Window 1 after a point. -/
theorem after0_1 (c : Dev nD) (t : Fin cfg0.N) : (dats m 0 c).after 1 t = iblk m c 1 t := by dsimp only [dats]
/-- Window 2 after a point. -/
theorem after0_2 (c : Dev nD) (t : Fin cfg0.N) : (dats m 0 c).after 2 t = iblk m c 2 t := by dsimp only [dats]
/-- Window 3 after a point. -/
theorem after0_3 (c : Dev nD) (t : Fin cfg0.N) : (dats m 0 c).after 3 t = iblk m c 3 t := by dsimp only [dats]
/-- Window 4 after a point. -/
theorem after0_4 (c : Dev nD) (t : Fin cfg0.N) : (dats m 0 c).after 4 t = iblk m c 4 t := by dsimp only [dats]
/-- Window 5 after a point. -/
theorem after0_5 (c : Dev nD) (t : Fin cfg0.N) : (dats m 0 c).after 5 t = iblk m c 5 t := by dsimp only [dats]
/-- Window 6 after a point. -/
theorem after0_6 (c : Dev nD) (t : Fin cfg0.N) : (dats m 0 c).after 6 t = iblk m c 6 t := by dsimp only [dats]
/-- Window 7 after a point. -/
theorem after0_7 (c : Dev nD) (t : Fin cfg0.N) : (dats m 0 c).after 7 t = out7 m c t := by dsimp only [dats]
/-- Window 8 after a point. -/
theorem after0_8 (c : Dev nD) (t : Fin cfg0.N) : (dats m 0 c).after 8 t = out8 m c t := by dsimp only [dats]
/-- Window 9 after a point. -/
theorem after0_9 (c : Dev nD) (t : Fin cfg0.N) : (dats m 0 c).after 9 t = out9 m c t := by dsimp only [dats]
/-- Input window 0 before a point. -/
theorem before0_0 (c : Dev nD) (t : Fin cfg0.N) (d) : (dats m 0 c).before 0 t d = iblk m c 0 t :=
  before0_0_of m (dats m 0 c) (A_eq m c 0) (after0_0 m c) t d
/-- Input window 1 before a point. -/
theorem before0_1 (c : Dev nD) (t : Fin cfg0.N) (d) : (dats m 0 c).before 1 t d = iblk m c 1 t :=
  before0_1_of m (dats m 0 c) (A_eq m c 1) (after0_1 m c) t d
/-- Input window 2 before a point. -/
theorem before0_2 (c : Dev nD) (t : Fin cfg0.N) (d) : (dats m 0 c).before 2 t d = iblk m c 2 t :=
  before0_2_of m (dats m 0 c) (A_eq m c 2) (after0_2 m c) t d
/-- Input window 3 before a point. -/
theorem before0_3 (c : Dev nD) (t : Fin cfg0.N) (d) : (dats m 0 c).before 3 t d = iblk m c 3 t :=
  before0_3_of m (dats m 0 c) (A_eq m c 3) (after0_3 m c) t d
/-- Input window 4 before a point. -/
theorem before0_4 (c : Dev nD) (t : Fin cfg0.N) (d) : (dats m 0 c).before 4 t d = iblk m c 4 t :=
  before0_4_of m (dats m 0 c) (A_eq m c 4) (after0_4 m c) t d
/-- Input window 5 before a point. -/
theorem before0_5 (c : Dev nD) (t : Fin cfg0.N) (d) : (dats m 0 c).before 5 t d = iblk m c 5 t :=
  before0_5_of m (dats m 0 c) (A_eq m c 5) (after0_5 m c) t d
/-- Input window 6 before a point. -/
theorem before0_6 (c : Dev nD) (t : Fin cfg0.N) (d) : (dats m 0 c).before 6 t d = iblk m c 6 t :=
  before0_6_of m (dats m 0 c) (A_eq m c 6) (after0_6 m c) t d

/-- Where output window 8 is left alone. -/
theorem idle8 : ∀ t : Fin cfg0.N, ¬(t.val % 13 = 2 ∧ t.val < 26) → cfg0.idle 8 (grid0.coords t) = true := by
  decide +kernel

/-- Where it is written. -/
theorem busy8 : ∀ t : Fin cfg0.N, (t.val % 13 = 2 ∧ t.val < 26) → cfg0.idle 8 (grid0.coords t) = false := by
  decide +kernel

/-- Where its buffer holds nothing yet: up to point 2, and from point 13 to point 15. -/
def freshTab8 (n : ℕ) : Bool := decide (n ≤ 2) || (decide (13 ≤ n) && decide (n ≤ 15)) || decide (39 ≤ n)

theorem freshTab8_step : ∀ t : Fin cfg0.N,
    freshTab8 (t.val + 1) = ((cfg0.win 8).flush t || (cfg0.idle 8 (cfg0.grid.coords t) && freshTab8 t.val)) := by
  decide +kernel

theorem fresh8 (t : Fin cfg0.N) : cfg0.fresh 8 t.val = freshTab8 t.val :=
  Pipeline.Cfg.fresh_tab cfg0 8 freshTab8 rfl freshTab8_step t.val (Nat.le_of_lt t.isLt)

/-- It is not written back while empty. -/
theorem full8 : ∀ t : Fin cfg0.N, (cfg0.win 8).flush t = true → freshTab8 t.val = false := by
  decide +kernel

/-- An idle point hands its contents on. -/
theorem carry8 (c : Dev nD) (t : Fin cfg0.N) (_ : t.val ≠ 0) (_ : cfg0.idle 8 (grid0.coords t) = true)
    (hf : cfg0.fresh 8 t.val = false) :
    (dats m 0 c).after 8 t = (dats m 0 c).after 8 ⟨t.val - 1, by omega⟩ := by
  have h13 : t.val ≠ 13 := by
    intro q; rw [fresh8, q] at hf; exact absurd hf (by decide)
  rw [after0_8, after0_8]
  unfold out8
  have key : ∀ s s' hs hs', s = s' → (runB m c s hs).2.1 = (runB m c s' hs').2.1 := by
    intro s s' hs hs' e; subst e; rfl
  rw [key _ _ (src_B t) (src_B _) (src_pred t h13).symm]

/-- At a point that stores nothing into it, what it held is what the point has to leave. -/
theorem keep8 (c : Dev nD) (t : Fin cfg0.N) (h : ¬(t.val % 13 = 2 ∧ t.val < 26)) (d) :
    (owns (c : Thread nD τ) (ms0_8 t) fullShare ((dats m 0 c).before 8 t d) : sProp 𝕄) ⊢ (dats m 0 c).leavesExact 8 t := by
  unfold Dat.leavesExact
  rw [show cfg0.idle 8 (cfg0.grid.coords t) = true from idle8 t h]
  dsimp only
  cases hf : (cfg0.win 8).flush t with
  | false => dsimp only; iintro H; iexists _; iexact H
  | true =>
    dsimp only
    have hfr : cfg0.fresh 8 t.val = false := (fresh8 t).trans (full8 t hf)
    have h0 : t.val ≠ 0 := by
      intro q; rw [fresh8, q] at hfr; exact absurd hfr (by decide)
    rw [Dat.before_out_traj (dats m 0 c) 8 rfl (fun _ _ => rfl) (carry8 m c) t.val t rfl d, hfr,
      if_neg Bool.false_ne_true, ← carry8 m c t h0 (idle8 t h) hfr]

/-- At a point that stores into it, what the point has to leave. -/
theorem live8 (c : Dev nD) (t : Fin cfg0.N) (h : t.val % 13 = 2 ∧ t.val < 26) :
    (dats m 0 c).leavesExact 8 t = owns (c : Thread nD τ) (ms0_8 t) fullShare
      (VO0_8.read (Elt F) (VO0_8.writes (Elt F) VO0_8.junk (runB m c t h).2.1)) := by
  unfold Dat.leavesExact
  rw [show cfg0.idle 8 (cfg0.grid.coords t) = false from busy8 t h, after0_8, out8_B m c t h]

/-- Where output window 9 is left alone. -/
theorem idle9 : ∀ t : Fin cfg0.N, ¬(t.val % 13 = 2 ∧ t.val < 26) → cfg0.idle 9 (grid0.coords t) = true := by
  decide +kernel

/-- Where it is written. -/
theorem busy9 : ∀ t : Fin cfg0.N, (t.val % 13 = 2 ∧ t.val < 26) → cfg0.idle 9 (grid0.coords t) = false := by
  decide +kernel

/-- Where its buffer holds nothing yet: up to point 2, and from point 13 to point 15. -/
def freshTab9 (n : ℕ) : Bool := decide (n ≤ 2) || (decide (13 ≤ n) && decide (n ≤ 15)) || decide (39 ≤ n)

theorem freshTab9_step : ∀ t : Fin cfg0.N,
    freshTab9 (t.val + 1) = ((cfg0.win 9).flush t || (cfg0.idle 9 (cfg0.grid.coords t) && freshTab9 t.val)) := by
  decide +kernel

theorem fresh9 (t : Fin cfg0.N) : cfg0.fresh 9 t.val = freshTab9 t.val :=
  Pipeline.Cfg.fresh_tab cfg0 9 freshTab9 rfl freshTab9_step t.val (Nat.le_of_lt t.isLt)

/-- It is not written back while empty. -/
theorem full9 : ∀ t : Fin cfg0.N, (cfg0.win 9).flush t = true → freshTab9 t.val = false := by
  decide +kernel

/-- An idle point hands its contents on. -/
theorem carry9 (c : Dev nD) (t : Fin cfg0.N) (_ : t.val ≠ 0) (_ : cfg0.idle 9 (grid0.coords t) = true)
    (hf : cfg0.fresh 9 t.val = false) :
    (dats m 0 c).after 9 t = (dats m 0 c).after 9 ⟨t.val - 1, by omega⟩ := by
  have h13 : t.val ≠ 13 := by
    intro q; rw [fresh9, q] at hf; exact absurd hf (by decide)
  rw [after0_9, after0_9]
  unfold out9
  have key : ∀ s s' hs hs', s = s' → (runB m c s hs).2.2.1 = (runB m c s' hs').2.2.1 := by
    intro s s' hs hs' e; subst e; rfl
  rw [key _ _ (src_B t) (src_B _) (src_pred t h13).symm]

/-- At a point that stores nothing into it, what it held is what the point has to leave. -/
theorem keep9 (c : Dev nD) (t : Fin cfg0.N) (h : ¬(t.val % 13 = 2 ∧ t.val < 26)) (d) :
    (owns (c : Thread nD τ) (ms0_9 t) fullShare ((dats m 0 c).before 9 t d) : sProp 𝕄) ⊢ (dats m 0 c).leavesExact 9 t := by
  unfold Dat.leavesExact
  rw [show cfg0.idle 9 (cfg0.grid.coords t) = true from idle9 t h]
  dsimp only
  cases hf : (cfg0.win 9).flush t with
  | false => dsimp only; iintro H; iexists _; iexact H
  | true =>
    dsimp only
    have hfr : cfg0.fresh 9 t.val = false := (fresh9 t).trans (full9 t hf)
    have h0 : t.val ≠ 0 := by
      intro q; rw [fresh9, q] at hfr; exact absurd hfr (by decide)
    rw [Dat.before_out_traj (dats m 0 c) 9 rfl (fun _ _ => rfl) (carry9 m c) t.val t rfl d, hfr,
      if_neg Bool.false_ne_true, ← carry9 m c t h0 (idle9 t h) hfr]

/-- At a point that stores into it, what the point has to leave. -/
theorem live9 (c : Dev nD) (t : Fin cfg0.N) (h : t.val % 13 = 2 ∧ t.val < 26) :
    (dats m 0 c).leavesExact 9 t = owns (c : Thread nD τ) (ms0_9 t) fullShare
      (VO0_9.read (Elt F) (VO0_9.writes (Elt F) VO0_9.junk (runB m c t h).2.2.1)) := by
  unfold Dat.leavesExact
  rw [show cfg0.idle 9 (cfg0.grid.coords t) = false from busy9 t h, after0_9, out9_B m c t h]

/-- Every point writes the projection's buffer. -/
theorem busy7 : ∀ t : Fin cfg0.N, cfg0.idle 7 (grid0.coords t) = false := by
  decide +kernel

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it has to return. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  have hN : t.val < 39 := lt_of_lt_of_eq t.isLt (show cfg0.N = 39 from N_0)
  rw [show (dats m 0 c).leavesExact 0 t = owns (c : Thread nD τ) (ms0_0 t) fullShare (iblk m c 0 t) from by
    unfold Dat.leavesExact; rw [show cfg0.idle 0 (cfg0.grid.coords t) = false from rfl, after0_0]]
  rw [show (dats m 0 c).leavesExact 1 t = owns (c : Thread nD τ) (ms0_1 t) fullShare (iblk m c 1 t) from by
    unfold Dat.leavesExact; rw [show cfg0.idle 1 (cfg0.grid.coords t) = false from rfl, after0_1]]
  rw [show (dats m 0 c).leavesExact 2 t = owns (c : Thread nD τ) (ms0_2 t) fullShare (iblk m c 2 t) from by
    unfold Dat.leavesExact; rw [show cfg0.idle 2 (cfg0.grid.coords t) = false from rfl, after0_2]]
  rw [show (dats m 0 c).leavesExact 3 t = owns (c : Thread nD τ) (ms0_3 t) fullShare (iblk m c 3 t) from by
    unfold Dat.leavesExact; rw [show cfg0.idle 3 (cfg0.grid.coords t) = false from rfl, after0_3]]
  rw [show (dats m 0 c).leavesExact 4 t = owns (c : Thread nD τ) (ms0_4 t) fullShare (iblk m c 4 t) from by
    unfold Dat.leavesExact; rw [show cfg0.idle 4 (cfg0.grid.coords t) = false from rfl, after0_4]]
  rw [show (dats m 0 c).leavesExact 5 t = owns (c : Thread nD τ) (ms0_5 t) fullShare (iblk m c 5 t) from by
    unfold Dat.leavesExact; rw [show cfg0.idle 5 (cfg0.grid.coords t) = false from rfl, after0_5]]
  rw [show (dats m 0 c).leavesExact 6 t = owns (c : Thread nD τ) (ms0_6 t) fullShare (iblk m c 6 t) from by
    unfold Dat.leavesExact; rw [show cfg0.idle 6 (cfg0.grid.coords t) = false from rfl, after0_6]]
  rw [show (dats m 0 c).leavesExact 7 t = owns (c : Thread nD τ) (ms0_7 t) fullShare (out7 m c t) from by
    unfold Dat.leavesExact; rw [show cfg0.idle 7 (cfg0.grid.coords t) = false from busy7 t, after0_7]]
  by_cases hA : t.val % 13 ≤ 1 ∧ t.val < 26
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA m c t hA).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · rw [out7_A m c t hA]; unfold owns; iexists _; isplitr
      swap; · iexact H7
      ipureintro; exact View.read_writes_of_cover _ _ _ _ _ (coverA_7 m c t hA)
    isplitl [H8]; · iapply (keep8 m c t (by omega) d8); iexact H8
    iapply (keep9 m c t (by omega) d9); iexact H9
  by_cases hB : t.val % 13 = 2 ∧ t.val < 26
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB m c t hB).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · rw [out7_B m c t hB]; unfold owns; iexists _; isplitr
      swap; · iexact H7
      ipureintro; exact View.read_writes_of_cover _ _ _ _ _ (coverB_7 m c t hB)
    isplitl [H8]
    · rw [live8 m c t hB]; unfold owns; iexists _; isplitr
      swap; · iexact H8
      ipureintro; exact View.read_writes_of_cover _ _ _ _ _ (coverB_8 m c t hB)
    rw [live9 m c t hB]; unfold owns; iexists _; isplitr
    swap; · iexact H9
    ipureintro; exact View.read_writes_of_cover _ _ _ _ _ (coverB_9 m c t hB)
  by_cases hE : t.val % 13 ≤ 1 ∧ 26 ≤ t.val
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runE m c t hE).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · rw [out7_E m c t hE]; unfold owns; iexists _; isplitr
      swap; · iexact H7
      ipureintro; exact View.read_writes_of_cover _ _ _ _ _ (coverE_7 m c t hE)
    isplitl [H8]; · iapply (keep8 m c t (by omega) d8); iexact H8
    iapply (keep9 m c t (by omega) d9); iexact H9
  by_cases hF : t.val % 13 = 2 ∧ 26 ≤ t.val
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runF m c t hF).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · rw [out7_F m c t hF]; unfold owns; iexists _; isplitr
      swap; · iexact H7
      ipureintro; exact View.read_writes_of_cover _ _ _ _ _ (coverF_7 m c t hF)
    isplitl [H8]; · iapply (keep8 m c t (by omega) d8); iexact H8
    iapply (keep9 m c t (by omega) d9); iexact H9
  by_cases hC : t.val % 13 = 3 ∨ t.val % 13 = 4 ∨ t.val % 13 = 11 ∨ t.val % 13 = 12
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runC m c t hC).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · rw [out7_C m c t hC]; unfold owns; iexists _; isplitr
      swap; · iexact H7
      ipureintro; exact View.read_writes_of_cover _ _ _ _ _ (coverC_7 m c t hC)
    isplitl [H8]; · iapply (keep8 m c t (by omega) d8); iexact H8
    iapply (keep9 m c t (by omega) d9); iexact H9
  have hD : 5 ≤ t.val % 13 ∧ t.val % 13 ≤ 10 := by omega
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runD m c t hD).2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  iintro ⟨H0, H1, H2, H3, H4, H5, H6, ⟨%e7, H7⟩, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [out7_D m c t hD]; unfold owns; iexists _; isplitr
    swap; · iexact H7
    ipureintro; exact View.read_writes_of_cover _ _ _ _ _ (coverD_7 m c t hD)
  isplitl [H8]; · iapply (keep8 m c t (by omega) d8); iexact H8
  iapply (keep9 m c t (by omega) d9); iexact H9

/-- The body the pipeline calls is the printed one. -/
theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program ends with the arrays the pipeline leaves and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program ends with the arrays the pipeline leaves. -/
theorem run_main : θ_run defs (onTc (τ := τ) (main (F := F))) (s₀ m ρ) (Pipeline.FramePost cfgs (dats m) 0 (V m)) :=
  (θ_run defs _ _).mono (fun _ h => h.1) (run_main_quiescent m ρ)

/-- Its argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- It terminates with its argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.InProjRun

end
-- ==== Proof.Real.lean ====
/-
  The preconditions, read: an array whose printed test "every entry's absolute value is below infinity" is true holds
  real numbers only.
-/
module

public import proofs.«01_k».proof.Pre_real_scores
public import proofs.«01_k».proof.Pre_real_proj
public import proofs.«01_k».proof.Pre_real_mlp
public import proofs.«01_k».proof.Pre_real_final
public import Idealize.ShloMosaic.Lib.Pointwise
public import Idealize.ShloMosaic.Lib.ReduceAll

@[expose] public section

set_option maxRecDepth 16384

noncomputable section

namespace Cert.Real

open Idealize.ShloMosaic

/-- An array of extended reals all of whose entries are real numbers. -/
def IsReal {ι : Type} (x : ι → EReal) : Prop := ∀ i, ∃ r : ℝ, x i = (r : EReal)

/-- A product of real numbers is real. -/
theorem mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A sum of real numbers is real. -/
theorem add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- A finite sum of real numbers is real. -/
theorem sum {ι : Type} (S : Finset ι) (f : ι → EReal) (hf : IsReal f) : ∃ r : ℝ, ∑ i ∈ S, f i = r := by
  classical
  induction S using Finset.induction_on with
  | empty => exact ⟨0, by simp⟩
  | insert a S ha ih =>
    rw [Finset.sum_insert ha]
    exact add (hf a) ih

/-- The shape of a scalar. -/
abbrev scalar : Shape := ⟨0, ![]⟩

instance : Subsingleton scalar.Idx := inferInstanceAs (Subsingleton (∀ a : Fin 0, _))

/-- An absolute value below the positive infinity is a real number's. -/
theorem real_of_abs_lt {x : EReal} (h : max x (-x) < ⊤) : ∃ r : ℝ, x = (r : EReal) := by
  induction x using EReal.rec with
  | bot => exact absurd h (by simp)
  | top => exact absurd h (by simp)
  | coe r => exact ⟨r, rfl⟩

/-- Both bits of a conjunction that is 1 are 1. -/
theorem and_one (a b : IVec scalar 1) (j : scalar.Idx) (h : andi a b j = 1#1) : a j = 1#1 ∧ b j = 1#1 := by
  have : ∀ x y : BitVec 1, IntOp.andi x y = 1#1 → x = 1#1 ∧ y = 1#1 := by decide
  exact this _ _ h

/-- The printed test of one array. -/
theorem isReal_of_all {s : Shape} {axes : List (Fin s.rank)} {φ : FTy} (x : FVec Ideal s φ) (p : BitVec φ.bits) (hp : Ideal.ofBits φ p = ⊤)
    (init : IVec scalar 1) (hb : scalar.BroadcastsInDim s (![] : Fin 0 → Fin s.rank)) (h : s.ReducesTo axes scalar) (hu : 0 < scalar.numel)
    (j : scalar.Idx)
    (e : Host.reduce IntOp.andi (cmpf .olt (Host.absf x) (broadcastInDim s ![] hb (constant scalar φ p))) init h hu j = 1#1) :
    IsReal x := by
  intro i
  have := Host.reduce_andi_all _ init h hu j e i
  pointwise at this
  rw [hp] at this
  refine real_of_abs_lt (of_decide_eq_true (p := max (x i) (-(x i)) < ⊤) ?_)
  have key : ∀ b : Bool, BitVec.ofBool b = 1#1 → b = true := by decide
  exact key _ this
/-- The only index of a scalar. -/
abbrev pt : scalar.Idx := fun a => a.elim0

/-- The printed infinity of an f32 and of a bf16. -/
theorem inf32 : Ideal.ofBits .f32 0x7F800000#32 = ⊤ := by
  simp [Ideal.ofBits, Ideal.ieee]

theorem inf16 : Ideal.ofBits .bf16 0x7F80#16 = ⊤ := by
  simp [Ideal.ofBits, Ideal.ieee]

/-- `real_scores`: the projection and the cached keys are real. -/
theorem scores [Pre_real_scores.Facts] (a0 a1 a2 a3) (h : Pre_real_scores.fn (F := Ideal) a0 a1 a2 a3 = fun _ => 1#1) :
    IsReal a0 ∧ IsReal a1 := by
  dsimp only [Pre_real_scores.fn] at h
  obtain ⟨h0, h1⟩ := and_one _ _ pt (congrFun h pt)
  exact ⟨isReal_of_all a0 _ inf32 _ _ _ _ pt h0, isReal_of_all a1 _ inf32 _ _ _ _ pt h1⟩

/-- `real_proj`: the projection is real. -/
theorem proj [Pre_real_proj.Facts] (a0) (h : Pre_real_proj.fn (F := Ideal) a0 = fun _ => 1#1) : IsReal a0 := by
  dsimp only [Pre_real_proj.fn] at h
  exact isReal_of_all a0 _ inf32 _ _ _ _ pt (congrFun h pt)

/-- `real_mlp`: all but the running sum are real. -/
theorem mlp [Pre_real_mlp.Facts] (a0 a1 a2 a3 a4) (h : Pre_real_mlp.fn (F := Ideal) a0 a1 a2 a3 a4 = fun _ => 1#1) :
    IsReal a0 ∧ IsReal a2 ∧ IsReal a3 ∧ IsReal a4 := by
  dsimp only [Pre_real_mlp.fn, Pre_real_mlp.fn_part1] at h
  obtain ⟨h, h4⟩ := and_one _ _ pt (congrFun h pt)
  obtain ⟨h, h3⟩ := and_one _ _ pt h
  obtain ⟨h0, h2⟩ := and_one _ _ pt h
  exact ⟨isReal_of_all a0 _ inf16 _ _ _ _ pt h0, isReal_of_all a2 _ inf32 _ _ _ _ pt h2,
    isReal_of_all a3 _ inf32 _ _ _ _ pt h3, isReal_of_all a4 _ inf32 _ _ _ _ pt h4⟩

/-- `real_final`: the same of the last layer's. -/
theorem final [Pre_real_final.Facts] (a0 a1 a2 a3 a4 a5)
    (h : Pre_real_final.fn (F := Ideal) a0 a1 a2 a3 a4 a5 = fun _ => 1#1) :
    IsReal a0 ∧ IsReal a2 ∧ IsReal a3 ∧ IsReal a4 := by
  dsimp only [Pre_real_final.fn, Pre_real_final.fn_part1] at h
  obtain ⟨h, h4⟩ := and_one _ _ pt (congrFun h pt)
  obtain ⟨h, h3⟩ := and_one _ _ pt h
  obtain ⟨h0, h2⟩ := and_one _ _ pt h
  exact ⟨isReal_of_all a0 _ inf16 _ _ _ _ pt h0, isReal_of_all a2 _ inf32 _ _ _ _ pt h2,
    isReal_of_all a3 _ inf32 _ _ _ _ pt h3, isReal_of_all a4 _ inf32 _ _ _ _ pt h4⟩

end Cert.Real

end
-- ==== Proof.Soft.lean ====
/-
  Softmax-weighted averages over the extended reals, in the three spellings that the kernels and the references use:
  one division after the weighted sum (`flash1`), the same over two separate groups of keys under one common maximum
  (`flash2`), and a division of every weight before the weighted sum (`soft`).  They agree where the scores are real
  numbers; the averaged values may be anything.
-/
module

public import Idealize.ShloMosaic.Lib.Pointwise

@[expose] public section

noncomputable section

namespace Cert.Soft

open Idealize.ShloMosaic

/-- Negative infinity, as the programs write it. -/
abbrev ninf : EReal := Ideal.ofBits .f32 0xFF800000#32

/-- The weighted sum of `v` by the exponentials of the scores less their maximum, over the sum of those exponentials. -/
def flash1 {n : ℕ} (s v : Fin n → EReal) : EReal :=
  Ideal.div (∑ x, Ideal.exp (s x - Finset.fold max ninf s Finset.univ) * v x)
    (∑ x, Ideal.exp (s x - Finset.fold max ninf s Finset.univ))

/-- The same average over two groups of keys, with the larger of the two groups' maxima. -/
def flash2 {n k : ℕ} (s : Fin n → EReal) (t : Fin k → EReal) (v : Fin n → EReal) (w : Fin k → EReal) : EReal :=
  Ideal.div
    (∑ x, Ideal.exp (s x - max (Finset.fold max ninf s Finset.univ) (Finset.fold max ninf t Finset.univ)) * v x
      + ∑ x, Ideal.exp (t x - max (Finset.fold max ninf s Finset.univ) (Finset.fold max ninf t Finset.univ)) * w x)
    (∑ x, Ideal.exp (s x - max (Finset.fold max ninf s Finset.univ) (Finset.fold max ninf t Finset.univ))
      + ∑ x, Ideal.exp (t x - max (Finset.fold max ninf s Finset.univ) (Finset.fold max ninf t Finset.univ)))

/-- The average with every weight divided first. -/
def soft {n : ℕ} (s v : Fin n → EReal) : EReal :=
  ∑ x, v x * Ideal.div (Ideal.exp (s x - max ninf (Finset.fold max ninf s Finset.univ)))
    (∑ y, Ideal.exp (s y - max ninf (Finset.fold max ninf s Finset.univ)))

theorem ninf_eq : ninf = ⊥ := by
  simp [ninf, Ideal.ofBits, Ideal.ieee]

/-- A nonnegative real factor goes through a finite sum of extended reals. -/
theorem sum_mul_coe {ι : Type} (S : Finset ι) (f : ι → EReal) {c : ℝ} (hc : 0 ≤ c) :
    (∑ x ∈ S, f x) * (c : EReal) = ∑ x ∈ S, f x * (c : EReal) := by
  classical
  induction S using Finset.induction_on with
  | empty => simp
  | insert a S ha ih =>
    rw [Finset.sum_insert ha, Finset.sum_insert ha, ← ih, mul_comm, mul_comm (f a), mul_comm (∑ x ∈ S, f x)]
    exact EReal.left_distrib_of_nonneg_of_ne_top (by exact_mod_cast hc) (EReal.coe_ne_top c) _ _

/-- A finite sum of real numbers, each read as an extended real, is their sum read as one. -/
theorem coe_sum {ι : Type} (S : Finset ι) (f : ι → ℝ) : (∑ x ∈ S, (f x : EReal)) = ((∑ x ∈ S, f x : ℝ) : EReal) := by
  classical
  induction S using Finset.induction_on with
  | empty => simp
  | insert a S ha ih => rw [Finset.sum_insert ha, Finset.sum_insert ha, ih, EReal.coe_add]

/-- At real scores, dividing once after the sum and dividing every weight give the same average. -/
theorem flash1_eq_soft {n : ℕ} (s v : Fin (n + 1) → EReal) (hs : ∀ x, ∃ r : ℝ, s x = r) : flash1 s v = soft s v := by
  obtain ⟨f, hf⟩ : ∃ f : Fin (n + 1) → ℝ, s = fun x => (f x : EReal) :=
    ⟨fun x => (hs x).choose, funext fun x => (hs x).choose_spec⟩
  subst hf
  obtain ⟨i, -, hi⟩ := Finset.exists_mem_eq_sup Finset.univ Finset.univ_nonempty fun x => (f x : EReal)
  have hM : Finset.fold max ninf (fun x => (f x : EReal)) Finset.univ = (f i : EReal) := by
    rw [ninf_eq, ← hi]; rfl
  have hexp : ∀ x, Ideal.exp ((f x : EReal) - (f i : EReal)) = ((Real.exp (f x - f i) : ℝ) : EReal) := fun x => by
    rw [← EReal.coe_sub, Ideal.exp_coe]
  have hD : 0 < ∑ x, Real.exp (f x - f i) := Finset.sum_pos (fun x _ => Real.exp_pos _) Finset.univ_nonempty
  unfold flash1 soft
  simp only [hM]
  simp only [ninf_eq, max_eq_right bot_le, hexp, coe_sum, Ideal.div_coe hD.ne']
  rw [sum_mul_coe _ _ (by positivity)]
  exact Finset.sum_congr rfl fun x _ => by rw [mul_assoc, mul_left_comm]

/-- The average over two groups is the average over the one that lists the first group and then the second. -/
theorem flash2_eq {n k : ℕ} (s v : Fin (n + k) → EReal) :
    flash2 (fun x => s (Fin.castAdd k x)) (fun x => s (Fin.natAdd n x)) (fun x => v (Fin.castAdd k x))
      (fun x => v (Fin.natAdd n x)) = flash1 s v := by
  have hM : max (Finset.fold max ninf (fun x => s (Fin.castAdd k x)) Finset.univ)
      (Finset.fold max ninf (fun x => s (Fin.natAdd n x)) Finset.univ) = Finset.fold max ninf s Finset.univ := by
    rw [ninf_eq]
    show max (Finset.univ.sup fun x => s (Fin.castAdd k x)) (Finset.univ.sup fun x => s (Fin.natAdd n x)) = Finset.univ.sup s
    apply le_antisymm
    · exact max_le (Finset.sup_le fun x _ => Finset.le_sup (f := s) (Finset.mem_univ _))
        (Finset.sup_le fun x _ => Finset.le_sup (f := s) (Finset.mem_univ _))
    · refine Finset.sup_le fun x _ => ?_
      induction x using Fin.addCases with
      | left x => exact le_max_of_le_left (Finset.le_sup (f := fun x => s (Fin.castAdd k x)) (Finset.mem_univ x))
      | right x => exact le_max_of_le_right (Finset.le_sup (f := fun x => s (Fin.natAdd n x)) (Finset.mem_univ x))
  unfold flash2 flash1
  simp only [hM, Fin.sum_univ_add]

end Cert.Soft

end
-- ==== Proof.LatentBlock.lean ====
/-
  The latent attention call, one block at a time: what a grid point leaves in its output block, read at an index.
-/
module

public import proofs.«01_k».proof.Proof.Gen.LatentIdeal.Value
public import proofs.«01_k».proof.Proof.Soft
public import Idealize.ShloMosaic.Lib.Pipeline.ValueKit

@[expose] public section

set_option maxRecDepth 16384

noncomputable section

namespace Cert.LatentIdeal.Block

open Cert.LatentIdeal Cert.LatentIdeal.Gen Cert.Soft
open Idealize.ShloMosaic Idealize.ShloMosaic.TcCoe Idealize.SL.Sem
open Idealize.ShloMosaic.Pipeline (Dat)

variable (q : FVec Ideal S256x512 .f32) (k v : FVec Ideal S1024x128 .f32) (ck cv : FVec Ideal S1x256x128 .f32)

/-- The scale that the scores are multiplied by. -/
abbrev scale : EReal := Ideal.ofBits .f32 0x3DB504F3#32

/-- Query row `r` of the head that starts at column `o`, against latent key `x`. -/
def score (r : Fin 256) (o : Fin 4) (x : Fin 1024) : EReal :=
  (∑ i : Fin 128, q (ix2 r ⟨o.val * 128 + i.val, by omega⟩) * k (ix2 x i)) * scale

/-- The same query row against context key `x`. -/
def cscore (r : Fin 256) (o : Fin 4) (x : Fin 256) : EReal :=
  (∑ i : Fin 128, q (ix2 r ⟨o.val * 128 + i.val, by omega⟩) * ck (ix3 0 x i)) * scale

/-- Row `r`, head `o`, lane `d` of a block: the average of the latent and the context values. -/
def head (r : Fin 256) (o : Fin 4) (d : Fin 128) : EReal :=
  flash2 (score q k r o) (cscore q ck r o) (fun x => v (ix2 x d)) (fun x => cv (ix3 0 x d))

variable (qh : FVec Ideal S256x128 .f32)

/-- The first head's stored value, from its own 128 columns of the queries. -/
theorem pay_apply0 (r : Fin 256) (d : Fin 128) (o : Fin 4)
    (hq : ∀ i : Fin 128, qh (ix2 r i) = q (ix2 r ⟨o.val * 128 + i.val, by omega⟩)) :
    k0_pay14 (F := Ideal) (k0_pay5 cv) (k0_pay11 k v ck qh) (k0_pay12 k ck qh) (k0_pay13 k ck qh) (ix2 r d)
      = head q k v ck cv r o d := by
  unfold_payloads
  pointwise
  simp only [hq]
  rfl

/-- The second head's. -/
theorem pay_apply1 (r : Fin 256) (d : Fin 128) (o : Fin 4)
    (hq : ∀ i : Fin 128, qh (ix2 r i) = q (ix2 r ⟨o.val * 128 + i.val, by omega⟩)) :
    k0_pay15 (F := Ideal) (k0_pay2 k) (k0_pay3 v) (k0_pay4 ck) (k0_pay5 cv) qh (ix2 r d) = head q k v ck cv r o d := by
  unfold_payloads
  pointwise
  simp only [hq]
  rfl

/-- The third head's. -/
theorem pay_apply2 (r : Fin 256) (d : Fin 128) (o : Fin 4)
    (hq : ∀ i : Fin 128, qh (ix2 r i) = q (ix2 r ⟨o.val * 128 + i.val, by omega⟩)) :
    k0_pay16 (F := Ideal) (k0_pay2 k) (k0_pay3 v) (k0_pay4 ck) (k0_pay5 cv) qh (ix2 r d) = head q k v ck cv r o d := by
  unfold_payloads
  pointwise
  simp only [hq]
  rfl

/-- The fourth head's. -/
theorem pay_apply3 (r : Fin 256) (d : Fin 128) (o : Fin 4)
    (hq : ∀ i : Fin 128, qh (ix2 r i) = q (ix2 r ⟨o.val * 128 + i.val, by omega⟩)) :
    k0_pay1 (F := Ideal) (k0_pay3 v) (k0_pay4 ck) (k0_pay5 cv) (k0_pay17 qh) (k0_pay18 (k0_pay2 k) qh)
      (k0_pay19 (k0_pay2 k) qh) (constant S256x256 .f32 0#32) (ix2 r d) = head q k v ck cv r o d := by
  unfold_payloads
  pointwise
  simp only [hq]
  rfl

variable (m : (ℓ : Loc nD τ sig) → Buf (Elt Ideal) ℓ)

/-- What a grid point leaves in its output block is `head` of the point's five input blocks. -/
theorem out_apply (c : Dev nD) (t : Fin cfg0.N) (r : Fin 256) (n : Fin 512) :
    outsAt0 m c t (ix2 r n) = head (iblk m c 0 t) (iblk m c 1 t) (iblk m c 2 t) (iblk m c 3 t) (iblk m c 4 t)
      r ⟨n.val / 128, by omega⟩ ⟨n.val % 128, Nat.mod_lt _ (by decide)⟩ := by
  unfold outsAt0
  frame_out
  canon_tiles x h
  all_goals
    idx_vars x
    change (r : ℕ) = (x0 : ℕ) at h0
    change (n : ℕ) = _ at h1
    obtain rfl : r = x0 := Fin.ext h0
  · rw [show (⟨n.val / 128, by omega⟩ : Fin 4) = 3 from Fin.ext (by show n.val / 128 = 3; omega),
      show (⟨n.val % 128, Nat.mod_lt _ (by decide)⟩ : Fin 128) = x1 from Fin.ext (by show n.val % 128 = _; omega)]
    refine pay_apply3 _ _ _ _ _ _ r x1 3 fun i => ?_
    pointwise
  · rw [show (⟨n.val / 128, by omega⟩ : Fin 4) = 2 from Fin.ext (by show n.val / 128 = 2; omega),
      show (⟨n.val % 128, Nat.mod_lt _ (by decide)⟩ : Fin 128) = x1 from Fin.ext (by show n.val % 128 = _; omega)]
    refine pay_apply2 _ _ _ _ _ _ r x1 2 fun i => ?_
    pointwise
  · rw [show (⟨n.val / 128, by omega⟩ : Fin 4) = 1 from Fin.ext (by show n.val / 128 = 1; omega),
      show (⟨n.val % 128, Nat.mod_lt _ (by decide)⟩ : Fin 128) = x1 from Fin.ext (by show n.val % 128 = _; omega)]
    refine pay_apply1 _ _ _ _ _ _ r x1 1 fun i => ?_
    pointwise
  · rw [show (⟨n.val / 128, by omega⟩ : Fin 4) = 0 from Fin.ext (by show n.val / 128 = 0; omega),
      show (⟨n.val % 128, Nat.mod_lt _ (by decide)⟩ : Fin 128) = x1 from Fin.ext (by show n.val % 128 = _; omega)]
    refine pay_apply0 _ _ _ _ _ _ r x1 0 fun i => ?_
    pointwise

end Cert.LatentIdeal.Block

end
-- ==== Proof.LatentRead.lean ====
/-
  The latent attention reference, read at an index.
-/
module

public import proofs.«01_k».proof.Proof.Gen.LatentRefIdeal.Read
public import proofs.«01_k».proof.Proof.Soft
public import Idealize.ShloMosaic.Lib.Pipeline.ValueKit

@[expose] public section

set_option maxRecDepth 16384

noncomputable section

namespace Cert.LatentRefIdeal.At

open Cert.LatentRefIdeal Cert.LatentRefIdeal.Gen Cert.LatentRefIdeal.Read Cert.Soft
open Idealize.ShloMosaic Idealize.ShloMosaic.TcCoe Idealize.SL.Sem

variable (x0 : FVec Ideal S6144x6656 .f32) (x1 x2 : FVec Ideal S2x1x256x2x128 .f32) (x3 : FVec Ideal S6144x1024 .bf16)

/-- The scale that the scores are multiplied by. -/
abbrev scale : EReal := Ideal.ofBits .f32 0x3DB504F3#32

/-- A score against a latent key. -/
theorem score_left (b h : Fin 2) (g : Fin 4) (q : Fin 1024) (k : Fin 1024) :
    val_main_v15 (F := Ideal) x0 x1 (ix5 b h g q (Fin.castAdd 256 k))
      = (∑ i : Fin 128, x0 (ix2 ⟨4096 + b.val * 1024 + q.val, by omega⟩ ⟨h.val * 512 + g.val * 128 + i.val, by omega⟩)
          * x0 (ix2 ⟨4096 + b.val * 1024 + k.val, by omega⟩ ⟨1024 + h.val * 128 + i.val, by omega⟩)) * scale := by
  have hk : ((Fin.castAdd 256 k : Fin 1280) : ℕ) < 1024 := k.isLt
  pointwise [val_main_v15, val_main_v14, val_main_v13, val_main_v12, val_main_v7, val_main_v6, val_main_v5, val_main_v4,
    val_main_v3, val_main_v2, val_main_v1, val_main_v0, val_main_cst]
  simp only [dif_pos hk]
  refine congrArg (· * scale) (Finset.sum_congr rfl fun i _ => ?_)
  rw [mul_comm]
  simp only [Fin.val_castAdd, add_assoc]

/-- A score against a cached context key. -/
theorem score_right (b h : Fin 2) (g : Fin 4) (q : Fin 1024) (k : Fin 256) :
    val_main_v15 (F := Ideal) x0 x1 (ix5 b h g q (Fin.natAdd 1024 k))
      = (∑ i : Fin 128, x0 (ix2 ⟨4096 + b.val * 1024 + q.val, by omega⟩ ⟨h.val * 512 + g.val * 128 + i.val, by omega⟩)
          * x1 (ix5 b 0 k h i)) * scale := by
  have hk : ¬ ((Fin.natAdd 1024 k : Fin 1280) : ℕ) < 1024 := by simp
  pointwise [val_main_v15, val_main_v14, val_main_v13, val_main_v12, val_main_v7, val_main_v6, val_main_v5, val_main_v4,
    val_main_v3, val_main_v2, val_main_v1, val_main_v0, val_main_cst]
  simp only [dif_neg hk]
  refine congrArg (· * scale) (Finset.sum_congr rfl fun i _ => ?_)
  rw [mul_comm]
  simp only [Fin.val_natAdd, add_assoc, Nat.add_sub_cancel_left]

/-- A latent value. -/
theorem value_left (b h : Fin 2) (k : Fin 1024) (d : Fin 128) :
    val_main_v10 (F := Ideal) x0 x2 (ix4 b (Fin.castAdd 256 k) h d)
      = x0 (ix2 ⟨4096 + b.val * 1024 + k.val, by omega⟩ ⟨1280 + h.val * 128 + d.val, by omega⟩) := by
  have hk : ((Fin.castAdd 256 k : Fin 1280) : ℕ) < 1024 := k.isLt
  pointwise [val_main_v10, val_main_v9, val_main_v8, val_main_v3, val_main_v0]
  simp only [dif_pos hk]
  simp only [Fin.val_castAdd, add_assoc]

/-- A cached context value. -/
theorem value_right (b h : Fin 2) (k : Fin 256) (d : Fin 128) :
    val_main_v10 (F := Ideal) x0 x2 (ix4 b (Fin.natAdd 1024 k) h d) = x2 (ix5 b 0 k h d) := by
  have hk : ¬ ((Fin.natAdd 1024 k : Fin 1280) : ℕ) < 1024 := by simp
  pointwise [val_main_v10, val_main_v9, val_main_v8, val_main_v3, val_main_v0]
  simp only [dif_neg hk]
  simp only [Fin.val_natAdd, Nat.add_sub_cancel_left]

/-- A weight: the exponential of the score less the row's maximum, over the sum of the row's exponentials. -/
theorem weight (b h : Fin 2) (g : Fin 4) (q : Fin 1024) (k : Fin 1280) :
    val_main_v26 (F := Ideal) x0 x1 (ix5 b h g q k)
      = Ideal.div (val_main_v22 (F := Ideal) x0 x1 (ix5 b h g q k)) (val_main_v23 (F := Ideal) x0 x1 (ix4 b h g q)) := by
  pointwise [val_main_v26, val_main_v25, val_main_v24]

/-- The maximum that is subtracted is at least negative infinity. -/
theorem top (b h : Fin 2) (g : Fin 4) (q : Fin 1024) :
    val_main_v18 (F := Ideal) x0 x1 (ix4 b h g q) = max ninf (val_main_v16 (F := Ideal) x0 x1 (ix4 b h g q)) := by
  rw [val_main_v18_apply, val_main_v17_apply, val_main_cst_1_apply]
  rfl

/-- The exponential of a score less its row's maximum. -/
theorem expo (b h : Fin 2) (g : Fin 4) (q : Fin 1024) (k : Fin 1280) :
    val_main_v22 (F := Ideal) x0 x1 (ix5 b h g q k)
      = Ideal.exp (val_main_v15 (F := Ideal) x0 x1 (ix5 b h g q k)
          - max ninf (val_main_v16 (F := Ideal) x0 x1 (ix4 b h g q))) := by
  rw [← top]
  pointwise [val_main_v22, val_main_v21, val_main_v20, val_main_v19]

/-- The sum of a row's exponentials. -/
theorem denom (b h : Fin 2) (g : Fin 4) (q : Fin 1024) :
    val_main_v23 (F := Ideal) x0 x1 (ix4 b h g q) = ∑ k : Fin 1280, val_main_v22 (F := Ideal) x0 x1 (ix5 b h g q k) := by
  pointwise [val_main_v23, val_main_cst_2]

/-- A row's maximum. -/
theorem peak (b h : Fin 2) (g : Fin 4) (q : Fin 1024) :
    val_main_v16 (F := Ideal) x0 x1 (ix4 b h g q)
      = Finset.fold max ninf (fun k => val_main_v15 (F := Ideal) x0 x1 (ix5 b h g q k)) Finset.univ := by
  pointwise [val_main_v16, val_main_cst_0]

/-- One entry of the weighted averages is `soft` of its row of scores. -/
theorem average (b h : Fin 2) (g : Fin 4) (q : Fin 1024) (d : Fin 128) :
    val_main_v27 (F := Ideal) x0 x1 x2 (ix5 b h d g q)
      = soft (fun k : Fin 1280 => val_main_v15 (F := Ideal) x0 x1 (ix5 b h g q k))
          (fun k => val_main_v10 (F := Ideal) x0 x2 (ix4 b k h d)) := by
  have e : val_main_v27 (F := Ideal) x0 x1 x2 (ix5 b h d g q)
      = ∑ k : Fin 1280, val_main_v10 (F := Ideal) x0 x2 (ix4 b k h d) * val_main_v26 (F := Ideal) x0 x1 (ix5 b h g q k) := by
    pointwise [val_main_v27]
  rw [e]
  unfold soft
  refine Finset.sum_congr rfl fun k _ => ?_
  rw [weight, denom, ← peak]
  simp only [expo]

/-- Where the entries of the averages' rows come from. -/
theorem moved_low (r : Fin 2048) (c : Fin 1024) :
    val_main_v30 (F := Ideal) x0 x1 x2 (ix2 r c)
      = val_main_v27 (F := Ideal) x0 x1 x2 (ix5 ⟨r.val / 1024, by omega⟩
              ⟨c.val / 512, by omega⟩ ⟨c.val % 128, by omega⟩ ⟨c.val / 128 % 4, by omega⟩
              ⟨r.val % 1024, by omega⟩) := by
  pointwise [val_main_v30, val_main_v29, val_main_v28]

/-- The rows that are kept from the last argument. -/
theorem kept (r : Fin 4096) (c : Fin 1024) :
    val_main_v11 (F := Ideal) x3 (ix2 r c) = x3 (ix2 ⟨r.val, by omega⟩ c) := by
  pointwise [val_main_v11]

/-- Where the entries of the result come from. -/
theorem moved (r : Fin 6144) (c : Fin 1024) :
    val_main_v31 (F := Ideal) x0 x1 x2 x3 (ix2 r c)
      = if h : r.val < 4096 then val_main_v11 (F := Ideal) x3 (ix2 ⟨r.val, h⟩ c) else
          val_main_v30 (F := Ideal) x0 x1 x2 (ix2 ⟨r.val - 4096, by omega⟩ c) := by
  unfold val_main_v31
  generalize val_main_v11 (F := Ideal) x3 = A
  generalize val_main_v30 (F := Ideal) x0 x1 x2 = B
  pointwise

/-- The result: the first 4096 rows are those of the last argument, the others the averages. -/
theorem result (r : Fin 6144) (c : Fin 1024) :
    val_main_v31 (F := Ideal) x0 x1 x2 x3 (ix2 r c)
      = if h : r.val < 4096 then x3 (ix2 r c) else
          soft (fun k : Fin 1280 => val_main_v15 (F := Ideal) x0 x1 (ix5 ⟨(r.val - 4096) / 1024, by omega⟩
              ⟨c.val / 512, by omega⟩ ⟨c.val / 128 % 4, by omega⟩ ⟨(r.val - 4096) % 1024, by omega⟩ k))
            (fun k => val_main_v10 (F := Ideal) x0 x2 (ix4 ⟨(r.val - 4096) / 1024, by omega⟩ k ⟨c.val / 512, by omega⟩
              ⟨c.val % 128, by omega⟩)) := by
  rw [moved]
  by_cases h : r.val < 4096
  · rw [dif_pos h, dif_pos h, kept]
  · rw [dif_neg h, dif_neg h, moved_low, average]

end Cert.LatentRefIdeal.At

end
-- ==== Proof.LatentValue.lean ====
/-
  The latent attention call's result array as one function of its arguments.
-/
module

public import proofs.«01_k».proof.Proof.LatentBlock
public import proofs.«01_k».proof.Proof.LatentRead

@[expose] public section

set_option maxRecDepth 16384

noncomputable section

namespace Cert.LatentIdeal.Whole

open Cert.LatentIdeal Cert.LatentIdeal.Gen Cert.Soft
open Idealize.ShloMosaic Idealize.ShloMosaic.TcCoe Idealize.SL.Sem
open Idealize.ShloMosaic.Pipeline (Dat)

variable (m : (ℓ : Loc nD τ sig) → Buf (Elt Ideal) ℓ)

/-- The blocks that a grid point works on. -/
theorem idx : ∀ t : Fin cfg0.N,
    win0_0.index t = ![16 + t.val / 8 * 4 + t.val % 4, t.val / 4 % 2]
    ∧ win0_1.index t = ![4 + t.val / 8, 8 + t.val / 4 % 2]
    ∧ win0_2.index t = ![4 + t.val / 8, 10 + t.val / 4 % 2]
    ∧ win0_3.index t = ![t.val / 8, 0, t.val / 4 % 2]
    ∧ win0_4.index t = ![t.val / 8, 0, t.val / 4 % 2]
    ∧ win0_5.index t = ![16 + t.val / 8 * 4 + t.val % 4, t.val / 4 % 2] ∧ t.val < 16 :=
  (by decide +kernel : ∀ t : Fin grid0.N, _)

/-- The result array entry in latent row `b, q` of key-value head `h`, query head `g`, lane `d`, from the projection `x0` and
the cached context keys and values: the kernel's two-part average. -/
def avg (x0 : FVec Ideal S6144x6656 .f32) (x1 x2 : FVec Ideal S2x1x256x2x128 .f32)
    (b h : Fin 2) (g : Fin 4) (q : Fin 1024) (d : Fin 128) : EReal :=
  flash2
    (fun k : Fin 1024 =>
      (∑ i : Fin 128, x0 (ix2 ⟨4096 + b.val * 1024 + q.val, by omega⟩ ⟨h.val * 512 + g.val * 128 + i.val, by omega⟩)
        * x0 (ix2 ⟨4096 + b.val * 1024 + k.val, by omega⟩ ⟨1024 + h.val * 128 + i.val, by omega⟩)) * Block.scale)
    (fun k : Fin 256 =>
      (∑ i : Fin 128, x0 (ix2 ⟨4096 + b.val * 1024 + q.val, by omega⟩ ⟨h.val * 512 + g.val * 128 + i.val, by omega⟩)
        * x1 (ix5 b 0 k h i)) * Block.scale)
    (fun k => x0 (ix2 ⟨4096 + b.val * 1024 + k.val, by omega⟩ ⟨1280 + h.val * 128 + d.val, by omega⟩))
    (fun k => x2 (ix5 b 0 k h d))

/-- The block of queries that point `t` reads. -/
theorem q_apply (c : Dev nD) (t : Fin cfg0.N) (r : Fin 256) (n : Fin 512) (h : t.val < 16) :
    iblk m c 0 t (ix2 r n) = m ((c : Thread nD τ).loc main_arg0)
      (ix2 ⟨4096 + t.val / 8 * 1024 + (t.val % 4 * 256 + r.val), by omega⟩ ⟨t.val / 4 % 2 * 512 + n.val, by omega⟩) := by
  blk_ext [iblk, V, idx t]

/-- The block of latent keys. -/
theorem k_apply (c : Dev nD) (t : Fin cfg0.N) (x : Fin 1024) (i : Fin 128) (h : t.val < 16) :
    iblk m c 1 t (ix2 x i) = m ((c : Thread nD τ).loc main_arg0)
      (ix2 ⟨4096 + t.val / 8 * 1024 + x.val, by omega⟩ ⟨1024 + t.val / 4 % 2 * 128 + i.val, by omega⟩) := by
  blk_ext [iblk, V, idx t]

/-- The block of latent values. -/
theorem v_apply (c : Dev nD) (t : Fin cfg0.N) (x : Fin 1024) (i : Fin 128) (h : t.val < 16) :
    iblk m c 2 t (ix2 x i) = m ((c : Thread nD τ).loc main_arg0)
      (ix2 ⟨4096 + t.val / 8 * 1024 + x.val, by omega⟩ ⟨1280 + t.val / 4 % 2 * 128 + i.val, by omega⟩) := by
  blk_ext [iblk, V, idx t]

/-- The block of context keys. -/
theorem ck_apply (c : Dev nD) (t : Fin cfg0.N) (x : Fin 256) (i : Fin 128) (h : t.val < 16) :
    iblk m c 3 t (ix3 0 x i) = m ((c : Thread nD τ).loc main_arg1)
      (ix5 ⟨t.val / 8, by omega⟩ 0 x ⟨t.val / 4 % 2, by omega⟩ i) := by
  blk_point [iblk, V, idx t]

/-- The block of context values. -/
theorem cv_apply (c : Dev nD) (t : Fin cfg0.N) (x : Fin 256) (i : Fin 128) (h : t.val < 16) :
    iblk m c 4 t (ix3 0 x i) = m ((c : Thread nD τ).loc main_arg2)
      (ix5 ⟨t.val / 8, by omega⟩ 0 x ⟨t.val / 4 % 2, by omega⟩ i) := by
  blk_point [iblk, V, idx t]

/-- What a grid point leaves in its output block, from the arguments. -/
theorem block_apply (c : Dev nD) (t : Fin cfg0.N) (r : Fin 256) (n : Fin 512) (h : t.val < 16) :
    outsAt0 m c t (ix2 r n) = avg (m ((c : Thread nD τ).loc main_arg0)) (m ((c : Thread nD τ).loc main_arg1))
      (m ((c : Thread nD τ).loc main_arg2)) ⟨t.val / 8, by omega⟩ ⟨t.val / 4 % 2, by omega⟩ ⟨n.val / 128, by omega⟩
      ⟨t.val % 4 * 256 + r.val, by omega⟩ ⟨n.val % 128, Nat.mod_lt _ (by decide)⟩ := by
  rw [Block.out_apply]
  unfold Block.head avg
  congr 1
  · funext x
    unfold Block.score
    refine congrArg (· * Block.scale) (Finset.sum_congr rfl fun i _ => ?_)
    rw [q_apply m c t _ _ h, k_apply m c t _ _ h]
    simp only [add_assoc]
  · funext x
    unfold Block.cscore
    refine congrArg (· * Block.scale) (Finset.sum_congr rfl fun i _ => ?_)
    rw [q_apply m c t _ _ h, ck_apply m c t _ _ h]
    simp only [add_assoc]
  · funext x
    rw [v_apply m c t _ _ h]
  · funext x
    rw [cv_apply m c t _ _ h]

/-- The array that the call leaves: the averages in the latent rows, what was there before in the others. -/
def whole (x0 : FVec Ideal S6144x6656 .f32) (x1 x2 : FVec Ideal S2x1x256x2x128 .f32) (x3 : FVec Ideal S6144x1024 .bf16) :
    FVec Ideal S6144x1024 .bf16 := fun i =>
  if h : 4096 ≤ (i 0 : ℕ) then
    avg x0 x1 x2 ⟨((i 0 : ℕ) - 4096) / 1024, by have : (i 0 : ℕ) < 6144 := (i 0).isLt; omega⟩
      ⟨(i 1 : ℕ) / 512, by have : (i 1 : ℕ) < 1024 := (i 1).isLt; omega⟩
      ⟨(i 1 : ℕ) / 128 % 4, by omega⟩ ⟨((i 0 : ℕ) - 4096) % 1024, by omega⟩ ⟨(i 1 : ℕ) % 128, by omega⟩
  else x3 i

/-- The averages' place in the array. -/
theorem whole_ix2 (x0 : FVec Ideal S6144x6656 .f32) (x1 x2 : FVec Ideal S2x1x256x2x128 .f32) (x3 : FVec Ideal S6144x1024 .bf16)
    (r : Fin 6144) (n : Fin 1024) (b h : Fin 2) (g : Fin 4) (q : Fin 1024) (d : Fin 128)
    (hr : r.val = 4096 + b.val * 1024 + q.val) (hn : n.val = h.val * 512 + g.val * 128 + d.val) :
    whole x0 x1 x2 x3 (ix2 r n) = avg x0 x1 x2 b h g q d := by
  have e : ∀ b' h' g' q' d', b' = b → h' = h → g' = g → q' = q → d' = d →
      avg x0 x1 x2 b' h' g' q' d' = avg x0 x1 x2 b h g q d := by
    rintro _ _ _ _ _ rfl rfl rfl rfl rfl
    rfl
  refine (dif_pos (by change 4096 ≤ r.val; omega)).trans (e _ _ _ _ _ ?_ ?_ ?_ ?_ ?_) <;> apply Fin.ext
  · change (r.val - 4096) / 1024 = b.val
    omega
  · change n.val / 512 = h.val
    omega
  · change n.val / 128 % 4 = g.val
    omega
  · change (r.val - 4096) % 1024 = q.val
    omega
  · change n.val % 128 = d.val
    omega

/-- Where entry `(r, n)` of a point's output block lies in the array. -/
theorem emb_apply (t : Fin cfg0.N) (r : Fin 256) (n : Fin 512) (h : t.val < 16) :
    (win0_5.blk t).view.emb (ix2 r n)
      = (ix2 ⟨4096 + t.val / 8 * 1024 + (t.val % 4 * 256 + r.val), by omega⟩ ⟨t.val / 4 % 2 * 512 + n.val, by omega⟩
          : S6144x1024.Idx) := by
  blk_ext [idx t]

/-- The call leaves that array. -/
theorem final (c : Dev nD) :
    (dats m 0 c).arrAt 5 (cfgs 0).N = whole (m ((c : Thread nD τ).loc main_arg0)) (m ((c : Thread nD τ).loc main_arg1))
      (m ((c : Thread nD τ).loc main_arg2)) (m ((c : Thread nD τ).loc main_arg3)) := by
  have base : (dats m 0 c).arrAt 5 (cfgs 0).N = fun i => if 16 * 256 ≤ (i 0 : ℕ) then
      whole (m ((c : Thread nD τ).loc main_arg0)) (m ((c : Thread nD τ).loc main_arg1))
      (m ((c : Thread nD τ).loc main_arg2)) (m ((c : Thread nD τ).loc main_arg3)) i else V m c main_v4 i := by
    refine (dats m 0 c).arrAt_eq_of_coversWhere 5 _ (fun β => 16 ≤ β 0) (by decide +kernel) (fun t hf y => ?_)
      (fun j => by blk_simp [Pipeline.Window.cell_apply]; omega)
    have ht := (idx t).2.2.2.2.2
    blk_simp
    rw [after0_5]
    obtain ⟨r, n, rfl⟩ : ∃ (r : Fin 256) (n : Fin 512), y = ix2 r n := ⟨y 0, y 1, by funext a; fin_cases a <;> rfl⟩
    rw [emb_apply t r n ht.2, block_apply m c t r n ht.2]
    exact (whole_ix2 _ _ _ _ _ _ _ _ _ _ _ (by dsimp only <;> omega) (by dsimp only <;> omega)).symm
  rw [base]
  funext i
  unfold whole
  by_cases h : 4096 ≤ (i 0 : ℕ)
  · rw [if_pos h]
  · rw [if_neg h, dif_neg h]
    entry_read
    rfl

end Cert.LatentIdeal.Whole
end
-- ==== Proof.LatentClaim.lean ====
/-
  The latent attention claim: the kernel's array is the reference's.
-/
module

public import proofs.«01_k».proof.Defs
public import proofs.«01_k».proof.Proof.Gen.Pre_real_scores
public import proofs.«01_k».proof.Proof.Real
public import proofs.«01_k».proof.Proof.LatentValue
public import Idealize.ShloMosaic.Lib.Claim

@[expose] public section

set_option maxRecDepth 16384

noncomputable section

namespace Cert.LatentClaim

open Cert.Soft Cert.Real
open Idealize.ShloMosaic Idealize.ShloMosaic.TcCoe Idealize.SL.Sem
open Cert.LatentIdeal.Whole (avg whole)
open Cert.LatentRefIdeal (S6144x6656 S2x1x256x2x128 S6144x1024)

variable (x0 : FVec Ideal S6144x6656 .f32) (x1 x2 : FVec Ideal S2x1x256x2x128 .f32) (x3 : FVec Ideal S6144x1024 .bf16)

/-- The scale is a real number. -/
theorem scale_real : ∃ r : ℝ, Ideal.ofBits .f32 0x3DB504F3#32 = r :=
  ⟨_, by simp [Ideal.ofBits, Ideal.ieee]; rfl⟩

/-- The two-part average is the softmax average over both parts' keys together, where projection and cached keys are real. -/
theorem avg_eq (h0 : IsReal x0) (h1 : IsReal x1) (b h : Fin 2) (g : Fin 4) (q : Fin 1024) (d : Fin 128) :
    avg x0 x1 x2 b h g q d
      = soft (fun k : Fin 1280 => Cert.LatentRefIdeal.Read.val_main_v15 (F := Ideal) x0 x1 (ix5 b h g q k))
          (fun k : Fin 1280 => Cert.LatentRefIdeal.Read.val_main_v10 (F := Ideal) x0 x2 (ix4 b k h d)) := by
  have hs : IsReal (fun k : Fin 1280 => Cert.LatentRefIdeal.Read.val_main_v15 (F := Ideal) x0 x1 (ix5 b h g q k)) := by
    intro k
    refine Fin.addCases (m := 1024) (n := 256) (fun k => ?_) (fun k => ?_) k
    · dsimp only
      rw [Cert.LatentRefIdeal.At.score_left]
      exact mul (sum _ _ fun i => mul (h0 _) (h0 _)) scale_real
    · dsimp only
      rw [Cert.LatentRefIdeal.At.score_right]
      exact mul (sum _ _ fun i => mul (h0 _) (h1 _)) scale_real
  rw [← flash1_eq_soft (n := 1279) _ _ hs, ← flash2_eq (n := 1024) (k := 256)]
  unfold avg
  congr 1
  · funext k
    exact (Cert.LatentRefIdeal.At.score_left x0 x1 b h g q k).symm
  · funext k
    exact (Cert.LatentRefIdeal.At.score_right x0 x1 b h g q k).symm
  · funext k
    exact (Cert.LatentRefIdeal.At.value_left x0 x2 b h k d).symm
  · funext k
    exact (Cert.LatentRefIdeal.At.value_right x0 x2 b h k d).symm

/-- The kernel's array is the reference's. -/
theorem whole_eq (h0 : IsReal x0) (h1 : IsReal x1) :
    whole x0 x1 x2 x3 = Cert.LatentRefIdeal.Read.val_main_v31 (F := Ideal) x0 x1 x2 x3 := by
  funext i
  obtain ⟨r, c, rfl⟩ : ∃ (r : Fin 6144) (c : Fin 1024), i = ix2 r c := ⟨i 0, i 1, by funext a; fin_cases a <;> rfl⟩
  rw [Cert.LatentRefIdeal.At.result]
  by_cases h : r.val < 4096
  · rw [dif_pos h]
    exact dif_neg (by change ¬ 4096 ≤ r.val; omega)
  · rw [dif_neg h]
    refine (dif_pos (by change 4096 ≤ r.val; omega)).trans ?_
    exact avg_eq x0 x1 x2 h0 h1 _ _ _ _ _

/-- The claim. -/
theorem algebraic : Cert.algebraic_LatentIdeal_LatentRefIdeal_pre_real_scores := by
  pair_intro
  · run_from Cert.LatentIdeal.Gen.run_main m g
  · run_from Cert.LatentRefIdeal.Value.run m' g'
    obtain ⟨h0, h1⟩ := Cert.Real.scores _ _ _ _ (hpre c)
    rw [Cert.LatentRefIdeal.Read.val_main_v31_eq m' c, Cert.LatentIdeal.Whole.final m c, (hagree c).1, (hagree c).2.1,
      (hagree c).2.2.1, (hagree c).2.2.2]
    exact (whole_eq _ _ _ _ h0 h1).symm

end Cert.LatentClaim
end
-- ==== Proof.PromptBlock.lean ====
/-
  The prompt attention call, one block at a time: what a grid point leaves in its output block, read at an index.
-/
module

public import proofs.«01_k».proof.Proof.Gen.PromptIdeal.Value
public import proofs.«01_k».proof.Proof.Soft
public import Idealize.ShloMosaic.Lib.Pipeline.ValueKit

@[expose] public section

set_option maxRecDepth 16384

noncomputable section

namespace Cert.PromptIdeal.Block

open Cert.PromptIdeal Cert.PromptIdeal.Gen Cert.Soft
open Idealize.ShloMosaic Idealize.ShloMosaic.TcCoe Idealize.SL.Sem
open Idealize.ShloMosaic.Pipeline (Dat)

variable (q : FVec Ideal S256x512 .f32) (k v : FVec Ideal S256x128 .f32)

/-- The scale that the scores are multiplied by. -/
abbrev scale : EReal := Ideal.ofBits .f32 0x3DB504F3#32

/-- Query row `r` of head `o` of the block, against key `x`. -/
def score (r : Fin 256) (o : Fin 4) (x : Fin 256) : EReal :=
  (∑ i : Fin 128, q (ix2 r ⟨o.val * 128 + i.val, by omega⟩) * k (ix2 x i)) * scale

/-- Row `r`, head `o`, lane `d` of a block: the average of the values. -/
def head (r : Fin 256) (o : Fin 4) (d : Fin 128) : EReal :=
  flash1 (score q k r o) (fun x => v (ix2 x d))

variable (qh : FVec Ideal S256x128 .f32)

/-- The first head's stored value, from its own 128 columns of the queries. -/
theorem pay_apply0 (r : Fin 256) (d : Fin 128) (o : Fin 4)
    (hq : ∀ i : Fin 128, qh (ix2 r i) = q (ix2 r ⟨o.val * 128 + i.val, by omega⟩)) :
    k0_pay3 (F := Ideal) k v qh (ix2 r d) = head q k v r o d := by
  unfold_payloads
  pointwise
  simp only [hq]
  rfl

/-- The second head's stored value, from its own 128 columns of the queries. -/
theorem pay_apply1 (r : Fin 256) (d : Fin 128) (o : Fin 4)
    (hq : ∀ i : Fin 128, qh (ix2 r i) = q (ix2 r ⟨o.val * 128 + i.val, by omega⟩)) :
    k0_pay7 (F := Ideal) (k0_pay5 k qh) (k0_pay6 k v qh) (ix2 r d) = head q k v r o d := by
  unfold_payloads
  pointwise
  simp only [hq]
  rfl

/-- The third head's stored value, from its own 128 columns of the queries. -/
theorem pay_apply2 (r : Fin 256) (d : Fin 128) (o : Fin 4)
    (hq : ∀ i : Fin 128, qh (ix2 r i) = q (ix2 r ⟨o.val * 128 + i.val, by omega⟩)) :
    k0_pay8 (F := Ideal) (k0_pay1 k) (k0_pay2 v) qh (ix2 r d) = head q k v r o d := by
  unfold_payloads
  pointwise
  simp only [hq]
  rfl

/-- The fourth head's stored value, from its own 128 columns of the queries. -/
theorem pay_apply3 (r : Fin 256) (d : Fin 128) (o : Fin 4)
    (hq : ∀ i : Fin 128, qh (ix2 r i) = q (ix2 r ⟨o.val * 128 + i.val, by omega⟩)) :
    k0_pay9 (F := Ideal) (k0_pay1 k) (k0_pay2 v) qh (ix2 r d) = head q k v r o d := by
  unfold_payloads
  pointwise
  simp only [hq]
  rfl

/-- What a block's stores leave is `head` of the input blocks. -/
theorem out_apply (r : Fin 256) (n : Fin 512) :
    out0_3 (F := Ideal) q k v (ix2 r n) = head q k v r ⟨n.val / 128, by omega⟩ ⟨n.val % 128, Nat.mod_lt _ (by decide)⟩ := by
  unfold_out out0_3
  frame_out
  canon_tiles x h
  all_goals
    idx_vars x
    change (r : ℕ) = (x0 : ℕ) at h0
    change (n : ℕ) = _ at h1
    obtain rfl : r = x0 := Fin.ext h0
  · rw [show (⟨n.val / 128, by omega⟩ : Fin 4) = 3 from Fin.ext (by show n.val / 128 = 3; omega),
      show (⟨n.val % 128, Nat.mod_lt _ (by decide)⟩ : Fin 128) = x1 from Fin.ext (by show n.val % 128 = _; omega)]
    refine pay_apply3 q k v _ r x1 3 fun i => ?_
    pointwise
  · rw [show (⟨n.val / 128, by omega⟩ : Fin 4) = 2 from Fin.ext (by show n.val / 128 = 2; omega),
      show (⟨n.val % 128, Nat.mod_lt _ (by decide)⟩ : Fin 128) = x1 from Fin.ext (by show n.val % 128 = _; omega)]
    refine pay_apply2 q k v _ r x1 2 fun i => ?_
    pointwise
  · rw [show (⟨n.val / 128, by omega⟩ : Fin 4) = 1 from Fin.ext (by show n.val / 128 = 1; omega),
      show (⟨n.val % 128, Nat.mod_lt _ (by decide)⟩ : Fin 128) = x1 from Fin.ext (by show n.val % 128 = _; omega)]
    refine pay_apply1 q k v _ r x1 1 fun i => ?_
    pointwise
  · rw [show (⟨n.val / 128, by omega⟩ : Fin 4) = 0 from Fin.ext (by show n.val / 128 = 0; omega),
      show (⟨n.val % 128, Nat.mod_lt _ (by decide)⟩ : Fin 128) = x1 from Fin.ext (by show n.val % 128 = _; omega)]
    refine pay_apply0 q k v _ r x1 0 fun i => ?_
    pointwise

end Cert.PromptIdeal.Block

end
-- ==== Proof.PromptValue.lean ====
/-
  The prompt attention call's result array as one function of its argument.
-/
module

public import proofs.«01_k».proof.Proof.PromptBlock

@[expose] public section

set_option maxRecDepth 16384

noncomputable section

namespace Cert.PromptIdeal.Whole

open Cert.PromptIdeal Cert.PromptIdeal.Gen Cert.Soft
open Idealize.ShloMosaic Idealize.ShloMosaic.TcCoe Idealize.SL.Sem
open Idealize.ShloMosaic.Pipeline (Dat)

variable (m : (ℓ : Loc nD τ sig) → Buf (Elt Ideal) ℓ)

/-- The blocks that a grid point works on. -/
theorem idx : ∀ t : Fin cfg0.N,
    win0_0.index t = ![t.val / 2, t.val % 2]
    ∧ win0_1.index t = ![t.val / 2, 8 + t.val % 2]
    ∧ win0_2.index t = ![t.val / 2, 10 + t.val % 2]
    ∧ win0_3.index t = ![t.val / 2, t.val % 2] ∧ t.val < 32 :=
  (by decide +kernel : ∀ t : Fin grid0.N, _)

/-- The average in row `q` of sequence `b`, key-value head `h`, query head `g`, lane `d`, from the projection. -/
def avg (x0 : FVec Ideal S6144x6656 .f32) (b : Fin 16) (h : Fin 2) (g : Fin 4) (q : Fin 256) (d : Fin 128) : EReal :=
  flash1
    (fun k : Fin 256 =>
      (∑ i : Fin 128, x0 (ix2 ⟨b.val * 256 + q.val, by omega⟩ ⟨h.val * 512 + g.val * 128 + i.val, by omega⟩)
        * x0 (ix2 ⟨b.val * 256 + k.val, by omega⟩ ⟨1024 + h.val * 128 + i.val, by omega⟩)) * Block.scale)
    (fun k => x0 (ix2 ⟨b.val * 256 + k.val, by omega⟩ ⟨1280 + h.val * 128 + d.val, by omega⟩))

/-- The block of queries that point `t` reads. -/
theorem q_apply (c : Dev nD) (t : Fin cfg0.N) (r : Fin 256) (n : Fin 512) (h : t.val < 32) :
    iblk m c 0 t (ix2 r n) = m ((c : Thread nD τ).loc main_arg0)
      (ix2 ⟨t.val / 2 * 256 + r.val, by omega⟩ ⟨t.val % 2 * 512 + n.val, by omega⟩) := by
  blk_ext [iblk, V, idx t]

/-- The block of keys. -/
theorem k_apply (c : Dev nD) (t : Fin cfg0.N) (x : Fin 256) (i : Fin 128) (h : t.val < 32) :
    iblk m c 1 t (ix2 x i) = m ((c : Thread nD τ).loc main_arg0)
      (ix2 ⟨t.val / 2 * 256 + x.val, by omega⟩ ⟨1024 + t.val % 2 * 128 + i.val, by omega⟩) := by
  blk_ext [iblk, V, idx t]

/-- The block of values. -/
theorem v_apply (c : Dev nD) (t : Fin cfg0.N) (x : Fin 256) (i : Fin 128) (h : t.val < 32) :
    iblk m c 2 t (ix2 x i) = m ((c : Thread nD τ).loc main_arg0)
      (ix2 ⟨t.val / 2 * 256 + x.val, by omega⟩ ⟨1280 + t.val % 2 * 128 + i.val, by omega⟩) := by
  blk_ext [iblk, V, idx t]

/-- What a grid point leaves in its output block, from the argument. -/
theorem block_apply (c : Dev nD) (t : Fin cfg0.N) (r : Fin 256) (n : Fin 512) (h : t.val < 32) :
    out0_3 (F := Ideal) (iblk m c 0 t) (iblk m c 1 t) (iblk m c 2 t) (ix2 r n)
      = avg (m ((c : Thread nD τ).loc main_arg0)) ⟨t.val / 2, by omega⟩ ⟨t.val % 2, by omega⟩
          ⟨n.val / 128, by omega⟩ r ⟨n.val % 128, Nat.mod_lt _ (by decide)⟩ := by
  refine (Block.out_apply _ _ _ r n).trans ?_
  unfold Block.head avg
  congr 1
  · funext x
    unfold Block.score
    refine congrArg (· * Block.scale) (Finset.sum_congr rfl fun i _ => ?_)
    rw [q_apply m c t _ _ h, k_apply m c t _ _ h]
    simp only [add_assoc]
  · funext x
    rw [v_apply m c t _ _ h]

/-- The averages as an array over all rows; only the prompt's rows are meant. -/
def whole (x0 : FVec Ideal S6144x6656 .f32) : FVec Ideal S6144x1024 .bf16 := fun i =>
  avg x0 ⟨(i 0 : ℕ) / 256 % 16, by omega⟩
    ⟨(i 1 : ℕ) / 512, by have : (i 1 : ℕ) < 1024 := (i 1).isLt; omega⟩
    ⟨(i 1 : ℕ) / 128 % 4, by omega⟩ ⟨(i 0 : ℕ) % 256, by omega⟩ ⟨(i 1 : ℕ) % 128, by omega⟩

/-- The averages' place in the array. -/
theorem whole_ix2 (x0 : FVec Ideal S6144x6656 .f32)
    (r : Fin 6144) (n : Fin 1024) (b : Fin 16) (h : Fin 2) (g : Fin 4) (q : Fin 256) (d : Fin 128)
    (hr : r.val = b.val * 256 + q.val) (hn : n.val = h.val * 512 + g.val * 128 + d.val) :
    whole x0 (ix2 r n) = avg x0 b h g q d := by
  have e : ∀ b' h' g' q' d', b' = b → h' = h → g' = g → q' = q → d' = d → avg x0 b' h' g' q' d' = avg x0 b h g q d := by
    rintro _ _ _ _ _ rfl rfl rfl rfl rfl
    rfl
  refine e _ _ _ _ _ ?_ ?_ ?_ ?_ ?_ <;> apply Fin.ext
  · change r.val / 256 % 16 = b.val
    omega
  · change n.val / 512 = h.val
    omega
  · change n.val / 128 % 4 = g.val
    omega
  · change r.val % 256 = q.val
    omega
  · change n.val % 128 = d.val
    omega

/-- Where entry `(r, n)` of a point's output block lies in the array. -/
theorem emb_apply (t : Fin cfg0.N) (r : Fin 256) (n : Fin 512) (h : t.val < 32) :
    (win0_3.blk t).view.emb (ix2 r n)
      = (ix2 ⟨t.val / 2 * 256 + r.val, by omega⟩ ⟨t.val % 2 * 512 + n.val, by omega⟩ : S6144x1024.Idx) := by
  blk_ext [idx t]

/-- In the prompt's rows the call leaves that array. -/
theorem final (c : Dev nD) (i : S6144x1024.Idx) (hi : (i 0 : ℕ) < 4096) :
    (dats m 0 c).arrAt 3 (cfgs 0).N i = whole (m ((c : Thread nD τ).loc main_arg0)) i := by
  have base : (dats m 0 c).arrAt 3 (cfgs 0).N = fun i => if (i 0 : ℕ) < 16 * 256 then
      whole (m ((c : Thread nD τ).loc main_arg0)) i else V m c main_v0 i := by
    refine (dats m 0 c).arrAt_eq_of_coversWhere 3 _ (fun β => β 0 < 16) (by decide +kernel) (fun t hf y => ?_)
      (fun j => by blk_simp [Pipeline.Window.cell_apply]; omega)
    have ht := (idx t).2.2.2
    blk_simp
    rw [after0_3]
    obtain ⟨r, n, rfl⟩ : ∃ (r : Fin 256) (n : Fin 512), y = ix2 r n := ⟨y 0, y 1, by funext a; fin_cases a <;> rfl⟩
    rw [emb_apply t r n ht.2]
    refine (block_apply m c t r n ht.2).trans ?_
    exact (whole_ix2 _ _ _ _ _ _ _ _ (by dsimp only <;> omega) (by dsimp only <;> omega)).symm
  rw [base]
  exact if_pos hi

end Cert.PromptIdeal.Whole
end
-- ==== Proof.PromptRead.lean ====
/-
  The prompt attention's reference, read at an index.
-/
module

public import proofs.«01_k».proof.Proof.Gen.PromptRefIdeal.Read
public import proofs.«01_k».proof.Proof.Soft
public import Idealize.ShloMosaic.Lib.Pointwise

@[expose] public section

set_option maxRecDepth 16384

noncomputable section

namespace Cert.PromptRefIdeal.At

open Cert.PromptRefIdeal Cert.PromptRefIdeal.Read Cert.Soft
open Idealize.ShloMosaic

variable (x0 : FVec Ideal S6144x6656 .f32)

/-- A score of sequence `b`, key-value head `h`, query head `g`. -/
theorem score (b : Fin 16) (h : Fin 2) (g : Fin 4) (q k : Fin 256) :
    val_main_v10 (F := Ideal) x0 (ix5 b h g q k)
      = (∑ i : Fin 128, x0 (ix2 ⟨b.val * 256 + q.val, by omega⟩ ⟨h.val * 512 + g.val * 128 + i.val, by omega⟩)
          * x0 (ix2 ⟨b.val * 256 + k.val, by omega⟩ ⟨1024 + h.val * 128 + i.val, by omega⟩))
        * Ideal.ofBits .f32 0x3DB504F3#32 := by
  pointwise [val_main_v10, val_main_v9, val_main_v8, val_main_v7, val_main_v5, val_main_v4, val_main_v2, val_main_v1,
    val_main_v0, val_main_cst]
  refine congrArg (· * Ideal.ofBits .f32 0x3DB504F3#32) (Finset.sum_congr rfl fun i _ => ?_)
  rw [mul_comm]
  simp only [add_assoc]

/-- A value. -/
theorem value (b : Fin 16) (h : Fin 2) (k : Fin 256) (d : Fin 128) :
    val_main_v6 (F := Ideal) x0 (ix4 b k h d)
      = x0 (ix2 ⟨b.val * 256 + k.val, by omega⟩ ⟨1280 + h.val * 128 + d.val, by omega⟩) := by
  pointwise [val_main_v6, val_main_v3, val_main_v0]
  simp only [add_assoc]

/-- A weight: an exponential over the row's sum. -/
theorem weight (b : Fin 16) (h : Fin 2) (g : Fin 4) (q k : Fin 256) :
    val_main_v21 (F := Ideal) x0 (ix5 b h g q k)
      = Ideal.div (val_main_v17 (F := Ideal) x0 (ix5 b h g q k)) (val_main_v18 (F := Ideal) x0 (ix4 b h g q)) := by
  pointwise [val_main_v21, val_main_v20, val_main_v19]

/-- The maximum that is subtracted is at least negative infinity. -/
theorem top (b : Fin 16) (h : Fin 2) (g : Fin 4) (q : Fin 256) :
    val_main_v13 (F := Ideal) x0 (ix4 b h g q) = max ninf (val_main_v11 (F := Ideal) x0 (ix4 b h g q)) := by
  rw [val_main_v13_apply, val_main_v12_apply, val_main_cst_1_apply]
  rfl

/-- The exponential of a score less its row's maximum. -/
theorem expo (b : Fin 16) (h : Fin 2) (g : Fin 4) (q k : Fin 256) :
    val_main_v17 (F := Ideal) x0 (ix5 b h g q k)
      = Ideal.exp (val_main_v10 (F := Ideal) x0 (ix5 b h g q k)
          - max ninf (val_main_v11 (F := Ideal) x0 (ix4 b h g q))) := by
  rw [← top]
  pointwise [val_main_v17, val_main_v16, val_main_v15, val_main_v14]

/-- The sum of a row's exponentials. -/
theorem denom (b : Fin 16) (h : Fin 2) (g : Fin 4) (q : Fin 256) :
    val_main_v18 (F := Ideal) x0 (ix4 b h g q) = ∑ k : Fin 256, val_main_v17 (F := Ideal) x0 (ix5 b h g q k) := by
  pointwise [val_main_v18, val_main_cst_2]

/-- A row's maximum. -/
theorem peak (b : Fin 16) (h : Fin 2) (g : Fin 4) (q : Fin 256) :
    val_main_v11 (F := Ideal) x0 (ix4 b h g q)
      = Finset.fold max ninf (fun k => val_main_v10 (F := Ideal) x0 (ix5 b h g q k)) Finset.univ := by
  pointwise [val_main_v11, val_main_cst_0]

/-- One entry of the weighted averages is `soft` of its row of scores. -/
theorem average (b : Fin 16) (h : Fin 2) (g : Fin 4) (q : Fin 256) (d : Fin 128) :
    val_main_v22 (F := Ideal) x0 (ix5 b h d g q)
      = soft (fun k : Fin 256 => val_main_v10 (F := Ideal) x0 (ix5 b h g q k))
          (fun k => val_main_v6 (F := Ideal) x0 (ix4 b k h d)) := by
  have e : val_main_v22 (F := Ideal) x0 (ix5 b h d g q)
      = ∑ k : Fin 256, val_main_v6 (F := Ideal) x0 (ix4 b k h d) * val_main_v21 (F := Ideal) x0 (ix5 b h g q k) := by
    pointwise [val_main_v22]
  rw [e]
  unfold soft
  refine Finset.sum_congr rfl fun k _ => ?_
  rw [weight, denom, ← peak]
  simp only [expo]

/-- Where the entries of the averages' rows come from. -/
theorem moved_low (r : Fin 4096) (c : Fin 1024) :
    val_main_v25 (F := Ideal) x0 (ix2 r c)
      = val_main_v22 (F := Ideal) x0 (ix5 ⟨r.val / 256, by omega⟩ ⟨c.val / 512, by omega⟩ ⟨c.val % 128, by omega⟩
          ⟨c.val / 128 % 4, by omega⟩ ⟨r.val % 256, by omega⟩) := by
  pointwise [val_main_v25, val_main_v24, val_main_v23]

/-- The result in a prompt row. -/
theorem result (r : Fin 4096) (c : Fin 1024) :
    val_main_v27 (F := Ideal) x0 (ix2 ⟨r.val, by omega⟩ c)
      = soft (fun k : Fin 256 => val_main_v10 (F := Ideal) x0 (ix5 ⟨r.val / 256, by omega⟩
              ⟨c.val / 512, by omega⟩ ⟨c.val / 128 % 4, by omega⟩ ⟨r.val % 256, by omega⟩ k))
            (fun k => val_main_v6 (F := Ideal) x0 (ix4 ⟨r.val / 256, by omega⟩ k ⟨c.val / 512, by omega⟩
              ⟨c.val % 128, by omega⟩)) := by
  rw [← average, ← moved_low]
  unfold val_main_v27
  generalize val_main_v25 (F := Ideal) x0 = A
  generalize val_main_v26 (F := Ideal) = B
  pointwise

end Cert.PromptRefIdeal.At

end
-- ==== Proof.PromptClaim.lean ====
/-
  The prompt attention claim: in the prompt's rows the kernel's array is the reference's.
-/
module

public import proofs.«01_k».proof.Defs
public import proofs.«01_k».proof.Proof.Gen.Pre_real_proj
public import proofs.«01_k».proof.Proof.Gen.On_prompt_rows
public import proofs.«01_k».proof.Proof.Real
public import proofs.«01_k».proof.Proof.PromptValue
public import proofs.«01_k».proof.Proof.PromptRead
public import Idealize.ShloMosaic.Lib.Claim

@[expose] public section

set_option maxRecDepth 16384

noncomputable section

namespace Cert.PromptClaim

open Cert.Soft Cert.Real
open Idealize.ShloMosaic Idealize.ShloMosaic.TcCoe Idealize.SL.Sem
open Cert.PromptIdeal.Whole (avg whole)
open Cert.PromptRefIdeal (S6144x6656 S6144x1024)

variable (x0 : FVec Ideal S6144x6656 .f32)

/-- The scale is a real number. -/
theorem scale_real : ∃ r : ℝ, Ideal.ofBits .f32 0x3DB504F3#32 = r :=
  ⟨_, by simp [Ideal.ofBits, Ideal.ieee]; rfl⟩

/-- The kernel's average is the softmax average, where the projection is real. -/
theorem avg_eq (h0 : IsReal x0) (b : Fin 16) (h : Fin 2) (g : Fin 4) (q : Fin 256) (d : Fin 128) :
    avg x0 b h g q d
      = soft (fun k : Fin 256 => Cert.PromptRefIdeal.Read.val_main_v10 (F := Ideal) x0 (ix5 b h g q k))
          (fun k : Fin 256 => Cert.PromptRefIdeal.Read.val_main_v6 (F := Ideal) x0 (ix4 b k h d)) := by
  have hs : IsReal (fun k : Fin 256 => Cert.PromptRefIdeal.Read.val_main_v10 (F := Ideal) x0 (ix5 b h g q k)) := by
    intro k
    dsimp only
    rw [Cert.PromptRefIdeal.At.score]
    exact mul (sum _ _ fun i => mul (h0 _) (h0 _)) scale_real
  rw [← flash1_eq_soft (n := 255) _ _ hs]
  unfold avg
  congr 1
  · funext k
    exact (Cert.PromptRefIdeal.At.score x0 b h g q k).symm
  · funext k
    exact (Cert.PromptRefIdeal.At.value x0 b h k d).symm

/-- In a prompt row the kernel's entry is the reference's. -/
theorem whole_eq (h0 : IsReal x0) (i : S6144x1024.Idx) (hi : (i 0 : ℕ) < 4096) :
    whole x0 i = Cert.PromptRefIdeal.Read.val_main_v27 (F := Ideal) x0 i := by
  obtain ⟨r, c, rfl⟩ : ∃ (r : Fin 6144) (c : Fin 1024), i = ix2 r c := ⟨i 0, i 1, by funext a; fin_cases a <;> rfl⟩
  have hr : r.val < 4096 := hi
  refine Eq.trans ?_ (Cert.PromptRefIdeal.At.result x0 ⟨r.val, hr⟩ c).symm
  rw [← avg_eq x0 h0]
  exact Cert.PromptIdeal.Whole.whole_ix2 _ _ _ _ _ _ _ _ (by dsimp only; omega) (by dsimp only; omega)

/-- The rows that the claim is about. -/
theorem row_lt (x0 : FVec Ideal S6144x6656 .f32) (i : S6144x1024.Idx) (h : Cert.On_prompt_rows.fn (F := Ideal) x0 i = 1#1) :
    (i 0 : ℕ) < 4096 := by
  have hi : (i 0 : ℕ) < 6144 := (i 0).isLt
  dsimp only [Cert.On_prompt_rows.fn] at h
  have h' : BitVec.ofBool (BitVec.slt (BitVec.ofNat 32 (i 0 : ℕ)) 4096#32) = 1#1 := h
  have key : ∀ b : Bool, BitVec.ofBool b = 1#1 → b = true := by decide
  have h2 := key _ h'
  rw [BitVec.slt_eq_decide, decide_eq_true_eq, BitVec.toInt_eq_toNat_cond, BitVec.toInt_eq_toNat_cond] at h2
  simp only [BitVec.toNat_ofNat] at h2
  split_ifs at h2 <;> omega

/-- The claim. -/
theorem algebraic : Cert.algebraic_PromptIdeal_PromptRefIdeal_on_prompt_rows_pre_real_proj := by
  intro m g m' g' hpre hagree
  refine ⟨fun c => whole (m ((c.tc : Thread Cert.PromptIdeal.nD Cert.PromptIdeal.τ).loc Cert.PromptIdeal.main_arg0)), ?_, ?_⟩
  · run_from Cert.PromptIdeal.Gen.run_main m g
    exact fun i hi => Cert.PromptIdeal.Whole.final m c i (row_lt _ i hi)
  · run_from Cert.PromptRefIdeal.Value.run m' g'
    intro i hi
    rw [Cert.PromptRefIdeal.Read.val_main_v27_eq m' c, hagree c]
    exact (whole_eq _ (Cert.Real.proj _ (hpre c)) i (row_lt _ i hi)).symm

end Cert.PromptClaim
end
-- ==== Proof.Ffn.lean ====
/-
  The feed-forward part as mathematics: one entry of it, and the same entry summed tile by tile of the hidden units.
-/
module

public import proofs.«01_k».proof.Proof.Real
public import Idealize.ShloMosaic.PureOps.Ideal

@[expose] public section

noncomputable section

namespace Cert.Ffn

open Cert.Real Idealize.ShloMosaic

variable (h : Fin 2048 → EReal) (w1 : Fin 2048 → Fin 8192 → EReal) (w2 : Fin 8192 → EReal)

/-- A hidden unit: the square of the positive part of its sum. -/
def act (f : Fin 8192) : EReal := max (∑ k, h k * w1 k f) 0 * max (∑ k, h k * w1 k f) 0

/-- The part of the output sum that the `u`-th 256 hidden units make. -/
def tile (u : ℕ) : EReal :=
  ∑ f : Fin 256, act h w1 ⟨(u * 256 + f.val) % 8192, Nat.mod_lt _ (by decide)⟩
    * w2 ⟨(u * 256 + f.val) % 8192, Nat.mod_lt _ (by decide)⟩

/-- The residual sum: what was there and the gate times the feed-forward output. -/
def ffn (x g : EReal) : EReal := x + g * ∑ f, act h w1 f * w2 f

/-- A hidden unit of real inputs is real. -/
theorem act_real (hh : IsReal h) (h1 : ∀ k, IsReal (w1 k)) (f : Fin 8192) : ∃ r : ℝ, act h w1 f = r := by
  obtain ⟨s, hs⟩ := sum Finset.univ (fun k => h k * w1 k f) fun k => mul (hh k) (h1 k f)
  have e : ∃ r : ℝ, max (∑ k, h k * w1 k f) 0 = (r : EReal) := by
    rw [hs]
    rcases le_total (s : EReal) 0 with l | l
    · exact ⟨0, by rw [max_eq_right l]; rfl⟩
    · exact ⟨s, max_eq_left l⟩
  exact mul e e

/-- A real factor goes through a finite sum of real numbers. -/
theorem mul_sum_real {ι : Type} (S : Finset ι) (g : EReal) (u : ι → EReal) (hg : ∃ r : ℝ, g = r) (hu : IsReal u) :
    g * ∑ i ∈ S, u i = ∑ i ∈ S, g * u i := by
  classical
  obtain ⟨c, rfl⟩ := hg
  induction S using Finset.induction_on with
  | empty => simp
  | insert a S ha ih =>
    rw [Finset.sum_insert ha, Finset.sum_insert ha, ← ih]
    obtain ⟨p, hp⟩ := hu a
    obtain ⟨q, hq⟩ := sum S u hu
    rw [hp, hq, ← EReal.coe_add, ← EReal.coe_mul, ← EReal.coe_mul, ← EReal.coe_mul, ← EReal.coe_add, mul_add]

/-- A sum over 8192 is the sum over 32 runs of 256. -/
theorem sum_runs (u : Fin 8192 → EReal) :
    ∑ s ∈ Finset.range 32, ∑ f : Fin 256, u ⟨(s * 256 + f.val) % 8192, Nat.mod_lt _ (by decide)⟩ = ∑ f, u f := by
  rw [Finset.sum_range, ← Fintype.sum_prod_type']
  refine Fintype.sum_equiv (finProdFinEquiv : Fin 32 × Fin 256 ≃ Fin 8192) _ _ fun p => ?_
  refine congrArg u (Fin.ext ?_)
  change (p.1.val * 256 + p.2.val) % 8192 = p.2.val + 256 * p.1.val
  omega

/-- Where all is real but what was there, the gated tiles sum to the residual sum. -/
theorem tiles (x g : EReal) (hg : ∃ r : ℝ, g = r) (hh : IsReal h) (h1 : ∀ k, IsReal (w1 k)) (h2 : IsReal w2) :
    x + ∑ s ∈ Finset.range 32, g * tile h w1 w2 s = ffn h w1 w2 x g := by
  unfold ffn
  have hu : IsReal fun f => act h w1 f * w2 f := fun f => mul (act_real h w1 hh h1 f) (h2 f)
  rw [← mul_sum_real (Finset.range 32) g (tile h w1 w2) hg fun s => sum _ _ fun f => hu _]
  exact congrArg (fun z => x + g * z) (sum_runs fun f => act h w1 f * w2 f)

/-- The root-mean-square norm of a row, at column `d`, with its gain. -/
def norm (y : Fin 2048 → EReal) (gain : EReal) (d : Fin 2048) : EReal :=
  y d * Ideal.rsqrt (Ideal.div (∑ k, y k * y k) (Ideal.ofBits .f32 0x45000000#32) + Ideal.ofBits .f32 0x358637BD#32) * gain

end Cert.Ffn

end
-- ==== Proof.MlpBlock.lean ====
/-
  The feed-forward call, one grid point at a time.
-/
module

public import proofs.«01_k».proof.Proof.Gen.MlpIdeal.Value
public import proofs.«01_k».proof.Proof.Ffn
public import Idealize.ShloMosaic.Lib.Pipeline.ValueKit

@[expose] public section

set_option maxRecDepth 16384

noncomputable section

namespace Cert.MlpIdeal.Block

open Cert.MlpIdeal Cert.MlpIdeal.Gen Cert.Ffn
open Idealize.ShloMosaic Idealize.ShloMosaic.TcCoe Idealize.SL.Sem
open Idealize.ShloMosaic.Pipeline (Dat)

variable (m : (ℓ : Loc nD τ sig) → Buf (Elt Ideal) ℓ)

/-- What a step adds: the payload at an index. -/
theorem pay_apply (h : FVec Ideal S1024x2048 .bf16) (w1 : FVec Ideal S2048x256 .f32) (o : FVec Ideal S1024x2048 .f32)
    (g : FVec Ideal S1x1x1x2048 .f32) (w2 : FVec Ideal S256x2048 .f32) (r : Fin 1024) (d : Fin 2048) :
    k0_pay1 (F := Ideal) h w1 o g w2 (ix2 r d)
      = o (ix2 r d) + g (ix4 0 0 0 d) * ∑ f : Fin 256,
          (max (∑ k : Fin 2048, h (ix2 r k) * w1 (ix2 k f)) 0 * max (∑ k : Fin 2048, h (ix2 r k) * w1 (ix2 k f)) 0)
            * w2 (ix2 f d) := by
  unfold_payloads
  pointwise

/-- The blocks that a grid point works on. -/
theorem idx : ∀ t : Fin cfg0.N,
    win0_0.index t = ![t.val / 32, 0]
    ∧ win0_1.index t = ![0, t.val % 32]
    ∧ win0_2.index t = ![t.val % 32, 0]
    ∧ win0_3.index t = ![t.val / 32, 0]
    ∧ win0_4.index t = ![0, t.val / 32 - 3, 0, 5]
    ∧ win0_5.index t = ![t.val / 32, 0] ∧ t.val < 192 :=
  (by decide +kernel : ∀ t : Fin grid0.N, _)

/-- The token block's rows. -/
theorem h_apply (c : Dev nD) (t : Fin cfg0.N) (r : Fin 1024) (k : Fin 2048) (h : t.val < 192) :
    iblk m c 0 t (ix2 r k) = m ((c : Thread nD τ).loc main_arg0) (ix2 ⟨t.val / 32 * 1024 + r.val, by omega⟩ k) := by
  blk_ext [iblk, V, idx t]

/-- The block of input weights. -/
theorem w1_apply (c : Dev nD) (t : Fin cfg0.N) (k : Fin 2048) (f : Fin 256) :
    iblk m c 1 t (ix2 k f) = m ((c : Thread nD τ).loc main_arg2)
      (ix3 0 k ⟨(t.val % 32 * 256 + f.val) % 8192, Nat.mod_lt _ (by decide)⟩) := by
  have e : (t.val % 32 * 256 + f.val) % 8192 = t.val % 32 * 256 + f.val := by omega
  simp only [e]
  blk_point [iblk, V, idx t]

/-- The block of output weights. -/
theorem w2_apply (c : Dev nD) (t : Fin cfg0.N) (f : Fin 256) (d : Fin 2048) :
    iblk m c 2 t (ix2 f d) = m ((c : Thread nD τ).loc main_arg3)
      (ix3 0 ⟨(t.val % 32 * 256 + f.val) % 8192, Nat.mod_lt _ (by decide)⟩ d) := by
  have e : (t.val % 32 * 256 + f.val) % 8192 = t.val % 32 * 256 + f.val := by omega
  simp only [e]
  blk_point [iblk, V, idx t]

/-- The block of the running sum. -/
theorem x_apply (c : Dev nD) (t : Fin cfg0.N) (r : Fin 1024) (d : Fin 2048) (h : t.val < 192) :
    iblk m c 3 t (ix2 r d) = m ((c : Thread nD τ).loc main_arg1) (ix2 ⟨t.val / 32 * 1024 + r.val, by omega⟩ d) := by
  blk_ext [iblk, V, idx t]

/-- The block of gates. -/
theorem g_apply (c : Dev nD) (t : Fin cfg0.N) (d : Fin 2048) (h : t.val < 192) :
    iblk m c 4 t (ix4 0 0 0 d) = m ((c : Thread nD τ).loc main_arg4)
      (ix4 0 ⟨t.val / 32 - 3, by omega⟩ 0 ⟨10240 + d.val, by omega⟩) := by
  blk_ext [iblk, V, idx t]

end Cert.MlpIdeal.Block
end
-- ==== Proof.MlpValue.lean ====
/-
  The feed-forward call's result array as one function of its arguments.
-/
module

public import proofs.«01_k».proof.Proof.MlpBlock

@[expose] public section

set_option maxRecDepth 16384

noncomputable section

namespace Cert.MlpIdeal.Whole

open Cert.MlpIdeal Cert.MlpIdeal.Gen Cert.MlpIdeal.Block Cert.Ffn
open Idealize.ShloMosaic Idealize.ShloMosaic.TcCoe Idealize.SL.Sem
open Idealize.ShloMosaic.Pipeline (Dat)

/-- The gate's row of the modulation table in token row `R`: row 0 in the prompt, then one row for each latent grid. -/
def gate (x4 : FVec Ideal S2x16x1x12288 .f32) (R : Fin 6144) (d : Fin 2048) : EReal :=
  x4 (ix4 0 ⟨R.val / 1024 - 3, by omega⟩ 0 ⟨10240 + d.val, by omega⟩)

/-- The gated sum over the `u`-th 256 hidden units in token row `R`, column `d`. -/
def part (x0 : FVec Ideal S6144x2048 .bf16) (x2 : FVec Ideal S2x2048x8192 .f32) (x3 : FVec Ideal S2x8192x2048 .f32)
    (x4 : FVec Ideal S2x16x1x12288 .f32) (R : Fin 6144) (d : Fin 2048) (u : ℕ) : EReal :=
  gate x4 R d * tile (fun k => x0 (ix2 R k)) (fun k f => x2 (ix3 0 k f)) (fun f => x3 (ix3 0 f d)) u

variable (m : (ℓ : Loc nD τ sig) → Buf (Elt Ideal) ℓ)

/-- A step's summand is `part` of the arguments. -/
theorem step_eq (c : Dev nD) (t : Fin cfg0.N) (r : Fin 1024) (d : Fin 2048) (R : Fin 6144)
    (hR : R.val = t.val / 32 * 1024 + r.val) (h : t.val < 192) (o : FVec Ideal S1024x2048 .f32) :
    k0_pay1 (F := Ideal) (iblk m c 0 t) (iblk m c 1 t) o (iblk m c 4 t) (iblk m c 2 t) (ix2 r d)
      = o (ix2 r d) + part (m ((c : Thread nD τ).loc main_arg0)) (m ((c : Thread nD τ).loc main_arg2))
          (m ((c : Thread nD τ).loc main_arg3)) (m ((c : Thread nD τ).loc main_arg4)) R d (t.val % 32) := by
  have eR : R = ⟨t.val / 32 * 1024 + r.val, by omega⟩ := Fin.ext hR
  have eg : (⟨t.val / 32 - 3, by omega⟩ : Fin 16) = ⟨R.val / 1024 - 3, by omega⟩ := Fin.ext (by dsimp only; omega)
  refine (pay_apply _ _ _ _ _ r d).trans (congrArg (o (ix2 r d) + ·) ?_)
  unfold part gate tile act
  rw [g_apply m c t d h, eg]
  simp only [h_apply m c t _ _ h, w1_apply, w2_apply, ← eR]

/-- What the output block holds after each point: what was there and the summands so far. -/
theorem acc (c : Dev nD) (a : Fin 6) (r : Fin 1024) (d : Fin 2048) (R : Fin 6144) (hR : R.val = a.val * 1024 + r.val) :
    ∀ (s : ℕ) (hs : s < 32) (h : a.val * 32 + s < cfg0.N),
      outsAt0 m c (a.val * 32 + s) h (ix2 r d) = (id (m ((c : Thread nD τ).loc main_arg1)) : FVec Ideal S6144x2048 .f32) (ix2 R d)
        + ∑ u ∈ Finset.range (s + 1), part (m ((c : Thread nD τ).loc main_arg0)) (m ((c : Thread nD τ).loc main_arg2))
          (m ((c : Thread nD τ).loc main_arg3)) (m ((c : Thread nD τ).loc main_arg4)) R d u := by
  have ha : a.val < 6 := a.isLt
  intro s
  induction s with
  | zero =>
    intro hs h
    have e0 : (a.val * 32 + 0) % 32 = 0 := by omega
    have e1 : (a.val * 32 + 0) / 32 = a.val := by omega
    rw [outsAt0_A m c ⟨a.val * 32 + 0, h⟩ e0]
    frame_out
    refine (step_eq m c ⟨a.val * 32 + 0, h⟩ r d R (by dsimp only; omega) (by dsimp only; omega) _).trans ?_
    have eR : R = ⟨(a.val * 32 + 0) / 32 * 1024 + r.val, by omega⟩ := Fin.ext (by dsimp only; omega)
    rw [x_apply m c ⟨a.val * 32 + 0, h⟩ r d (by dsimp only; omega)]
    dsimp only
    rw [← eR, e0, Finset.sum_range_one]
    rfl
  | succ s ih =>
    intro hs h
    have e0 : ¬ (a.val * 32 + (s + 1)) % 32 = 0 := by omega
    have e1 : (a.val * 32 + (s + 1)) % 32 = s + 1 := by omega
    rw [outsAt0_B m c ⟨a.val * 32 + (s + 1), h⟩ e0]
    frame_out
    refine (step_eq m c ⟨a.val * 32 + (s + 1), h⟩ r d R (by dsimp only; omega) (by dsimp only; omega) _).trans ?_
    dsimp only
    rw [e1, Finset.sum_range_succ _ (s + 1)]
    refine Eq.trans ?_ (add_assoc _ _ _)
    exact congrArg (· + _) (ih (by omega) (by omega))

/-- The array that the call leaves. -/
def whole (x0 : FVec Ideal S6144x2048 .bf16) (x1 : FVec Ideal S6144x2048 .f32) (x2 : FVec Ideal S2x2048x8192 .f32)
    (x3 : FVec Ideal S2x8192x2048 .f32) (x4 : FVec Ideal S2x16x1x12288 .f32) : FVec Ideal S6144x2048 .f32 := fun i =>
  x1 i + ∑ u ∈ Finset.range 32, part x0 x2 x3 x4 (i 0) (i 1) u

/-- Where entry `(r, d)` of a point's output block lies in the array. -/
theorem emb_apply (t : Fin cfg0.N) (r : Fin 1024) (d : Fin 2048) (h : t.val < 192) :
    (win0_5.blk t).view.emb (ix2 r d) = (ix2 ⟨t.val / 32 * 1024 + r.val, by omega⟩ d : S6144x2048.Idx) := by
  blk_ext [idx t]

/-- The call leaves that array. -/
theorem final (c : Dev nD) :
    (dats m 0 c).arrAt 5 (cfgs 0).N = whole (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := (idx t).2.2.2.2.2
  have hl : t.val % 32 = 31 := (flush0_5 t).mp hf
  blk_simp
  rw [after0_5]
  obtain ⟨r, d, rfl⟩ : ∃ (r : Fin 1024) (d : Fin 2048), y = ix2 r d := ⟨y 0, y 1, by funext a; fin_cases a <;> rfl⟩
  rw [emb_apply t r d ht.2]
  have key := acc m c ⟨t.val / 32, by omega⟩ r d ⟨t.val / 32 * 1024 + r.val, by omega⟩ rfl 31 (by decide)
    (by have := t.isLt; dsimp only; omega)
  have e : t.val / 32 * 32 + 31 = t.val := by omega
  simp only [e] at key
  exact key

end Cert.MlpIdeal.Whole
end
-- ==== Proof.MlpRead.lean ====
/-
  The feed-forward call's reference, read at an index.
-/
module

public import proofs.«01_k».proof.Proof.Gen.MlpRefIdeal.Read
public import proofs.«01_k».proof.Proof.Ffn
public import Idealize.ShloMosaic.Lib.Pointwise

@[expose] public section

set_option maxRecDepth 16384

noncomputable section

namespace Cert.MlpRefIdeal.At

open Cert.MlpRefIdeal Cert.MlpRefIdeal.Read Cert.Ffn
open Idealize.ShloMosaic

variable (x0 : FVec Ideal S6144x2048 .bf16) (x1 : FVec Ideal S6144x2048 .f32) (x2 : FVec Ideal S2x2048x8192 .f32)
  (x3 : FVec Ideal S2x8192x2048 .f32) (x4 : FVec Ideal S2x16x1x12288 .f32)

/-- The gates' rows. -/
theorem gates (r : Fin 16) (d : Fin 2048) :
    val_main_v7 (F := Ideal) x4 (ix2 r d) = x4 (ix4 0 r 0 ⟨10240 + d.val, by omega⟩) := by
  pointwise [val_main_v7, val_main_v1, val_main_v0]

/-- A prompt row's gate. -/
theorem gate_prompt (r : Fin 4096) (d : Fin 2048) :
    val_main_v13 (F := Ideal) x4 (ix2 r d) = val_main_v7 (F := Ideal) x4 (ix2 0 d) := by
  pointwise [val_main_v13, val_main_v12]

/-- A latent row's gate. -/
theorem gate_latent (r : Fin 2048) (d : Fin 2048) :
    val_main_v16 (F := Ideal) x4 (ix2 r d) = val_main_v7 (F := Ideal) x4 (ix2 ⟨1 + r.val / 1024, by omega⟩ d) := by
  pointwise [val_main_v16, val_main_v15, val_main_v14]

/-- A row's gate. -/
theorem gate (R : Fin 6144) (d : Fin 2048) :
    val_main_v17 (F := Ideal) x4 (ix2 R d) = x4 (ix4 0 ⟨R.val / 1024 - 3, by omega⟩ 0 ⟨10240 + d.val, by omega⟩) := by
  have e : val_main_v17 (F := Ideal) x4 (ix2 R d) = if h : R.val < 4096 then val_main_v13 (F := Ideal) x4 (ix2 ⟨R.val, h⟩ d)
      else val_main_v16 (F := Ideal) x4 (ix2 ⟨R.val - 4096, by omega⟩ d) := by
    unfold val_main_v17
    generalize val_main_v13 (F := Ideal) x4 = A
    generalize val_main_v16 (F := Ideal) x4 = B
    pointwise
  rw [e]
  by_cases h : R.val < 4096
  · rw [dif_pos h, gate_prompt, gates]
    exact congrArg (fun z : Fin 16 => x4 (ix4 0 z 0 ⟨10240 + d.val, by omega⟩)) (Fin.ext (by change 0 = R.val / 1024 - 3; omega))
  · rw [dif_neg h, gate_latent, gates]
    exact congrArg (fun z : Fin 16 => x4 (ix4 0 z 0 ⟨10240 + d.val, by omega⟩))
      (Fin.ext (by change 1 + (R.val - 4096) / 1024 = R.val / 1024 - 3; omega))

/-- The hidden units' sums. -/
theorem hidden (R : Fin 6144) (f : Fin 8192) :
    val_main_v19 (F := Ideal) x0 x2 (ix2 R f) = ∑ k : Fin 2048, x0 (ix2 R k) * x2 (ix3 0 k f) := by
  pointwise [val_main_v19, val_main_v18, val_main_v9, val_main_v8]

/-- Their positive parts. -/
theorem positive (R : Fin 6144) (f : Fin 8192) :
    val_main_v20 (F := Ideal) x0 x2 (ix2 R f) = max (∑ k : Fin 2048, x0 (ix2 R k) * x2 (ix3 0 k f)) 0 := by
  rw [← hidden]
  unfold val_main_v20 val_main_call0_v0
  generalize val_main_v19 (F := Ideal) x0 x2 = A
  pointwise [val_main_call0_cst]

/-- The hidden units. -/
theorem unit (R : Fin 6144) (f : Fin 8192) :
    val_main_v21 (F := Ideal) x0 x2 (ix2 R f) = act (fun k => x0 (ix2 R k)) (fun k f => x2 (ix3 0 k f)) f := by
  unfold act
  rw [← positive]
  pointwise [val_main_v21]

/-- The feed-forward output. -/
theorem out (R : Fin 6144) (d : Fin 2048) :
    val_main_v22 (F := Ideal) x0 x2 x3 (ix2 R d)
      = ∑ f : Fin 8192, val_main_v21 (F := Ideal) x0 x2 (ix2 R f) * x3 (ix3 0 f d) := by
  pointwise [val_main_v22, val_main_v11, val_main_v10]

/-- The result. -/
theorem result (R : Fin 6144) (d : Fin 2048) :
    val_main_v24 (F := Ideal) x0 x1 x2 x3 x4 (ix2 R d)
      = ffn (fun k => x0 (ix2 R k)) (fun k f => x2 (ix3 0 k f)) (fun f => x3 (ix3 0 f d)) (x1 (ix2 R d))
          (x4 (ix4 0 ⟨R.val / 1024 - 3, by omega⟩ 0 ⟨10240 + d.val, by omega⟩)) := by
  have e : val_main_v24 (F := Ideal) x0 x1 x2 x3 x4 (ix2 R d) = x1 (ix2 R d)
      + val_main_v17 (F := Ideal) x4 (ix2 R d) * val_main_v22 (F := Ideal) x0 x2 x3 (ix2 R d) := by
    pointwise [val_main_v24, val_main_v23]
  rw [e, gate, out]
  unfold ffn
  simp only [unit]

end Cert.MlpRefIdeal.At

end
-- ==== Proof.MlpClaim.lean ====
/-
  The feed-forward claim: the kernel's array is the reference's.
-/
module

public import proofs.«01_k».proof.Defs
public import proofs.«01_k».proof.Proof.Gen.Pre_real_mlp
public import proofs.«01_k».proof.Proof.Real
public import proofs.«01_k».proof.Proof.MlpValue
public import proofs.«01_k».proof.Proof.MlpRead
public import Idealize.ShloMosaic.Lib.Claim

@[expose] public section

set_option maxRecDepth 16384

noncomputable section

namespace Cert.MlpClaim

open Cert.Ffn Cert.Real
open Idealize.ShloMosaic Idealize.ShloMosaic.TcCoe Idealize.SL.Sem
open Cert.MlpIdeal.Whole (whole part gate)
open Cert.MlpRefIdeal (S6144x2048 S2x2048x8192 S2x8192x2048 S2x16x1x12288)

/-- The kernel's array is the reference's. -/
theorem whole_eq (x0 : FVec Ideal S6144x2048 .bf16) (x1 : FVec Ideal S6144x2048 .f32) (x2 : FVec Ideal S2x2048x8192 .f32)
    (x3 : FVec Ideal S2x8192x2048 .f32) (x4 : FVec Ideal S2x16x1x12288 .f32)
    (h0 : IsReal x0) (h2 : IsReal x2) (h3 : IsReal x3) (h4 : IsReal x4) :
    whole x0 x1 x2 x3 x4 = Cert.MlpRefIdeal.Read.val_main_v24 (F := Ideal) x0 x1 x2 x3 x4 := by
  funext i
  obtain ⟨R, d, rfl⟩ : ∃ (R : Fin 6144) (d : Fin 2048), i = ix2 R d := ⟨i 0, i 1, by funext a; fin_cases a <;> rfl⟩
  rw [Cert.MlpRefIdeal.At.result]
  exact tiles _ _ _ _ _ (h4 _) (fun k => h0 _) (fun k f => h2 _) (fun f => h3 _)

/-- The claim. -/
theorem algebraic : Cert.algebraic_MlpIdeal_MlpRefIdeal_pre_real_mlp := by
  pair_intro
  · run_from Cert.MlpIdeal.Gen.run_main m g
  · run_from Cert.MlpRefIdeal.Value.run m' g'
    obtain ⟨h0, h2, h3, h4⟩ := Cert.Real.mlp _ _ _ _ _ (hpre c)
    refine (Cert.MlpRefIdeal.Read.val_main_v24_eq _ _ _ _ _).trans ?_
    rw [(hagree c).2.2.2.2, Cert.MlpIdeal.Whole.final m c]
    exact (whole_eq _ _ _ _ _ h0 h2 h3 h4).symm

end Cert.MlpClaim
end
-- ==== Proof.FinalPromptBlock.lean ====
/-
  The last feed-forward call for the prompt rows, one grid point at a time.
-/
module

public import proofs.«01_k».proof.Proof.Gen.FinalPromptIdeal.Value
public import proofs.«01_k».proof.Proof.Ffn
public import Idealize.ShloMosaic.Lib.Pipeline.ValueKit

@[expose] public section

set_option maxRecDepth 16384

noncomputable section

namespace Cert.FinalPromptIdeal.Block

open Cert.FinalPromptIdeal Cert.FinalPromptIdeal.Gen Cert.Ffn
open Idealize.ShloMosaic Idealize.ShloMosaic.TcCoe Idealize.SL.Sem
open Idealize.ShloMosaic.Pipeline (Dat)

variable (m : (ℓ : Loc nD τ sig) → Buf (Elt Ideal) ℓ)

/-- What a step adds: the payload at an index. -/
theorem pay_apply (h : FVec Ideal S1024x2048 .bf16) (w1 : FVec Ideal S2048x256 .f32) (o : FVec Ideal S1024x2048 .f32)
    (g : FVec Ideal S1x1x1x2048 .f32) (w2 : FVec Ideal S256x2048 .f32) (r : Fin 1024) (d : Fin 2048) :
    k0_pay1 (F := Ideal) h w1 o g w2 (ix2 r d)
      = o (ix2 r d) + g (ix4 0 0 0 d) * ∑ f : Fin 256,
          (max (∑ k : Fin 2048, h (ix2 r k) * w1 (ix2 k f)) 0 * max (∑ k : Fin 2048, h (ix2 r k) * w1 (ix2 k f)) 0)
            * w2 (ix2 f d) := by
  unfold_payloads
  pointwise

/-- What the last step's second store leaves: the row's norm. -/
theorem norm_apply (o : FVec Ideal S1024x2048 .f32) (gain : FVec Ideal S1x2048 .f32) (r : Fin 1024) (d : Fin 2048) :
    k0_pay2 (F := Ideal) o gain (ix2 r d) = norm (fun k => o (ix2 r k)) (gain (ix2 0 d)) d := by
  unfold_payloads
  pointwise
  rfl

/-- The blocks that a grid point works on. -/
theorem idx : ∀ t : Fin cfg0.N,
    win0_0.index t = ![t.val / 32, 0]
    ∧ win0_1.index t = ![0, t.val % 32]
    ∧ win0_2.index t = ![t.val % 32, 0]
    ∧ win0_3.index t = ![t.val / 32, 0]
    ∧ win0_4.index t = ![1, t.val / 32 - 3, 0, 5]
    ∧ win0_5.index t = ![0, 0]
    ∧ win0_6.index t = ![t.val / 32, 0] ∧ t.val < 128 :=
  (by decide +kernel : ∀ t : Fin grid0.N, _)

/-- The token block's rows. -/
theorem h_apply (c : Dev nD) (t : Fin cfg0.N) (r : Fin 1024) (k : Fin 2048) (h : t.val < 128) :
    iblk m c 0 t (ix2 r k) = m ((c : Thread nD τ).loc main_arg0) (ix2 ⟨t.val / 32 * 1024 + r.val, by omega⟩ k) := by
  blk_ext [iblk, V, idx t]

/-- The block of input weights. -/
theorem w1_apply (c : Dev nD) (t : Fin cfg0.N) (k : Fin 2048) (f : Fin 256) :
    iblk m c 1 t (ix2 k f) = m ((c : Thread nD τ).loc main_arg2)
      (ix3 1 k ⟨(t.val % 32 * 256 + f.val) % 8192, Nat.mod_lt _ (by decide)⟩) := by
  have e : (t.val % 32 * 256 + f.val) % 8192 = t.val % 32 * 256 + f.val := by omega
  simp only [e]
  blk_point [iblk, V, idx t]

/-- The block of output weights. -/
theorem w2_apply (c : Dev nD) (t : Fin cfg0.N) (f : Fin 256) (d : Fin 2048) :
    iblk m c 2 t (ix2 f d) = m ((c : Thread nD τ).loc main_arg3)
      (ix3 1 ⟨(t.val % 32 * 256 + f.val) % 8192, Nat.mod_lt _ (by decide)⟩ d) := by
  have e : (t.val % 32 * 256 + f.val) % 8192 = t.val % 32 * 256 + f.val := by omega
  simp only [e]
  blk_point [iblk, V, idx t]

/-- The block of the running sum. -/
theorem x_apply (c : Dev nD) (t : Fin cfg0.N) (r : Fin 1024) (d : Fin 2048) (h : t.val < 128) :
    iblk m c 3 t (ix2 r d) = m ((c : Thread nD τ).loc main_arg1) (ix2 ⟨t.val / 32 * 1024 + r.val, by omega⟩ d) := by
  blk_ext [iblk, V, idx t]

/-- The block of gates. -/
theorem g_apply (c : Dev nD) (t : Fin cfg0.N) (d : Fin 2048) (h : t.val < 128) :
    iblk m c 4 t (ix4 0 0 0 d) = m ((c : Thread nD τ).loc main_arg4)
      (ix4 1 ⟨t.val / 32 - 3, by omega⟩ 0 ⟨10240 + d.val, by omega⟩) := by
  blk_ext [iblk, V, idx t]

/-- The block of final gains. -/
theorem gain_apply (c : Dev nD) (t : Fin cfg0.N) (d : Fin 2048) :
    iblk m c 5 t (ix2 0 d) = m ((c : Thread nD τ).loc main_arg5) (ix1 d) := by
  blk_point [iblk, V, idx t]

end Cert.FinalPromptIdeal.Block
end
-- ==== Proof.FinalPromptValue.lean ====
/-
  The last feed-forward call's (prompt rows) result array as one function of its arguments.
-/
module

public import proofs.«01_k».proof.Proof.FinalPromptBlock

@[expose] public section

set_option maxRecDepth 16384

noncomputable section

namespace Cert.FinalPromptIdeal.Whole

open Cert.FinalPromptIdeal Cert.FinalPromptIdeal.Gen Cert.FinalPromptIdeal.Block Cert.Ffn
open Idealize.ShloMosaic Idealize.ShloMosaic.TcCoe Idealize.SL.Sem
open Idealize.ShloMosaic.Pipeline (Dat)

/-- The gate's row of the modulation table in token row `R`: row 0 in the prompt, then one row for each latent grid. -/
def gate (x4 : FVec Ideal S2x16x1x12288 .f32) (R : Fin 6144) (d : Fin 2048) : EReal :=
  x4 (ix4 1 ⟨R.val / 1024 - 3, by omega⟩ 0 ⟨10240 + d.val, by omega⟩)

/-- The gated sum over the `u`-th 256 hidden units in token row `R`, column `d`. -/
def part (x0 : FVec Ideal S6144x2048 .bf16) (x2 : FVec Ideal S2x2048x8192 .f32) (x3 : FVec Ideal S2x8192x2048 .f32)
    (x4 : FVec Ideal S2x16x1x12288 .f32) (R : Fin 6144) (d : Fin 2048) (u : ℕ) : EReal :=
  gate x4 R d * tile (fun k => x0 (ix2 R k)) (fun k f => x2 (ix3 1 k f)) (fun f => x3 (ix3 1 f d)) u

variable (m : (ℓ : Loc nD τ sig) → Buf (Elt Ideal) ℓ)

/-- A step's summand is `part` of the arguments. -/
theorem step_eq (c : Dev nD) (t : Fin cfg0.N) (r : Fin 1024) (d : Fin 2048) (R : Fin 6144)
    (hR : R.val = t.val / 32 * 1024 + r.val) (h : t.val < 128) (o : FVec Ideal S1024x2048 .f32) :
    k0_pay1 (F := Ideal) (iblk m c 0 t) (iblk m c 1 t) o (iblk m c 4 t) (iblk m c 2 t) (ix2 r d)
      = o (ix2 r d) + part (m ((c : Thread nD τ).loc main_arg0)) (m ((c : Thread nD τ).loc main_arg2))
          (m ((c : Thread nD τ).loc main_arg3)) (m ((c : Thread nD τ).loc main_arg4)) R d (t.val % 32) := by
  have eR : R = ⟨t.val / 32 * 1024 + r.val, by omega⟩ := Fin.ext hR
  have eg : (⟨t.val / 32 - 3, by omega⟩ : Fin 16) = ⟨R.val / 1024 - 3, by omega⟩ := Fin.ext (by dsimp only; omega)
  refine (pay_apply _ _ _ _ _ r d).trans (congrArg (o (ix2 r d) + ·) ?_)
  unfold part gate tile act
  rw [g_apply m c t d h, eg]
  simp only [h_apply m c t _ _ h, w1_apply, w2_apply, ← eR]

/-- What the output block holds after each point but the last of a row of points: what was there and the summands so far. -/
theorem acc (c : Dev nD) (a : Fin 4) (r : Fin 1024) (d : Fin 2048) (R : Fin 6144) (hR : R.val = a.val * 1024 + r.val) :
    ∀ (s : ℕ) (hs : s < 31) (h : a.val * 32 + s < cfg0.N),
      outsAt0 m c (a.val * 32 + s) h (ix2 r d) = (id (m ((c : Thread nD τ).loc main_arg1)) : FVec Ideal S6144x2048 .f32) (ix2 R d)
        + ∑ u ∈ Finset.range (s + 1), part (m ((c : Thread nD τ).loc main_arg0)) (m ((c : Thread nD τ).loc main_arg2))
          (m ((c : Thread nD τ).loc main_arg3)) (m ((c : Thread nD τ).loc main_arg4)) R d u := by
  have ha : a.val < 4 := a.isLt
  intro s
  induction s with
  | zero =>
    intro hs h
    have e0 : (a.val * 32 + 0) % 32 = 0 := by omega
    have e1 : (a.val * 32 + 0) / 32 = a.val := by omega
    rw [outsAt0_A m c ⟨a.val * 32 + 0, h⟩ e0 (by dsimp only; omega)]
    frame_out
    refine (step_eq m c ⟨a.val * 32 + 0, h⟩ r d R (by dsimp only; omega) (by dsimp only; omega) _).trans ?_
    have eR : R = ⟨(a.val * 32 + 0) / 32 * 1024 + r.val, by omega⟩ := Fin.ext (by dsimp only; omega)
    rw [x_apply m c ⟨a.val * 32 + 0, h⟩ r d (by dsimp only; omega)]
    dsimp only
    rw [← eR, e0, Finset.sum_range_one]
    rfl
  | succ s ih =>
    intro hs h
    have e0 : ¬ (a.val * 32 + (s + 1)) % 32 = 0 := by omega
    have e1 : (a.val * 32 + (s + 1)) % 32 = s + 1 := by omega
    rw [outsAt0_B m c ⟨a.val * 32 + (s + 1), h⟩ e0 (by dsimp only; omega)]
    frame_out
    refine (step_eq m c ⟨a.val * 32 + (s + 1), h⟩ r d R (by dsimp only; omega) (by dsimp only; omega) _).trans ?_
    dsimp only
    rw [e1, Finset.sum_range_succ _ (s + 1)]
    refine Eq.trans ?_ (add_assoc _ _ _)
    exact congrArg (· + _) (ih (by omega) (by omega))

/-- An entry of a row's sum once all 32 summands are in. -/
def summed (x0 : FVec Ideal S6144x2048 .bf16) (x1 : FVec Ideal S6144x2048 .f32) (x2 : FVec Ideal S2x2048x8192 .f32)
    (x3 : FVec Ideal S2x8192x2048 .f32) (x4 : FVec Ideal S2x16x1x12288 .f32) (R : Fin 6144) (k : Fin 2048) : EReal :=
  x1 (ix2 R k) + ∑ u ∈ Finset.range 32, part x0 x2 x3 x4 R k u

/-- What the output block holds after the last point of a row of points: the norm of the row's sum. -/
theorem last (c : Dev nD) (t : Fin cfg0.N) (hl : t.val % 32 = 31) (h : t.val < 128) (r : Fin 1024) (d : Fin 2048)
    (R : Fin 6144) (hR : R.val = t.val / 32 * 1024 + r.val) :
    outsAt0 m c t.val t.isLt (ix2 r d) = norm (summed (m ((c : Thread nD τ).loc main_arg0)) (m ((c : Thread nD τ).loc main_arg1))
      (m ((c : Thread nD τ).loc main_arg2)) (m ((c : Thread nD τ).loc main_arg3)) (m ((c : Thread nD τ).loc main_arg4)) R)
      ((id (m ((c : Thread nD τ).loc main_arg5)) : FVec Ideal S2048 .f32) (ix1 d)) d := by
  rw [outsAt0_C m c t (by omega) hl]
  frame_out
  refine (norm_apply _ _ r d).trans ?_
  rw [gain_apply]
  refine congrArg (fun z => norm z _ d) (funext fun k => ?_)
  refine (step_eq m c t r k R hR h _).trans ?_
  unfold summed
  rw [hl, Finset.sum_range_succ _ 31]
  refine Eq.trans ?_ (add_assoc _ _ _)
  refine congrArg (· + _) ?_
  have key := acc m c ⟨t.val / 32, by omega⟩ r k R hR 30 (by decide) (by have := t.isLt; dsimp only; omega)
  have e : t.val / 32 * 32 + 30 = t.val - 1 := by omega
  simp only [e] at key
  exact key

/-- The array that the call leaves. -/
def whole (x0 : FVec Ideal S6144x2048 .bf16) (x1 : FVec Ideal S6144x2048 .f32) (x2 : FVec Ideal S2x2048x8192 .f32)
    (x3 : FVec Ideal S2x8192x2048 .f32) (x4 : FVec Ideal S2x16x1x12288 .f32) (x5 : FVec Ideal S2048 .f32) :
    FVec Ideal S4096x2048 .f32 := fun i =>
  norm (summed x0 x1 x2 x3 x4 ⟨0 + (i 0 : ℕ), by have : (i 0 : ℕ) < 4096 := (i 0).isLt; omega⟩) (x5 (ix1 (i 1))) (i 1)

/-- Where entry `(r, d)` of a point's output block lies in the array. -/
theorem emb_apply (t : Fin cfg0.N) (r : Fin 1024) (d : Fin 2048) (h : t.val < 128) :
    (win0_6.blk t).view.emb (ix2 r d) = (ix2 ⟨t.val / 32 * 1024 + r.val, by omega⟩ d : S4096x2048.Idx) := by
  blk_ext [idx t]

/-- The call leaves that array. -/
theorem final (c : Dev nD) :
    (dats m 0 c).arrAt 6 (cfgs 0).N = whole (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have ht := (idx t).2.2.2.2.2.2
  have hl : t.val % 32 = 31 := (flush0_6 t).mp hf
  blk_simp
  rw [after0_6]
  obtain ⟨r, d, rfl⟩ : ∃ (r : Fin 1024) (d : Fin 2048), y = ix2 r d := ⟨y 0, y 1, by funext a; fin_cases a <;> rfl⟩
  rw [emb_apply t r d ht.2]
  exact last m c t hl ht.2 r d ⟨0 + (t.val / 32 * 1024 + r.val), by omega⟩ (by dsimp only; omega)

end Cert.FinalPromptIdeal.Whole
end
-- ==== Proof.FinalPromptRead.lean ====
/-
  The last feed-forward call's (prompt rows) reference, read at an index.
-/
module

public import proofs.«01_k».proof.Proof.Gen.FinalPromptRefIdeal.Read
public import proofs.«01_k».proof.Proof.Ffn
public import Idealize.ShloMosaic.Lib.Pointwise

@[expose] public section

set_option maxRecDepth 16384

noncomputable section

namespace Cert.FinalPromptRefIdeal.At

open Cert.FinalPromptRefIdeal Cert.FinalPromptRefIdeal.Read Cert.Ffn
open Idealize.ShloMosaic

variable (x0 : FVec Ideal S6144x2048 .bf16) (x1 : FVec Ideal S6144x2048 .f32) (x2 : FVec Ideal S2x2048x8192 .f32)
  (x3 : FVec Ideal S2x8192x2048 .f32) (x4 : FVec Ideal S2x16x1x12288 .f32) (x5 : FVec Ideal S2048 .f32)

/-- The gates' rows. -/
theorem gates (r : Fin 16) (d : Fin 2048) :
    val_main_v7 (F := Ideal) x4 (ix2 r d) = x4 (ix4 1 r 0 ⟨10240 + d.val, by omega⟩) := by
  pointwise [val_main_v7, val_main_v1, val_main_v0]

/-- A prompt row's gate. -/
theorem gate_prompt (r : Fin 4096) (d : Fin 2048) :
    val_main_v13 (F := Ideal) x4 (ix2 r d) = val_main_v7 (F := Ideal) x4 (ix2 0 d) := by
  pointwise [val_main_v13, val_main_v12]

/-- A latent row's gate. -/
theorem gate_latent (r : Fin 2048) (d : Fin 2048) :
    val_main_v16 (F := Ideal) x4 (ix2 r d) = val_main_v7 (F := Ideal) x4 (ix2 ⟨1 + r.val / 1024, by omega⟩ d) := by
  pointwise [val_main_v16, val_main_v15, val_main_v14]

/-- A row's gate. -/
theorem gate (R : Fin 6144) (d : Fin 2048) :
    val_main_v17 (F := Ideal) x4 (ix2 R d) = x4 (ix4 1 ⟨R.val / 1024 - 3, by omega⟩ 0 ⟨10240 + d.val, by omega⟩) := by
  have e : val_main_v17 (F := Ideal) x4 (ix2 R d) = if h : R.val < 4096 then val_main_v13 (F := Ideal) x4 (ix2 ⟨R.val, h⟩ d)
      else val_main_v16 (F := Ideal) x4 (ix2 ⟨R.val - 4096, by omega⟩ d) := by
    unfold val_main_v17
    generalize val_main_v13 (F := Ideal) x4 = A
    generalize val_main_v16 (F := Ideal) x4 = B
    pointwise
  rw [e]
  by_cases h : R.val < 4096
  · rw [dif_pos h, gate_prompt, gates]
    exact congrArg (fun z : Fin 16 => x4 (ix4 1 z 0 ⟨10240 + d.val, by omega⟩)) (Fin.ext (by change 0 = R.val / 1024 - 3; omega))
  · rw [dif_neg h, gate_latent, gates]
    exact congrArg (fun z : Fin 16 => x4 (ix4 1 z 0 ⟨10240 + d.val, by omega⟩))
      (Fin.ext (by change 1 + (R.val - 4096) / 1024 = R.val / 1024 - 3; omega))

/-- The hidden units' sums. -/
theorem hidden (R : Fin 6144) (f : Fin 8192) :
    val_main_v19 (F := Ideal) x0 x2 (ix2 R f) = ∑ k : Fin 2048, x0 (ix2 R k) * x2 (ix3 1 k f) := by
  pointwise [val_main_v19, val_main_v18, val_main_v9, val_main_v8]

/-- Their positive parts. -/
theorem positive (R : Fin 6144) (f : Fin 8192) :
    val_main_v20 (F := Ideal) x0 x2 (ix2 R f) = max (∑ k : Fin 2048, x0 (ix2 R k) * x2 (ix3 1 k f)) 0 := by
  rw [← hidden]
  unfold val_main_v20 val_main_call0_v0
  generalize val_main_v19 (F := Ideal) x0 x2 = A
  pointwise [val_main_call0_cst]

/-- The hidden units. -/
theorem unit (R : Fin 6144) (f : Fin 8192) :
    val_main_v21 (F := Ideal) x0 x2 (ix2 R f) = act (fun k => x0 (ix2 R k)) (fun k f => x2 (ix3 1 k f)) f := by
  unfold act
  rw [← positive]
  pointwise [val_main_v21]

/-- The feed-forward output. -/
theorem out (R : Fin 6144) (d : Fin 2048) :
    val_main_v22 (F := Ideal) x0 x2 x3 (ix2 R d)
      = ∑ f : Fin 8192, val_main_v21 (F := Ideal) x0 x2 (ix2 R f) * x3 (ix3 1 f d) := by
  pointwise [val_main_v22, val_main_v11, val_main_v10]

/-- The row sums. -/
theorem resid (R : Fin 6144) (d : Fin 2048) :
    val_main_v24 (F := Ideal) x0 x1 x2 x3 x4 (ix2 R d)
      = ffn (fun k => x0 (ix2 R k)) (fun k f => x2 (ix3 1 k f)) (fun f => x3 (ix3 1 f d)) (x1 (ix2 R d))
          (x4 (ix4 1 ⟨R.val / 1024 - 3, by omega⟩ 0 ⟨10240 + d.val, by omega⟩)) := by
  have e : val_main_v24 (F := Ideal) x0 x1 x2 x3 x4 (ix2 R d) = x1 (ix2 R d)
      + val_main_v17 (F := Ideal) x4 (ix2 R d) * val_main_v22 (F := Ideal) x0 x2 x3 (ix2 R d) := by
    pointwise [val_main_v24, val_main_v23]
  rw [e, gate, out]
  unfold ffn
  simp only [unit]

/-- The mean of a row's squares. -/
theorem squares (R : Fin 6144) :
    val_main_v26 (F := Ideal) x0 x1 x2 x3 x4 (ix1 R) = ∑ k : Fin 2048, val_main_v24 (F := Ideal) x0 x1 x2 x3 x4 (ix2 R k)
      * val_main_v24 (F := Ideal) x0 x1 x2 x3 x4 (ix2 R k) := by
  pointwise [val_main_v26, val_main_v25, val_main_cst]

/-- A row's factor. -/
theorem factor (R : Fin 6144) (d : Fin 2048) :
    val_main_v33 (F := Ideal) x0 x1 x2 x3 x4 (ix2 R d)
      = Ideal.rsqrt (Ideal.div (val_main_v26 (F := Ideal) x0 x1 x2 x3 x4 (ix1 R)) (Ideal.ofBits .f32 0x45000000#32)
          + Ideal.ofBits .f32 0x358637BD#32) := by
  pointwise [val_main_v33, val_main_v32, val_main_v31, val_main_v30, val_main_v29, val_main_v28, val_main_v27,
    val_main_cst_0, val_main_cst_1]

/-- The result. -/
theorem result (R : Fin 4096) (d : Fin 2048) :
    val_main_v38 (F := Ideal) x0 x1 x2 x3 x4 x5 (ix2 R d)
      = norm (fun k => val_main_v24 (F := Ideal) x0 x1 x2 x3 x4 (ix2 ⟨0 + R.val, by omega⟩ k)) (x5 (ix1 d)) d := by
  have e : val_main_v38 (F := Ideal) x0 x1 x2 x3 x4 x5 (ix2 R d)
      = val_main_v37 (F := Ideal) x0 x1 x2 x3 x4 x5 (ix2 ⟨0 + R.val, by omega⟩ d) := by
    pointwise [val_main_v38]
  have e' : ∀ R : Fin 6144, val_main_v37 (F := Ideal) x0 x1 x2 x3 x4 x5 (ix2 R d)
      = val_main_v24 (F := Ideal) x0 x1 x2 x3 x4 (ix2 R d) * val_main_v33 (F := Ideal) x0 x1 x2 x3 x4 (ix2 R d) * x5 (ix1 d) := by
    intro R
    pointwise [val_main_v37, val_main_v36, val_main_v35, val_main_v34]
  rw [e, e', factor, squares]
  rfl

end Cert.FinalPromptRefIdeal.At

end
-- ==== Proof.FinalPromptClaim.lean ====
/-
  The claim about the last feed-forward call (prompt rows): the kernel's array is the reference's.
-/
module

public import proofs.«01_k».proof.Defs
public import proofs.«01_k».proof.Proof.Gen.Pre_real_final
public import proofs.«01_k».proof.Proof.Real
public import proofs.«01_k».proof.Proof.FinalPromptValue
public import proofs.«01_k».proof.Proof.FinalPromptRead
public import Idealize.ShloMosaic.Lib.Claim

@[expose] public section

set_option maxRecDepth 16384

noncomputable section

namespace Cert.FinalPromptClaim

open Cert.Ffn Cert.Real
open Idealize.ShloMosaic Idealize.ShloMosaic.TcCoe Idealize.SL.Sem
open Cert.FinalPromptIdeal.Whole (whole summed part gate)
open Cert.FinalPromptRefIdeal (S6144x2048 S2x2048x8192 S2x8192x2048 S2x16x1x12288 S2048)

/-- The kernel's array is the reference's. -/
theorem whole_eq (x0 : FVec Ideal S6144x2048 .bf16) (x1 : FVec Ideal S6144x2048 .f32) (x2 : FVec Ideal S2x2048x8192 .f32)
    (x3 : FVec Ideal S2x8192x2048 .f32) (x4 : FVec Ideal S2x16x1x12288 .f32)
    (x5 : FVec Ideal S2048 .f32) (h0 : IsReal x0) (h2 : IsReal x2) (h3 : IsReal x3) (h4 : IsReal x4) :
    whole x0 x1 x2 x3 x4 x5 = Cert.FinalPromptRefIdeal.Read.val_main_v38 (F := Ideal) x0 x1 x2 x3 x4 x5 := by
  funext i
  obtain ⟨R, d, rfl⟩ : ∃ (R : Fin 4096) (d : Fin 2048), i = ix2 R d := ⟨i 0, i 1, by funext a; fin_cases a <;> rfl⟩
  rw [Cert.FinalPromptRefIdeal.At.result]
  refine congrArg (fun z => norm z _ d) (funext fun k => ?_)
  rw [Cert.FinalPromptRefIdeal.At.resid]
  exact tiles _ _ _ _ _ (h4 _) (fun k => h0 _) (fun k f => h2 _) (fun f => h3 _)

/-- The claim. -/
theorem algebraic : Cert.algebraic_FinalPromptIdeal_FinalPromptRefIdeal_pre_real_final := by
  pair_intro
  · run_from Cert.FinalPromptIdeal.Gen.run_main m g
  · run_from Cert.FinalPromptRefIdeal.Value.run m' g'
    obtain ⟨h0, h2, h3, h4⟩ := Cert.Real.final _ _ _ _ _ _ (hpre c)
    rw [Cert.FinalPromptRefIdeal.Read.val_main_v38_eq m' c, Cert.FinalPromptIdeal.Whole.final m c, (hagree c).1, (hagree c).2.1,
      (hagree c).2.2.1, (hagree c).2.2.2.1, (hagree c).2.2.2.2.1, (hagree c).2.2.2.2.2]
    exact (whole_eq _ _ _ _ _ _ h0 h2 h3 h4).symm

end Cert.FinalPromptClaim
end
-- ==== Proof.FinalSampleBlock.lean ====
/-
  The last feed-forward call for the latent rows, one grid point at a time.
-/
module

public import proofs.«01_k».proof.Proof.Gen.FinalSampleIdeal.Value
public import proofs.«01_k».proof.Proof.Ffn
public import Idealize.ShloMosaic.Lib.Pipeline.ValueKit

@[expose] public section

set_option maxRecDepth 16384

noncomputable section

namespace Cert.FinalSampleIdeal.Block

open Cert.FinalSampleIdeal Cert.FinalSampleIdeal.Gen Cert.Ffn
open Idealize.ShloMosaic Idealize.ShloMosaic.TcCoe Idealize.SL.Sem
open Idealize.ShloMosaic.Pipeline (Dat)

variable (m : (ℓ : Loc nD τ sig) → Buf (Elt Ideal) ℓ)

/-- What a step adds: the payload at an index. -/
theorem pay_apply (h : FVec Ideal S1024x2048 .bf16) (w1 : FVec Ideal S2048x256 .f32) (o : FVec Ideal S1024x2048 .f32)
    (g : FVec Ideal S1x1x1x2048 .f32) (w2 : FVec Ideal S256x2048 .f32) (r : Fin 1024) (d : Fin 2048) :
    k0_pay1 (F := Ideal) h w1 o g w2 (ix2 r d)
      = o (ix2 r d) + g (ix4 0 0 0 d) * ∑ f : Fin 256,
          (max (∑ k : Fin 2048, h (ix2 r k) * w1 (ix2 k f)) 0 * max (∑ k : Fin 2048, h (ix2 r k) * w1 (ix2 k f)) 0)
            * w2 (ix2 f d) := by
  unfold_payloads
  pointwise

/-- What the last step's second store leaves: the row's norm. -/
theorem norm_apply (o : FVec Ideal S1024x2048 .f32) (gain : FVec Ideal S1x2048 .f32) (r : Fin 1024) (d : Fin 2048) :
    k0_pay2 (F := Ideal) o gain (ix2 r d) = norm (fun k => o (ix2 r k)) (gain (ix2 0 d)) d := by
  unfold_payloads
  pointwise
  rfl

/-- The blocks that a grid point works on. -/
theorem idx : ∀ t : Fin cfg0.N,
    win0_0.index t = ![4 + t.val / 32, 0]
    ∧ win0_1.index t = ![0, t.val % 32]
    ∧ win0_2.index t = ![t.val % 32, 0]
    ∧ win0_3.index t = ![4 + t.val / 32, 0]
    ∧ win0_4.index t = ![1, 4 + t.val / 32 - 3, 0, 5]
    ∧ win0_5.index t = ![0, 0]
    ∧ win0_6.index t = ![t.val / 32, 0] ∧ t.val < 64 :=
  (by decide +kernel : ∀ t : Fin grid0.N, _)

/-- The token block's rows. -/
theorem h_apply (c : Dev nD) (t : Fin cfg0.N) (r : Fin 1024) (k : Fin 2048) (h : t.val < 64) :
    iblk m c 0 t (ix2 r k) = m ((c : Thread nD τ).loc main_arg0) (ix2 ⟨(4 + t.val / 32) * 1024 + r.val, by omega⟩ k) := by
  blk_ext [iblk, V, idx t]

/-- The block of input weights. -/
theorem w1_apply (c : Dev nD) (t : Fin cfg0.N) (k : Fin 2048) (f : Fin 256) :
    iblk m c 1 t (ix2 k f) = m ((c : Thread nD τ).loc main_arg2)
      (ix3 1 k ⟨(t.val % 32 * 256 + f.val) % 8192, Nat.mod_lt _ (by decide)⟩) := by
  have e : (t.val % 32 * 256 + f.val) % 8192 = t.val % 32 * 256 + f.val := by omega
  simp only [e]
  blk_point [iblk, V, idx t]

/-- The block of output weights. -/
theorem w2_apply (c : Dev nD) (t : Fin cfg0.N) (f : Fin 256) (d : Fin 2048) :
    iblk m c 2 t (ix2 f d) = m ((c : Thread nD τ).loc main_arg3)
      (ix3 1 ⟨(t.val % 32 * 256 + f.val) % 8192, Nat.mod_lt _ (by decide)⟩ d) := by
  have e : (t.val % 32 * 256 + f.val) % 8192 = t.val % 32 * 256 + f.val := by omega
  simp only [e]
  blk_point [iblk, V, idx t]

/-- The block of the running sum. -/
theorem x_apply (c : Dev nD) (t : Fin cfg0.N) (r : Fin 1024) (d : Fin 2048) (h : t.val < 64) :
    iblk m c 3 t (ix2 r d) = m ((c : Thread nD τ).loc main_arg1) (ix2 ⟨(4 + t.val / 32) * 1024 + r.val, by omega⟩ d) := by
  blk_ext [iblk, V, idx t]

/-- The block of gates. -/
theorem g_apply (c : Dev nD) (t : Fin cfg0.N) (d : Fin 2048) (h : t.val < 64) :
    iblk m c 4 t (ix4 0 0 0 d) = m ((c : Thread nD τ).loc main_arg4)
      (ix4 1 ⟨4 + t.val / 32 - 3, by omega⟩ 0 ⟨10240 + d.val, by omega⟩) := by
  blk_ext [iblk, V, idx t]

/-- The block of final gains. -/
theorem gain_apply (c : Dev nD) (t : Fin cfg0.N) (d : Fin 2048) :
    iblk m c 5 t (ix2 0 d) = m ((c : Thread nD τ).loc main_arg5) (ix1 d) := by
  blk_point [iblk, V, idx t]

end Cert.FinalSampleIdeal.Block
end
-- ==== Proof.FinalSampleValue.lean ====
/-
  The last feed-forward call's (latent rows) result array as one function of its arguments.
-/
module

public import proofs.«01_k».proof.Proof.FinalSampleBlock

@[expose] public section

set_option maxRecDepth 16384

noncomputable section

namespace Cert.FinalSampleIdeal.Whole

open Cert.FinalSampleIdeal Cert.FinalSampleIdeal.Gen Cert.FinalSampleIdeal.Block Cert.Ffn
open Idealize.ShloMosaic Idealize.ShloMosaic.TcCoe Idealize.SL.Sem
open Idealize.ShloMosaic.Pipeline (Dat)

/-- The gate's row of the modulation table in token row `R`: row 0 in the prompt, then one row for each latent grid. -/
def gate (x4 : FVec Ideal S2x16x1x12288 .f32) (R : Fin 6144) (d : Fin 2048) : EReal :=
  x4 (ix4 1 ⟨R.val / 1024 - 3, by omega⟩ 0 ⟨10240 + d.val, by omega⟩)

/-- The gated sum over the `u`-th 256 hidden units in token row `R`, column `d`. -/
def part (x0 : FVec Ideal S6144x2048 .bf16) (x2 : FVec Ideal S2x2048x8192 .f32) (x3 : FVec Ideal S2x8192x2048 .f32)
    (x4 : FVec Ideal S2x16x1x12288 .f32) (R : Fin 6144) (d : Fin 2048) (u : ℕ) : EReal :=
  gate x4 R d * tile (fun k => x0 (ix2 R k)) (fun k f => x2 (ix3 1 k f)) (fun f => x3 (ix3 1 f d)) u

variable (m : (ℓ : Loc nD τ sig) → Buf (Elt Ideal) ℓ)

/-- A step's summand is `part` of the arguments. -/
theorem step_eq (c : Dev nD) (t : Fin cfg0.N) (r : Fin 1024) (d : Fin 2048) (R : Fin 6144)
    (hR : R.val = (4 + t.val / 32) * 1024 + r.val) (h : t.val < 64) (o : FVec Ideal S1024x2048 .f32) :
    k0_pay1 (F := Ideal) (iblk m c 0 t) (iblk m c 1 t) o (iblk m c 4 t) (iblk m c 2 t) (ix2 r d)
      = o (ix2 r d) + part (m ((c : Thread nD τ).loc main_arg0)) (m ((c : Thread nD τ).loc main_arg2))
          (m ((c : Thread nD τ).loc main_arg3)) (m ((c : Thread nD τ).loc main_arg4)) R d (t.val % 32) := by
  have eR : R = ⟨(4 + t.val / 32) * 1024 + r.val, by omega⟩ := Fin.ext hR
  have eg : (⟨4 + t.val / 32 - 3, by omega⟩ : Fin 16) = ⟨R.val / 1024 - 3, by omega⟩ := Fin.ext (by dsimp only; omega)
  refine (pay_apply _ _ _ _ _ r d).trans (congrArg (o (ix2 r d) + ·) ?_)
  unfold part gate tile act
  rw [g_apply m c t d h, eg]
  simp only [h_apply m c t _ _ h, w1_apply, w2_apply, ← eR]

/-- What the output block holds after each point but the last of a row of points: what was there and the summands so far. -/
theorem acc (c : Dev nD) (a : Fin 2) (r : Fin 1024) (d : Fin 2048) (R : Fin 6144) (hR : R.val = (4 + a.val) * 1024 + r.val) :
    ∀ (s : ℕ) (hs : s < 31) (h : a.val * 32 + s < cfg0.N),
      outsAt0 m c (a.val * 32 + s) h (ix2 r d) = (id (m ((c : Thread nD τ).loc main_arg1)) : FVec Ideal S6144x2048 .f32) (ix2 R d)
        + ∑ u ∈ Finset.range (s + 1), part (m ((c : Thread nD τ).loc main_arg0)) (m ((c : Thread nD τ).loc main_arg2))
          (m ((c : Thread nD τ).loc main_arg3)) (m ((c : Thread nD τ).loc main_arg4)) R d u := by
  have ha : a.val < 2 := a.isLt
  intro s
  induction s with
  | zero =>
    intro hs h
    have e0 : (a.val * 32 + 0) % 32 = 0 := by omega
    have e1 : (a.val * 32 + 0) / 32 = a.val := by omega
    rw [outsAt0_A m c ⟨a.val * 32 + 0, h⟩ e0 (by dsimp only; omega)]
    frame_out
    refine (step_eq m c ⟨a.val * 32 + 0, h⟩ r d R (by dsimp only; omega) (by dsimp only; omega) _).trans ?_
    have eR : R = ⟨(4 + (a.val * 32 + 0) / 32) * 1024 + r.val, by omega⟩ := Fin.ext (by dsimp only; omega)
    rw [x_apply m c ⟨a.val * 32 + 0, h⟩ r d (by dsimp only; omega)]
    dsimp only
    rw [← eR, e0, Finset.sum_range_one]
    rfl
  | succ s ih =>
    intro hs h
    have e0 : ¬ (a.val * 32 + (s + 1)) % 32 = 0 := by omega
    have e1 : (a.val * 32 + (s + 1)) % 32 = s + 1 := by omega
    rw [outsAt0_B m c ⟨a.val * 32 + (s + 1), h⟩ e0 (by dsimp only; omega)]
    frame_out
    refine (step_eq m c ⟨a.val * 32 + (s + 1), h⟩ r d R (by dsimp only; omega) (by dsimp only; omega) _).trans ?_
    dsimp only
    rw [e1, Finset.sum_range_succ _ (s + 1)]
    refine Eq.trans ?_ (add_assoc _ _ _)
    exact congrArg (· + _) (ih (by omega) (by omega))

/-- An entry of a row's sum once all 32 summands are in. -/
def summed (x0 : FVec Ideal S6144x2048 .bf16) (x1 : FVec Ideal S6144x2048 .f32) (x2 : FVec Ideal S2x2048x8192 .f32)
    (x3 : FVec Ideal S2x8192x2048 .f32) (x4 : FVec Ideal S2x16x1x12288 .f32) (R : Fin 6144) (k : Fin 2048) : EReal :=
  x1 (ix2 R k) + ∑ u ∈ Finset.range 32, part x0 x2 x3 x4 R k u

/-- What the output block holds after the last point of a row of points: the norm of the row's sum. -/
theorem last (c : Dev nD) (t : Fin cfg0.N) (hl : t.val % 32 = 31) (h : t.val < 64) (r : Fin 1024) (d : Fin 2048)
    (R : Fin 6144) (hR : R.val = (4 + t.val / 32) * 1024 + r.val) :
    outsAt0 m c t.val t.isLt (ix2 r d) = norm (summed (m ((c : Thread nD τ).loc main_arg0)) (m ((c : Thread nD τ).loc main_arg1))
      (m ((c : Thread nD τ).loc main_arg2)) (m ((c : Thread nD τ).loc main_arg3)) (m ((c : Thread nD τ).loc main_arg4)) R)
      ((id (m ((c : Thread nD τ).loc main_arg5)) : FVec Ideal S2048 .f32) (ix1 d)) d := by
  rw [outsAt0_C m c t (by omega) hl]
  frame_out
  refine (norm_apply _ _ r d).trans ?_
  rw [gain_apply]
  refine congrArg (fun z => norm z _ d) (funext fun k => ?_)
  refine (step_eq m c t r k R hR h _).trans ?_
  unfold summed
  rw [hl, Finset.sum_range_succ _ 31]
  refine Eq.trans ?_ (add_assoc _ _ _)
  refine congrArg (· + _) ?_
  have key := acc m c ⟨t.val / 32, by omega⟩ r k R hR 30 (by decide) (by have := t.isLt; dsimp only; omega)
  have e : t.val / 32 * 32 + 30 = t.val - 1 := by omega
  simp only [e] at key
  exact key

/-- The array that the call leaves. -/
def whole (x0 : FVec Ideal S6144x2048 .bf16) (x1 : FVec Ideal S6144x2048 .f32) (x2 : FVec Ideal S2x2048x8192 .f32)
    (x3 : FVec Ideal S2x8192x2048 .f32) (x4 : FVec Ideal S2x16x1x12288 .f32) (x5 : FVec Ideal S2048 .f32) :
    FVec Ideal S2048x2048 .f32 := fun i =>
  norm (summed x0 x1 x2 x3 x4 ⟨4096 + (i 0 : ℕ), by have : (i 0 : ℕ) < 2048 := (i 0).isLt; omega⟩) (x5 (ix1 (i 1))) (i 1)

/-- Where entry `(r, d)` of a point's output block lies in the array. -/
theorem emb_apply (t : Fin cfg0.N) (r : Fin 1024) (d : Fin 2048) (h : t.val < 64) :
    (win0_6.blk t).view.emb (ix2 r d) = (ix2 ⟨t.val / 32 * 1024 + r.val, by omega⟩ d : S2048x2048.Idx) := by
  blk_ext [idx t]

/-- The call leaves that array. -/
theorem final (c : Dev nD) :
    (dats m 0 c).arrAt 6 (cfgs 0).N = whole (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have ht := (idx t).2.2.2.2.2.2
  have hl : t.val % 32 = 31 := (flush0_6 t).mp hf
  blk_simp
  rw [after0_6]
  obtain ⟨r, d, rfl⟩ : ∃ (r : Fin 1024) (d : Fin 2048), y = ix2 r d := ⟨y 0, y 1, by funext a; fin_cases a <;> rfl⟩
  rw [emb_apply t r d ht.2]
  exact last m c t hl ht.2 r d ⟨4096 + (t.val / 32 * 1024 + r.val), by omega⟩ (by dsimp only; omega)

end Cert.FinalSampleIdeal.Whole
end
-- ==== Proof.FinalSampleRead.lean ====
/-
  The last feed-forward call's (latent rows) reference, read at an index.
-/
module

public import proofs.«01_k».proof.Proof.Gen.FinalSampleRefIdeal.Read
public import proofs.«01_k».proof.Proof.Ffn
public import Idealize.ShloMosaic.Lib.Pointwise

@[expose] public section

set_option maxRecDepth 16384

noncomputable section

namespace Cert.FinalSampleRefIdeal.At

open Cert.FinalSampleRefIdeal Cert.FinalSampleRefIdeal.Read Cert.Ffn
open Idealize.ShloMosaic

variable (x0 : FVec Ideal S6144x2048 .bf16) (x1 : FVec Ideal S6144x2048 .f32) (x2 : FVec Ideal S2x2048x8192 .f32)
  (x3 : FVec Ideal S2x8192x2048 .f32) (x4 : FVec Ideal S2x16x1x12288 .f32) (x5 : FVec Ideal S2048 .f32)

/-- The gates' rows. -/
theorem gates (r : Fin 16) (d : Fin 2048) :
    val_main_v7 (F := Ideal) x4 (ix2 r d) = x4 (ix4 1 r 0 ⟨10240 + d.val, by omega⟩) := by
  pointwise [val_main_v7, val_main_v1, val_main_v0]

/-- A prompt row's gate. -/
theorem gate_prompt (r : Fin 4096) (d : Fin 2048) :
    val_main_v13 (F := Ideal) x4 (ix2 r d) = val_main_v7 (F := Ideal) x4 (ix2 0 d) := by
  pointwise [val_main_v13, val_main_v12]

/-- A latent row's gate. -/
theorem gate_latent (r : Fin 2048) (d : Fin 2048) :
    val_main_v16 (F := Ideal) x4 (ix2 r d) = val_main_v7 (F := Ideal) x4 (ix2 ⟨1 + r.val / 1024, by omega⟩ d) := by
  pointwise [val_main_v16, val_main_v15, val_main_v14]

/-- A row's gate. -/
theorem gate (R : Fin 6144) (d : Fin 2048) :
    val_main_v17 (F := Ideal) x4 (ix2 R d) = x4 (ix4 1 ⟨R.val / 1024 - 3, by omega⟩ 0 ⟨10240 + d.val, by omega⟩) := by
  have e : val_main_v17 (F := Ideal) x4 (ix2 R d) = if h : R.val < 4096 then val_main_v13 (F := Ideal) x4 (ix2 ⟨R.val, h⟩ d)
      else val_main_v16 (F := Ideal) x4 (ix2 ⟨R.val - 4096, by omega⟩ d) := by
    unfold val_main_v17
    generalize val_main_v13 (F := Ideal) x4 = A
    generalize val_main_v16 (F := Ideal) x4 = B
    pointwise
  rw [e]
  by_cases h : R.val < 4096
  · rw [dif_pos h, gate_prompt, gates]
    exact congrArg (fun z : Fin 16 => x4 (ix4 1 z 0 ⟨10240 + d.val, by omega⟩)) (Fin.ext (by change 0 = R.val / 1024 - 3; omega))
  · rw [dif_neg h, gate_latent, gates]
    exact congrArg (fun z : Fin 16 => x4 (ix4 1 z 0 ⟨10240 + d.val, by omega⟩))
      (Fin.ext (by change 1 + (R.val - 4096) / 1024 = R.val / 1024 - 3; omega))

/-- The hidden units' sums. -/
theorem hidden (R : Fin 6144) (f : Fin 8192) :
    val_main_v19 (F := Ideal) x0 x2 (ix2 R f) = ∑ k : Fin 2048, x0 (ix2 R k) * x2 (ix3 1 k f) := by
  pointwise [val_main_v19, val_main_v18, val_main_v9, val_main_v8]

/-- Their positive parts. -/
theorem positive (R : Fin 6144) (f : Fin 8192) :
    val_main_v20 (F := Ideal) x0 x2 (ix2 R f) = max (∑ k : Fin 2048, x0 (ix2 R k) * x2 (ix3 1 k f)) 0 := by
  rw [← hidden]
  unfold val_main_v20 val_main_call0_v0
  generalize val_main_v19 (F := Ideal) x0 x2 = A
  pointwise [val_main_call0_cst]

/-- The hidden units. -/
theorem unit (R : Fin 6144) (f : Fin 8192) :
    val_main_v21 (F := Ideal) x0 x2 (ix2 R f) = act (fun k => x0 (ix2 R k)) (fun k f => x2 (ix3 1 k f)) f := by
  unfold act
  rw [← positive]
  pointwise [val_main_v21]

/-- The feed-forward output. -/
theorem out (R : Fin 6144) (d : Fin 2048) :
    val_main_v22 (F := Ideal) x0 x2 x3 (ix2 R d)
      = ∑ f : Fin 8192, val_main_v21 (F := Ideal) x0 x2 (ix2 R f) * x3 (ix3 1 f d) := by
  pointwise [val_main_v22, val_main_v11, val_main_v10]

/-- The row sums. -/
theorem resid (R : Fin 6144) (d : Fin 2048) :
    val_main_v24 (F := Ideal) x0 x1 x2 x3 x4 (ix2 R d)
      = ffn (fun k => x0 (ix2 R k)) (fun k f => x2 (ix3 1 k f)) (fun f => x3 (ix3 1 f d)) (x1 (ix2 R d))
          (x4 (ix4 1 ⟨R.val / 1024 - 3, by omega⟩ 0 ⟨10240 + d.val, by omega⟩)) := by
  have e : val_main_v24 (F := Ideal) x0 x1 x2 x3 x4 (ix2 R d) = x1 (ix2 R d)
      + val_main_v17 (F := Ideal) x4 (ix2 R d) * val_main_v22 (F := Ideal) x0 x2 x3 (ix2 R d) := by
    pointwise [val_main_v24, val_main_v23]
  rw [e, gate, out]
  unfold ffn
  simp only [unit]

/-- The mean of a row's squares. -/
theorem squares (R : Fin 6144) :
    val_main_v26 (F := Ideal) x0 x1 x2 x3 x4 (ix1 R) = ∑ k : Fin 2048, val_main_v24 (F := Ideal) x0 x1 x2 x3 x4 (ix2 R k)
      * val_main_v24 (F := Ideal) x0 x1 x2 x3 x4 (ix2 R k) := by
  pointwise [val_main_v26, val_main_v25, val_main_cst]

/-- A row's factor. -/
theorem factor (R : Fin 6144) (d : Fin 2048) :
    val_main_v33 (F := Ideal) x0 x1 x2 x3 x4 (ix2 R d)
      = Ideal.rsqrt (Ideal.div (val_main_v26 (F := Ideal) x0 x1 x2 x3 x4 (ix1 R)) (Ideal.ofBits .f32 0x45000000#32)
          + Ideal.ofBits .f32 0x358637BD#32) := by
  pointwise [val_main_v33, val_main_v32, val_main_v31, val_main_v30, val_main_v29, val_main_v28, val_main_v27,
    val_main_cst_0, val_main_cst_1]

/-- The result. -/
theorem result (R : Fin 2048) (d : Fin 2048) :
    val_main_v38 (F := Ideal) x0 x1 x2 x3 x4 x5 (ix2 R d)
      = norm (fun k => val_main_v24 (F := Ideal) x0 x1 x2 x3 x4 (ix2 ⟨4096 + R.val, by omega⟩ k)) (x5 (ix1 d)) d := by
  have e : val_main_v38 (F := Ideal) x0 x1 x2 x3 x4 x5 (ix2 R d)
      = val_main_v37 (F := Ideal) x0 x1 x2 x3 x4 x5 (ix2 ⟨4096 + R.val, by omega⟩ d) := by
    pointwise [val_main_v38]
  have e' : ∀ R : Fin 6144, val_main_v37 (F := Ideal) x0 x1 x2 x3 x4 x5 (ix2 R d)
      = val_main_v24 (F := Ideal) x0 x1 x2 x3 x4 (ix2 R d) * val_main_v33 (F := Ideal) x0 x1 x2 x3 x4 (ix2 R d) * x5 (ix1 d) := by
    intro R
    pointwise [val_main_v37, val_main_v36, val_main_v35, val_main_v34]
  rw [e, e', factor, squares]
  rfl

end Cert.FinalSampleRefIdeal.At

end
-- ==== Proof.FinalSampleClaim.lean ====
/-
  The claim about the last feed-forward call (latent rows): the kernel's array is the reference's.
-/
module

public import proofs.«01_k».proof.Defs
public import proofs.«01_k».proof.Proof.Gen.Pre_real_final
public import proofs.«01_k».proof.Proof.Real
public import proofs.«01_k».proof.Proof.FinalSampleValue
public import proofs.«01_k».proof.Proof.FinalSampleRead
public import Idealize.ShloMosaic.Lib.Claim

@[expose] public section

set_option maxRecDepth 16384

noncomputable section

namespace Cert.FinalSampleClaim

open Cert.Ffn Cert.Real
open Idealize.ShloMosaic Idealize.ShloMosaic.TcCoe Idealize.SL.Sem
open Cert.FinalSampleIdeal.Whole (whole summed part gate)
open Cert.FinalSampleRefIdeal (S6144x2048 S2x2048x8192 S2x8192x2048 S2x16x1x12288 S2048)

/-- The kernel's array is the reference's. -/
theorem whole_eq (x0 : FVec Ideal S6144x2048 .bf16) (x1 : FVec Ideal S6144x2048 .f32) (x2 : FVec Ideal S2x2048x8192 .f32)
    (x3 : FVec Ideal S2x8192x2048 .f32) (x4 : FVec Ideal S2x16x1x12288 .f32)
    (x5 : FVec Ideal S2048 .f32) (h0 : IsReal x0) (h2 : IsReal x2) (h3 : IsReal x3) (h4 : IsReal x4) :
    whole x0 x1 x2 x3 x4 x5 = Cert.FinalSampleRefIdeal.Read.val_main_v38 (F := Ideal) x0 x1 x2 x3 x4 x5 := by
  funext i
  obtain ⟨R, d, rfl⟩ : ∃ (R : Fin 2048) (d : Fin 2048), i = ix2 R d := ⟨i 0, i 1, by funext a; fin_cases a <;> rfl⟩
  rw [Cert.FinalSampleRefIdeal.At.result]
  refine congrArg (fun z => norm z _ d) (funext fun k => ?_)
  rw [Cert.FinalSampleRefIdeal.At.resid]
  exact tiles _ _ _ _ _ (h4 _) (fun k => h0 _) (fun k f => h2 _) (fun f => h3 _)

/-- The claim. -/
theorem algebraic : Cert.algebraic_FinalSampleIdeal_FinalSampleRefIdeal_pre_real_final := by
  pair_intro
  · run_from Cert.FinalSampleIdeal.Gen.run_main m g
  · run_from Cert.FinalSampleRefIdeal.Value.run m' g'
    obtain ⟨h0, h2, h3, h4⟩ := Cert.Real.final _ _ _ _ _ _ (hpre c)
    rw [Cert.FinalSampleRefIdeal.Read.val_main_v38_eq m' c, Cert.FinalSampleIdeal.Whole.final m c, (hagree c).1, (hagree c).2.1,
      (hagree c).2.2.1, (hagree c).2.2.2.1, (hagree c).2.2.2.2.1, (hagree c).2.2.2.2.2]
    exact (whole_eq _ _ _ _ _ _ h0 h2 h3 h4).symm

end Cert.FinalSampleClaim
end
-- ==== Proof.InProjMath.lean ====
/-
  The in-projection's output as mathematics: a head's norm, its rotary turn, and the silu.
-/
module

public import Idealize.ShloMosaic.PureOps.Ideal

@[expose] public section

noncomputable section

namespace Cert.InProjMath

open Idealize.ShloMosaic

/-- The root-mean-square norm of a head's 128 lanes `u` with gain `g`, at lane `l`. -/
def nrm (u g : Fin 128 → EReal) (l : Fin 128) : EReal :=
  u l * Ideal.rsqrt (Ideal.div (∑ k, u k * u k) (Ideal.ofBits .f32 0x43000000#32) + Ideal.ofBits .f32 0x358637BD#32) * g l

/-- `x` times the logistic function of `x`. -/
def silu (x : EReal) : EReal :=
  x * Ideal.div (Ideal.ofBits .f32 0x3F800000#32) (Ideal.ofBits .f32 0x3F800000#32 + Ideal.exp (-x))

/-- A head `u` turned by the cosines `cs` and sines `sn`: lanes 32 apart are turned in pairs. -/
def rope (u cs sn : Fin 128 → EReal) (l : Fin 128) : EReal :=
  u l * cs l + (if l.val / 32 % 2 = 0 then -(u ⟨(l.val + 32) % 128, Nat.mod_lt _ (by decide)⟩)
    else u ⟨(l.val + 96) % 128, Nat.mod_lt _ (by decide)⟩) * sn l

/-- The same turn from two tables of signed sines, each zero where the other is not. -/
def turn (u cs lo hi : Fin 128 → EReal) (l : Fin 128) : EReal :=
  u l * cs l + u ⟨(l.val + 32) % 128, Nat.mod_lt _ (by decide)⟩ * lo l
    + u ⟨(l.val + 96) % 128, Nat.mod_lt _ (by decide)⟩ * hi l

/-- Both are the same. -/
theorem turn_eq (u cs sn lo hi : Fin 128 → EReal) (l : Fin 128)
    (hlo : lo l = if l.val / 32 % 2 = 0 then -(sn l) else 0)
    (hhi : hi l = if l.val / 32 % 2 = 1 then sn l else 0) : turn u cs lo hi l = rope u cs sn l := by
  unfold turn rope
  rcases Nat.mod_two_eq_zero_or_one (l.val / 32) with q | q
  · rw [hlo, hhi, if_pos q, if_neg (by omega), if_pos q, mul_zero, add_zero, mul_neg, neg_mul]
  · rw [hlo, hhi, if_neg (by omega), if_pos q, if_neg (by omega), mul_zero, add_zero]

end Cert.InProjMath

end
-- ==== Proof.InProjBlock.lean ====
/-
  The in-projection call, one block at a time: what a grid point leaves in its output blocks, read at an index.
-/
module

public import proofs.«01_k».proof.Proof.InProjFrame
public import proofs.«01_k».proof.Proof.InProjMath
public import Idealize.ShloMosaic.Lib.Pipeline.ValueKit
public import Idealize.ShloMosaic.Lib.KernelVsHost

@[expose] public section

set_option maxRecDepth 16384

noncomputable section

namespace Cert.InProjIdeal.Block

open Cert.InProjIdeal Cert.InProjIdeal.Gen Cert.InProjRun Cert.InProjMath
open Idealize.ShloMosaic Idealize.ShloMosaic.TcCoe Idealize.SL.Sem
open Idealize.ShloMosaic.Pipeline (Dat)

variable (h : FVec Ideal S2048x2048 .bf16) (w : FVec Ideal S2048x512 .f32) (y : FVec Ideal S2048x512 .f32)
  (u : FVec Ideal S2048x128 .f32) (g : FVec Ideal S1x128 .f32) (cs lo hi : FVec Ideal S1024x128 .f32)

/-- Entry `(r, n)` of a block's product. -/
def prod (r : Fin 2048) (n : Fin 512) : EReal := ∑ k : Fin 2048, h (ix2 r k) * w (ix2 k n)

/-- The block's product. -/
theorem pay1_apply (r : Fin 2048) (n : Fin 512) : k0_pay1 (F := Ideal) h w (ix2 r n) = prod h w r n := by
  unfold_payloads
  pointwise
  rfl

/-- The silu of the product. -/
theorem pay8_apply (r : Fin 2048) (n : Fin 512) : k0_pay8 (F := Ideal) h w (ix2 r n) = silu (prod h w r n) := by
  unfold k0_pay8
  generalize hp : k0_pay1 (F := Ideal) h w = p
  pointwise
  rw [← hp, pay1_apply]
  unfold silu
  simp only [Ideal.ofBits_one_f32, zero_sub]

/-- The norm of one head's columns. -/
theorem pay2_apply (r : Fin 2048) (l : Fin 128) :
    k0_pay2 (F := Ideal) u g (ix2 r l) = nrm (fun k => u (ix2 r k)) (fun k => g (ix2 0 k)) l := by
  unfold_payloads
  pointwise
  rfl

/-- Columns 256 to 383 of a block. -/
theorem pay15_apply (r : Fin 2048) (l : Fin 128) :
    k0_pay15 (F := Ideal) y (ix2 r l) = y (ix2 r ⟨256 + l.val, by omega⟩) := by
  unfold_payloads
  pointwise

/-- Columns 256 to 511 of a block. -/
theorem pay22_apply (r : Fin 2048) (l : Fin 256) :
    k0_pay22 (F := Ideal) y (ix2 r l) = y (ix2 r ⟨256 + l.val, by omega⟩) := by
  unfold_payloads
  pointwise

/-- The norm of the head in columns 384 to 511 of the product. -/
theorem pay5_apply (r : Fin 2048) (l : Fin 128) :
    k0_pay5 (F := Ideal) h w g (ix2 r l) = nrm (fun k => prod h w r ⟨384 + k.val, by omega⟩) (fun k => g (ix2 0 k)) l := by
  unfold k0_pay5
  pointwise [pay1_apply]
  rfl

/-- The norm of the head in columns 0 to 127. -/
theorem pay9_apply (r : Fin 2048) (l : Fin 128) :
    k0_pay9 (F := Ideal) y g (ix2 r l)
      = nrm (fun k => y (ix2 r ⟨k.val, by omega⟩)) (fun k => g (ix2 0 k)) l := by
  unfold_payloads
  pointwise
  rfl

/-- The norm of the head in columns 0 to 127. -/
theorem pay16_apply (r : Fin 2048) (l : Fin 128) :
    k0_pay16 (F := Ideal) y g (ix2 r l)
      = nrm (fun k => y (ix2 r ⟨k.val, by omega⟩)) (fun k => g (ix2 0 k)) l := by
  unfold_payloads
  pointwise
  rfl

/-- The norm of the head in columns 128 to 255. -/
theorem pay12_apply (r : Fin 2048) (l : Fin 128) :
    k0_pay12 (F := Ideal) y g (ix2 r l)
      = nrm (fun k => y (ix2 r ⟨128 + k.val, by omega⟩)) (fun k => g (ix2 0 k)) l := by
  unfold_payloads
  pointwise
  rfl

/-- The norm of the head in columns 128 to 255. -/
theorem pay19_apply (r : Fin 2048) (l : Fin 128) :
    k0_pay19 (F := Ideal) y g (ix2 r l)
      = nrm (fun k => y (ix2 r ⟨128 + k.val, by omega⟩)) (fun k => g (ix2 0 k)) l := by
  unfold_payloads
  pointwise
  rfl

/-- That head turned, rows 0 to 1023. -/
theorem pay3_apply (r : Fin 1024) (l : Fin 128) :
    k0_pay3 (F := Ideal) u g cs lo hi (ix2 r l)
      = turn (fun k => k0_pay2 (F := Ideal) u g (ix2 ⟨r.val, by omega⟩ k))
          (fun k => cs (ix2 r k)) (fun k => lo (ix2 r k)) (fun k => hi (ix2 r k)) l := by
  unfold k0_pay3
  generalize k0_pay2 (F := Ideal) u g = q
  pointwise
  rfl

/-- That head turned, rows 1024 to 2047. -/
theorem pay4_apply (r : Fin 1024) (l : Fin 128) :
    k0_pay4 (F := Ideal) u g cs lo hi (ix2 r l)
      = turn (fun k => k0_pay2 (F := Ideal) u g (ix2 ⟨1024 + r.val, by omega⟩ k))
          (fun k => cs (ix2 r k)) (fun k => lo (ix2 r k)) (fun k => hi (ix2 r k)) l := by
  unfold k0_pay4
  generalize k0_pay2 (F := Ideal) u g = q
  pointwise
  rfl

/-- That head turned, rows 0 to 1023. -/
theorem pay6_apply (r : Fin 1024) (l : Fin 128) :
    k0_pay6 (F := Ideal) h w g cs lo hi (ix2 r l)
      = turn (fun k => k0_pay5 (F := Ideal) h w g (ix2 ⟨r.val, by omega⟩ k))
          (fun k => cs (ix2 r k)) (fun k => lo (ix2 r k)) (fun k => hi (ix2 r k)) l := by
  unfold k0_pay6
  generalize k0_pay5 (F := Ideal) h w g = q
  pointwise
  rfl

/-- That head turned, rows 1024 to 2047. -/
theorem pay7_apply (r : Fin 1024) (l : Fin 128) :
    k0_pay7 (F := Ideal) h w g cs lo hi (ix2 r l)
      = turn (fun k => k0_pay5 (F := Ideal) h w g (ix2 ⟨1024 + r.val, by omega⟩ k))
          (fun k => cs (ix2 r k)) (fun k => lo (ix2 r k)) (fun k => hi (ix2 r k)) l := by
  unfold k0_pay7
  generalize k0_pay5 (F := Ideal) h w g = q
  pointwise
  rfl

/-- That head turned, rows 0 to 1023. -/
theorem pay10_apply (r : Fin 1024) (l : Fin 128) :
    k0_pay10 (F := Ideal) y g cs lo hi (ix2 r l)
      = turn (fun k => k0_pay9 (F := Ideal) y g (ix2 ⟨r.val, by omega⟩ k))
          (fun k => cs (ix2 r k)) (fun k => lo (ix2 r k)) (fun k => hi (ix2 r k)) l := by
  unfold k0_pay10
  generalize k0_pay9 (F := Ideal) y g = q
  pointwise
  rfl

/-- That head turned, rows 1024 to 2047. -/
theorem pay11_apply (r : Fin 1024) (l : Fin 128) :
    k0_pay11 (F := Ideal) y g cs lo hi (ix2 r l)
      = turn (fun k => k0_pay9 (F := Ideal) y g (ix2 ⟨1024 + r.val, by omega⟩ k))
          (fun k => cs (ix2 r k)) (fun k => lo (ix2 r k)) (fun k => hi (ix2 r k)) l := by
  unfold k0_pay11
  generalize k0_pay9 (F := Ideal) y g = q
  pointwise
  rfl

/-- That head turned, rows 0 to 1023. -/
theorem pay13_apply (r : Fin 1024) (l : Fin 128) :
    k0_pay13 (F := Ideal) y g cs lo hi (ix2 r l)
      = turn (fun k => k0_pay12 (F := Ideal) y g (ix2 ⟨r.val, by omega⟩ k))
          (fun k => cs (ix2 r k)) (fun k => lo (ix2 r k)) (fun k => hi (ix2 r k)) l := by
  unfold k0_pay13
  generalize k0_pay12 (F := Ideal) y g = q
  pointwise
  rfl

/-- That head turned, rows 1024 to 2047. -/
theorem pay14_apply (r : Fin 1024) (l : Fin 128) :
    k0_pay14 (F := Ideal) y g cs lo hi (ix2 r l)
      = turn (fun k => k0_pay12 (F := Ideal) y g (ix2 ⟨1024 + r.val, by omega⟩ k))
          (fun k => cs (ix2 r k)) (fun k => lo (ix2 r k)) (fun k => hi (ix2 r k)) l := by
  unfold k0_pay14
  generalize k0_pay12 (F := Ideal) y g = q
  pointwise
  rfl

/-- That head turned, rows 0 to 1023. -/
theorem pay17_apply (r : Fin 1024) (l : Fin 128) :
    k0_pay17 (F := Ideal) y g cs lo hi (ix2 r l)
      = turn (fun k => k0_pay16 (F := Ideal) y g (ix2 ⟨r.val, by omega⟩ k))
          (fun k => cs (ix2 r k)) (fun k => lo (ix2 r k)) (fun k => hi (ix2 r k)) l := by
  unfold k0_pay17
  generalize k0_pay16 (F := Ideal) y g = q
  pointwise
  rfl

/-- That head turned, rows 1024 to 2047. -/
theorem pay18_apply (r : Fin 1024) (l : Fin 128) :
    k0_pay18 (F := Ideal) y g cs lo hi (ix2 r l)
      = turn (fun k => k0_pay16 (F := Ideal) y g (ix2 ⟨1024 + r.val, by omega⟩ k))
          (fun k => cs (ix2 r k)) (fun k => lo (ix2 r k)) (fun k => hi (ix2 r k)) l := by
  unfold k0_pay18
  generalize k0_pay16 (F := Ideal) y g = q
  pointwise
  rfl

/-- That head turned, rows 0 to 1023. -/
theorem pay20_apply (r : Fin 1024) (l : Fin 128) :
    k0_pay20 (F := Ideal) y g cs lo hi (ix2 r l)
      = turn (fun k => k0_pay19 (F := Ideal) y g (ix2 ⟨r.val, by omega⟩ k))
          (fun k => cs (ix2 r k)) (fun k => lo (ix2 r k)) (fun k => hi (ix2 r k)) l := by
  unfold k0_pay20
  generalize k0_pay19 (F := Ideal) y g = q
  pointwise
  rfl

/-- That head turned, rows 1024 to 2047. -/
theorem pay21_apply (r : Fin 1024) (l : Fin 128) :
    k0_pay21 (F := Ideal) y g cs lo hi (ix2 r l)
      = turn (fun k => k0_pay19 (F := Ideal) y g (ix2 ⟨1024 + r.val, by omega⟩ k))
          (fun k => cs (ix2 r k)) (fun k => lo (ix2 r k)) (fun k => hi (ix2 r k)) l := by
  unfold k0_pay21
  generalize k0_pay19 (F := Ideal) y g = q
  pointwise
  rfl

variable (m : (ℓ : Loc nD τ sig) → Buf (Elt Ideal) ℓ)

/-- Entry `(r, n)` of the head norms of a block `p`: the head is the one that column `n` lies in. -/
def heads (p : Fin 2048 → Fin 512 → EReal) (g : Fin 128 → EReal) (r : Fin 2048) (n : Fin 512) : EReal :=
  nrm (fun k => p r ⟨n.val / 128 * 128 + k.val, by omega⟩) g ⟨n.val % 128, Nat.mod_lt _ (by decide)⟩

/-- The same entry when the heads are turned: the tables repeat every 1024 rows. -/
def turned (p : Fin 2048 → Fin 512 → EReal) (g : Fin 128 → EReal) (cs lo hi : FVec Ideal S1024x128 .f32)
    (r : Fin 2048) (n : Fin 512) : EReal :=
  turn (fun l => nrm (fun k => p r ⟨n.val / 128 * 128 + k.val, by omega⟩) g l)
    (fun k => cs (ix2 ⟨r.val % 1024, Nat.mod_lt _ (by decide)⟩ k)) (fun k => lo (ix2 ⟨r.val % 1024, Nat.mod_lt _ (by decide)⟩ k))
    (fun k => hi (ix2 ⟨r.val % 1024, Nat.mod_lt _ (by decide)⟩ k)) ⟨n.val % 128, Nat.mod_lt _ (by decide)⟩

/-- `heads` at column `o + x` of the head that starts at column `o`. -/
theorem heads_at (p : Fin 2048 → Fin 512 → EReal) (g : Fin 128 → EReal) (r : Fin 2048) (n : Fin 512) (o : Fin 4)
    (x : Fin 128) (hn : n.val = o.val * 128 + x.val) (q : Fin 128 → EReal)
    (hq : ∀ k : Fin 128, q k = p r ⟨o.val * 128 + k.val, by omega⟩) : nrm q g x = heads p g r n := by
  unfold heads
  have ho : n.val / 128 * 128 = o.val * 128 := by omega
  have hx : (⟨n.val % 128, Nat.mod_lt _ (by decide)⟩ : Fin 128) = x := Fin.ext (by show n.val % 128 = x.val; omega)
  simp only [ho, hx]
  rw [show q = _ from funext hq]

/-- `turned` at row `z` of a half of 1024 rows and column `o + x`. -/
theorem turned_at (p : Fin 2048 → Fin 512 → EReal) (g : Fin 128 → EReal) (cs lo hi : FVec Ideal S1024x128 .f32)
    (r : Fin 2048) (n : Fin 512) (o : Fin 4) (x : Fin 128) (hn : n.val = o.val * 128 + x.val) (z : Fin 1024)
    (hz : r.val % 1024 = z.val) (q : Fin 128 → EReal)
    (hq : ∀ l : Fin 128, q l = nrm (fun k => p r ⟨o.val * 128 + k.val, by omega⟩) g l) :
    turn q (fun k => cs (ix2 z k)) (fun k => lo (ix2 z k)) (fun k => hi (ix2 z k)) x = turned p g cs lo hi r n := by
  unfold turned
  have ho : n.val / 128 * 128 = o.val * 128 := by omega
  have hx : (⟨n.val % 128, Nat.mod_lt _ (by decide)⟩ : Fin 128) = x := Fin.ext (by show n.val % 128 = x.val; omega)
  have hz' : (⟨r.val % 1024, Nat.mod_lt _ (by decide)⟩ : Fin 1024) = z := Fin.ext hz
  simp only [ho, hx, hz']
  rw [show q = _ from funext hq]

/-- The piece at column 384 and row 1024 of a turned block. -/
theorem piece7 (r : Fin 2048) (n : Fin 512) (z : Fin 1024) (x : Fin 128) (hr : r.val = 1024 + z.val) (hn : n.val = 384 + x.val) :
    k0_pay7 (F := Ideal) h w g cs lo hi (ix2 z x) = turned (prod h w) (fun k => g (ix2 0 k)) cs lo hi r n := by
  rw [pay7_apply]
  refine turned_at _ _ _ _ _ _ _ 3 _ hn _ (by omega) _ fun l => ?_
  rw [show (⟨1024 + z.val, by omega⟩ : Fin 2048) = r from Fin.ext hr.symm, pay5_apply]
  exact rfl

/-- The piece at column 384 and row 0 of a turned block. -/
theorem piece6 (r : Fin 2048) (n : Fin 512) (z : Fin 1024) (x : Fin 128) (hr : r.val = z.val) (hn : n.val = 384 + x.val) :
    k0_pay6 (F := Ideal) h w g cs lo hi (ix2 z x) = turned (prod h w) (fun k => g (ix2 0 k)) cs lo hi r n := by
  rw [pay6_apply]
  refine turned_at _ _ _ _ _ _ _ 3 _ hn _ (by omega) _ fun l => ?_
  rw [show (⟨z.val, by omega⟩ : Fin 2048) = r from Fin.ext hr.symm, pay5_apply]
  exact rfl

/-- The piece at column 256 and row 1024 of a turned block. -/
theorem piece4 (r : Fin 2048) (n : Fin 512) (z : Fin 1024) (x : Fin 128) (hr : r.val = 1024 + z.val) (hn : n.val = 256 + x.val) :
    k0_pay4 (F := Ideal) (k0_pay15 (k0_pay1 h w)) g cs lo hi (ix2 z x) = turned (prod h w) (fun k => g (ix2 0 k)) cs lo hi r n := by
  rw [pay4_apply]
  refine turned_at _ _ _ _ _ _ _ 2 _ hn _ (by omega) _ fun l => ?_
  rw [show (⟨1024 + z.val, by omega⟩ : Fin 2048) = r from Fin.ext hr.symm, pay2_apply]
  exact congrArg (fun q => nrm q (fun k => g (ix2 0 k)) l) (funext fun k => by rw [pay15_apply, pay1_apply]; rfl)

/-- The piece at column 256 and row 0 of a turned block. -/
theorem piece3 (r : Fin 2048) (n : Fin 512) (z : Fin 1024) (x : Fin 128) (hr : r.val = z.val) (hn : n.val = 256 + x.val) :
    k0_pay3 (F := Ideal) (k0_pay15 (k0_pay1 h w)) g cs lo hi (ix2 z x) = turned (prod h w) (fun k => g (ix2 0 k)) cs lo hi r n := by
  rw [pay3_apply]
  refine turned_at _ _ _ _ _ _ _ 2 _ hn _ (by omega) _ fun l => ?_
  rw [show (⟨z.val, by omega⟩ : Fin 2048) = r from Fin.ext hr.symm, pay2_apply]
  exact congrArg (fun q => nrm q (fun k => g (ix2 0 k)) l) (funext fun k => by rw [pay15_apply, pay1_apply]; rfl)

/-- The piece at column 128 and row 1024 of a turned block. -/
theorem piece14 (r : Fin 2048) (n : Fin 512) (z : Fin 1024) (x : Fin 128) (hr : r.val = 1024 + z.val) (hn : n.val = 128 + x.val) :
    k0_pay14 (F := Ideal) (k0_pay1 h w) g cs lo hi (ix2 z x) = turned (prod h w) (fun k => g (ix2 0 k)) cs lo hi r n := by
  rw [pay14_apply]
  refine turned_at _ _ _ _ _ _ _ 1 _ hn _ (by omega) _ fun l => ?_
  rw [show (⟨1024 + z.val, by omega⟩ : Fin 2048) = r from Fin.ext hr.symm, pay12_apply]
  exact congrArg (fun q => nrm q (fun k => g (ix2 0 k)) l) (funext fun k => by rw [pay1_apply]; rfl)

/-- The piece at column 128 and row 0 of a turned block. -/
theorem piece13 (r : Fin 2048) (n : Fin 512) (z : Fin 1024) (x : Fin 128) (hr : r.val = z.val) (hn : n.val = 128 + x.val) :
    k0_pay13 (F := Ideal) (k0_pay1 h w) g cs lo hi (ix2 z x) = turned (prod h w) (fun k => g (ix2 0 k)) cs lo hi r n := by
  rw [pay13_apply]
  refine turned_at _ _ _ _ _ _ _ 1 _ hn _ (by omega) _ fun l => ?_
  rw [show (⟨z.val, by omega⟩ : Fin 2048) = r from Fin.ext hr.symm, pay12_apply]
  exact congrArg (fun q => nrm q (fun k => g (ix2 0 k)) l) (funext fun k => by rw [pay1_apply]; rfl)

/-- The piece at column 0 and row 1024 of a turned block. -/
theorem piece11 (r : Fin 2048) (n : Fin 512) (z : Fin 1024) (x : Fin 128) (hr : r.val = 1024 + z.val) (hn : n.val = x.val) :
    k0_pay11 (F := Ideal) (k0_pay1 h w) g cs lo hi (ix2 z x) = turned (prod h w) (fun k => g (ix2 0 k)) cs lo hi r n := by
  rw [pay11_apply]
  refine turned_at _ _ _ _ _ _ _ 0 _ (by rw [hn]; simp) _ (by omega) _ fun l => ?_
  rw [show (⟨1024 + z.val, by omega⟩ : Fin 2048) = r from Fin.ext hr.symm, pay9_apply]
  exact congrArg (fun q => nrm q (fun k => g (ix2 0 k)) l) (funext fun k => by
      rw [pay1_apply]; exact congrArg _ (Fin.ext (by simp)))

/-- The piece at column 0 and row 0 of a turned block. -/
theorem piece10 (r : Fin 2048) (n : Fin 512) (z : Fin 1024) (x : Fin 128) (hr : r.val = z.val) (hn : n.val = x.val) :
    k0_pay10 (F := Ideal) (k0_pay1 h w) g cs lo hi (ix2 z x) = turned (prod h w) (fun k => g (ix2 0 k)) cs lo hi r n := by
  rw [pay10_apply]
  refine turned_at _ _ _ _ _ _ _ 0 _ (by rw [hn]; simp) _ (by omega) _ fun l => ?_
  rw [show (⟨z.val, by omega⟩ : Fin 2048) = r from Fin.ext hr.symm, pay9_apply]
  exact congrArg (fun q => nrm q (fun k => g (ix2 0 k)) l) (funext fun k => by
      rw [pay1_apply]; exact congrArg _ (Fin.ext (by simp)))

/-- The piece at column 128 and row 1024 of a turned block. -/
theorem piece21 (r : Fin 2048) (n : Fin 512) (z : Fin 1024) (x : Fin 128) (hr : r.val = 1024 + z.val) (hn : n.val = 128 + x.val) :
    k0_pay21 (F := Ideal) (k0_pay1 h w) g cs lo hi (ix2 z x) = turned (prod h w) (fun k => g (ix2 0 k)) cs lo hi r n := by
  rw [pay21_apply]
  refine turned_at _ _ _ _ _ _ _ 1 _ hn _ (by omega) _ fun l => ?_
  rw [show (⟨1024 + z.val, by omega⟩ : Fin 2048) = r from Fin.ext hr.symm, pay19_apply]
  exact congrArg (fun q => nrm q (fun k => g (ix2 0 k)) l) (funext fun k => by rw [pay1_apply]; rfl)

/-- The piece at column 128 and row 0 of a turned block. -/
theorem piece20 (r : Fin 2048) (n : Fin 512) (z : Fin 1024) (x : Fin 128) (hr : r.val = z.val) (hn : n.val = 128 + x.val) :
    k0_pay20 (F := Ideal) (k0_pay1 h w) g cs lo hi (ix2 z x) = turned (prod h w) (fun k => g (ix2 0 k)) cs lo hi r n := by
  rw [pay20_apply]
  refine turned_at _ _ _ _ _ _ _ 1 _ hn _ (by omega) _ fun l => ?_
  rw [show (⟨z.val, by omega⟩ : Fin 2048) = r from Fin.ext hr.symm, pay19_apply]
  exact congrArg (fun q => nrm q (fun k => g (ix2 0 k)) l) (funext fun k => by rw [pay1_apply]; rfl)

/-- The piece at column 0 and row 1024 of a turned block. -/
theorem piece18 (r : Fin 2048) (n : Fin 512) (z : Fin 1024) (x : Fin 128) (hr : r.val = 1024 + z.val) (hn : n.val = x.val) :
    k0_pay18 (F := Ideal) (k0_pay1 h w) g cs lo hi (ix2 z x) = turned (prod h w) (fun k => g (ix2 0 k)) cs lo hi r n := by
  rw [pay18_apply]
  refine turned_at _ _ _ _ _ _ _ 0 _ (by rw [hn]; simp) _ (by omega) _ fun l => ?_
  rw [show (⟨1024 + z.val, by omega⟩ : Fin 2048) = r from Fin.ext hr.symm, pay16_apply]
  exact congrArg (fun q => nrm q (fun k => g (ix2 0 k)) l) (funext fun k => by
      rw [pay1_apply]; exact congrArg _ (Fin.ext (by simp)))

/-- The piece at column 0 and row 0 of a turned block. -/
theorem piece17 (r : Fin 2048) (n : Fin 512) (z : Fin 1024) (x : Fin 128) (hr : r.val = z.val) (hn : n.val = x.val) :
    k0_pay17 (F := Ideal) (k0_pay1 h w) g cs lo hi (ix2 z x) = turned (prod h w) (fun k => g (ix2 0 k)) cs lo hi r n := by
  rw [pay17_apply]
  refine turned_at _ _ _ _ _ _ _ 0 _ (by rw [hn]; simp) _ (by omega) _ fun l => ?_
  rw [show (⟨z.val, by omega⟩ : Fin 2048) = r from Fin.ext hr.symm, pay16_apply]
  exact congrArg (fun q => nrm q (fun k => g (ix2 0 k)) l) (funext fun k => by
      rw [pay1_apply]; exact congrArg _ (Fin.ext (by simp)))

/-- The piece at column 384 of a block of head norms. -/
theorem piece5 (r : Fin 2048) (n : Fin 512) (x : Fin 128) (hn : n.val = 384 + x.val) :
    k0_pay5 (F := Ideal) h w g (ix2 r x) = heads (prod h w) (fun k => g (ix2 0 k)) r n := by
  rw [pay5_apply]
  exact heads_at _ _ _ _ 3 _ hn _ fun k => rfl

/-- The piece at column 256 of a block of head norms. -/
theorem piece2 (r : Fin 2048) (n : Fin 512) (x : Fin 128) (hn : n.val = 256 + x.val) :
    k0_pay2 (F := Ideal) (k0_pay15 (k0_pay1 h w)) g (ix2 r x) = heads (prod h w) (fun k => g (ix2 0 k)) r n := by
  rw [pay2_apply]
  exact heads_at _ _ _ _ 2 _ hn _ fun k => by rw [pay15_apply, pay1_apply]; rfl

/-- The piece at column 128 of a block of head norms. -/
theorem piece12 (r : Fin 2048) (n : Fin 512) (x : Fin 128) (hn : n.val = 128 + x.val) :
    k0_pay12 (F := Ideal) (k0_pay1 h w) g (ix2 r x) = heads (prod h w) (fun k => g (ix2 0 k)) r n := by
  rw [pay12_apply]
  exact heads_at _ _ _ _ 1 _ hn _ fun k => by rw [pay1_apply]; rfl

/-- The piece at column 0 of a block of head norms. -/
theorem piece9 (r : Fin 2048) (n : Fin 512) (x : Fin 128) (hn : n.val = x.val) :
    k0_pay9 (F := Ideal) (k0_pay1 h w) g (ix2 r x) = heads (prod h w) (fun k => g (ix2 0 k)) r n := by
  rw [pay9_apply]
  exact heads_at _ _ _ _ 0 _ (by rw [hn]; simp) _ fun k => by
    rw [pay1_apply]; exact congrArg _ (Fin.ext (by simp))

/-- The piece at column 128 of a block of head norms. -/
theorem piece19 (r : Fin 2048) (n : Fin 512) (x : Fin 128) (hn : n.val = 128 + x.val) :
    k0_pay19 (F := Ideal) (k0_pay1 h w) g (ix2 r x) = heads (prod h w) (fun k => g (ix2 0 k)) r n := by
  rw [pay19_apply]
  exact heads_at _ _ _ _ 1 _ hn _ fun k => by rw [pay1_apply]; rfl

/-- The piece at column 0 of a block of head norms. -/
theorem piece16 (r : Fin 2048) (n : Fin 512) (x : Fin 128) (hn : n.val = x.val) :
    k0_pay16 (F := Ideal) (k0_pay1 h w) g (ix2 r x) = heads (prod h w) (fun k => g (ix2 0 k)) r n := by
  rw [pay16_apply]
  exact heads_at _ _ _ _ 0 _ (by rw [hn]; simp) _ fun k => by
    rw [pay1_apply]; exact congrArg _ (Fin.ext (by simp))

/-- A grid point whose columns pass through: the product itself. -/
theorem outD (c : Dev nD) (t : Fin cfg0.N) (ht : 5 ≤ t.val % 13 ∧ t.val % 13 ≤ 10) (r : Fin 2048) (n : Fin 512) :
    out7 m c t (ix2 r n) = prod (iblk m c 0 t) (iblk m c 1 t) r n := by
  rw [out7_D m c t ht]
  unfold runD kernelRun0_D
  frame_out
  exact pay1_apply _ _ _ _

/-- A grid point whose columns are gates: their silu. -/
theorem outC (c : Dev nD) (t : Fin cfg0.N) (ht : t.val % 13 = 3 ∨ t.val % 13 = 4 ∨ t.val % 13 = 11 ∨ t.val % 13 = 12)
    (r : Fin 2048) (n : Fin 512) :
    out7 m c t (ix2 r n) = silu (prod (iblk m c 0 t) (iblk m c 1 t) r n) := by
  rw [out7_C m c t ht]
  unfold runC kernelRun0_C
  frame_out
  exact pay8_apply _ _ _ _

/-- A query column block of the first 4096 rows: four head norms. -/
theorem outA (c : Dev nD) (t : Fin cfg0.N) (ht : t.val % 13 ≤ 1 ∧ t.val < 26) (r : Fin 2048) (n : Fin 512) :
    out7 m c t (ix2 r n) = heads (prod (iblk m c 0 t) (iblk m c 1 t)) (fun k => iblk m c 2 t (ix2 0 k)) r n := by
  rw [out7_A m c t ht]
  unfold runA kernelRun0_A
  frame_out
  canon_tiles x h
  all_goals
    idx_vars x
    change (r : ℕ) = _ at h0
    change (n : ℕ) = _ at h1
    obtain rfl : r = x0 := Fin.ext h0
  · exact piece5 _ _ _ r n x1 h1
  · exact piece2 _ _ _ r n x1 h1
  · exact piece12 _ _ _ r n x1 h1
  · exact piece9 _ _ _ r n x1 h1

/-- The key and value column block of the first 4096 rows: two head norms, then the product itself. -/
theorem outB (c : Dev nD) (t : Fin cfg0.N) (ht : t.val % 13 = 2 ∧ t.val < 26) (r : Fin 2048) (n : Fin 512) :
    out7 m c t (ix2 r n) = if n.val < 256 then heads (prod (iblk m c 0 t) (iblk m c 1 t)) (fun k => iblk m c 3 t (ix2 0 k)) r n
      else prod (iblk m c 0 t) (iblk m c 1 t) r n := by
  rw [out7_B m c t ht]
  unfold runB kernelRun0_B
  frame_out
  canon_tiles x h using View.cover_of_tiledBy _ ![2048, 128] (by sl_kernel_rfl) _
  all_goals
    idx_vars x
    change (r : ℕ) = _ at h0
    change (n : ℕ) = _ at h1
    obtain rfl : r = x0 := Fin.ext h0
  · rw [if_neg (by omega), pay22_apply, pay1_apply]
    exact congrArg _ (Fin.ext h1.symm)
  · rw [if_pos (by omega)]
    exact piece19 _ _ _ r n x1 h1
  · rw [if_pos (by omega)]
    exact piece16 _ _ _ r n x1 h1

/-- The keys written beside it. -/
theorem outB8 (c : Dev nD) (t : Fin cfg0.N) (ht : t.val % 13 = 2 ∧ t.val < 26) (r : Fin 2048) (n : Fin 256) :
    out8 m c t (ix2 r n) = heads (prod (iblk m c 0 t) (iblk m c 1 t)) (fun k => iblk m c 3 t (ix2 0 k)) r ⟨n.val, by omega⟩ := by
  rw [out8_B m c t ht]
  unfold runB kernelRun0_B
  frame_out
  canon_tiles x h
  all_goals
    idx_vars x
    change (r : ℕ) = _ at h0
    change (n : ℕ) = _ at h1
    obtain rfl : r = x0 := Fin.ext h0
  · exact piece19 _ _ _ r _ x1 h1
  · exact piece16 _ _ _ r _ x1 h1

/-- The values written beside it. -/
theorem outB9 (c : Dev nD) (t : Fin cfg0.N) (ht : t.val % 13 = 2 ∧ t.val < 26) (r : Fin 2048) (n : Fin 256) :
    out9 m c t (ix2 r n) = prod (iblk m c 0 t) (iblk m c 1 t) r ⟨256 + n.val, by omega⟩ := by
  rw [out9_B m c t ht]
  unfold runB kernelRun0_B
  frame_out
  rw [pay22_apply, pay1_apply]

/-- A query column block of the last 2048 rows: four heads, normed and turned. -/
theorem outE (c : Dev nD) (t : Fin cfg0.N) (ht : t.val % 13 ≤ 1 ∧ 26 ≤ t.val) (r : Fin 2048) (n : Fin 512) :
    out7 m c t (ix2 r n) = turned (prod (iblk m c 0 t) (iblk m c 1 t)) (fun k => iblk m c 2 t (ix2 0 k))
      (iblk m c 4 t) (iblk m c 5 t) (iblk m c 6 t) r n := by
  rw [out7_E m c t ht]
  unfold runE kernelRun0_E
  frame_out
  canon_tiles x h
  all_goals
    idx_vars x
    change (r : ℕ) = _ at h0
    change (n : ℕ) = _ at h1
  · exact piece7 _ _ _ _ _ _ r n x0 x1 h0 h1
  · exact piece6 _ _ _ _ _ _ r n x0 x1 h0 h1
  · exact piece4 _ _ _ _ _ _ r n x0 x1 h0 h1
  · exact piece3 _ _ _ _ _ _ r n x0 x1 h0 h1
  · exact piece14 _ _ _ _ _ _ r n x0 x1 h0 h1
  · exact piece13 _ _ _ _ _ _ r n x0 x1 h0 h1
  · exact piece11 _ _ _ _ _ _ r n x0 x1 h0 h1
  · exact piece10 _ _ _ _ _ _ r n x0 x1 h0 h1

/-- The key and value column block of the last 2048 rows. -/
theorem outF (c : Dev nD) (t : Fin cfg0.N) (ht : t.val % 13 = 2 ∧ 26 ≤ t.val) (r : Fin 2048) (n : Fin 512) :
    out7 m c t (ix2 r n) = if n.val < 256 then turned (prod (iblk m c 0 t) (iblk m c 1 t)) (fun k => iblk m c 3 t (ix2 0 k))
      (iblk m c 4 t) (iblk m c 5 t) (iblk m c 6 t) r n else prod (iblk m c 0 t) (iblk m c 1 t) r n := by
  rw [out7_F m c t ht]
  unfold runF kernelRun0_F
  frame_out
  canon_tiles x h using View.cover_of_tiledBy _ ![1024, 128] (by sl_kernel_rfl) _
  all_goals
    idx_vars x
    change (r : ℕ) = _ at h0
    change (n : ℕ) = _ at h1
  · obtain rfl : r = x0 := Fin.ext h0
    rw [if_neg (by omega), pay22_apply, pay1_apply]
    exact congrArg _ (Fin.ext h1.symm)
  · rw [if_pos (by omega)]
    exact piece21 _ _ _ _ _ _ r n x0 x1 h0 h1
  · rw [if_pos (by omega)]
    exact piece20 _ _ _ _ _ _ r n x0 x1 h0 h1
  · rw [if_pos (by omega)]
    exact piece18 _ _ _ _ _ _ r n x0 x1 h0 h1
  · rw [if_pos (by omega)]
    exact piece17 _ _ _ _ _ _ r n x0 x1 h0 h1

end Cert.InProjIdeal.Block

end
-- ==== Proof.InProjValue.lean ====
/-
  The in-projection call's three result arrays as functions of its arguments.
-/
module

public import proofs.«01_k».proof.Proof.InProjBlock

@[expose] public section

set_option maxRecDepth 16384

noncomputable section

namespace Cert.InProjIdeal.Whole

open Cert.InProjIdeal Cert.InProjIdeal.Gen Cert.InProjRun Cert.InProjMath Cert.InProjIdeal.Block
open Idealize.ShloMosaic Idealize.ShloMosaic.TcCoe Idealize.SL.Sem
open Idealize.ShloMosaic.Pipeline (Dat)

variable (m : (ℓ : Loc nD τ sig) → Buf (Elt Ideal) ℓ)

/-- The blocks that a grid point works on. -/
theorem idx : ∀ t : Fin cfg0.N,
    win0_0.index t = ![t.val / 13, 0]
    ∧ win0_1.index t = ![0, t.val % 13]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val / 13, t.val % 13]
    ∧ win0_8.index t = ![min (t.val / 13) 1, 0]
    ∧ win0_9.index t = ![min (t.val / 13) 1, 0] ∧ t.val < 39 :=
  (by decide +kernel : ∀ t : Fin grid0.N, _)

/-- The block of input rows that point `t` reads. -/
theorem h_apply (c : Dev nD) (t : Fin cfg0.N) (r : Fin 2048) (k : Fin 2048) (h : t.val < 39) :
    iblk m c 0 t (ix2 r k) = m ((c : Thread nD τ).loc main_arg0) (ix2 ⟨t.val / 13 * 2048 + r.val, by omega⟩ k) := by
  blk_ext [iblk, V, idx t]

/-- The weights that the call reads are the first layer's. -/
theorem w_at (c : Dev nD) (k : Fin 2048) (n : Fin 6656) :
    V m c main_v0 (ix2 k n) = m ((c : Thread nD τ).loc main_arg1) (ix3 0 k n) := by
  simp only [V, hostOps0, hostOps0_1, hostOps0_2, hostOps0_3, hostOps0_4, hostOps0_5, hostOps0_6, hostOps0_7,
    List.flatten_cons, List.flatten_nil, List.append_nil, List.cons_append, List.nil_append]
  entry_read
  pointwise

/-- The quarter of the lanes that lane number `v` lies in, as the host computes it: a floor division by 32. -/
def quarter (v : BitVec 32) : BitVec 32 :=
  Scalar.select
    (IntOp.andi
      (IntOp.cmpi .ne (if v = 0 then 0 else if v.msb = true then -1 else 1)
        (if (32#32 : BitVec 32) = 0 then (0 : BitVec 32) else if (32#32).msb = true then -1 else 1))
      (IntOp.cmpi .ne (IntOp.remsi .host v 32#32) 0#32))
    (IntOp.subi (IntOp.divsi .host v 32#32) 1#32) (IntOp.divsi .host v 32#32)

/-- The divisor of the parity, as the host computes it. -/
def two : BitVec 32 := Scalar.select (IntOp.cmpi .eq 2#32 0#32) 1#32 2#32

/-- The parity of a number, as the host computes it: a remainder with the divisor's sign. -/
def parity (q : BitVec 32) : BitVec 32 :=
  Scalar.select
    (IntOp.andi (IntOp.cmpi .ne (IntOp.cmpi .slt (IntOp.remsi .host q two) 0#32) (IntOp.cmpi .slt two 0#32))
      (IntOp.cmpi .ne (IntOp.remsi .host q two) 0#32))
    (IntOp.addi (IntOp.remsi .host q two) two) (IntOp.remsi .host q two)

/-- Both together. -/
theorem parity_quarter : ∀ k : Fin 128, parity (quarter (BitVec.ofNat 32 k.val)) = BitVec.ofNat 32 (k.val / 32 % 2) := by
  decide +kernel

/-- A choice by the parity of a lane's quarter. -/
theorem select_parity (b : BitVec 1) (k : Fin 128) (e : Fin 2) (x y : EReal)
    (hb : b = IntOp.cmpi .eq (parity (quarter (BitVec.ofNat 32 k.val))) (BitVec.ofNat 32 e.val)) :
    Scalar.select b x y = if k.val / 32 % 2 = e.val then x else y := by
  rw [hb, parity_quarter]
  have h : IntOp.cmpi .eq (BitVec.ofNat 32 (k.val / 32 % 2)) (BitVec.ofNat 32 e.val)
      = if k.val / 32 % 2 = e.val then 1#1 else 0#1 := by
    clear hb
    revert k e
    decide +kernel
  rw [h]
  split <;> rfl

/-- The first table of signed sines. -/
theorem lo_at (c : Dev nD) (r : Fin 1024) (k : Fin 128) :
    V m c main_v7 (ix2 r k) = if k.val / 32 % 2 = 0
      then -((id (m ((c : Thread nD τ).loc main_arg5)) : FVec Ideal S1024x128 .f32) (ix2 r k)) else (0 : EReal) := by
  simp only [V, hostOps0, hostOps0_1, hostOps0_2, hostOps0_3, hostOps0_4, hostOps0_5, hostOps0_6, hostOps0_7,
    List.flatten_cons, List.flatten_nil, List.append_nil, List.cons_append, List.nil_append]
  entry_read
  simp only [StableHlo.TRef.ofBuf_toBuf]
  simp -implicitDefEqProofs only [StableHlo.TRef.toBuf, StableHlo.TRef.ofBuf, cast_cast, cast_eq]
  pointwise
  exact select_parity _ k 0 _ _ rfl

/-- The second table of signed sines. -/
theorem hi_at (c : Dev nD) (r : Fin 1024) (k : Fin 128) :
    V m c main_v10 (ix2 r k) = if k.val / 32 % 2 = 1
      then (id (m ((c : Thread nD τ).loc main_arg5)) : FVec Ideal S1024x128 .f32) (ix2 r k) else (0 : EReal) := by
  simp only [V, hostOps0, hostOps0_1, hostOps0_2, hostOps0_3, hostOps0_4, hostOps0_5, hostOps0_6, hostOps0_7,
    List.flatten_cons, List.flatten_nil, List.append_nil, List.cons_append, List.nil_append]
  entry_read
  simp only [StableHlo.TRef.ofBuf_toBuf]
  simp -implicitDefEqProofs only [StableHlo.TRef.toBuf, StableHlo.TRef.ofBuf, cast_cast, cast_eq]
  pointwise
  exact select_parity _ k 1 _ _ rfl

/-- The block of weight columns. -/
theorem w_apply (c : Dev nD) (t : Fin cfg0.N) (k : Fin 2048) (n : Fin 512) (h : t.val < 39) :
    iblk m c 1 t (ix2 k n) = m ((c : Thread nD τ).loc main_arg1) (ix3 0 k ⟨t.val % 13 * 512 + n.val, by omega⟩) := by
  refine Eq.trans ?_ (w_at m c k ⟨t.val % 13 * 512 + n.val, by omega⟩)
  blk_ext [iblk, idx t]

/-- The gain of the query heads. -/
theorem gq_apply (c : Dev nD) (t : Fin cfg0.N) (k : Fin 128) :
    iblk m c 2 t (ix2 0 k) = m ((c : Thread nD τ).loc main_arg2) (ix2 0 k) := by
  blk_ext [iblk, V, idx t]

/-- The gain of the key heads. -/
theorem gk_apply (c : Dev nD) (t : Fin cfg0.N) (k : Fin 128) :
    iblk m c 3 t (ix2 0 k) = m ((c : Thread nD τ).loc main_arg3) (ix2 0 k) := by
  blk_ext [iblk, V, idx t]

/-- The cosines. -/
theorem cos_apply (c : Dev nD) (t : Fin cfg0.N) (r : Fin 1024) (k : Fin 128) :
    iblk m c 4 t (ix2 r k) = m ((c : Thread nD τ).loc main_arg4) (ix2 r k) := by
  blk_ext [iblk, V, idx t]

/-- The block of the first table of signed sines. -/
theorem lo_apply (c : Dev nD) (t : Fin cfg0.N) (r : Fin 1024) (k : Fin 128) :
    iblk m c 5 t (ix2 r k) = V m c main_v7 (ix2 r k) := by
  blk_ext [iblk, idx t]

/-- The block of the second. -/
theorem hi_apply (c : Dev nD) (t : Fin cfg0.N) (r : Fin 1024) (k : Fin 128) :
    iblk m c 6 t (ix2 r k) = V m c main_v10 (ix2 r k) := by
  blk_ext [iblk, idx t]

variable (x0 : FVec Ideal S6144x2048 .bf16) (x1 : FVec Ideal S1x2048x6656 .f32) (x2 x3 : FVec Ideal S1x128 .f32)
  (x4 x5 : FVec Ideal S1024x128 .f32)

/-- Entry `(R, N)` of the product of the inputs and the weights. -/
def proj (R : Fin 6144) (N : Fin 6656) : EReal := ∑ k : Fin 2048, x0 (ix2 R k) * x1 (ix3 0 k N)

/-- Entry `(R, N)` of the head norms with gain `g`. -/
def headNorm (g : FVec Ideal S1x128 .f32) (R : Fin 6144) (N : Fin 6656) : EReal :=
  nrm (fun k => proj x0 x1 R ⟨N.val / 128 * 128 + k.val, by omega⟩) (fun k => g (ix2 0 k))
    ⟨N.val % 128, Nat.mod_lt _ (by decide)⟩

/-- The same entry when the normed head is turned. -/
def headTurn (g : FVec Ideal S1x128 .f32) (R : Fin 6144) (N : Fin 6656) : EReal :=
  rope (fun l => nrm (fun k => proj x0 x1 R ⟨N.val / 128 * 128 + k.val, by omega⟩) (fun k => g (ix2 0 k)) l)
    (fun k => x4 (ix2 ⟨R.val % 1024, Nat.mod_lt _ (by decide)⟩ k)) (fun k => x5 (ix2 ⟨R.val % 1024, Nat.mod_lt _ (by decide)⟩ k))
    ⟨N.val % 128, Nat.mod_lt _ (by decide)⟩

/-- Entry `(R, N)` of the projection that the call leaves. -/
def entry (R : Fin 6144) (N : Fin 6656) : EReal :=
  if N.val < 1024 then (if R.val < 4096 then headNorm x0 x1 x2 R N else headTurn x0 x1 x4 x5 x2 R N)
  else if N.val < 1280 then (if R.val < 4096 then headNorm x0 x1 x3 R N else headTurn x0 x1 x4 x5 x3 R N)
  else if 1536 ≤ N.val ∧ N.val < 2560 ∨ 5632 ≤ N.val then silu (proj x0 x1 R N) else proj x0 x1 R N

/-- Equal heads have equal norms. -/
theorem nrm_congr {u u' g g' : Fin 128 → EReal} {l l' : Fin 128} (hu : ∀ k, u k = u' k) (hg : ∀ k, g k = g' k) (hl : l = l') :
    nrm u g l = nrm u' g' l' := by
  rw [funext hu, funext hg, hl]

/-- The turn by signed sines, entry by entry the turn by sines. -/
theorem turn_rope {u u' cs cs' sn lo hi : Fin 128 → EReal} {l l' : Fin 128} (hu : ∀ k, u k = u' k) (hc : ∀ k, cs k = cs' k)
    (hlo : ∀ k : Fin 128, lo k = if k.val / 32 % 2 = 0 then -(sn k) else 0)
    (hhi : ∀ k : Fin 128, hi k = if k.val / 32 % 2 = 1 then sn k else 0) (hl : l = l') :
    turn u cs lo hi l = rope u' cs' sn l' := by
  rw [funext hu, funext hc, hl]
  exact turn_eq _ _ _ _ _ _ (hlo _) (hhi _)

/-- A block's product is a part of the whole product. -/
theorem prod_eq (c : Dev nD) (t : Fin cfg0.N) (r : Fin 2048) (n : Fin 512) (R : Fin 6144) (N : Fin 6656)
    (hR : R.val = t.val / 13 * 2048 + r.val) (hN : N.val = t.val % 13 * 512 + n.val) (h : t.val < 39) :
    prod (iblk m c 0 t) (iblk m c 1 t) r n
      = proj (m ((c : Thread nD τ).loc main_arg0)) (m ((c : Thread nD τ).loc main_arg1)) R N := by
  have eR : R = ⟨t.val / 13 * 2048 + r.val, by omega⟩ := Fin.ext hR
  have eN : N = ⟨t.val % 13 * 512 + n.val, by omega⟩ := Fin.ext hN
  unfold prod proj
  exact Finset.sum_congr rfl fun k _ => by rw [h_apply m c t r k h, w_apply m c t k n h, ← eR, ← eN]

/-- A block's head norms are those of the whole. -/
theorem heads_eq (c : Dev nD) (t : Fin cfg0.N) (r : Fin 2048) (n : Fin 512) (R : Fin 6144) (N : Fin 6656)
    (hR : R.val = t.val / 13 * 2048 + r.val) (hN : N.val = t.val % 13 * 512 + n.val) (h : t.val < 39)
    (b : Fin 128 → EReal) (g : FVec Ideal S1x128 .f32) (hb : ∀ k, b k = g (ix2 0 k)) :
    heads (prod (iblk m c 0 t) (iblk m c 1 t)) b r n
      = headNorm (m ((c : Thread nD τ).loc main_arg0)) (m ((c : Thread nD τ).loc main_arg1)) g R N := by
  unfold heads headNorm
  exact nrm_congr (fun k => prod_eq m c t r _ R _ hR (by dsimp only; omega) h) hb (Fin.ext (by dsimp only; omega))

/-- A block's turned heads are those of the whole. -/
theorem turned_eq (c : Dev nD) (t : Fin cfg0.N) (r : Fin 2048) (n : Fin 512) (R : Fin 6144) (N : Fin 6656)
    (hR : R.val = t.val / 13 * 2048 + r.val) (hN : N.val = t.val % 13 * 512 + n.val) (h : t.val < 39)
    (b : Fin 128 → EReal) (g : FVec Ideal S1x128 .f32) (hb : ∀ k, b k = g (ix2 0 k)) :
    turned (prod (iblk m c 0 t) (iblk m c 1 t)) b (iblk m c 4 t) (iblk m c 5 t) (iblk m c 6 t) r n
      = headTurn (m ((c : Thread nD τ).loc main_arg0)) (m ((c : Thread nD τ).loc main_arg1))
          (m ((c : Thread nD τ).loc main_arg4)) (m ((c : Thread nD τ).loc main_arg5)) g R N := by
  unfold turned headTurn
  exact turn_rope
    (fun l => nrm_congr (fun k => prod_eq m c t r _ R _ hR (by dsimp only; omega) h) hb rfl)
    (fun k => (cos_apply m c t _ k).trans (congrArg (fun z => (id (m ((c : Thread nD τ).loc main_arg4)) : FVec Ideal S1024x128 .f32)
      (ix2 z k)) (Fin.ext (by dsimp only; omega))))
    (fun k => (lo_apply m c t _ k).trans ((lo_at m c _ k).trans (congrArg (fun z => if k.val / 32 % 2 = 0
      then -((id (m ((c : Thread nD τ).loc main_arg5)) : FVec Ideal S1024x128 .f32) (ix2 z k)) else (0 : EReal))
      (Fin.ext (by dsimp only; omega)))))
    (fun k => (hi_apply m c t _ k).trans ((hi_at m c _ k).trans (congrArg (fun z => if k.val / 32 % 2 = 1
      then (id (m ((c : Thread nD τ).loc main_arg5)) : FVec Ideal S1024x128 .f32) (ix2 z k) else (0 : EReal))
      (Fin.ext (by dsimp only; omega)))))
    (Fin.ext (by dsimp only; omega))

/-- What a grid point leaves in its projection block, from the arguments. -/
theorem block7 (c : Dev nD) (t : Fin cfg0.N) (r : Fin 2048) (n : Fin 512) (R : Fin 6144) (N : Fin 6656)
    (hR : R.val = t.val / 13 * 2048 + r.val) (hN : N.val = t.val % 13 * 512 + n.val) (h : t.val < 39) :
    out7 m c t (ix2 r n) = entry (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) R N := by
  unfold entry
  have hp := prod_eq m c t r n R N hR hN h
  by_cases q : t.val % 13 ≤ 1
  · by_cases s : t.val < 26
    · rw [outA m c t ⟨q, s⟩, if_pos (by omega), if_pos (by omega)]
      exact heads_eq m c t r n R N hR hN h _ _ fun k => gq_apply m c t k
    · rw [outE m c t ⟨q, by omega⟩, if_pos (by omega), if_neg (by omega)]
      exact turned_eq m c t r n R N hR hN h _ _ fun k => gq_apply m c t k
  by_cases q2 : t.val % 13 = 2
  · by_cases s : t.val < 26
    · rw [outB m c t ⟨q2, s⟩, if_neg (by omega : ¬ N.val < 1024)]
      by_cases u : n.val < 256
      · rw [if_pos u, if_pos (by omega), if_pos (by omega)]
        exact heads_eq m c t r n R N hR hN h _ _ fun k => gk_apply m c t k
      · rw [if_neg u, if_neg (by omega), if_neg (by omega)]
        exact hp
    · rw [outF m c t ⟨q2, by omega⟩, if_neg (by omega : ¬ N.val < 1024)]
      by_cases u : n.val < 256
      · rw [if_pos u, if_pos (by omega), if_neg (by omega)]
        exact turned_eq m c t r n R N hR hN h _ _ fun k => gk_apply m c t k
      · rw [if_neg u, if_neg (by omega), if_neg (by omega)]
        exact hp
  rw [if_neg (by omega), if_neg (by omega)]
  by_cases q3 : 5 ≤ t.val % 13 ∧ t.val % 13 ≤ 10
  · rw [outD m c t q3, if_neg (by omega)]
    exact hp
  · rw [outC m c t (by omega), if_pos (by omega)]
    exact congrArg silu hp

/-- The projection that the call leaves. -/
def whole7 : FVec Ideal S6144x6656 .f32 := fun i => entry x0 x1 x2 x3 x4 x5 (i 0) (i 1)

/-- The keys that the call leaves: the normed key heads of the first 4096 rows. -/
def whole8 : FVec Ideal S4096x256 .f32 := fun i =>
  headNorm x0 x1 x3 ⟨(i 0 : ℕ), by have : (i 0 : ℕ) < 4096 := (i 0).isLt; omega⟩
    ⟨1024 + (i 1 : ℕ), by have : (i 1 : ℕ) < 256 := (i 1).isLt; omega⟩

/-- The values that the call leaves: the value columns of the first 4096 rows. -/
def whole9 : FVec Ideal S4096x256 .f32 := fun i =>
  proj x0 x1 ⟨(i 0 : ℕ), by have : (i 0 : ℕ) < 4096 := (i 0).isLt; omega⟩
    ⟨1280 + (i 1 : ℕ), by have : (i 1 : ℕ) < 256 := (i 1).isLt; omega⟩

/-- Where entry `(r, n)` of a point's projection block lies in the array. -/
theorem emb7 (t : Fin cfg0.N) (r : Fin 2048) (n : Fin 512) (h : t.val < 39) :
    (win0_7.blk t).view.emb (ix2 r n)
      = (ix2 ⟨t.val / 13 * 2048 + r.val, by omega⟩ ⟨t.val % 13 * 512 + n.val, by omega⟩ : S6144x6656.Idx) := by
  blk_ext [idx t]

/-- Where entry `(r, n)` of a point's key block lies. -/
theorem emb8 (t : Fin cfg0.N) (r : Fin 2048) (n : Fin 256) (h : t.val < 39) :
    (win0_8.blk t).view.emb (ix2 r n) = (ix2 ⟨min (t.val / 13) 1 * 2048 + r.val, by omega⟩ n : S4096x256.Idx) := by
  blk_ext [idx t]

/-- Where entry `(r, n)` of a point's value block lies. -/
theorem emb9 (t : Fin cfg0.N) (r : Fin 2048) (n : Fin 256) (h : t.val < 39) :
    (win0_9.blk t).view.emb (ix2 r n) = (ix2 ⟨min (t.val / 13) 1 * 2048 + r.val, by omega⟩ n : S4096x256.Idx) := by
  blk_ext [idx t]

/-- The call leaves that projection. -/
theorem final7 (c : Dev nD) :
    (dats m 0 c).arrAt 7 (cfgs 0).N = whole7 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 7 _ (by decide +kernel) fun t hf y => ?_
  have ht : t.val < 39 := (idx t).2.2.2.2.2.2.2.2.2.2
  blk_simp
  rw [after0_7]
  obtain ⟨r, n, rfl⟩ : ∃ (r : Fin 2048) (n : Fin 512), y = ix2 r n := ⟨y 0, y 1, by funext a; fin_cases a <;> rfl⟩
  rw [emb7 t r n ht]
  exact block7 m c t r n _ _ rfl rfl ht

/-- What the buffer of window 8 holds after a point is what it held after the point where it was stored. -/
theorem out8_src (c : Dev nD) (t : Fin cfg0.N) : out8 m c t = out8 m c (src t) := by
  have key : ∀ s s' hs hs', s = s' → (runB m c s hs).2.1 = (runB m c s' hs').2.1 := by
    rintro s _ hs hs' rfl
    rfl
  unfold out8
  rw [key (src (src t)) (src t) _ (src_B t) (src_self (src t) (src_B t))]

/-- What the buffer of window 9 holds after a point is what it held after the point where it was stored. -/
theorem out9_src (c : Dev nD) (t : Fin cfg0.N) : out9 m c t = out9 m c (src t) := by
  have key : ∀ s s' hs hs', s = s' → (runB m c s hs).2.2.1 = (runB m c s' hs').2.2.1 := by
    rintro s _ hs hs' rfl
    rfl
  unfold out9
  rw [key (src (src t)) (src t) _ (src_B t) (src_self (src t) (src_B t))]

/-- Where that point lies in the grid. -/
theorem src_place (t : Fin cfg0.N) : (src t).val / 13 = min (t.val / 13) 1 ∧ (src t).val % 13 = 2 := by
  unfold src
  split <;> dsimp only <;> omega

/-- The call leaves those keys. -/
theorem final8 (c : Dev nD) :
    (dats m 0 c).arrAt 8 (cfgs 0).N = whole8 (m ((c : Thread nD τ).loc main_arg0)) (m ((c : Thread nD τ).loc main_arg1))
      (m ((c : Thread nD τ).loc main_arg3)) := by
  refine (dats m 0 c).arrAt_eq_of_covers 8 _ (by decide +kernel) fun t hf y => ?_
  have ht : t.val < 39 := (idx t).2.2.2.2.2.2.2.2.2.2
  have hs := src_place t
  blk_simp
  rw [after0_8]
  obtain ⟨r, n, rfl⟩ : ∃ (r : Fin 2048) (n : Fin 256), y = ix2 r n := ⟨y 0, y 1, by funext a; fin_cases a <;> rfl⟩
  rw [emb8 t r n ht, out8_src]
  exact (outB8 m c (src t) (src_B t) r n).trans
    (heads_eq m c (src t) r _ ⟨min (t.val / 13) 1 * 2048 + r.val, by omega⟩ ⟨1024 + n.val, by omega⟩
      (by dsimp only; omega) (by dsimp only; omega) (by have := (src_B t).2; omega) _ _ fun k => gk_apply m c _ k)

/-- The call leaves those values. -/
theorem final9 (c : Dev nD) :
    (dats m 0 c).arrAt 9 (cfgs 0).N = whole9 (m ((c : Thread nD τ).loc main_arg0)) (m ((c : Thread nD τ).loc main_arg1)) := by
  refine (dats m 0 c).arrAt_eq_of_covers 9 _ (by decide +kernel) fun t hf y => ?_
  have ht : t.val < 39 := (idx t).2.2.2.2.2.2.2.2.2.2
  have hs := src_place t
  blk_simp
  rw [after0_9]
  obtain ⟨r, n, rfl⟩ : ∃ (r : Fin 2048) (n : Fin 256), y = ix2 r n := ⟨y 0, y 1, by funext a; fin_cases a <;> rfl⟩
  rw [emb9 t r n ht, out9_src]
  exact (outB9 m c (src t) (src_B t) r n).trans
    (prod_eq m c (src t) r _ ⟨min (t.val / 13) 1 * 2048 + r.val, by omega⟩ ⟨1280 + n.val, by omega⟩
      (by dsimp only; omega) (by dsimp only; omega) (by have := (src_B t).2; omega))

end Cert.InProjIdeal.Whole

end
-- ==== Proof.InProjRead.lean ====
/-
  The in-projection reference, read at an index.
-/
module

public import proofs.«01_k».proof.Proof.Gen.InProjRefIdeal.Read
public import proofs.«01_k».proof.Proof.InProjValue
public import Idealize.ShloMosaic.Lib.Pipeline.ValueKit

@[expose] public section

set_option maxRecDepth 16384

noncomputable section

namespace Cert.InProjRefIdeal.At

open Cert.InProjRefIdeal Cert.InProjRefIdeal.Gen Cert.InProjRefIdeal.Read Cert.InProjMath
open Cert.InProjIdeal.Whole (proj headNorm headTurn entry nrm_congr whole7 whole8 whole9)
open Idealize.ShloMosaic Idealize.ShloMosaic.TcCoe Idealize.SL.Sem

variable (x0 : FVec Ideal S6144x2048 .bf16) (x1 : FVec Ideal S1x2048x6656 .f32) (x2 x3 : FVec Ideal S1x128 .f32)
  (x4 x5 : FVec Ideal S1024x128 .f32)

/-- Equal heads and tables give equal turned heads. -/
theorem rope_congr {u u' cs cs' sn sn' : Fin 128 → EReal} {l l' : Fin 128} (hu : ∀ k, u k = u' k) (hc : ∀ k, cs k = cs' k)
    (hs : ∀ k, sn k = sn' k) (hl : l = l') : rope u cs sn l = rope u' cs' sn' l' := by
  rw [funext hu, funext hc, funext hs, hl]

/-- The four quarters of a head, exchanged in pairs and signed, at lane `d`. -/
theorem quarters (u : Fin 128 → EReal) (d : Fin 128) :
    (if h : d.val < 32 then -u ⟨32 + d.val, by omega⟩
      else if h : d.val - 32 < 32 then u ⟨d.val - 32, by omega⟩
      else if h : d.val - 32 - 32 < 32 then -u ⟨96 + (d.val - 32 - 32), by omega⟩
      else u ⟨64 + (d.val - 32 - 32 - 32), by omega⟩)
      = if d.val / 32 % 2 = 0 then -u ⟨(d.val + 32) % 128, Nat.mod_lt _ (by decide)⟩
        else u ⟨(d.val + 96) % 128, Nat.mod_lt _ (by decide)⟩ := by
  have hd := d.isLt
  split_ifs
  all_goals first
    | (exfalso; omega)
    | exact congrArg (fun l => -u l) (Fin.ext (by dsimp only <;> omega))
    | exact congrArg u (Fin.ext (by dsimp only <;> omega))

/-- The product. -/
theorem product (R : Fin 6144) (N : Fin 6656) : val_main_v2 (F := Ideal) x0 x1 (ix2 R N) = proj x0 x1 R N := by
  pointwise [val_main_v2, val_main_v1, val_main_v0]
  rfl

/-- The norm of a query head. -/
theorem query (R : Fin 6144) (a : Fin 8) (d : Fin 128) :
    val_main_v25 (F := Ideal) x0 x1 x2 (ix3 R a d)
      = nrm (fun k => proj x0 x1 R ⟨a.val * 128 + k.val, by omega⟩) (fun k => x2 (ix2 0 k)) d := by
  pointwise [val_main_v25, val_main_v24, val_main_v23, val_main_v22, val_main_v21, val_main_v20, val_main_v19, val_main_v18, val_main_v17, val_main_v16, val_main_v15, val_main_v14, val_main_v13, val_main_v12, val_main_v11, val_main_v3, val_main_cst, val_main_cst_0, val_main_cst_1]
  simp only [product]
  rfl

/-- The norm of a key head. -/
theorem key (R : Fin 6144) (a : Fin 2) (d : Fin 128) :
    val_main_v40 (F := Ideal) x0 x1 x3 (ix3 R a d)
      = nrm (fun k => proj x0 x1 R ⟨1024 + (a.val * 128 + k.val), by omega⟩) (fun k => x3 (ix2 0 k)) d := by
  pointwise [val_main_v40, val_main_v39, val_main_v38, val_main_v37, val_main_v36, val_main_v35, val_main_v34, val_main_v33, val_main_v32, val_main_v31, val_main_v30, val_main_v29, val_main_v28, val_main_v27, val_main_v26, val_main_v4, val_main_cst_2, val_main_cst_3, val_main_cst_4]
  simp only [product]
  rfl

/-- A turned query head of the last 2048 rows. -/
theorem query_turned (b : Fin 2) (s : Fin 1024) (a : Fin 8) (d : Fin 128) :
    val_main_v56 (F := Ideal) x0 x1 x2 x4 x5 (ix4 b s a d)
      = rope (fun l => val_main_v25 (F := Ideal) x0 x1 x2 (ix3 ⟨4096 + (b.val * 1024 + s.val), by omega⟩ a l))
          (fun k => x4 (ix2 s k)) (fun k => x5 (ix2 s k)) d := by
  unfold rope
  pointwise [val_main_v56, val_main_v55, val_main_v54, val_main_v53, val_main_v52, val_main_v51, val_main_v50, val_main_v49, val_main_v48, val_main_v47, val_main_v46, val_main_v45, val_main_v44, val_main_v43, val_main_v42, val_main_v41]
  exact congrArg (fun z : EReal => (val_main_v25 (F := Ideal) x0 x1 x2 (ix3 ⟨4096 + (b.val * 1024 + s.val), by omega⟩ a d) : EReal)
    * x4 (ix2 s d) + z * x5 (ix2 s d)) (quarters (fun l => val_main_v25 (F := Ideal) x0 x1 x2
      (ix3 ⟨4096 + (b.val * 1024 + s.val), by omega⟩ a l)) d)

/-- A turned key head of the last 2048 rows. -/
theorem key_turned (b : Fin 2) (s : Fin 1024) (a : Fin 2) (d : Fin 128) :
    val_main_v76 (F := Ideal) x0 x1 x3 x4 x5 (ix4 b s a d)
      = rope (fun l => val_main_v40 (F := Ideal) x0 x1 x3 (ix3 ⟨4096 + (b.val * 1024 + s.val), by omega⟩ a l))
          (fun k => x4 (ix2 s k)) (fun k => x5 (ix2 s k)) d := by
  unfold rope
  pointwise [val_main_v76, val_main_v75, val_main_v74, val_main_v73, val_main_v72, val_main_v71, val_main_v70, val_main_v69, val_main_v68, val_main_v67, val_main_v66, val_main_v65, val_main_v64, val_main_v63, val_main_v62, val_main_v61]
  exact congrArg (fun z : EReal => (val_main_v40 (F := Ideal) x0 x1 x3 (ix3 ⟨4096 + (b.val * 1024 + s.val), by omega⟩ a d) : EReal)
    * x4 (ix2 s d) + z * x5 (ix2 s d)) (quarters (fun l => val_main_v40 (F := Ideal) x0 x1 x3
      (ix3 ⟨4096 + (b.val * 1024 + s.val), by omega⟩ a l)) d)

/-- The query columns. -/
theorem query_columns (R : Fin 6144) (n : Fin 1024) : val_main_v60 (F := Ideal) x0 x1 x2 x4 x5 (ix2 R n)
    = if R.val < 4096 then headNorm x0 x1 x2 R ⟨n.val, by omega⟩ else headTurn x0 x1 x4 x5 x2 R ⟨n.val, by omega⟩ := by
  pointwise [val_main_v60, val_main_v59, val_main_v58, val_main_v57]
  by_cases hR : R.val < 4096
  · rw [dif_pos hR, if_pos hR, query]
    unfold headNorm
    exact nrm_congr (fun k => congrArg (proj x0 x1 R) (Fin.ext (by dsimp only <;> omega))) (fun _ => rfl)
      (Fin.ext (by dsimp only <;> omega))
  · rw [dif_neg hR, if_neg hR, query_turned]
    unfold headTurn
    have hs : (⟨(R.val - 4096) % 1024, by omega⟩ : Fin 1024) = ⟨R.val % 1024, by omega⟩ := Fin.ext (by dsimp only <;> omega)
    refine rope_congr (fun l => ?_) (fun k => congrArg (fun z => x4 (ix2 z k)) hs) (fun k => congrArg (fun z => x5 (ix2 z k)) hs)
      (Fin.ext (by dsimp only <;> omega))
    rw [query]
    refine nrm_congr (fun k => ?_) (fun _ => rfl) rfl
    exact congrArg₂ (proj x0 x1) (Fin.ext (by dsimp only <;> omega)) (Fin.ext (by dsimp only <;> omega))

/-- The key columns. -/
theorem key_columns (R : Fin 6144) (n : Fin 256) : val_main_v80 (F := Ideal) x0 x1 x3 x4 x5 (ix2 R n)
    = if R.val < 4096 then headNorm x0 x1 x3 R ⟨1024 + n.val, by omega⟩ else headTurn x0 x1 x4 x5 x3 R ⟨1024 + n.val, by omega⟩ := by
  pointwise [val_main_v80, val_main_v79, val_main_v78, val_main_v77]
  by_cases hR : R.val < 4096
  · rw [dif_pos hR, if_pos hR, key]
    unfold headNorm
    exact nrm_congr (fun k => congrArg (proj x0 x1 R) (Fin.ext (by dsimp only <;> omega))) (fun _ => rfl)
      (Fin.ext (by dsimp only <;> omega))
  · rw [dif_neg hR, if_neg hR, key_turned]
    unfold headTurn
    have hs : (⟨(R.val - 4096) % 1024, by omega⟩ : Fin 1024) = ⟨R.val % 1024, by omega⟩ := Fin.ext (by dsimp only <;> omega)
    refine rope_congr (fun l => ?_) (fun k => congrArg (fun z => x4 (ix2 z k)) hs) (fun k => congrArg (fun z => x5 (ix2 z k)) hs)
      (Fin.ext (by dsimp only <;> omega))
    rw [key]
    refine nrm_congr (fun k => ?_) (fun _ => rfl) rfl
    exact congrArg₂ (proj x0 x1) (Fin.ext (by dsimp only <;> omega)) (Fin.ext (by dsimp only <;> omega))

/-- The first gate's columns. -/
theorem gate1 (R : Fin 6144) (n : Fin 1024) :
    val_main_v81 (F := Ideal) x0 x1 (ix2 R n) = silu (proj x0 x1 R ⟨1536 + n.val, by omega⟩) := by
  pointwise [val_main_v81, val_main_call0_v5, val_main_call0_v4, val_main_call0_cst_0, val_main_call0_v3, val_main_call0_v2,
    val_main_call0_cst, val_main_call0_v1, val_main_call0_v0, val_main_v6]
  simp only [product]
  unfold silu
  simp only [Ideal.ofBits_one_f32]

/-- The second gate's columns. -/
theorem gate2 (R : Fin 6144) (n : Fin 1024) :
    val_main_v82 (F := Ideal) x0 x1 (ix2 R n) = silu (proj x0 x1 R ⟨5632 + n.val, by omega⟩) := by
  pointwise [val_main_v82, val_main_call1_v5, val_main_call1_v4, val_main_call1_cst_0, val_main_call1_v3, val_main_call1_v2,
    val_main_call1_cst, val_main_call1_v1, val_main_call1_v0, val_main_v10]
  simp only [product]
  unfold silu
  simp only [Ideal.ofBits_one_f32]

/-- The columns from 1280 on. -/
theorem values (R : Fin 6144) (n : Fin 256) :
    val_main_v5 (F := Ideal) x0 x1 (ix2 R n) = proj x0 x1 R ⟨1280 + n.val, by omega⟩ := by
  pointwise [val_main_v5]
  exact product x0 x1 R _

/-- The columns from 2560 on. -/
theorem plain1 (R : Fin 6144) (n : Fin 1024) :
    val_main_v7 (F := Ideal) x0 x1 (ix2 R n) = proj x0 x1 R ⟨2560 + n.val, by omega⟩ := by
  pointwise [val_main_v7]
  exact product x0 x1 R _

/-- The columns from 3584 on. -/
theorem plain2 (R : Fin 6144) (n : Fin 1024) :
    val_main_v8 (F := Ideal) x0 x1 (ix2 R n) = proj x0 x1 R ⟨3584 + n.val, by omega⟩ := by
  pointwise [val_main_v8]
  exact product x0 x1 R _

/-- The columns from 4608 on. -/
theorem plain3 (R : Fin 6144) (n : Fin 1024) :
    val_main_v9 (F := Ideal) x0 x1 (ix2 R n) = proj x0 x1 R ⟨4608 + n.val, by omega⟩ := by
  pointwise [val_main_v9]
  exact product x0 x1 R _

/-- Eight arrays side by side, entry by entry. -/
theorem side_by_side (a d e f g h : FVec Ideal S6144x1024 .f32) (b c : FVec Ideal S6144x256 .f32) (out : Fin 6144 → Fin 6656 → EReal)
    (ha : ∀ R n, a (ix2 R n) = out R ⟨n.val, by omega⟩) (hb : ∀ R n, b (ix2 R n) = out R ⟨1024 + n.val, by omega⟩)
    (hc : ∀ R n, c (ix2 R n) = out R ⟨1280 + n.val, by omega⟩) (hd : ∀ R n, d (ix2 R n) = out R ⟨1536 + n.val, by omega⟩)
    (he : ∀ R n, e (ix2 R n) = out R ⟨2560 + n.val, by omega⟩) (hf : ∀ R n, f (ix2 R n) = out R ⟨3584 + n.val, by omega⟩)
    (hg : ∀ R n, g (ix2 R n) = out R ⟨4608 + n.val, by omega⟩) (hh : ∀ R n, h (ix2 R n) = out R ⟨5632 + n.val, by omega⟩)
    (R : Fin 6144) (N : Fin 6656) :
    concatenate S6144x6656 1 [⟨S6144x1024, a⟩, ⟨S6144x256, b⟩, ⟨S6144x256, c⟩, ⟨S6144x1024, d⟩, ⟨S6144x1024, e⟩,
      ⟨S6144x1024, f⟩, ⟨S6144x1024, g⟩, ⟨S6144x1024, h⟩] concatenates_S6144x1024_S6144x256_S6144x256_S6144x1024_S6144x1024_S6144x1024_S6144x1024_S6144x1024_S6144x6656_d1 (ix2 R N) = out R N := by
  have hN := N.isLt
  by_cases c0 : N.val < 1024
  · refine (concatenate_apply_piece (t := S6144x6656) 1 _ _ (ix2 R N) 0 (by simp) S6144x1024 a rfl rfl 0 (by rfl)
      (ix2 R ⟨N.val - 0, by omega⟩ : S6144x1024.Idx) (fun b hb => ?_) ?_).trans ?_
    · fin_cases b
      · rfl
      · exact absurd rfl hb
    · show 0 + (N.val - 0) = N.val
      omega
    · exact (ha R _).trans (congrArg (out R) (Fin.ext (by dsimp only <;> omega)))
  by_cases c1 : N.val < 1280
  · refine (concatenate_apply_piece (t := S6144x6656) 1 _ _ (ix2 R N) 1 (by simp) S6144x256 b rfl rfl 1024 (by rfl)
      (ix2 R ⟨N.val - 1024, by omega⟩ : S6144x256.Idx) (fun b hb => ?_) ?_).trans ?_
    · fin_cases b
      · rfl
      · exact absurd rfl hb
    · show 1024 + (N.val - 1024) = N.val
      omega
    · exact (hb R _).trans (congrArg (out R) (Fin.ext (by dsimp only <;> omega)))
  by_cases c2 : N.val < 1536
  · refine (concatenate_apply_piece (t := S6144x6656) 1 _ _ (ix2 R N) 2 (by simp) S6144x256 c rfl rfl 1280 (by rfl)
      (ix2 R ⟨N.val - 1280, by omega⟩ : S6144x256.Idx) (fun b hb => ?_) ?_).trans ?_
    · fin_cases b
      · rfl
      · exact absurd rfl hb
    · show 1280 + (N.val - 1280) = N.val
      omega
    · exact (hc R _).trans (congrArg (out R) (Fin.ext (by dsimp only <;> omega)))
  by_cases c3 : N.val < 2560
  · refine (concatenate_apply_piece (t := S6144x6656) 1 _ _ (ix2 R N) 3 (by simp) S6144x1024 d rfl rfl 1536 (by rfl)
      (ix2 R ⟨N.val - 1536, by omega⟩ : S6144x1024.Idx) (fun b hb => ?_) ?_).trans ?_
    · fin_cases b
      · rfl
      · exact absurd rfl hb
    · show 1536 + (N.val - 1536) = N.val
      omega
    · exact (hd R _).trans (congrArg (out R) (Fin.ext (by dsimp only <;> omega)))
  by_cases c4 : N.val < 3584
  · refine (concatenate_apply_piece (t := S6144x6656) 1 _ _ (ix2 R N) 4 (by simp) S6144x1024 e rfl rfl 2560 (by rfl)
      (ix2 R ⟨N.val - 2560, by omega⟩ : S6144x1024.Idx) (fun b hb => ?_) ?_).trans ?_
    · fin_cases b
      · rfl
      · exact absurd rfl hb
    · show 2560 + (N.val - 2560) = N.val
      omega
    · exact (he R _).trans (congrArg (out R) (Fin.ext (by dsimp only <;> omega)))
  by_cases c5 : N.val < 4608
  · refine (concatenate_apply_piece (t := S6144x6656) 1 _ _ (ix2 R N) 5 (by simp) S6144x1024 f rfl rfl 3584 (by rfl)
      (ix2 R ⟨N.val - 3584, by omega⟩ : S6144x1024.Idx) (fun b hb => ?_) ?_).trans ?_
    · fin_cases b
      · rfl
      · exact absurd rfl hb
    · show 3584 + (N.val - 3584) = N.val
      omega
    · exact (hf R _).trans (congrArg (out R) (Fin.ext (by dsimp only <;> omega)))
  by_cases c6 : N.val < 5632
  · refine (concatenate_apply_piece (t := S6144x6656) 1 _ _ (ix2 R N) 6 (by simp) S6144x1024 g rfl rfl 4608 (by rfl)
      (ix2 R ⟨N.val - 4608, by omega⟩ : S6144x1024.Idx) (fun b hb => ?_) ?_).trans ?_
    · fin_cases b
      · rfl
      · exact absurd rfl hb
    · show 4608 + (N.val - 4608) = N.val
      omega
    · exact (hg R _).trans (congrArg (out R) (Fin.ext (by dsimp only <;> omega)))
  · refine (concatenate_apply_piece (t := S6144x6656) 1 _ _ (ix2 R N) 7 (by simp) S6144x1024 h rfl rfl 5632 (by rfl)
      (ix2 R ⟨N.val - 5632, by omega⟩ : S6144x1024.Idx) (fun b hb => ?_) ?_).trans ?_
    · fin_cases b
      · rfl
      · exact absurd rfl hb
    · show 5632 + (N.val - 5632) = N.val
      omega
    · exact (hh R _).trans (congrArg (out R) (Fin.ext (by dsimp only <;> omega)))

/-- The projection. -/
theorem projection (R : Fin 6144) (N : Fin 6656) :
    val_main_v83 (F := Ideal) x0 x1 x2 x3 x4 x5 (ix2 R N) = entry x0 x1 x2 x3 x4 x5 R N := by
  unfold val_main_v83
  refine side_by_side _ _ _ _ _ _ _ _ (entry x0 x1 x2 x3 x4 x5) (fun R n => ?_) (fun R n => ?_) (fun R n => ?_) (fun R n => ?_)
    (fun R n => ?_) (fun R n => ?_) (fun R n => ?_) (fun R n => ?_) R N
  · refine (query_columns x0 x1 x2 x4 x5 R n).trans ?_
    unfold entry
    rw [if_pos (show n.val < 1024 by omega)]
  · refine (key_columns x0 x1 x3 x4 x5 R n).trans ?_
    unfold entry
    rw [if_neg (show ¬ 1024 + n.val < 1024 by omega), if_pos (show 1024 + n.val < 1280 by omega)]
  · refine (values x0 x1 R n).trans ?_
    unfold entry
    rw [if_neg (show ¬ 1280 + n.val < 1024 by omega), if_neg (show ¬ 1280 + n.val < 1280 by omega),
      if_neg (show ¬ (1536 ≤ 1280 + n.val ∧ 1280 + n.val < 2560 ∨ 5632 ≤ 1280 + n.val) by omega)]
  · refine (gate1 x0 x1 R n).trans ?_
    unfold entry
    rw [if_neg (show ¬ 1536 + n.val < 1024 by omega), if_neg (show ¬ 1536 + n.val < 1280 by omega),
      if_pos (show (1536 ≤ 1536 + n.val ∧ 1536 + n.val < 2560 ∨ 5632 ≤ 1536 + n.val) by omega)]
  · refine (plain1 x0 x1 R n).trans ?_
    unfold entry
    rw [if_neg (show ¬ 2560 + n.val < 1024 by omega), if_neg (show ¬ 2560 + n.val < 1280 by omega),
      if_neg (show ¬ (1536 ≤ 2560 + n.val ∧ 2560 + n.val < 2560 ∨ 5632 ≤ 2560 + n.val) by omega)]
  · refine (plain2 x0 x1 R n).trans ?_
    unfold entry
    rw [if_neg (show ¬ 3584 + n.val < 1024 by omega), if_neg (show ¬ 3584 + n.val < 1280 by omega),
      if_neg (show ¬ (1536 ≤ 3584 + n.val ∧ 3584 + n.val < 2560 ∨ 5632 ≤ 3584 + n.val) by omega)]
  · refine (plain3 x0 x1 R n).trans ?_
    unfold entry
    rw [if_neg (show ¬ 4608 + n.val < 1024 by omega), if_neg (show ¬ 4608 + n.val < 1280 by omega),
      if_neg (show ¬ (1536 ≤ 4608 + n.val ∧ 4608 + n.val < 2560 ∨ 5632 ≤ 4608 + n.val) by omega)]
  · refine (gate2 x0 x1 R n).trans ?_
    unfold entry
    rw [if_neg (show ¬ 5632 + n.val < 1024 by omega), if_neg (show ¬ 5632 + n.val < 1280 by omega),
      if_pos (show (1536 ≤ 5632 + n.val ∧ 5632 + n.val < 2560 ∨ 5632 ≤ 5632 + n.val) by omega)]

/-- The projection array is the one that the call leaves. -/
theorem projection_eq : val_main_v83 (F := Ideal) x0 x1 x2 x3 x4 x5 = whole7 x0 x1 x2 x3 x4 x5 := by
  funext i
  obtain ⟨R, N, rfl⟩ : ∃ (R : Fin 6144) (N : Fin 6656), i = ix2 R N := ⟨i 0, i 1, by funext a; fin_cases a <;> rfl⟩
  exact projection x0 x1 x2 x3 x4 x5 R N

/-- So is the array of keys. -/
theorem keys_eq : val_main_v85 (F := Ideal) x0 x1 x3 = whole8 x0 x1 x3 := by
  funext i
  obtain ⟨R, n, rfl⟩ : ∃ (R : Fin 4096) (n : Fin 256), i = ix2 R n := ⟨i 0, i 1, by funext a; fin_cases a <;> rfl⟩
  pointwise [val_main_v85, val_main_v84]
  rw [key]
  refine Eq.trans ?_ (show headNorm x0 x1 x3 ⟨R.val, by omega⟩ ⟨1024 + n.val, by omega⟩ = _ from rfl)
  unfold headNorm
  exact nrm_congr (fun k => congrArg (proj x0 x1 _) (Fin.ext (by dsimp only <;> omega))) (fun _ => rfl)
    (Fin.ext (by dsimp only <;> omega))

/-- So is the array of values. -/
theorem values_eq : val_main_v86 (F := Ideal) x0 x1 = whole9 x0 x1 := by
  funext i
  obtain ⟨R, n, rfl⟩ : ∃ (R : Fin 4096) (n : Fin 256), i = ix2 R n := ⟨i 0, i 1, by funext a; fin_cases a <;> rfl⟩
  pointwise [val_main_v86, val_main_v5]
  rw [product]
  rfl

end Cert.InProjRefIdeal.At

end
-- ==== Proof.InProjClaim.lean ====
/-
  The in-projection claim: the kernel's three arrays are the reference's.
-/
module

public import proofs.«01_k».proof.Defs
public import proofs.«01_k».proof.Proof.InProjFrame
public import proofs.«01_k».proof.Proof.InProjValue
public import proofs.«01_k».proof.Proof.InProjRead
public import proofs.«01_k».proof.Proof.Gen.InProjRefIdeal.Run
public import Idealize.ShloMosaic.Lib.Claim

@[expose] public section

set_option maxRecDepth 16384

noncomputable section

namespace Cert.InProjClaim

open Idealize.ShloMosaic Idealize.ShloMosaic.TcCoe Idealize.SL.Sem
open Cert.InProjIdeal.Whole (whole7 whole8 whole9)
open Cert.InProjRefIdeal.At (projection_eq keys_eq values_eq)

/-- The kernel ends with the three arrays. -/
theorem kernel_run (m : (ℓ : Loc Cert.InProjIdeal.nD Cert.InProjIdeal.τ Cert.InProjIdeal.sig) → Buf (Elt Ideal) ℓ) (g : Dev Cert.InProjIdeal.nD → PrngReg) :
    θ_run (Cert.InProjIdeal.defs (F := Ideal)) (onTc (τ := Cert.InProjIdeal.τ) (Cert.InProjIdeal.main (F := Ideal))) ⟨m, fun _ => 0, g⟩ (fun r => ∀ c : Dev Cert.InProjIdeal.nD,
      r.2.mem ((c.tc : Thread Cert.InProjIdeal.nD Cert.InProjIdeal.τ).loc Cert.InProjIdeal.main_v11_0) = whole7 (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))
      ∧ r.2.mem ((c.tc : Thread Cert.InProjIdeal.nD Cert.InProjIdeal.τ).loc Cert.InProjIdeal.main_v11_1) = whole8 (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg3))
      ∧ r.2.mem ((c.tc : Thread Cert.InProjIdeal.nD Cert.InProjIdeal.τ).loc Cert.InProjIdeal.main_v11_2) = whole9 (m ((c.tc : Thread Cert.InProjIdeal.nD Cert.InProjIdeal.τ).loc Cert.InProjIdeal.main_arg0)) (m ((c.tc : Thread Cert.InProjIdeal.nD Cert.InProjIdeal.τ).loc Cert.InProjIdeal.main_arg1))
      ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)) := by
  refine θ_run_mono (θ_run_and (Cert.InProjRun.run_main m g) (Cert.InProjRun.unchanged m g)) fun r h c => ?_
  exact ⟨((h.1 c).1 7).trans (Cert.InProjIdeal.Whole.final7 m c), ((h.1 c).1 8).trans (Cert.InProjIdeal.Whole.final8 m c),
    ((h.1 c).1 9).trans (Cert.InProjIdeal.Whole.final9 m c), h.2 c⟩

/-- The reference ends with the three arrays. -/
theorem reference_run (m : (ℓ : Loc Cert.InProjRefIdeal.nD Cert.InProjRefIdeal.τ Cert.InProjRefIdeal.sig) → Buf (Elt Ideal) ℓ) (g : Dev Cert.InProjRefIdeal.nD → PrngReg) :
    θ_run (Cert.InProjRefIdeal.defs (F := Ideal)) (onTc (τ := Cert.InProjRefIdeal.τ) (Cert.InProjRefIdeal.main (F := Ideal))) ⟨m, fun _ => 0, g⟩ (fun r => ∀ c : Dev Cert.InProjRefIdeal.nD,
      r.2.mem ((c.tc : Thread Cert.InProjRefIdeal.nD Cert.InProjRefIdeal.τ).loc Cert.InProjRefIdeal.main_v83) = whole7 (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5))
      ∧ r.2.mem ((c.tc : Thread Cert.InProjRefIdeal.nD Cert.InProjRefIdeal.τ).loc Cert.InProjRefIdeal.main_v85) = whole8 (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg3))
      ∧ r.2.mem ((c.tc : Thread Cert.InProjRefIdeal.nD Cert.InProjRefIdeal.τ).loc Cert.InProjRefIdeal.main_v86) = whole9 (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1))
      ∧ r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)) := by
  refine θ_run_mono (Cert.InProjRefIdeal.Value.run m g) fun r h c => ?_
  obtain ⟨a, b, d, e⟩ := h c
  refine ⟨a.trans ?_, b.trans ?_, d.trans ?_, e⟩
  · exact (Cert.InProjRefIdeal.Read.val_main_v83_eq m c).trans (projection_eq _ _ _ _ _ _)
  · exact (Cert.InProjRefIdeal.Read.val_main_v85_eq _ _ _).trans (keys_eq _ _ _)
  · exact (Cert.InProjRefIdeal.Read.val_main_v86_eq _ _).trans (values_eq _ _)

/-- The claim. -/
theorem algebraic : Cert.algebraic_InProjIdeal_InProjRefIdeal := by
  intro m g m' g' hpre hagree
  refine ⟨fun c => whole7 (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)),
    fun c => whole8 (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg3)), fun c => whole9 (m ((c.tc : Thread Cert.InProjIdeal.nD Cert.InProjIdeal.τ).loc Cert.InProjIdeal.main_arg0)) (m ((c.tc : Thread Cert.InProjIdeal.nD Cert.InProjIdeal.τ).loc Cert.InProjIdeal.main_arg1)), kernel_run m g, ?_⟩
  refine θ_run_mono (reference_run m' g') fun r h c => ?_
  obtain ⟨a, b, d, e⟩ := h c
  obtain ⟨g0, g1, g2, g3, g4, g5⟩ := hagree c
  refine ⟨a.trans ?_, b.trans ?_, d.trans ?_, e⟩
  · rw [g0, g1, g2, g3, g4, g5]
  · rw [g0, g1, g3]
  · rw [g0, g1]

end Cert.InProjClaim
end
-- ==== Proof.AdaRead.lean ====
/-
  The adaLN table's reference, read at an index.
-/
module

public import proofs.«01_k».proof.Proof.Gen.AdaRefIdeal.Read
public import proofs.«01_k».proof.Proof.InProjMath
public import Idealize.ShloMosaic.Lib.Pointwise

@[expose] public section

set_option maxRecDepth 16384

noncomputable section

namespace Cert.AdaRefIdeal.At

open Cert.AdaRefIdeal Cert.AdaRefIdeal.Read Cert.InProjMath
open Idealize.ShloMosaic

variable (x0 : FVec Ideal S2x2048 .f32) (x1 : FVec Ideal S2048 .f32) (x2 : FVec Ideal S2x2048x12288 .f32)
  (x3 : FVec Ideal S2x12288 .f32)

/-- The table's entry in layer `l`, row `r`, column `n`. -/
def entry (l : Fin 2) (r : Fin 16) (n : Fin 12288) : EReal :=
  (∑ k : Fin 2048, silu (val_main_v2 (F := Ideal) x0 x1 (ix2 r k)) * x2 (ix3 l k n)) + x3 (ix2 l n)

/-- The table. -/
def whole : FVec Ideal S2x16x12288 .f32 := fun i => entry x0 x1 x2 x3 (i 0) (i 1) (i 2)

/-- The silu of the vectors. -/
theorem gated (r : Fin 16) (k : Fin 2048) :
    val_main_v3 (F := Ideal) x0 x1 (ix2 r k) = silu (val_main_v2 (F := Ideal) x0 x1 (ix2 r k)) := by
  unfold val_main_v3 val_main_call0_v5 val_main_call0_v3 val_main_call0_v1 val_main_call0_v0
  generalize val_main_v2 (F := Ideal) x0 x1 = v
  pointwise [val_main_call0_v4, val_main_call0_cst_0, val_main_call0_v2, val_main_call0_cst]
  unfold silu
  simp only [Ideal.ofBits_one_f32]

/-- The first layer's rows. -/
theorem first (r : Fin 16) (n : Fin 12288) :
    val_main_v11 (F := Ideal) x0 x1 x2 x3 (ix2 r n) = entry x0 x1 x2 x3 0 r n := by
  unfold entry
  simp only [← gated]
  unfold val_main_v11 val_main_v6
  generalize val_main_v3 (F := Ideal) x0 x1 = v
  pointwise [val_main_v5, val_main_v4, val_main_v10, val_main_v9, val_main_v8, val_main_v7]

/-- The second layer's rows. -/
theorem second (r : Fin 16) (n : Fin 12288) :
    val_main_v19 (F := Ideal) x0 x1 x2 x3 (ix2 r n) = entry x0 x1 x2 x3 1 r n := by
  unfold entry
  simp only [← gated]
  unfold val_main_v19 val_main_v14
  generalize val_main_v3 (F := Ideal) x0 x1 = v
  pointwise [val_main_v13, val_main_v12, val_main_v18, val_main_v17, val_main_v16, val_main_v15]

/-- The result. -/
theorem result : val_main_v22 (F := Ideal) x0 x1 x2 x3 = whole x0 x1 x2 x3 := by
  funext i
  obtain ⟨l, r, n, rfl⟩ : ∃ (l : Fin 2) (r : Fin 16) (n : Fin 12288), i = ix3 l r n :=
    ⟨i 0, i 1, i 2, by funext a; fin_cases a <;> rfl⟩
  have e : val_main_v22 (F := Ideal) x0 x1 x2 x3 (ix3 l r n) = if h : l.val < 1 then val_main_v11 (F := Ideal) x0 x1 x2 x3 (ix2 r n)
      else val_main_v19 (F := Ideal) x0 x1 x2 x3 (ix2 r n) := by
    unfold val_main_v22 val_main_v20 val_main_v21
    generalize val_main_v11 (F := Ideal) x0 x1 x2 x3 = A
    generalize val_main_v19 (F := Ideal) x0 x1 x2 x3 = B
    pointwise
  rw [e, first, second]
  unfold whole
  fin_cases l <;> rfl

end Cert.AdaRefIdeal.At

end
-- ==== Proof.AdaValue.lean ====
/-
  The adaLN table's call: one grid point, and the array that the call leaves.
-/
module

public import proofs.«01_k».proof.Proof.Gen.AdaIdeal.Value
public import proofs.«01_k».proof.Proof.AdaRead
public import Idealize.ShloMosaic.Lib.Pipeline.ValueKit

@[expose] public section

set_option maxRecDepth 16384

noncomputable section

namespace Cert.AdaIdeal.Whole

open Cert.AdaIdeal Cert.AdaIdeal.Gen Cert.InProjMath
open Idealize.ShloMosaic Idealize.ShloMosaic.TcCoe Idealize.SL.Sem
open Idealize.ShloMosaic.Pipeline (Dat)

variable (m : (ℓ : Loc nD τ sig) → Buf (Elt Ideal) ℓ)

/-- The payload at an index: the silu of the vectors times the weights, plus the bias. -/
theorem pay_apply (v : FVec Ideal S16x2048 .f32) (w : FVec Ideal S1x2048x1024 .f32) (b : FVec Ideal S1x1x1024 .f32)
    (r : Fin 16) (n : Fin 1024) :
    k0_pay1 (F := Ideal) v w b (ix3 0 r n)
      = (∑ k : Fin 2048, silu (v (ix2 r k)) * w (ix3 0 k n)) + b (ix3 0 0 n) := by
  unfold_payloads
  pointwise
  unfold silu
  simp only [Ideal.ofBits_one_f32, zero_sub]

/-- The blocks that a grid point works on. -/
theorem idx : ∀ t : Fin cfg0.N,
    win0_0.index t = ![0, 0]
    ∧ win0_1.index t = ![t.val / 12, 0, t.val % 12]
    ∧ win0_2.index t = ![t.val / 12, 0, t.val % 12]
    ∧ win0_3.index t = ![t.val / 12, 0, t.val % 12] ∧ t.val < 24 :=
  (by decide +kernel : ∀ t : Fin grid0.N, _)

/-- Three pieces, one above the other. -/
def stack (a : FVec Ideal S1x2048 .f32) (b : FVec Ideal S2x2048 .f32) (d : FVec Ideal S13x2048 .f32) : FVec Ideal S16x2048 .f32 :=
  concatenate S16x2048 0 [⟨S1x2048, a⟩, ⟨S2x2048, b⟩, ⟨S13x2048, d⟩] concatenates_S1x2048_S2x2048_S13x2048_S16x2048_d0

/-- What the buffers hold before the pieces are put together. -/
abbrev early (c : Dev nD) : Valuation τ sig (Elt Ideal) :=
  StableHlo.after [
    StableHlo.unary main_arg1 main_v0 (broadcastInDim S1x2048 ![1] bcast_S2048_S1x2048_1 : (⟨S2048, .f32⟩ : BufTy).Contents (Elt Ideal) → (⟨S1x2048, .f32⟩ : BufTy).Contents (Elt Ideal)),
    StableHlo.nullary main_cst (constant (F := Ideal) S_ .f32 0x00000000#32),
    StableHlo.unary main_cst main_v1 (broadcastInDim S13x2048 ![] bcast_S_S13x2048 : (⟨S_, .f32⟩ : BufTy).Contents (Elt Ideal) → (⟨S13x2048, .f32⟩ : BufTy).Contents (Elt Ideal))]
    (fun b => m (c, b))

/-- The vectors that the host puts together are the reference's. -/
theorem vecs (c : Dev nD) :
    V m c main_v2 = Cert.AdaRefIdeal.Read.val_main_v2 (F := Ideal) (m ((c : Thread nD τ).loc main_arg0))
      (m ((c : Thread nD τ).loc main_arg1)) := by
  have e0 : early m c main_v0 = broadcastInDim S1x2048 ![1] bcast_S2048_S1x2048_1 (m ((c : Thread nD τ).loc main_arg1)) := by
    after_results
  have e1 : early m c main_arg0 = m ((c : Thread nD τ).loc main_arg0) := by
    after_results
  have e2 : early m c main_v1 = broadcastInDim S13x2048 ![] bcast_S_S13x2048 (constant (F := Ideal) S_ .f32 0x00000000#32) := by
    after_results
  simp only [V, hostOps0, StableHlo.after_cons, StableHlo.after_nil]
  refine (StableHlo.reshape_result_ne main_arg3 main_v3 _ _ _ _ _ (r := main_v2) (by decide)).trans ((StableHlo.nary_result _ _ _ _ _ _).trans ?_)
  refine (show _ = stack (early m c main_v0) (early m c main_arg0) (early m c main_v1) from rfl).trans ?_
  rw [e0, e1, e2]
  rfl

/-- The bias as the host reshapes it. -/
theorem biases (c : Dev nD) (l : Fin 2) (n : Fin 12288) :
    V m c main_v3 (ix3 l 0 n) = m ((c : Thread nD τ).loc main_arg3) (ix2 l n) := by
  simp only [V, hostOps0]
  entry_read
  pointwise

/-- The block of vectors. -/
theorem v_apply (c : Dev nD) (t : Fin cfg0.N) (r : Fin 16) (k : Fin 2048) :
    iblk m c 0 t (ix2 r k) = Cert.AdaRefIdeal.Read.val_main_v2 (F := Ideal) (m ((c : Thread nD τ).loc main_arg0))
      (m ((c : Thread nD τ).loc main_arg1)) (ix2 r k) := by
  refine Eq.trans ?_ (congrFun (vecs m c) (ix2 r k))
  blk_ext [iblk, idx t]

/-- The block of weights. -/
theorem w_apply (c : Dev nD) (t : Fin cfg0.N) (k : Fin 2048) (n : Fin 1024) (h : t.val < 24) :
    iblk m c 1 t (ix3 0 k n) = m ((c : Thread nD τ).loc main_arg2)
      (ix3 ⟨t.val / 12, by omega⟩ k ⟨t.val % 12 * 1024 + n.val, by omega⟩) := by
  blk_ext [iblk, V, idx t]

/-- The block of biases. -/
theorem b_apply (c : Dev nD) (t : Fin cfg0.N) (n : Fin 1024) (h : t.val < 24) :
    iblk m c 2 t (ix3 0 0 n) = m ((c : Thread nD τ).loc main_arg3)
      (ix2 ⟨t.val / 12, by omega⟩ ⟨t.val % 12 * 1024 + n.val, by omega⟩) := by
  refine Eq.trans ?_ (biases m c ⟨t.val / 12, by omega⟩ ⟨t.val % 12 * 1024 + n.val, by omega⟩)
  blk_ext [iblk, idx t]

/-- What a grid point leaves in its output block, from the arguments. -/
theorem block_apply (c : Dev nD) (t : Fin cfg0.N) (r : Fin 16) (n : Fin 1024) (h : t.val < 24) :
    out0_3 (iblk m c 0 t) (iblk m c 1 t) (iblk m c 2 t) (ix3 0 r n)
      = Cert.AdaRefIdeal.At.entry (m ((c : Thread nD τ).loc main_arg0)) (m ((c : Thread nD τ).loc main_arg1))
          (m ((c : Thread nD τ).loc main_arg2)) (m ((c : Thread nD τ).loc main_arg3)) ⟨t.val / 12, by omega⟩ r
          ⟨t.val % 12 * 1024 + n.val, by omega⟩ := by
  unfold out0_3
  frame_out
  refine (pay_apply _ _ _ r n).trans ?_
  unfold Cert.AdaRefIdeal.At.entry
  rw [b_apply m c t n h]
  refine congrArg (· + _) (Finset.sum_congr rfl fun k _ => ?_)
  rw [v_apply, w_apply m c t k n h]

/-- Where an entry of a point's output block lies in the array. -/
theorem emb_apply (t : Fin cfg0.N) (r : Fin 16) (n : Fin 1024) (h : t.val < 24) :
    (win0_3.blk t).view.emb (ix3 0 r n)
      = (ix3 ⟨t.val / 12, by omega⟩ r ⟨t.val % 12 * 1024 + n.val, by omega⟩ : S2x16x12288.Idx) := by
  blk_ext [idx t]

/-- The call leaves the reference's entries. -/
theorem final (c : Dev nD) :
    (dats m 0 c).arrAt 3 (cfgs 0).N = Cert.AdaRefIdeal.At.whole (m ((c : Thread nD τ).loc main_arg0))
      (m ((c : Thread nD τ).loc main_arg1)) (m ((c : Thread nD τ).loc main_arg2)) (m ((c : Thread nD τ).loc main_arg3)) := by
  refine (dats m 0 c).arrAt_eq_of_covers 3 _ (by decide +kernel) fun t hf y => ?_
  have ht := (idx t).2.2.2
  blk_simp
  rw [after0_3]
  obtain ⟨r, n, rfl⟩ : ∃ (r : Fin 16) (n : Fin 1024), y = ix3 0 r n :=
    ⟨y 1, y 2, by funext a; fin_cases a; exact Subsingleton.elim (α := Fin 1) _ _; rfl; rfl⟩
  rw [emb_apply t r n ht.2]
  exact block_apply m c t r n ht.2

end Cert.AdaIdeal.Whole

end
-- ==== Proof.AdaClaim.lean ====
/-
  The adaLN table's claim: the kernel's array is the reference's.
-/
module

public import proofs.«01_k».proof.Defs
public import proofs.«01_k».proof.Proof.AdaValue
public import proofs.«01_k».proof.Proof.AdaRead
public import Idealize.ShloMosaic.Lib.Claim

@[expose] public section

set_option maxRecDepth 16384

noncomputable section

namespace Cert.AdaClaim

open Idealize.ShloMosaic Idealize.ShloMosaic.TcCoe Idealize.SL.Sem

/-- The claim. -/
theorem algebraic : Cert.algebraic_AdaIdeal_AdaRefIdeal := by
  pair_intro
  · run_from Cert.AdaIdeal.Gen.run_main m g
  · run_from Cert.AdaRefIdeal.Value.run m' g'
    refine (Cert.AdaRefIdeal.Read.val_main_v22_eq _ _ _ _).trans ?_
    rw [(hagree c).2.2.2, Cert.AdaIdeal.Whole.final m c]
    exact Cert.AdaRefIdeal.At.result _ _ _ _

end Cert.AdaClaim
end
-- ==== Proof.ModRead.lean ====
/-
  The first modulation's reference, read at an index.
-/
module

public import proofs.«01_k».proof.Proof.Gen.ModRefIdeal.Read
public import proofs.«01_k».proof.Proof.Ffn
public import Idealize.ShloMosaic.Lib.Pointwise

@[expose] public section

set_option maxRecDepth 16384

noncomputable section

namespace Cert.ModRefIdeal.At

open Cert.ModRefIdeal Cert.ModRefIdeal.Read Cert.Ffn
open Idealize.ShloMosaic

variable (x0 : FVec Ideal S4096x2048 .f32) (x1 : FVec Ideal S2048x2048 .f32) (x2 : FVec Ideal S2x2048 .f32)
  (x3 : FVec Ideal S2x16x1x12288 .f32)

/-- The token rows: the prompt's, then the latents'. -/
def row (R : Fin 6144) (k : Fin 2048) : EReal :=
  if h : R.val < 4096 then x0 (ix2 ⟨R.val, h⟩ k) else x1 (ix2 ⟨R.val - 4096, by omega⟩ k)

/-- The result's entry in row `R`, column `d`: the row's norm, scaled and shifted by the row's entries of the table. -/
def entry (R : Fin 6144) (d : Fin 2048) : EReal :=
  norm (row x0 x1 R) (x2 (ix2 0 d)) d
    * (Ideal.ofBits .f32 0x3F800000#32 + x3 (ix4 0 ⟨R.val / 1024 - 3, by omega⟩ 0 ⟨2048 + d.val, by omega⟩))
    + x3 (ix4 0 ⟨R.val / 1024 - 3, by omega⟩ 0 ⟨d.val, by omega⟩)

/-- The result. -/
def whole : FVec Ideal S6144x2048 .bf16 := fun i => entry x0 x1 x2 x3 (i 0) (i 1)

/-- The rows, put together. -/
theorem rows (R : Fin 6144) (k : Fin 2048) : val_main_v8 (F := Ideal) x0 x1 (ix2 R k) = row x0 x1 R k := by
  unfold row
  pointwise [val_main_v8]

/-- The scales' rows. -/
theorem scales (r : Fin 16) (d : Fin 2048) :
    val_main_v3 (F := Ideal) x3 (ix2 r d) = x3 (ix4 0 r 0 ⟨2048 + d.val, by omega⟩) := by
  pointwise [val_main_v3, val_main_v1, val_main_v0]

/-- The shifts' rows. -/
theorem shifts (r : Fin 16) (d : Fin 2048) :
    val_main_v2 (F := Ideal) x3 (ix2 r d) = x3 (ix4 0 r 0 ⟨d.val, by omega⟩) := by
  pointwise [val_main_v2, val_main_v1, val_main_v0]

/-- The rows of a table `A` for the prompt and for the two latents, spread over the tokens. -/
theorem spread (A : FVec Ideal S16x2048 .f32) (P : FVec Ideal S4096x2048 .f32) (Q : FVec Ideal S2048x2048 .f32)
    (hP : ∀ r d, P (ix2 r d) = A (ix2 0 d))
    (hQ : ∀ (r : Fin 2048) d, Q (ix2 r d) = A (ix2 ⟨1 + r.val / 1024, by omega⟩ d)) (R : Fin 6144) (d : Fin 2048) :
    (if h : R.val < 4096 then P (ix2 ⟨R.val, h⟩ d) else Q (ix2 ⟨R.val - 4096, by omega⟩ d))
      = A (ix2 ⟨R.val / 1024 - 3, by omega⟩ d) := by
  by_cases h : R.val < 4096
  · rw [dif_pos h, hP]
    exact congrArg (fun z : Fin 16 => A (ix2 z d)) (Fin.ext (by change 0 = R.val / 1024 - 3; omega))
  · rw [dif_neg h, hQ]
    exact congrArg (fun z : Fin 16 => A (ix2 z d)) (Fin.ext (by change 1 + (R.val - 4096) / 1024 = R.val / 1024 - 3; omega))

/-- A token's scale. -/
theorem scale (R : Fin 6144) (d : Fin 2048) :
    val_main_v29 (F := Ideal) x3 (ix2 R d) = x3 (ix4 0 ⟨R.val / 1024 - 3, by omega⟩ 0 ⟨2048 + d.val, by omega⟩) := by
  have e : val_main_v29 (F := Ideal) x3 (ix2 R d) = if h : R.val < 4096 then val_main_v25 (F := Ideal) x3 (ix2 ⟨R.val, h⟩ d)
      else val_main_v28 (F := Ideal) x3 (ix2 ⟨R.val - 4096, by omega⟩ d) := by
    unfold val_main_v29
    generalize val_main_v25 (F := Ideal) x3 = A
    generalize val_main_v28 (F := Ideal) x3 = B
    pointwise
  rw [e, spread (val_main_v3 (F := Ideal) x3) _ _ ?_ ?_ R d, scales]
  · intro r d
    unfold val_main_v25 val_main_v24
    generalize val_main_v3 (F := Ideal) x3 = A
    pointwise
  · intro r d
    unfold val_main_v28 val_main_v27 val_main_v26
    generalize val_main_v3 (F := Ideal) x3 = A
    pointwise

/-- A token's shift. -/
theorem shift (R : Fin 6144) (d : Fin 2048) :
    val_main_v38 (F := Ideal) x3 (ix2 R d) = x3 (ix4 0 ⟨R.val / 1024 - 3, by omega⟩ 0 ⟨d.val, by omega⟩) := by
  have e : val_main_v38 (F := Ideal) x3 (ix2 R d) = if h : R.val < 4096 then val_main_v34 (F := Ideal) x3 (ix2 ⟨R.val, h⟩ d)
      else val_main_v37 (F := Ideal) x3 (ix2 ⟨R.val - 4096, by omega⟩ d) := by
    unfold val_main_v38
    generalize val_main_v34 (F := Ideal) x3 = A
    generalize val_main_v37 (F := Ideal) x3 = B
    pointwise
  rw [e, spread (val_main_v2 (F := Ideal) x3) _ _ ?_ ?_ R d, shifts]
  · intro r d
    unfold val_main_v34 val_main_v33
    generalize val_main_v2 (F := Ideal) x3 = A
    pointwise
  · intro r d
    unfold val_main_v37 val_main_v36 val_main_v35
    generalize val_main_v2 (F := Ideal) x3 = A
    pointwise

/-- A token's norm. -/
theorem normed (R : Fin 6144) (d : Fin 2048) :
    val_main_v23 (F := Ideal) x0 x1 x2 (ix2 R d) = norm (row x0 x1 R) (x2 (ix2 0 d)) d := by
  have e : row x0 x1 R = fun k => val_main_v8 (F := Ideal) x0 x1 (ix2 R k) := funext fun k => (rows x0 x1 R k).symm
  rw [e]
  unfold val_main_v23 val_main_v20 val_main_v19 val_main_v18 val_main_v17 val_main_v15 val_main_v13 val_main_v12 val_main_v11
  generalize val_main_v8 (F := Ideal) x0 x1 = v
  pointwise [val_main_cst, val_main_cst_0, val_main_v14, val_main_cst_1, val_main_v16, val_main_v22, val_main_v21, val_main_v10,
    val_main_v9]
  rfl

/-- The result. -/
theorem result : val_main_v40 (F := Ideal) x0 x1 x2 x3 = whole x0 x1 x2 x3 := by
  funext i
  obtain ⟨R, d, rfl⟩ : ∃ (R : Fin 6144) (d : Fin 2048), i = ix2 R d := ⟨i 0, i 1, by funext a; fin_cases a <;> rfl⟩
  have e : val_main_v40 (F := Ideal) x0 x1 x2 x3 (ix2 R d) = val_main_v23 (F := Ideal) x0 x1 x2 (ix2 R d)
      * (Ideal.ofBits .f32 0x3F800000#32 + val_main_v29 (F := Ideal) x3 (ix2 R d)) + val_main_v38 (F := Ideal) x3 (ix2 R d) := by
    unfold val_main_v40 val_main_v39 val_main_v32 val_main_v31
    generalize val_main_v23 (F := Ideal) x0 x1 x2 = A
    generalize val_main_v29 (F := Ideal) x3 = B
    generalize val_main_v38 (F := Ideal) x3 = C
    pointwise [val_main_v30, val_main_cst_2]
  rw [e, normed, scale, shift]
  rfl

end Cert.ModRefIdeal.At

end
-- ==== Proof.ModValue.lean ====
/-
  The first modulation's call: one grid point, and the array that the call leaves.
-/
module

public import proofs.«01_k».proof.Proof.Gen.ModIdeal.Value
public import proofs.«01_k».proof.Proof.ModRead
public import Idealize.ShloMosaic.Lib.Pipeline.ValueKit

@[expose] public section

set_option maxRecDepth 16384

noncomputable section

namespace Cert.ModIdeal.Whole

open Cert.ModIdeal Cert.ModIdeal.Gen Cert.Ffn
open Cert.ModRefIdeal.At (row entry whole)
open Idealize.ShloMosaic Idealize.ShloMosaic.TcCoe Idealize.SL.Sem
open Idealize.ShloMosaic.Pipeline (Dat)

variable (m : (ℓ : Loc nD τ sig) → Buf (Elt Ideal) ℓ)

/-- What a row's norm `g`-weighted, scaled and shifted is at column `d`. -/
def modded (x : FVec Ideal S512x2048 .f32) (g : FVec Ideal S1x2048 .f32) (sh sc : FVec Ideal S1x1x1x2048 .f32)
    (r : Fin 512) (d : Fin 2048) : EReal :=
  norm (fun k => x (ix2 r k)) (g (ix2 0 d)) d * (Ideal.ofBits .f32 0x3F800000#32 + sc (ix4 0 0 0 d)) + sh (ix4 0 0 0 d)

/-- The prompt rows' payload at an index. -/
theorem pay1_apply (x : FVec Ideal S512x2048 .f32) (g : FVec Ideal S1x2048 .f32) (sh sc : FVec Ideal S1x1x1x2048 .f32)
    (r : Fin 512) (d : Fin 2048) : k0_pay1 (F := Ideal) x g sh sc (ix2 r d) = modded x g sh sc r d := by
  unfold modded
  unfold_payloads
  pointwise
  rfl

/-- The latent rows' payload at an index. -/
theorem pay2_apply (x : FVec Ideal S512x2048 .f32) (g : FVec Ideal S1x2048 .f32) (sh sc : FVec Ideal S1x1x1x2048 .f32)
    (r : Fin 512) (d : Fin 2048) : k0_pay2 (F := Ideal) x g sh sc (ix2 r d) = modded x g sh sc r d :=
  pay1_apply x g sh sc r d

/-- The blocks that a grid point works on. -/
theorem idx : ∀ t : Fin cfg0.N,
    win0_0.index t = ![min t.val 7, 0]
    ∧ win0_1.index t = ![t.val - 8, 0]
    ∧ win0_2.index t = ![0, 0]
    ∧ win0_3.index t = ![0, t.val / 2 - 3, 0, 0]
    ∧ win0_4.index t = ![0, t.val / 2 - 3, 0, 1]
    ∧ win0_5.index t = ![t.val, 0] ∧ t.val < 12 :=
  (by decide +kernel : ∀ t : Fin grid0.N, _)

/-- The block of prompt rows. -/
theorem p_apply (c : Dev nD) (t : Fin cfg0.N) (r : Fin 512) (k : Fin 2048) :
    iblk m c 0 t (ix2 r k) = m ((c : Thread nD τ).loc main_arg0) (ix2 ⟨min t.val 7 * 512 + r.val, by omega⟩ k) := by
  blk_ext [iblk, V, idx t]

/-- The block of latent rows. -/
theorem s_apply (c : Dev nD) (t : Fin cfg0.N) (r : Fin 512) (k : Fin 2048) (h : t.val < 12) :
    iblk m c 1 t (ix2 r k) = m ((c : Thread nD τ).loc main_arg1) (ix2 ⟨(t.val - 8) * 512 + r.val, by omega⟩ k) := by
  blk_ext [iblk, V, idx t]

/-- The gains, as the host slices them. -/
theorem gains (c : Dev nD) (k : Fin 2048) :
    V m c main_v0 (ix2 0 k) = m ((c : Thread nD τ).loc main_arg2) (ix2 0 k) := by
  entry_read
  pointwise

/-- The block of gains. -/
theorem g_apply (c : Dev nD) (t : Fin cfg0.N) (k : Fin 2048) :
    iblk m c 2 t (ix2 0 k) = m ((c : Thread nD τ).loc main_arg2) (ix2 0 k) := by
  refine Eq.trans ?_ (gains m c k)
  blk_ext [iblk, idx t]

/-- The block of shifts. -/
theorem sh_apply (c : Dev nD) (t : Fin cfg0.N) (d : Fin 2048) (h : t.val < 12) :
    iblk m c 3 t (ix4 0 0 0 d) = m ((c : Thread nD τ).loc main_arg3) (ix4 0 ⟨t.val / 2 - 3, by omega⟩ 0 ⟨d.val, by omega⟩) := by
  blk_ext [iblk, V, idx t]

/-- The block of scales. -/
theorem sc_apply (c : Dev nD) (t : Fin cfg0.N) (d : Fin 2048) (h : t.val < 12) :
    iblk m c 4 t (ix4 0 0 0 d)
      = m ((c : Thread nD τ).loc main_arg3) (ix4 0 ⟨t.val / 2 - 3, by omega⟩ 0 ⟨2048 + d.val, by omega⟩) := by
  blk_ext [iblk, V, idx t]

/-- The scaled and shifted row as the reference's entry. -/
theorem modded_eq (c : Dev nD) (t : Fin cfg0.N) (x : FVec Ideal S512x2048 .f32) (r : Fin 512) (d : Fin 2048)
    (h : t.val < 12) (hx : ∀ k, x (ix2 r k) = row (m ((c : Thread nD τ).loc main_arg0)) (m ((c : Thread nD τ).loc main_arg1))
      ⟨t.val * 512 + r.val, by omega⟩ k) :
    modded x (iblk m c 2 t) (iblk m c 3 t) (iblk m c 4 t) r d
      = entry (m ((c : Thread nD τ).loc main_arg0)) (m ((c : Thread nD τ).loc main_arg1)) (m ((c : Thread nD τ).loc main_arg2))
          (m ((c : Thread nD τ).loc main_arg3)) ⟨t.val * 512 + r.val, by omega⟩ d := by
  have e : (⟨t.val / 2 - 3, by omega⟩ : Fin 16) = ⟨(t.val * 512 + r.val) / 1024 - 3, by omega⟩ := Fin.ext (by
    change t.val / 2 - 3 = (t.val * 512 + r.val) / 1024 - 3
    omega)
  unfold modded entry
  rw [g_apply, sh_apply m c t d h, sc_apply m c t d h, e, funext hx]

/-- What a grid point leaves in its output block, from the arguments. -/
theorem block_apply (c : Dev nD) (t : Fin cfg0.N) (r : Fin 512) (d : Fin 2048) (h : t.val < 12) :
    outsAt0 m c t.val t.isLt (ix2 r d)
      = entry (m ((c : Thread nD τ).loc main_arg0)) (m ((c : Thread nD τ).loc main_arg1)) (m ((c : Thread nD τ).loc main_arg2))
          (m ((c : Thread nD τ).loc main_arg3)) ⟨t.val * 512 + r.val, by omega⟩ d := by
  by_cases h0 : t.val < 8
  · rw [outsAt0_A m c t h0 (by omega)]
    unfold out0_A_5
    frame_out
    refine (pay1_apply _ _ _ _ r d).trans (modded_eq m c t _ r d h fun k => ?_)
    rw [p_apply]
    unfold row
    rw [dif_pos (by change t.val * 512 + r.val < 4096; omega)]
    exact congrArg (fun z : Fin 4096 => m ((c : Thread nD τ).loc main_arg0) (ix2 z k)) (Fin.ext (by
      change min t.val 7 * 512 + r.val = t.val * 512 + r.val
      omega))
  · rw [outsAt0_B m c t h0 (by omega)]
    unfold out0_B_5
    frame_out
    refine (pay2_apply _ _ _ _ r d).trans (modded_eq m c t _ r d h fun k => ?_)
    rw [s_apply m c t r k h]
    unfold row
    rw [dif_neg (by change ¬t.val * 512 + r.val < 4096; omega)]
    exact congrArg (fun z : Fin 2048 => m ((c : Thread nD τ).loc main_arg1) (ix2 z k)) (Fin.ext (by
      change (t.val - 8) * 512 + r.val = t.val * 512 + r.val - 4096
      omega))

/-- Where an entry of a point's output block lies in the array. -/
theorem emb_apply (t : Fin cfg0.N) (r : Fin 512) (d : Fin 2048) (h : t.val < 12) :
    (win0_5.blk t).view.emb (ix2 r d) = (ix2 ⟨t.val * 512 + r.val, by omega⟩ d : S6144x2048.Idx) := by
  blk_ext [idx t]

/-- The call leaves the reference's entries. -/
theorem final (c : Dev nD) :
    (dats m 0 c).arrAt 5 (cfgs 0).N = whole (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  have ht := (idx t).2.2.2.2.2
  blk_simp
  rw [after0_5]
  obtain ⟨r, d, rfl⟩ : ∃ (r : Fin 512) (d : Fin 2048), y = ix2 r d := ⟨y 0, y 1, by funext a; fin_cases a <;> rfl⟩
  rw [emb_apply t r d ht.2]
  exact block_apply m c t r d ht.2

end Cert.ModIdeal.Whole

end
-- ==== Proof.ModClaim.lean ====
/-
  The first modulation's claim: the kernel's array is the reference's.
-/
module

public import proofs.«01_k».proof.Defs
public import proofs.«01_k».proof.Proof.ModValue
public import proofs.«01_k».proof.Proof.ModRead
public import Idealize.ShloMosaic.Lib.Claim

@[expose] public section

set_option maxRecDepth 16384

noncomputable section

namespace Cert.ModClaim

open Idealize.ShloMosaic Idealize.ShloMosaic.TcCoe Idealize.SL.Sem

/-- The claim. -/
theorem algebraic : Cert.algebraic_ModIdeal_ModRefIdeal := by
  pair_intro
  · run_from Cert.ModIdeal.Gen.run_main m g
  · run_from Cert.ModRefIdeal.Value.run m' g'
    refine (Cert.ModRefIdeal.Read.val_main_v40_eq _ _ _ _).trans ?_
    rw [(hagree c).2.2.2, Cert.ModIdeal.Whole.final m c]
    exact Cert.ModRefIdeal.At.result _ _ _ _

end Cert.ModClaim
end
-- ==== Proof.PoolRead.lean ====
/-
  The pooling mixer's reference, read at an index.
-/
module

public import proofs.«01_k».proof.Proof.Gen.PoolRefIdeal.Read
public import proofs.«01_k».proof.Proof.ModRead
public import Idealize.ShloMosaic.Lib.Pointwise
public import Idealize.ShloMosaic.Lib.WordCmp

@[expose] public section

set_option maxRecDepth 16384

noncomputable section

namespace Cert.PoolRefIdeal.At

open Cert.PoolRefIdeal Cert.PoolRefIdeal.Gen Cert.PoolRefIdeal.Read Cert.Ffn
open Cert.ModRefIdeal.At (spread)
open Idealize.ShloMosaic

variable (x0 : FVec Ideal S6144x2048 .f32) (x1 : FVec Ideal S1x4x512x512 .f32) (x2 : FVec Ideal S1x2048 .f32)
  (x3 x4 : FVec Ideal S2x2048 .f32) (x5 : FVec Ideal S2x16x1x12288 .f32)

/-- Entry `d` of the `j`-th part of token `R`'s row of the second layer's table. -/
def part (j : Fin 6) (R : Fin 6144) (d : Fin 2048) : EReal :=
  x5 (ix4 1 ⟨R.val / 1024 - 3, by omega⟩ 0 ⟨j.val * 2048 + d.val, by omega⟩)

/-- The length of token `R`'s sequence. -/
def len (R : ℕ) : ℕ := if R < 4096 then 256 else 1024

/-- The first token of the window of half width `2 ^ g` around token `R`. -/
def lo (g R : ℕ) : ℕ := R - min (R % len R) (2 ^ g)

/-- The first token after that window. -/
def hi (g R : ℕ) : ℕ := R + min (2 ^ g) (len R - R % len R)

/-- The number of tokens in that window, as the programs convert it. -/
def count (g R : ℕ) : EReal := FloatOps.sitofp (F := Ideal) .f32 (BitVec.ofNat 32 (hi g R - lo g R))

/-- The modulated rows. -/
def hid (R : Fin 6144) (d : Fin 2048) : EReal :=
  norm (fun k => x0 (ix2 R k)) (x3 (ix2 1 d)) d * (Ideal.ofBits .f32 0x3F800000#32 + part x5 1 R d) + part x5 0 R d

/-- Their window means less themselves; `g` the group, `d` the channel in it. -/
def pooled (g : Fin 4) (R : Fin 6144) (d : Fin 512) : EReal :=
  Ideal.div (∑ s : Fin 6144, if lo g.val R.val ≤ s.val ∧ s.val < hi g.val R.val
      then hid x0 x3 x5 s ⟨g.val * 512 + d.val, by omega⟩ else 0) (count g.val R.val)
    - hid x0 x3 x5 R ⟨g.val * 512 + d.val, by omega⟩

/-- The rows with the gated mixer's output added, at channel `d` of group `g`. -/
def mixed (R : Fin 6144) (g : Fin 4) (d : Fin 512) : EReal :=
  x0 (ix2 R ⟨g.val * 512 + d.val, by omega⟩) + part x5 2 R ⟨g.val * 512 + d.val, by omega⟩
    * ((∑ k : Fin 512, pooled x0 x3 x5 g R k * x1 (ix4 0 g k d)) * x2 (ix2 0 ⟨g.val * 512 + d.val, by omega⟩))

/-- The first result. -/
def x3At (R : Fin 6144) (d : Fin 2048) : EReal :=
  mixed x0 x1 x2 x3 x5 R ⟨d.val / 512, by omega⟩ ⟨d.val % 512, by omega⟩

/-- The second result. -/
def h4At (R : Fin 6144) (d : Fin 2048) : EReal :=
  norm (x3At x0 x1 x2 x3 x5 R) (x4 (ix2 1 d)) d * (Ideal.ofBits .f32 0x3F800000#32 + part x5 4 R d) + part x5 3 R d

/-- The first result's array. -/
def whole3 : FVec Ideal S6144x2048 .f32 := fun i => x3At x0 x1 x2 x3 x5 (i 0) (i 1)

/-- The second result's array. -/
def whole4 : FVec Ideal S6144x2048 .bf16 := fun i => h4At x0 x1 x2 x3 x4 x5 (i 0) (i 1)

/-- The table's rows. -/
theorem rows (r : Fin 16) (d : Fin 2048) :
    val_main_v2 (F := Ideal) x5 (ix2 r d) = x5 (ix4 1 r 0 ⟨d.val, by omega⟩)
    ∧ val_main_v3 (F := Ideal) x5 (ix2 r d) = x5 (ix4 1 r 0 ⟨2048 + d.val, by omega⟩)
    ∧ val_main_v4 (F := Ideal) x5 (ix2 r d) = x5 (ix4 1 r 0 ⟨4096 + d.val, by omega⟩)
    ∧ val_main_v5 (F := Ideal) x5 (ix2 r d) = x5 (ix4 1 r 0 ⟨6144 + d.val, by omega⟩)
    ∧ val_main_v6 (F := Ideal) x5 (ix2 r d) = x5 (ix4 1 r 0 ⟨8192 + d.val, by omega⟩) := by
  refine ⟨?_, ?_, ?_, ?_, ?_⟩
  · pointwise [val_main_v2, val_main_v1, val_main_v0]
  · pointwise [val_main_v3, val_main_v1, val_main_v0]
  · pointwise [val_main_v4, val_main_v1, val_main_v0]
  · pointwise [val_main_v5, val_main_v1, val_main_v0]
  · pointwise [val_main_v6, val_main_v1, val_main_v0]

/-- The rows of a part `A` of the table, spread over the tokens as the reference spreads them. -/
theorem spreads (A : FVec Ideal S16x2048 .f32) (R : Fin 6144) (d : Fin 2048) :
    concatenate S6144x2048 0 [⟨S4096x2048, broadcastInDim S4096x2048 ![0, 1] bcast_S1x2048_S4096x2048_0_1
        (extractStridedSlice S1x2048 ![0, 0] A slices_S16x2048_S1x2048_0_0)⟩,
      ⟨S2048x2048, shapeCast _ (broadcastInDim S2x1024x2048 ![0, 2] bcast_S2x2048_S2x1024x2048_0_2
        (extractStridedSlice S2x2048 ![1, 0] A slices_S16x2048_S2x2048_1_0)) shapeCasts_S2x1024x2048_S2048x2048⟩]
      concatenates_S4096x2048_S2048x2048_S6144x2048_d0 (ix2 R d) = A (ix2 ⟨R.val / 1024 - 3, by omega⟩ d) := by
  generalize hP : broadcastInDim S4096x2048 ![0, 1] bcast_S1x2048_S4096x2048_0_1
        (extractStridedSlice S1x2048 ![0, 0] A slices_S16x2048_S1x2048_0_0) = P
  generalize hQ : shapeCast _ (broadcastInDim S2x1024x2048 ![0, 2] bcast_S2x2048_S2x1024x2048_0_2
        (extractStridedSlice S2x2048 ![1, 0] A slices_S16x2048_S2x2048_1_0)) shapeCasts_S2x1024x2048_S2048x2048 = Q
  refine Eq.trans ?_ (spread A P Q ?_ ?_ R d)
  · pointwise
  · intro r d
    subst hP
    pointwise
  · intro r d
    subst hQ
    pointwise

/-- A token's entries of the parts. -/
theorem parts (R : Fin 6144) (d : Fin 2048) :
    val_main_v37 (F := Ideal) x5 (ix2 R d) = part x5 0 R d
    ∧ val_main_v28 (F := Ideal) x5 (ix2 R d) = part x5 1 R d
    ∧ val_main_v96 (F := Ideal) x5 (ix2 R d) = part x5 2 R d
    ∧ val_main_v134 (F := Ideal) x5 (ix2 R d) = part x5 3 R d
    ∧ val_main_v125 (F := Ideal) x5 (ix2 R d) = part x5 4 R d := by
  have h := rows x5 ⟨R.val / 1024 - 3, by omega⟩ d
  refine ⟨(spreads (val_main_v2 (F := Ideal) x5) R d).trans (h.1.trans ?_),
    (spreads (val_main_v3 (F := Ideal) x5) R d).trans (h.2.1.trans ?_),
    (spreads (val_main_v4 (F := Ideal) x5) R d).trans (h.2.2.1.trans ?_),
    (spreads (val_main_v5 (F := Ideal) x5) R d).trans (h.2.2.2.1.trans ?_),
    (spreads (val_main_v6 (F := Ideal) x5) R d).trans (h.2.2.2.2.trans ?_)⟩
  all_goals exact congrArg (fun z => x5 (ix4 1 _ 0 z)) (Fin.ext (by simp))

/-- The modulated rows. -/
theorem hidden (R : Fin 6144) (d : Fin 2048) : val_main_v38 (F := Ideal) x0 x3 x5 (ix2 R d) = hid x0 x3 x5 R d := by
  have e : val_main_v38 (F := Ideal) x0 x3 x5 (ix2 R d) = norm (fun k => x0 (ix2 R k)) (x3 (ix2 1 d)) d
      * (Ideal.ofBits .f32 0x3F800000#32 + val_main_v28 (F := Ideal) x5 (ix2 R d)) + val_main_v37 (F := Ideal) x5 (ix2 R d) := by
    unfold val_main_v38 val_main_v31 val_main_v30 val_main_v22 val_main_v19 val_main_v18 val_main_v17 val_main_v16 val_main_v14
      val_main_v12 val_main_v11 val_main_v10
    generalize val_main_v28 (F := Ideal) x5 = B
    generalize val_main_v37 (F := Ideal) x5 = C
    pointwise [val_main_cst, val_main_cst_0, val_main_v13, val_main_cst_1, val_main_v15, val_main_v21, val_main_v20, val_main_v9,
      val_main_v8, val_main_v29, val_main_cst_2]
    rfl
  rw [e, (parts x5 R d).1, (parts x5 R d).2.1]
  rfl

/-- The modulated rows, taken apart into groups. -/
theorem grouped (g : Fin 4) (R : Fin 6144) (d : Fin 512) :
    val_main_v40 (F := Ideal) x0 x3 x5 (ix3 g R d) = hid x0 x3 x5 R ⟨g.val * 512 + d.val, by omega⟩ := by
  rw [← hidden]
  unfold val_main_v40 val_main_v39
  generalize val_main_v38 (F := Ideal) x0 x3 x5 = A
  pointwise

/-- Half the window of group `g`. -/
def halfW (g : ℕ) : BitVec 32 := IntOp.shli .host 1#32 (BitVec.ofNat 32 g)

/-- The length of token `R`'s sequence, in words. -/
def lenW (R : ℕ) : BitVec 32 := Scalar.select (IntOp.cmpi .slt (BitVec.ofNat 32 R) 4096#32) 256#32 1024#32

/-- Token `R`'s place in its sequence, in words. -/
def posW (R : ℕ) : BitVec 32 := IntOp.remsi .host (BitVec.ofNat 32 R) (lenW R)

/-- The words of the windows' ends and lengths. -/
theorem words : ∀ (a : Fin 96) (b : Fin 64) (g : Fin 4),
    IntOp.addi (IntOp.subi (BitVec.ofNat 32 (a.val * 64 + b.val)) (posW (a.val * 64 + b.val)))
        (IntOp.maxsi (IntOp.subi (posW (a.val * 64 + b.val)) (halfW g.val)) 0#32)
      = BitVec.ofNat 32 (lo g.val (a.val * 64 + b.val))
    ∧ IntOp.addi (IntOp.subi (BitVec.ofNat 32 (a.val * 64 + b.val)) (posW (a.val * 64 + b.val)))
        (IntOp.minsi (IntOp.addi (posW (a.val * 64 + b.val)) (halfW g.val)) (lenW (a.val * 64 + b.val)))
      = BitVec.ofNat 32 (hi g.val (a.val * 64 + b.val))
    ∧ IntOp.subi (IntOp.minsi (IntOp.addi (posW (a.val * 64 + b.val)) (halfW g.val)) (lenW (a.val * 64 + b.val)))
        (IntOp.maxsi (IntOp.subi (posW (a.val * 64 + b.val)) (halfW g.val)) 0#32)
      = BitVec.ofNat 32 (hi g.val (a.val * 64 + b.val) - lo g.val (a.val * 64 + b.val)) := by
  decide +kernel

/-- The half windows. -/
theorem half_apply (g : Fin 4) : val_main_v44 (F := Ideal) (ix2 g 0) = halfW g.val := by
  unfold halfW
  pointwise [val_main_v44, val_main_v43, val_main_v42, val_main_v41, val_main_c]

/-- The lengths. -/
theorem len_apply (R : Fin 6144) : val_main_v48 (F := Ideal) (ix1 R) = lenW R.val := by
  unfold lenW
  pointwise [val_main_v48, val_main_v47, val_main_v46, val_main_v45, val_main_c_3, val_main_c_4, val_main_c_5,
    val_main_call0_v0, val_main_call0_v1]

/-- The places. -/
theorem pos_apply (R : Fin 6144) : val_main_v49 (F := Ideal) (ix1 R) = posW R.val := by
  unfold posW
  rw [← len_apply]
  pointwise [val_main_v49, val_main_v45]

/-- The first tokens of the windows, the first ones after them, and their lengths. -/
theorem ends (g : Fin 4) (R : Fin 6144) :
    val_main_v66 (F := Ideal) (ix2 g R) = BitVec.ofNat 32 (lo g.val R.val)
    ∧ val_main_v74 (F := Ideal) (ix2 g R) = BitVec.ofNat 32 (hi g.val R.val)
    ∧ val_main_v83 (F := Ideal) (ix2 g R) = BitVec.ofNat 32 (hi g.val R.val - lo g.val R.val) := by
  have h := words ⟨R.val / 64, by omega⟩ ⟨R.val % 64, by omega⟩ g
  have e : R.val / 64 * 64 + R.val % 64 = R.val := by omega
  dsimp only at h
  rw [e] at h
  have hl : val_main_v55 (F := Ideal) (ix2 g R) = IntOp.maxsi (IntOp.subi (posW R.val) (halfW g.val)) 0#32 := by
    rw [← pos_apply, ← half_apply]
    unfold val_main_v55 val_main_v53 val_main_v51 val_main_v50 val_main_v52
    generalize val_main_v49 (F := Ideal) = A
    generalize val_main_v44 (F := Ideal) = B
    pointwise [val_main_v54, val_main_c_6]
  have hh : val_main_v62 (F := Ideal) (ix2 g R) = IntOp.minsi (IntOp.addi (posW R.val) (halfW g.val)) (lenW R.val) := by
    rw [← pos_apply, ← half_apply, ← len_apply]
    unfold val_main_v62 val_main_v59 val_main_v57 val_main_v56 val_main_v58 val_main_v61 val_main_v60
    generalize val_main_v49 (F := Ideal) = A
    generalize val_main_v44 (F := Ideal) = B
    generalize val_main_v48 (F := Ideal) = C
    pointwise
  refine ⟨Eq.trans ?_ h.1, Eq.trans ?_ h.2.1, Eq.trans ?_ h.2.2⟩
  · rw [← hl, ← pos_apply]
    unfold val_main_v66 val_main_v65 val_main_v64 val_main_v63
    generalize val_main_v55 (F := Ideal) = A
    generalize val_main_v49 (F := Ideal) = B
    pointwise [val_main_v45]
  · rw [← hh, ← pos_apply]
    unfold val_main_v74 val_main_v73 val_main_v72 val_main_v63
    generalize val_main_v62 (F := Ideal) = A
    generalize val_main_v49 (F := Ideal) = B
    pointwise [val_main_v45]
  · rw [← hl, ← hh]
    pointwise [val_main_v83]

/-- The windows' masks. -/
theorem masks (g : Fin 4) (R s : Fin 6144) : val_main_v81 (F := Ideal) (ix3 g R s)
    = if lo g.val R.val ≤ s.val ∧ s.val < hi g.val R.val then 1 else 0 := by
  have e : val_main_v81 (F := Ideal) (ix3 g R s) = FloatOps.uitofp (F := Ideal) .f32
      (IntOp.andi (IntOp.cmpi .sge (BitVec.ofNat 32 s.val) (val_main_v66 (F := Ideal) (ix2 g R)))
        (IntOp.cmpi .slt (BitVec.ofNat 32 s.val) (val_main_v74 (F := Ideal) (ix2 g R)))) := by
    unfold val_main_v81 val_main_v80 val_main_v79 val_main_v78 val_main_v77 val_main_v76 val_main_v75 val_main_v71 val_main_v70
      val_main_v69 val_main_v68 val_main_v67
    generalize val_main_v66 (F := Ideal) = A
    generalize val_main_v74 (F := Ideal) = B
    pointwise [val_main_v45]
  have hlo : lo g.val R.val < 2 ^ (32 - 1) := lt_of_le_of_lt (Nat.sub_le _ _) (lt_trans R.isLt (by decide))
  have hhi : hi g.val R.val < 2 ^ (32 - 1) := by
    have : len R.val ≤ 1024 := by unfold len; split <;> omega
    have h2 : min (2 ^ g.val) (len R.val - R.val % len R.val) ≤ 1024 := by omega
    have h3 := R.isLt
    change R.val + min (2 ^ g.val) (len R.val - R.val % len R.val) < 2 ^ 31
    omega
  rw [e, (ends g R).1, (ends g R).2.1, Idealize.ShloMosaic.WordCmp.cmpi_sge_ofNat (by omega) hlo, Idealize.ShloMosaic.WordCmp.cmpi_slt_ofNat (by omega) hhi]
  by_cases h1 : lo g.val R.val ≤ s.val <;> by_cases h2 : s.val < hi g.val R.val <;>
    simp [h1, h2, IntOp.andi, FloatOps.uitofp]

/-- The means less the rows. -/
theorem pooled_apply (g : Fin 4) (R : Fin 6144) (d : Fin 512) :
    val_main_v88 (F := Ideal) x0 x3 x5 (ix3 g R d) = pooled x0 x3 x5 g R d := by
  have hs : val_main_v82 (F := Ideal) x0 x3 x5 (ix3 g R d) = ∑ s : Fin 6144,
      if lo g.val R.val ≤ s.val ∧ s.val < hi g.val R.val then hid x0 x3 x5 s ⟨g.val * 512 + d.val, by omega⟩ else 0 := by
    have e : val_main_v82 (F := Ideal) x0 x3 x5 (ix3 g R d) = ∑ s : Fin 6144,
        val_main_v81 (F := Ideal) (ix3 g R s) * val_main_v40 (F := Ideal) x0 x3 x5 (ix3 g s d) := by
      unfold val_main_v82
      generalize val_main_v81 (F := Ideal) = A
      generalize val_main_v40 (F := Ideal) x0 x3 x5 = B
      pointwise
    rw [e]
    refine Finset.sum_congr rfl fun s _ => ?_
    rw [masks, grouped]
    split
    · exact one_mul _
    · exact zero_mul _
  have e : val_main_v88 (F := Ideal) x0 x3 x5 (ix3 g R d)
      = Ideal.div (val_main_v82 (F := Ideal) x0 x3 x5 (ix3 g R d))
          (FloatOps.sitofp (F := Ideal) .f32 (val_main_v83 (F := Ideal) (ix2 g R)))
        - val_main_v40 (F := Ideal) x0 x3 x5 (ix3 g R d) := by
    unfold val_main_v88 val_main_v87 val_main_v86 val_main_v85 val_main_v84
    generalize val_main_v82 (F := Ideal) x0 x3 x5 = A
    generalize val_main_v83 (F := Ideal) = B
    generalize val_main_v40 (F := Ideal) x0 x3 x5 = C
    pointwise
  rw [e, hs, (ends g R).2.2, grouped]
  rfl

/-- The mixer's output. -/
theorem mix_apply (R : Fin 6144) (d : Fin 2048) :
    val_main_v98 (F := Ideal) x0 x1 x3 x5 (ix2 R d)
      = ∑ k : Fin 512, pooled x0 x3 x5 ⟨d.val / 512, by omega⟩ R k * x1 (ix4 0 ⟨d.val / 512, by omega⟩ k ⟨d.val % 512, by omega⟩) := by
  have e : val_main_v98 (F := Ideal) x0 x1 x3 x5 (ix2 R d)
      = val_main_v90 (F := Ideal) x0 x1 x3 x5 (ix3 ⟨d.val / 512, by omega⟩ R ⟨d.val % 512, by omega⟩) := by
    unfold val_main_v98 val_main_v97
    generalize val_main_v90 (F := Ideal) x0 x1 x3 x5 = A
    pointwise
  have e' (g : Fin 4) (u : Fin 512) : val_main_v90 (F := Ideal) x0 x1 x3 x5 (ix3 g R u)
      = ∑ k : Fin 512, val_main_v88 (F := Ideal) x0 x3 x5 (ix3 g R k) * x1 (ix4 0 g k u) := by
    unfold val_main_v90 val_main_v89
    generalize val_main_v88 (F := Ideal) x0 x3 x5 = A
    pointwise
  rw [e, e']
  simp only [pooled_apply]

/-- The first result. -/
theorem result3_apply (R : Fin 6144) (d : Fin 2048) :
    val_main_v104 (F := Ideal) x0 x1 x2 x3 x5 (ix2 R d) = x3At x0 x1 x2 x3 x5 R d := by
  have e : val_main_v104 (F := Ideal) x0 x1 x2 x3 x5 (ix2 R d) = x0 (ix2 R d) + val_main_v96 (F := Ideal) x5 (ix2 R d)
      * (val_main_v98 (F := Ideal) x0 x1 x3 x5 (ix2 R d) * x2 (ix2 0 d)) := by
    unfold val_main_v104 val_main_v103 val_main_v102
    generalize val_main_v96 (F := Ideal) x5 = A
    generalize val_main_v98 (F := Ideal) x0 x1 x3 x5 = B
    pointwise [val_main_v101, val_main_v100, val_main_v99]
  have ed : (⟨d.val / 512 * 512 + d.val % 512, by omega⟩ : Fin 2048) = d := Fin.ext (by
    change d.val / 512 * 512 + d.val % 512 = d.val
    omega)
  rw [e, (parts x5 R d).2.2.1, mix_apply]
  unfold x3At mixed
  dsimp only
  rw [ed]

/-- The first result. -/
theorem result3 : val_main_v104 (F := Ideal) x0 x1 x2 x3 x5 = whole3 x0 x1 x2 x3 x5 := by
  funext i
  obtain ⟨R, d, rfl⟩ : ∃ (R : Fin 6144) (d : Fin 2048), i = ix2 R d := ⟨i 0, i 1, by funext a; fin_cases a <;> rfl⟩
  exact result3_apply x0 x1 x2 x3 x5 R d

/-- The second result. -/
theorem result4 : val_main_v136 (F := Ideal) x0 x1 x2 x3 x4 x5 = whole4 x0 x1 x2 x3 x4 x5 := by
  funext i
  obtain ⟨R, d, rfl⟩ : ∃ (R : Fin 6144) (d : Fin 2048), i = ix2 R d := ⟨i 0, i 1, by funext a; fin_cases a <;> rfl⟩
  have e : val_main_v136 (F := Ideal) x0 x1 x2 x3 x4 x5 (ix2 R d)
      = norm (fun k => val_main_v104 (F := Ideal) x0 x1 x2 x3 x5 (ix2 R k)) (x4 (ix2 1 d)) d
        * (Ideal.ofBits .f32 0x3F800000#32 + val_main_v125 (F := Ideal) x5 (ix2 R d)) + val_main_v134 (F := Ideal) x5 (ix2 R d) := by
    unfold val_main_v136 val_main_v135 val_main_v128 val_main_v127 val_main_v119 val_main_v116 val_main_v115 val_main_v114
      val_main_v113 val_main_v111 val_main_v109 val_main_v108 val_main_v107
    generalize val_main_v104 (F := Ideal) x0 x1 x2 x3 x5 = v
    generalize val_main_v125 (F := Ideal) x5 = B
    generalize val_main_v134 (F := Ideal) x5 = C
    pointwise [val_main_cst_7, val_main_cst_8, val_main_v110, val_main_cst_9, val_main_v112, val_main_v118, val_main_v117,
      val_main_v106, val_main_v105, val_main_v126, val_main_cst_10]
    rfl
  rw [e, (parts x5 R d).2.2.2.1, (parts x5 R d).2.2.2.2]
  simp only [result3_apply]
  rfl

end Cert.PoolRefIdeal.At

end
-- ==== Proof.PoolSum.lean ====
/-
  Sums over windows of a sequence, doubled by shifts.
-/
module

public import Mathlib.Algebra.BigOperators.Intervals
public import Mathlib.Algebra.BigOperators.Fin
public import Mathlib.Data.EReal.Basic

@[expose] public section

namespace Cert.PoolSum

open Finset

variable (L : ℕ) (f : ℕ → EReal)

/-- The sum of the last `m` tokens up to `r` in `r`'s sequence. -/
noncomputable def back (m r : ℕ) : EReal := ∑ s ∈ Ico (r - min (r % L) (m - 1)) (r + 1), f s

/-- The sum of the first `m` tokens from `r` on in `r`'s sequence. -/
noncomputable def ahead (m r : ℕ) : EReal := ∑ s ∈ Ico r (r + min m (L - r % L)), f s

theorem back_one (r : ℕ) : back L f 1 r = f r := by
  unfold back
  simp

theorem ahead_one (hL : 0 < L) (r : ℕ) : ahead L f 1 r = f r := by
  unfold ahead
  have h := Nat.mod_lt r hL
  rw [min_eq_left (by omega)]
  simp

/-- An earlier token of the same sequence. -/
theorem mod_sub {r m : ℕ} (h : m ≤ r % L) : (r - m) % L = r % L - m := by
  rcases Nat.eq_zero_or_pos L with h0 | hL
  · subst h0
    simp
  have hlt := Nat.mod_lt r hL
  have e : r - m = (r % L - m) + L * (r / L) := by
    have := Nat.mod_add_div r L
    omega
  rw [e, Nat.add_mul_mod_self_left, Nat.mod_eq_of_lt (by omega)]

/-- A later token of the same sequence. -/
theorem mod_add {r m : ℕ} (h : r % L + m < L) : (r + m) % L = r % L + m := by
  have e : r + m = (r % L + m) + L * (r / L) := by
    have := Nat.mod_add_div r L
    omega
  rw [e, Nat.add_mul_mod_self_left, Nat.mod_eq_of_lt h]

/-- Twice as many tokens back. -/
theorem back_double {m : ℕ} (hm : 0 < m) (r : ℕ) :
    back L f m r + (if m ≤ r % L then back L f m (r - m) else 0) = back L f (m + m) r := by
  have hr := Nat.mod_le r L
  unfold back
  split
  · rename_i h
    rw [mod_sub L h, add_comm]
    have e1 : r - min (r % L) (m - 1) = r - m + 1 := by omega
    have e2 : r - min (r % L) (m + m - 1) = r - m - min (r % L - m) (m - 1) := by omega
    rw [e1, e2]
    exact sum_Ico_consecutive f (by omega) (by omega)
  · rename_i h
    rw [add_zero]
    have e : min (r % L) (m - 1) = min (r % L) (m + m - 1) := by omega
    rw [e]

/-- Twice as many tokens ahead. -/
theorem ahead_double (hL : 0 < L) {m : ℕ} (r : ℕ) :
    ahead L f m r + (if r % L + m < L then ahead L f m (r + m) else 0) = ahead L f (m + m) r := by
  have hr := Nat.mod_lt r hL
  unfold ahead
  split
  · rename_i h
    rw [mod_add L h]
    have e1 : r + min m (L - r % L) = r + m := by omega
    have e2 : r + min (m + m) (L - r % L) = r + m + min m (L - (r % L + m)) := by omega
    rw [e1, e2]
    exact sum_Ico_consecutive f (by omega) (by omega)
  · rename_i h
    rw [add_zero]
    have e : min m (L - r % L) = min (m + m) (L - r % L) := by omega
    rw [e]

/-- The window: `m` tokens before `r`, and `m` from `r` on. -/
theorem window {m : ℕ} (hm : 0 < m) (r : ℕ) :
    (if 1 ≤ r % L then back L f m (r - 1) else 0) + ahead L f m r
      = ∑ s ∈ Ico (r - min (r % L) m) (r + min m (L - r % L)), f s := by
  have hr := Nat.mod_le r L
  unfold back ahead
  split
  · rename_i h
    rw [mod_sub L h]
    have e1 : r - 1 + 1 = r := by omega
    have e2 : r - 1 - min (r % L - 1) (m - 1) = r - min (r % L) m := by omega
    rw [e1, e2]
    exact sum_Ico_consecutive f (by omega) (by omega)
  · rename_i h
    rw [zero_add]
    have e : min (r % L) m = 0 := by omega
    rw [e]
    rfl

/-- A masked sum over all tokens is the sum over the window. -/
theorem masked {n : ℕ} (g : Fin n → EReal) (a b : ℕ) (hb : b ≤ n) :
    ∑ s : Fin n, (if a ≤ s.val ∧ s.val < b then g s else 0)
      = ∑ s ∈ Ico a b, (if h : s < n then g ⟨s, h⟩ else 0) := by
  have e : ∀ s : Fin n, (if a ≤ s.val ∧ s.val < b then g s else 0)
      = (fun k : ℕ => if a ≤ k ∧ k < b then (if h : k < n then g ⟨k, h⟩ else 0) else 0) s.val := by
    intro s
    simp
  refine (sum_congr rfl fun s _ => e s).trans ((Fin.sum_univ_eq_sum_range
    (fun k : ℕ => if a ≤ k ∧ k < b then (if h : k < n then g ⟨k, h⟩ else 0) else 0) n).trans ?_)
  rw [← sum_filter]
  refine sum_congr ?_ fun _ _ => rfl
  ext k
  simp only [mem_filter, mem_range, mem_Ico]
  omega

/-- The window moved by `t` tokens. -/
theorem moved (t a b : ℕ) : ∑ s ∈ Ico a b, f (t + s) = ∑ s ∈ Ico (t + a) (t + b), f s := by
  rw [sum_Ico_add, add_comm a, add_comm b]

end Cert.PoolSum
-- ==== Proof.PoolKernel.lean ====
/-
  The pooling mixer's arithmetic on one tile of rows.
-/
module

public import proofs.«01_k».proof.Proof.Gen.PoolIdeal.Skeleton
public import proofs.«01_k».proof.Proof.PoolSum
public import proofs.«01_k».proof.Proof.ModRead
public import Idealize.ShloMosaic.Lib.Pointwise
public import Idealize.ShloMosaic.Lib.WordCmp

@[expose] public section

set_option maxRecDepth 16384

noncomputable section

namespace Cert.PoolIdeal.Tile

open Cert.PoolIdeal Cert.PoolIdeal.Gen Cert.Ffn Cert.PoolSum
open Idealize.ShloMosaic Idealize.ShloMosaic.TcCoe

/-- The length of a tile's sequences: 256 for the prompt's tiles, 1024 for the latents'. -/
def tileLen (b : Bool) : ℕ := if b then 256 else 1024

/-- The rows rotated by the word `w`, and zero where the place moved by the word `o` falls out of its sequence. -/
def shift (v1 : BitVec 32) (v5 : IVec S1024x512 32) (w o : BitVec 32) (a : FVec Ideal S1024x512 .f32) : FVec Ideal S1024x512 .f32 :=
  select (andi (cmpi .sge (addi v5 (broadcast S1024x512 o)) (broadcast S1024x512 0#32))
      (cmpi .slt (addi v5 (broadcast S1024x512 o)) (broadcast S1024x512 v1)))
    (dynamicRotate 0 w none a rotates_S1024x512_d0) (broadcast S1024x512 (Scalar.ofBits .f32 0x00000000#32))

/-- The rows, added to themselves moved. -/
def twice (v1 : BitVec 32) (v5 : IVec S1024x512 32) (w o : BitVec 32) (a : FVec Ideal S1024x512 .f32) : FVec Ideal S1024x512 .f32 :=
  addf a (shift v1 v5 w o a)

/-- A group's output from the sums over its windows. -/
def group (v1 : BitVec 32) (v5 : IVec S1024x512 32) (half : BitVec 32) (x h b f : FVec Ideal S1024x512 .f32)
    (w : Vec Ideal S1x512x512 .f32) (p : Vec Ideal S1x512 .f32) (g : Vec Ideal S1x1x1x512 .f32) : FVec Ideal S1024x512 .f32 :=
  addf x (mulf (broadcastTo S1024x512 (shapeCast S1x512 g shapeCasts_S1x1x1x512_S1x512) broadcasts_S1x512_S1024x512)
    (mulf (matmul dot_S1024x512_S512x512_S1024x512_1_0_0_1_n_n none
      (truncf .bf16 (subf (divf (addf (shift v1 v5 1#32 4294967295#32 b) f)
        (sitofp .f32 (subi (minsi (addi v5 (broadcast S1024x512 half)) (broadcast S1024x512 v1))
          (maxsi (subi v5 (broadcast S1024x512 half)) (broadcast S1024x512 0#32))))) h) bitsLt_bf16_f32)
      (truncf .bf16 (shapeCast S512x512 w shapeCasts_S1x512x512_S512x512) bitsLt_bf16_f32)
      (constant S1024x512 .f32 0x00000000#32))
      (broadcastTo S1024x512 p broadcasts_S1x512_S1024x512)))

variable (v1 : BitVec 32) (v5 : IVec S1024x512 32) (X : Vec Ideal S1024x2048 .f32) (x : Vec Ideal S1024x512 .f32)
  (gn : Vec Ideal S1x512 .f32) (sc sh : Vec Ideal S1x1x1x512 .f32)
  (w : Vec Ideal S1x512x512 .f32) (p : Vec Ideal S1x512 .f32) (g : Vec Ideal S1x1x1x512 .f32)

/-- The modulated rows of a group. -/
abbrev hids : FVec Ideal S1024x512 .f32 := k0_pay3 (F := Ideal) x X X gn sc sh

/-- The first group's payload. -/
theorem pay_0 : k0_pay5 (F := Ideal) v1 v5 x (k0_pay3 x X X gn sc sh) (k0_pay4 x X X gn sc sh) w p g
    = group v1 v5 1#32 x (hids X x gn sc sh) (hids X x gn sc sh) (hids X x gn sc sh) w p g := rfl

/-- The second group's payload. -/
theorem pay_1 : k0_pay12 (F := Ideal) x (k0_pay11 v1 v5 (k0_pay6 (k0_pay2 X X) x gn sc sh) (k0_pay7 v1 v5 (k0_pay2 X X) x gn sc sh)
      (k0_pay8 (k0_pay2 X X) x gn sc sh) (k0_pay9 v5) k0_pay10 w p) g
    = group v1 v5 2#32 x (hids X x gn sc sh) (twice v1 v5 1#32 4294967295#32 (hids X x gn sc sh))
        (twice v1 v5 1023#32 1#32 (hids X x gn sc sh)) w p g := rfl

/-- The third group's payload. -/
theorem pay_2 : k0_pay18 (F := Ideal) v1 v5 x (k0_pay13 (k0_pay2 X X) x gn sc sh)
      (k0_pay15 v1 v5 (k0_pay13 (k0_pay2 X X) x gn sc sh)) (k0_pay16 v1 v5 (k0_pay14 v1 v5 (k0_pay2 X X) x gn sc sh))
      (k0_pay17 v5) 0#32 w p g
    = group v1 v5 4#32 x (hids X x gn sc sh)
        (twice v1 v5 2#32 4294967294#32 (twice v1 v5 1#32 4294967295#32 (hids X x gn sc sh)))
        (twice v1 v5 1022#32 2#32 (twice v1 v5 1023#32 1#32 (hids X x gn sc sh))) w p g := rfl

/-- The fourth group's payload. -/
theorem pay_3 : k0_pay28 (F := Ideal) x (k0_pay27 v1 v5 (k0_pay20 x (k0_pay19 (k0_pay2 X X)) gn sc sh)
      (k0_pay24 v1 v5 (k0_pay20 x (k0_pay19 (k0_pay2 X X)) gn sc sh) (k0_pay22 x (k0_pay19 (k0_pay2 X X)) gn sc sh) (k0_pay23 v1 v5))
      (k0_pay25 v1 v5 (k0_pay21 v1 v5 x (k0_pay19 (k0_pay2 X X)) gn sc sh))
      (k0_pay26 v1 v5 (k0_pay20 x (k0_pay19 (k0_pay2 X X)) gn sc sh) (k0_pay22 x (k0_pay19 (k0_pay2 X X)) gn sc sh) (k0_pay23 v1 v5))
      w) p g
    = group v1 v5 8#32 x (hids X x gn sc sh)
        (twice v1 v5 4#32 4294967292#32 (twice v1 v5 2#32 4294967294#32 (twice v1 v5 1#32 4294967295#32 (hids X x gn sc sh))))
        (twice v1 v5 1020#32 4#32 (twice v1 v5 1022#32 2#32 (twice v1 v5 1023#32 1#32 (hids X x gn sc sh)))) w p g := rfl

/-- The places' words. -/
theorem places_words : ∀ (b : Bool) (a : Fin 16) (r : Fin 64),
    IntOp.andi (BitVec.ofNat 32 (a.val * 64 + r.val)) (IntOp.subi (BitVec.ofNat 32 (tileLen b)) 1#32)
      = BitVec.ofNat 32 ((a.val * 64 + r.val) % tileLen b) := by decide +kernel

/-- The masks of the rows moved by 1, 2 and 4. -/
theorem mask_words : ∀ (b : Bool) (j : Fin 3) (a : Fin 16) (r : Fin 64), a.val * 64 + r.val < tileLen b →
    IntOp.andi (IntOp.cmpi .sge (IntOp.addi (BitVec.ofNat 32 (a.val * 64 + r.val)) (BitVec.ofNat 32 (4294967296 - 2 ^ j.val))) 0#32)
        (IntOp.cmpi .slt (IntOp.addi (BitVec.ofNat 32 (a.val * 64 + r.val)) (BitVec.ofNat 32 (4294967296 - 2 ^ j.val)))
          (BitVec.ofNat 32 (tileLen b)))
      = BitVec.ofBool (decide (2 ^ j.val ≤ a.val * 64 + r.val))
    ∧ IntOp.andi (IntOp.cmpi .sge (IntOp.addi (BitVec.ofNat 32 (a.val * 64 + r.val)) (BitVec.ofNat 32 (2 ^ j.val))) 0#32)
        (IntOp.cmpi .slt (IntOp.addi (BitVec.ofNat 32 (a.val * 64 + r.val)) (BitVec.ofNat 32 (2 ^ j.val)))
          (BitVec.ofNat 32 (tileLen b)))
      = BitVec.ofBool (decide (a.val * 64 + r.val + 2 ^ j.val < tileLen b)) := by decide +kernel

/-- The windows' lengths. -/
theorem count_words : ∀ (b : Bool) (j : Fin 4) (a : Fin 16) (r : Fin 64), a.val * 64 + r.val < tileLen b →
    IntOp.subi (IntOp.minsi (IntOp.addi (BitVec.ofNat 32 (a.val * 64 + r.val)) (BitVec.ofNat 32 (2 ^ j.val))) (BitVec.ofNat 32 (tileLen b)))
        (IntOp.maxsi (IntOp.subi (BitVec.ofNat 32 (a.val * 64 + r.val)) (BitVec.ofNat 32 (2 ^ j.val))) 0#32)
      = BitVec.ofNat 32 (min (2 ^ j.val) (tileLen b - (a.val * 64 + r.val)) + min (a.val * 64 + r.val) (2 ^ j.val)) := by decide +kernel

/-- Moved rows at an index. -/
theorem shift_apply (wd o : BitVec 32) (a : FVec Ideal S1024x512 .f32) (r : Fin 1024) (k : Fin 512) :
    shift v1 v5 wd o a (ix2 r k) = Scalar.select (IntOp.andi (IntOp.cmpi .sge (IntOp.addi (v5 (ix2 r k)) o) 0#32)
        (IntOp.cmpi .slt (IntOp.addi (v5 (ix2 r k)) o) v1))
      (a (ix2 ⟨(r.val + 1024 - wd.toNat % 1024) % 1024, Nat.mod_lt _ (by decide)⟩ k)) 0 := by
  unfold shift
  pointwise

theorem rot_back (r n : ℕ) (hr : r < 1024) (hn : n ≤ 4) (h : n ≤ r) : (r + 1024 - n % 1024) % 1024 = r - n := by omega

theorem rot_ahead (r n : ℕ) (hr : r + n < 1024) (hn : 0 < n) : (r + 1024 - (1024 - n) % 1024) % 1024 = r + n := by omega

theorem tileLen_pos (b : Bool) : 0 < tileLen b := by cases b <;> decide

theorem place_lt (b : Bool) (r : ℕ) : r % tileLen b < tileLen b ∧ tileLen b ≤ 1024 :=
  ⟨Nat.mod_lt _ (tileLen_pos b), by cases b <;> decide⟩

/-- The rest of a row's sequence lies in its tile. -/
theorem rest_le (b : Bool) (r : Fin 1024) : r.val - r.val % tileLen b + tileLen b ≤ 1024 := by
  have := r.isLt
  cases b
  · change r.val - r.val % 1024 + 1024 ≤ 1024
    omega
  · change r.val - r.val % 256 + 256 ≤ 1024
    omega

variable (b : Bool) (h1 : v1 = BitVec.ofNat 32 (tileLen b))
  (h5 : ∀ (r : Fin 1024) (k : Fin 512), v5 (ix2 r k) = BitVec.ofNat 32 (r.val % tileLen b))

include h1 h5 in
/-- The rows moved back by `2 ^ j`. -/
theorem shift_back (j : Fin 3) (wd o : BitVec 32) (hw : wd = BitVec.ofNat 32 (2 ^ j.val))
    (ho : o = BitVec.ofNat 32 (4294967296 - 2 ^ j.val)) (a : FVec Ideal S1024x512 .f32)
    (k : Fin 512) (A : ℕ → EReal) (hA : ∀ r : Fin 1024, a (ix2 r k) = A r.val) (r : Fin 1024) :
    shift v1 v5 wd o a (ix2 r k)
      = if 2 ^ j.val ≤ r.val % tileLen b then A (r.val - 2 ^ j.val) else 0 := by
  have hp := place_lt b r.val
  have hm := (mask_words b j ⟨r.val % tileLen b / 64, by omega⟩ ⟨r.val % tileLen b % 64, by omega⟩
    (by dsimp only; omega)).1
  have e : r.val % tileLen b / 64 * 64 + r.val % tileLen b % 64 = r.val % tileLen b := by omega
  dsimp only at hm
  rw [e] at hm
  have hj : (2 : ℕ) ^ j.val ≤ 4 := by fin_cases j <;> decide
  have hr := Nat.mod_le r.val (tileLen b)
  have hlt := r.isLt
  rw [shift_apply, h5, h1, ho, hm, hA, hw, BitVec.toNat_ofNat]
  by_cases h : 2 ^ j.val ≤ r.val % tileLen b
  · rw [if_pos h, decide_eq_true h]
    refine congrArg A ?_
    dsimp only
    rw [Nat.mod_eq_of_lt (show 2 ^ j.val < 2 ^ 32 by omega)]
    exact rot_back _ _ hlt hj (h.trans hr)
  · rw [if_neg h, decide_eq_false h]
    rfl

include h1 h5 in
/-- The rows moved ahead by `2 ^ j`. -/
theorem shift_ahead (j : Fin 3) (wd o : BitVec 32) (hw : wd = BitVec.ofNat 32 (1024 - 2 ^ j.val))
    (ho : o = BitVec.ofNat 32 (2 ^ j.val)) (a : FVec Ideal S1024x512 .f32)
    (k : Fin 512) (A : ℕ → EReal) (hA : ∀ r : Fin 1024, a (ix2 r k) = A r.val) (r : Fin 1024) :
    shift v1 v5 wd o a (ix2 r k)
      = if r.val % tileLen b + 2 ^ j.val < tileLen b then A (r.val + 2 ^ j.val) else 0 := by
  have hp := place_lt b r.val
  have hm := (mask_words b j ⟨r.val % tileLen b / 64, by omega⟩ ⟨r.val % tileLen b % 64, by omega⟩
    (by dsimp only; omega)).2
  have e : r.val % tileLen b / 64 * 64 + r.val % tileLen b % 64 = r.val % tileLen b := by omega
  dsimp only at hm
  rw [e] at hm
  have hj : (2 : ℕ) ^ j.val ≤ 4 := by fin_cases j <;> decide
  have hj1 : 0 < (2 : ℕ) ^ j.val := by positivity
  have hr := Nat.mod_le r.val (tileLen b)
  have hlt := r.isLt
  have hrest := rest_le b r
  rw [shift_apply, h5, h1, ho, hm, hA, hw, BitVec.toNat_ofNat]
  by_cases h : r.val % tileLen b + 2 ^ j.val < tileLen b
  · rw [if_pos h, decide_eq_true h]
    refine congrArg A ?_
    dsimp only
    rw [Nat.mod_eq_of_lt (show 1024 - 2 ^ j.val < 2 ^ 32 by omega)]
    exact rot_ahead _ _ (by omega) hj1
  · rw [if_neg h, decide_eq_false h]
    rfl

include h1 h5 in
/-- The sums back, doubled. -/
theorem twice_back (j : Fin 3) (wd o : BitVec 32) (hw : wd = BitVec.ofNat 32 (2 ^ j.val))
    (ho : o = BitVec.ofNat 32 (4294967296 - 2 ^ j.val)) (a : FVec Ideal S1024x512 .f32) (k : Fin 512) (H : ℕ → EReal)
    (hA : ∀ r : Fin 1024, a (ix2 r k) = back (tileLen b) H (2 ^ j.val) r.val) (r : Fin 1024) :
    twice v1 v5 wd o a (ix2 r k) = back (tileLen b) H (2 ^ (j.val + 1)) r.val := by
  have e : twice v1 v5 wd o a (ix2 r k) = a (ix2 r k) + shift v1 v5 wd o a (ix2 r k) := rfl
  rw [e, shift_back v1 v5 b h1 h5 j wd o hw ho a k _ hA r, hA, back_double _ _ (by positivity), pow_succ, mul_two]

include h1 h5 in
/-- The sums ahead, doubled. -/
theorem twice_ahead (j : Fin 3) (wd o : BitVec 32) (hw : wd = BitVec.ofNat 32 (1024 - 2 ^ j.val))
    (ho : o = BitVec.ofNat 32 (2 ^ j.val)) (a : FVec Ideal S1024x512 .f32) (k : Fin 512) (H : ℕ → EReal)
    (hA : ∀ r : Fin 1024, a (ix2 r k) = ahead (tileLen b) H (2 ^ j.val) r.val) (r : Fin 1024) :
    twice v1 v5 wd o a (ix2 r k) = ahead (tileLen b) H (2 ^ (j.val + 1)) r.val := by
  have e : twice v1 v5 wd o a (ix2 r k) = a (ix2 r k) + shift v1 v5 wd o a (ix2 r k) := rfl
  rw [e, shift_ahead v1 v5 b h1 h5 j wd o hw ho a k _ hA r, hA, ahead_double _ _ (tileLen_pos b), pow_succ, mul_two]

end Cert.PoolIdeal.Tile

end
-- ==== Proof.PoolGroup.lean ====
/-
  A group's output in the pooling mixer's tile.
-/
module

public import proofs.«01_k».proof.Proof.PoolKernel
public import proofs.«01_k».proof.Proof.ModRead
public import Idealize.ShloMosaic.Lib.Pointwise
public import Idealize.ShloMosaic.Lib.WordCmp

@[expose] public section

set_option maxRecDepth 16384

noncomputable section

namespace Cert.PoolIdeal.Tile

open Cert.PoolIdeal Cert.PoolIdeal.Gen Cert.Ffn Cert.PoolSum
open Idealize.ShloMosaic Idealize.ShloMosaic.TcCoe

variable (v1 : BitVec 32) (v5 : IVec S1024x512 32) (X : Vec Ideal S1024x2048 .f32) (x : Vec Ideal S1024x512 .f32)
  (gn : Vec Ideal S1x512 .f32) (sc sh : Vec Ideal S1x1x1x512 .f32)
  (w : Vec Ideal S1x512x512 .f32) (p : Vec Ideal S1x512 .f32) (g : Vec Ideal S1x1x1x512 .f32)

variable (b : Bool) (h1 : v1 = BitVec.ofNat 32 (tileLen b))
  (h5 : ∀ (r : Fin 1024) (k : Fin 512), v5 (ix2 r k) = BitVec.ofNat 32 (r.val % tileLen b))

/-- The mean over a row's window, less the row. -/
def meanLess (H : ℕ → EReal) (j : Fin 4) (r : ℕ) : EReal :=
  Ideal.div (∑ s ∈ Finset.Ico (r - min (r % tileLen b) (2 ^ j.val)) (r + min (2 ^ j.val) (tileLen b - r % tileLen b)), H s)
      (FloatOps.sitofp (F := Ideal) .f32
        (BitVec.ofNat 32 (min (2 ^ j.val) (tileLen b - r % tileLen b) + min (r % tileLen b) (2 ^ j.val))))
    - H r

/-- The means over the windows less the rows, from the moved rows. -/
def lessRows (half : BitVec 32) (S f h : FVec Ideal S1024x512 .f32) : FVec Ideal S1024x512 .f32 :=
  subf (divf (addf S f)
    (sitofp .f32 (subi (minsi (addi v5 (broadcast S1024x512 half)) (broadcast S1024x512 v1))
      (maxsi (subi v5 (broadcast S1024x512 half)) (broadcast S1024x512 0#32))))) h

/-- The means less the rows at an index. -/
theorem lessRows_apply (half : BitVec 32) (S f h : FVec Ideal S1024x512 .f32) (r : Fin 1024) (k : Fin 512) :
    lessRows v1 v5 half S f h (ix2 r k) = Ideal.div (S (ix2 r k) + f (ix2 r k))
        (FloatOps.sitofp (F := Ideal) .f32 (IntOp.subi (IntOp.minsi (IntOp.addi (v5 (ix2 r k)) half) v1)
          (IntOp.maxsi (IntOp.subi (v5 (ix2 r k)) half) 0#32))) - h (ix2 r k) := rfl

/-- A group's output over given means less rows. -/
def mixOut (P : FVec Ideal S1024x512 .f32) : FVec Ideal S1024x512 .f32 :=
  addf x (mulf (broadcastTo S1024x512 (shapeCast S1x512 g shapeCasts_S1x1x1x512_S1x512) broadcasts_S1x512_S1024x512)
    (mulf (matmul dot_S1024x512_S512x512_S1024x512_1_0_0_1_n_n none
      (truncf .bf16 P bitsLt_bf16_f32)
      (truncf .bf16 (shapeCast S512x512 w shapeCasts_S1x512x512_S512x512) bitsLt_bf16_f32)
      (constant S1024x512 .f32 0x00000000#32))
      (broadcastTo S1024x512 p broadcasts_S1x512_S1024x512)))

/-- The output at an index. -/
theorem mixOut_apply (P : FVec Ideal S1024x512 .f32) (r : Fin 1024) (u : Fin 512) :
    mixOut x w p g P (ix2 r u) = x (ix2 r u) + g (ix4 0 0 0 u) * ((∑ k : Fin 512, P (ix2 r k) * w (ix3 0 k u)) * p (ix2 0 u)) := by
  unfold mixOut
  pointwise

/-- A group's output at an index, from the moved rows. -/
theorem group_read (half : BitVec 32) (h bk fw : FVec Ideal S1024x512 .f32) (r : Fin 1024) (u : Fin 512) :
    group v1 v5 half x h bk fw w p g (ix2 r u) = x (ix2 r u) + g (ix4 0 0 0 u) * ((∑ k : Fin 512,
        lessRows v1 v5 half (shift v1 v5 1#32 4294967295#32 bk) fw h (ix2 r k) * w (ix3 0 k u)) * p (ix2 0 u)) :=
  mixOut_apply x w p g (lessRows v1 v5 half (shift v1 v5 1#32 4294967295#32 bk) fw h) r u

include h1 h5 in
/-- A group's output at an index. -/
theorem group_apply (j : Fin 4) (half : BitVec 32) (hh : half = BitVec.ofNat 32 (2 ^ j.val))
    (h bk fw : FVec Ideal S1024x512 .f32) (H : Fin 512 → ℕ → EReal)
    (hH : ∀ (k : Fin 512) (r : Fin 1024), h (ix2 r k) = H k r.val)
    (hb : ∀ (k : Fin 512) (r : Fin 1024), bk (ix2 r k) = back (tileLen b) (H k) (2 ^ j.val) r.val)
    (hf : ∀ (k : Fin 512) (r : Fin 1024), fw (ix2 r k) = ahead (tileLen b) (H k) (2 ^ j.val) r.val)
    (r : Fin 1024) (u : Fin 512) :
    group v1 v5 half x h bk fw w p g (ix2 r u)
      = x (ix2 r u) + g (ix4 0 0 0 u) * ((∑ k : Fin 512, meanLess b (H k) j r.val * w (ix3 0 k u)) * p (ix2 0 u)) := by
  rw [group_read]
  refine congrArg (fun z => x (ix2 r u) + g (ix4 0 0 0 u) * (z * p (ix2 0 u))) (Finset.sum_congr rfl fun k _ => ?_)
  have hp := place_lt b r.val
  have hm := count_words b j ⟨r.val % tileLen b / 64, by omega⟩ ⟨r.val % tileLen b % 64, by omega⟩ (by dsimp only; omega)
  have e' : r.val % tileLen b / 64 * 64 + r.val % tileLen b % 64 = r.val % tileLen b := by omega
  dsimp only at hm
  rw [e'] at hm
  have hs := shift_back v1 v5 b h1 h5 0 1#32 4294967295#32 rfl rfl bk k _ (hb k) r
  rw [show (2 : ℕ) ^ (0 : Fin 3).val = 1 from rfl] at hs
  have hw := window (tileLen b) (H k) (m := 2 ^ j.val) (by positivity) r.val
  unfold meanLess
  rw [lessRows_apply, hs, hf, h5, hh, h1, hm, hH, ← hw]

variable (H : Fin 512 → ℕ → EReal) (hH : ∀ (k : Fin 512) (r : Fin 1024), hids X x gn sc sh (ix2 r k) = H k r.val)
  (r : Fin 1024) (u : Fin 512)

/-- A group's output, from the modulated rows. -/
def outAt (j : Fin 4) : EReal :=
  x (ix2 r u) + g (ix4 0 0 0 u) * ((∑ k : Fin 512, meanLess b (H k) j r.val * w (ix3 0 k u)) * p (ix2 0 u))

include hH in
/-- The sums of one row. -/
theorem base (k : Fin 512) (r : Fin 1024) : hids X x gn sc sh (ix2 r k) = back (tileLen b) (H k) (2 ^ 0) r.val
    ∧ hids X x gn sc sh (ix2 r k) = ahead (tileLen b) (H k) (2 ^ 0) r.val := by
  rw [hH, pow_zero, back_one, ahead_one _ _ (tileLen_pos b)]
  exact ⟨rfl, rfl⟩

include h1 h5 hH in
/-- The four groups' outputs. -/
theorem outs :
    group v1 v5 1#32 x (hids X x gn sc sh) (hids X x gn sc sh) (hids X x gn sc sh) w p g (ix2 r u) = outAt x w p g b H r u 0
    ∧ group v1 v5 2#32 x (hids X x gn sc sh) (twice v1 v5 1#32 4294967295#32 (hids X x gn sc sh))
        (twice v1 v5 1023#32 1#32 (hids X x gn sc sh)) w p g (ix2 r u) = outAt x w p g b H r u 1
    ∧ group v1 v5 4#32 x (hids X x gn sc sh)
        (twice v1 v5 2#32 4294967294#32 (twice v1 v5 1#32 4294967295#32 (hids X x gn sc sh)))
        (twice v1 v5 1022#32 2#32 (twice v1 v5 1023#32 1#32 (hids X x gn sc sh))) w p g (ix2 r u) = outAt x w p g b H r u 2
    ∧ group v1 v5 8#32 x (hids X x gn sc sh)
        (twice v1 v5 4#32 4294967292#32 (twice v1 v5 2#32 4294967294#32 (twice v1 v5 1#32 4294967295#32 (hids X x gn sc sh))))
        (twice v1 v5 1020#32 4#32 (twice v1 v5 1022#32 2#32 (twice v1 v5 1023#32 1#32 (hids X x gn sc sh)))) w p g (ix2 r u)
      = outAt x w p g b H r u 3 := by
  have b0 (k : Fin 512) (r : Fin 1024) := (base X x gn sc sh b H hH k r).1
  have f0 (k : Fin 512) (r : Fin 1024) := (base X x gn sc sh b H hH k r).2
  have b1 (k : Fin 512) (r : Fin 1024) := twice_back v1 v5 b h1 h5 0 1#32 4294967295#32 rfl rfl _ k (H k) (b0 k) r
  have f1 (k : Fin 512) (r : Fin 1024) := twice_ahead v1 v5 b h1 h5 0 1023#32 1#32 rfl rfl _ k (H k) (f0 k) r
  have b2 (k : Fin 512) (r : Fin 1024) := twice_back v1 v5 b h1 h5 1 2#32 4294967294#32 rfl rfl _ k (H k) (b1 k) r
  have f2 (k : Fin 512) (r : Fin 1024) := twice_ahead v1 v5 b h1 h5 1 1022#32 2#32 rfl rfl _ k (H k) (f1 k) r
  have b3 (k : Fin 512) (r : Fin 1024) := twice_back v1 v5 b h1 h5 2 4#32 4294967292#32 rfl rfl _ k (H k) (b2 k) r
  have f3 (k : Fin 512) (r : Fin 1024) := twice_ahead v1 v5 b h1 h5 2 1020#32 4#32 rfl rfl _ k (H k) (f2 k) r
  exact ⟨group_apply v1 v5 x w p g b h1 h5 0 1#32 rfl _ _ _ H hH b0 f0 r u,
    group_apply v1 v5 x w p g b h1 h5 1 2#32 rfl _ _ _ H hH b1 f1 r u,
    group_apply v1 v5 x w p g b h1 h5 2 4#32 rfl _ _ _ H hH b2 f2 r u,
    group_apply v1 v5 x w p g b h1 h5 3 8#32 rfl _ _ _ H hH b3 f3 r u⟩

/-- The modulated rows at an index. -/
theorem hids_apply (k : Fin 512) (y : Fin 2048 → EReal) (hy : ∀ d, X (ix2 r d) = y d) (d : Fin 2048)
    (hx : x (ix2 r k) = y d) :
    hids X x gn sc sh (ix2 r k) = norm y (gn (ix2 0 k)) d * (Ideal.ofBits .f32 0x3F800000#32 + sc (ix4 0 0 0 k)) + sh (ix4 0 0 0 k) := by
  have e : hids X x gn sc sh (ix2 r k) = x (ix2 r k) * FloatOps.rsqrt (F := Ideal) (φ := .f32) (Ideal.div (∑ d, X (ix2 r d) * X (ix2 r d)) (Ideal.ofBits .f32 0x45000000#32)
      + Ideal.ofBits .f32 0x358637BD#32) * gn (ix2 0 k) * (Ideal.ofBits .f32 0x3F800000#32 + sc (ix4 0 0 0 k)) + sh (ix4 0 0 0 k) := by
    unfold hids
    unfold_payloads
    pointwise
  rw [e, hx]
  simp only [hy]
  rfl

/-- The second modulated norm at an index. -/
theorem pay_4 (Y : Vec Ideal S1024x2048 .f32) (gn2 : Vec Ideal S1x2048 .f32) (sh2 sc2 : Vec Ideal S1x1x1x2048 .f32) (d : Fin 2048) :
    k0_pay29 (F := Ideal) Y gn2 sh2 sc2 (ix2 r d)
      = norm (fun k => Y (ix2 r k)) (gn2 (ix2 0 d)) d * (Ideal.ofBits .f32 0x3F800000#32 + sc2 (ix4 0 0 0 d)) + sh2 (ix4 0 0 0 d) := by
  unfold_payloads
  pointwise
  rfl

end Cert.PoolIdeal.Tile

end
-- ==== Proof.PoolBlock.lean ====
/-
  The pooling mixer's call: one grid point, and the arrays that the call leaves.
-/
module

public import proofs.«01_k».proof.Proof.Gen.PoolIdeal.Value
public import proofs.«01_k».proof.Proof.PoolRead
public import proofs.«01_k».proof.Proof.PoolGroup
public import Idealize.ShloMosaic.Lib.Pipeline.ValueKit

@[expose] public section

set_option maxRecDepth 16384

noncomputable section

namespace Cert.PoolIdeal.Whole

open Cert.PoolIdeal Cert.PoolIdeal.Gen Cert.Ffn
open Cert.PoolRefIdeal.At (part len lo hi hid pooled mixed x3At h4At whole3 whole4)
open Idealize.ShloMosaic Idealize.ShloMosaic.TcCoe Idealize.SL.Sem
open Idealize.ShloMosaic.Pipeline (Dat)

variable (m : (ℓ : Loc nD τ sig) → Buf (Elt Ideal) ℓ)

/-- The blocks that a grid point works on. -/
theorem idx : ∀ t : Fin cfg0.N,
    win0_0.index t = ![t.val, 0] ∧ win0_1.index t = ![0, 0, 0] ∧ win0_2.index t = ![0, 0] ∧ win0_3.index t = ![0, 0]
    ∧ win0_4.index t = ![1, t.val - 3, 0, 0] ∧ win0_5.index t = ![1, t.val - 3, 0, 1] ∧ win0_6.index t = ![1, t.val - 3, 0, 2]
    ∧ win0_7.index t = ![0, 0] ∧ win0_8.index t = ![1, t.val - 3, 0, 3] ∧ win0_9.index t = ![1, t.val - 3, 0, 4]
    ∧ win0_10.index t = ![t.val, 0] ∧ win0_11.index t = ![t.val, 0] ∧ t.val < 6 :=
  (by decide +kernel : ∀ t : Fin grid0.N, _)

/-- The word of a tile's sequence length. -/
theorem seq_word : ∀ t : Fin cfg0.N, Scalar.select (Scalar.cmpi .slt (BitVec.ofNat 32 (grid0.coords t 0).val) 4#32) 256#32 1024#32
    = BitVec.ofNat 32 (Tile.tileLen (decide (t.val < 4))) :=
  (by decide +kernel : ∀ t : Fin grid0.N, _)

/-- The words of the rows' places. -/
theorem places (t : Fin cfg0.N) (r : Fin 1024) (k : Fin 512) :
    k0_pay1 (grid0.coords t) (ix2 r k) = BitVec.ofNat 32 (r.val % Tile.tileLen (decide (t.val < 4))) := by
  have e : k0_pay1 (grid0.coords t) (ix2 r k) = IntOp.andi (BitVec.ofNat 32 r.val)
      (IntOp.subi (Scalar.select (Scalar.cmpi .slt (BitVec.ofNat 32 (grid0.coords t 0).val) 4#32) 256#32 1024#32) 1#32) := by
    unfold k0_pay1
    generalize Scalar.select (Scalar.cmpi .slt (BitVec.ofNat 32 (grid0.coords t 0).val) 4#32) 256#32 1024#32 = v
    pointwise
    rfl
  have h := Tile.places_words (decide (t.val < 4)) ⟨r.val / 64, by omega⟩ ⟨r.val % 64, by omega⟩
  have e' : r.val / 64 * 64 + r.val % 64 = r.val := by omega
  dsimp only at h
  rw [e'] at h
  rw [e, seq_word, h]

/-- The block of rows. -/
theorem x_apply (c : Dev nD) (t : Fin cfg0.N) (r : Fin 1024) (k : Fin 2048) (h : t.val < 6) :
    iblk m c 0 t (ix2 r k) = m ((c : Thread nD τ).loc main_arg0) (ix2 ⟨t.val * 1024 + r.val, by omega⟩ k) := by
  blk_ext [iblk, V, idx t]

/-- The weights, as the host slices them. -/
theorem weights (c : Dev nD) (g : Fin 4) (k u : Fin 512) :
    V m c main_v0 (ix3 g k u) = m ((c : Thread nD τ).loc main_arg1) (ix4 0 g k u) := by
  entry_read
  pointwise

/-- The block of weights. -/
theorem w_apply (c : Dev nD) (t : Fin cfg0.N) (g : Fin 4) (k u : Fin 512) :
    iblk m c 1 t (ix3 g k u) = m ((c : Thread nD τ).loc main_arg1) (ix4 0 g k u) := by
  refine Eq.trans ?_ (weights m c g k u)
  blk_ext [iblk, idx t]

/-- The block of scales of the mixer. -/
theorem p_apply (c : Dev nD) (t : Fin cfg0.N) (d : Fin 2048) :
    iblk m c 2 t (ix2 0 d) = m ((c : Thread nD τ).loc main_arg2) (ix2 0 d) := by
  blk_ext [iblk, V, idx t]

/-- The first norm's gains, as the host slices them. -/
theorem gains (c : Dev nD) (k : Fin 2048) :
    V m c main_v1 (ix2 0 k) = m ((c : Thread nD τ).loc main_arg3) (ix2 1 k) := by
  entry_read
  pointwise

/-- The second norm's gains, as the host slices them. -/
theorem gains2 (c : Dev nD) (k : Fin 2048) :
    V m c main_v2 (ix2 0 k) = m ((c : Thread nD τ).loc main_arg4) (ix2 1 k) := by
  entry_read
  pointwise

/-- The block of the first norm's gains. -/
theorem g_apply (c : Dev nD) (t : Fin cfg0.N) (k : Fin 2048) :
    iblk m c 3 t (ix2 0 k) = m ((c : Thread nD τ).loc main_arg3) (ix2 1 k) := by
  refine Eq.trans ?_ (gains m c k)
  blk_ext [iblk, idx t]

/-- The block of the second norm's gains. -/
theorem g2_apply (c : Dev nD) (t : Fin cfg0.N) (k : Fin 2048) :
    iblk m c 7 t (ix2 0 k) = m ((c : Thread nD τ).loc main_arg4) (ix2 1 k) := by
  refine Eq.trans ?_ (gains2 m c k)
  blk_ext [iblk, idx t]

/-- The blocks of the second layer's table. -/
theorem mods_apply (c : Dev nD) (t : Fin cfg0.N) (d : Fin 2048) (h : t.val < 6) :
    iblk m c 4 t (ix4 0 0 0 d) = m ((c : Thread nD τ).loc main_arg5) (ix4 1 ⟨t.val - 3, by omega⟩ 0 ⟨d.val, by omega⟩)
    ∧ iblk m c 5 t (ix4 0 0 0 d) = m ((c : Thread nD τ).loc main_arg5) (ix4 1 ⟨t.val - 3, by omega⟩ 0 ⟨2048 + d.val, by omega⟩)
    ∧ iblk m c 6 t (ix4 0 0 0 d) = m ((c : Thread nD τ).loc main_arg5) (ix4 1 ⟨t.val - 3, by omega⟩ 0 ⟨4096 + d.val, by omega⟩)
    ∧ iblk m c 8 t (ix4 0 0 0 d) = m ((c : Thread nD τ).loc main_arg5) (ix4 1 ⟨t.val - 3, by omega⟩ 0 ⟨6144 + d.val, by omega⟩)
    ∧ iblk m c 9 t (ix4 0 0 0 d) = m ((c : Thread nD τ).loc main_arg5) (ix4 1 ⟨t.val - 3, by omega⟩ 0 ⟨8192 + d.val, by omega⟩) := by
  refine ⟨?_, ?_, ?_, ?_, ?_⟩
  all_goals blk_ext [iblk, V, idx t]

/-- Where an entry of a point's first output block lies in the array. -/
theorem emb_apply (t : Fin cfg0.N) (r : Fin 1024) (d : Fin 2048) (h : t.val < 6) :
    (win0_10.blk t).view.emb (ix2 r d) = (ix2 ⟨t.val * 1024 + r.val, by omega⟩ d : S6144x2048.Idx) := by
  blk_ext [idx t]

/-- Where an entry of a point's second output block lies in the array. -/
theorem emb_apply' (t : Fin cfg0.N) (r : Fin 1024) (d : Fin 2048) (h : t.val < 6) :
    (win0_11.blk t).view.emb (ix2 r d) = (ix2 ⟨t.val * 1024 + r.val, by omega⟩ d : S6144x2048.Idx) := by
  blk_ext [idx t]

/-- A load of 512 columns. -/
theorem cols (X : Vec Ideal S1024x2048 .f32) (o : ℕ) (h : ∀ a, ![0, o] a + ![1024, 512] a ≤ S1024x2048.size a) (r : Fin 1024) (k : Fin 512)
    (hk : o + k.val < 2048) : View.ld X (Rect.unit (s := S1024x2048) ![0, o] ![1024, 512] h) (ix2 r k) = X (ix2 r ⟨o + k.val, hk⟩) :=
  View.ld_unit_apply_of X _ _ h (ix2 r k) (ix2 r ⟨o + k.val, hk⟩) fun a => by fin_cases a <;> simp

/-- A load of 512 entries. -/
theorem cols2 (X : Vec Ideal S1x2048 .f32) (o : ℕ) (h : ∀ a, ![0, o] a + ![1, 512] a ≤ S1x2048.size a) (k : Fin 512)
    (hk : o + k.val < 2048) : View.ld X (Rect.unit (s := S1x2048) ![0, o] ![1, 512] h) (ix2 0 k) = X (ix2 0 ⟨o + k.val, hk⟩) :=
  View.ld_unit_apply_of X _ _ h (ix2 0 k) (ix2 0 ⟨o + k.val, hk⟩) fun a => by fin_cases a <;> simp

/-- A load of 512 entries of the table. -/
theorem cols4 (X : Vec Ideal S1x1x1x2048 .f32) (o : ℕ) (h : ∀ a, ![0, 0, 0, o] a + ![1, 1, 1, 512] a ≤ S1x1x1x2048.size a) (k : Fin 512)
    (hk : o + k.val < 2048) :
    View.ld X (Rect.unit (s := S1x1x1x2048) ![0, 0, 0, o] ![1, 1, 1, 512] h) (ix4 0 0 0 k) = X (ix4 0 0 0 ⟨o + k.val, hk⟩) :=
  View.ld_unit_apply_of X _ _ h (ix4 0 0 0 k) (ix4 0 0 0 ⟨o + k.val, hk⟩) fun a => by fin_cases a <;> simp

/-- A load of one weight matrix. -/
theorem mats (X : Vec Ideal S4x512x512 .f32) (g : Fin 4) (o : ℕ) (ho : o = g.val)
    (h : ∀ a, ![o, 0, 0] a + ![1, 512, 512] a ≤ S4x512x512.size a) (k u : Fin 512) :
    View.ld X (Rect.unit (s := S4x512x512) ![o, 0, 0] ![1, 512, 512] h) (ix3 0 k u) = X (ix3 g k u) :=
  View.ld_unit_apply_of X _ _ h (ix3 0 k u) (ix3 g k u) fun a => by fin_cases a <;> simp [ho]

section Args

variable (x0 : FVec Ideal S6144x2048 .f32) (x1 : FVec Ideal S1x4x512x512 .f32) (x2 : FVec Ideal S1x2048 .f32)
  (x3 x4 : FVec Ideal S2x2048 .f32) (x5 : FVec Ideal S2x16x1x12288 .f32)

/-- A token's modulated row in tile `t`, by its place in the tile. -/
def tok (t : ℕ) (g : Fin 4) (k : Fin 512) (s : ℕ) : EReal :=
  if h : t * 1024 + s < 6144 then hid x0 x3 x5 ⟨t * 1024 + s, h⟩ ⟨g.val * 512 + k.val, by omega⟩ else 0

/-- A tile's mean less the row is the reference's. -/
theorem meanLess_eq (t : ℕ) (ht : t < 6) (g : Fin 4) (k : Fin 512) (r : Fin 1024) :
    Tile.meanLess (decide (t < 4)) (tok x0 x3 x5 t g k) g r.val = pooled x0 x3 x5 g ⟨t * 1024 + r.val, by omega⟩ k := by
  have hrest := Tile.rest_le (decide (t < 4)) r
  have hpl := Tile.place_lt (decide (t < 4)) r.val
  have hle := Nat.mod_le r.val (Tile.tileLen (decide (t < 4)))
  have hlen : len (t * 1024 + r.val) = Tile.tileLen (decide (t < 4)) := by
    unfold len
    by_cases h : t < 4
    · rw [if_pos (by omega), decide_eq_true h]
      rfl
    · rw [if_neg (by omega), decide_eq_false h]
      rfl
  have hmod : (t * 1024 + r.val) % Tile.tileLen (decide (t < 4)) = r.val % Tile.tileLen (decide (t < 4)) := by
    cases decide (t < 4)
    · change (t * 1024 + r.val) % 1024 = r.val % 1024
      omega
    · change (t * 1024 + r.val) % 256 = r.val % 256
      omega
  have hlo : lo g.val (t * 1024 + r.val) = t * 1024 + (r.val - min (r.val % Tile.tileLen (decide (t < 4))) (2 ^ g.val)) := by
    unfold lo
    rw [hlen, hmod]
    omega
  have hhi : hi g.val (t * 1024 + r.val)
      = t * 1024 + (r.val + min (2 ^ g.val) (Tile.tileLen (decide (t < 4)) - r.val % Tile.tileLen (decide (t < 4)))) := by
    unfold hi
    rw [hlen, hmod]
    omega
  have hn : hi g.val (t * 1024 + r.val) - lo g.val (t * 1024 + r.val)
      = min (2 ^ g.val) (Tile.tileLen (decide (t < 4)) - r.val % Tile.tileLen (decide (t < 4)))
        + min (r.val % Tile.tileLen (decide (t < 4))) (2 ^ g.val) := by
    have h4 := Nat.mod_le r.val (Tile.tileLen (decide (t < 4)))
    rw [hlo, hhi]
    generalize 2 ^ g.val = n
    omega
  have hb : hi g.val (t * 1024 + r.val) ≤ 6144 := by
    have h2 := Tile.rest_le (decide (t < 4)) r
    have h4 := Nat.mod_le r.val (Tile.tileLen (decide (t < 4)))
    have h3 := min_le_right (2 ^ g.val) (Tile.tileLen (decide (t < 4)) - r.val % Tile.tileLen (decide (t < 4)))
    rw [hhi]
    omega
  unfold pooled Tile.meanLess Cert.PoolRefIdeal.At.count
  dsimp only
  rw [PoolSum.masked (fun s : Fin 6144 => hid x0 x3 x5 s ⟨g.val * 512 + k.val, by omega⟩) _ _ hb, hn, hlo, hhi, ← PoolSum.moved]
  unfold tok
  rw [dif_pos (show t * 1024 + r.val < 6144 by omega)]

/-- The first result at a channel of a group. -/
theorem x3At_eq (R : Fin 6144) (g : Fin 4) (u : Fin 512) (d : Fin 2048) (hd : d.val = g.val * 512 + u.val) :
    x3At x0 x1 x2 x3 x5 R d = mixed x0 x1 x2 x3 x5 R g u := by
  have e1 : (⟨d.val / 512, by omega⟩ : Fin 4) = g := Fin.ext (by
    change d.val / 512 = g.val
    omega)
  have e2 : (⟨d.val % 512, by omega⟩ : Fin 512) = u := Fin.ext (by
    change d.val % 512 = u.val
    omega)
  unfold x3At
  rw [e1, e2]

/-- A tile's row of the table is its tokens' row. -/
theorem part_eq (t : ℕ) (ht : t < 6) (r : Fin 1024) (j : Fin 6) (d : Fin 2048) (i : Fin 16) (e : Fin 12288) (hi : i.val = t - 3)
    (he : e.val = j.val * 2048 + d.val) :
    x5 (ix4 1 i 0 e) = part x5 j ⟨t * 1024 + r.val, by omega⟩ d := by
  have e1 : i = ⟨(t * 1024 + r.val) / 1024 - 3, by omega⟩ := Fin.ext (by
    change i.val = (t * 1024 + r.val) / 1024 - 3
    omega)
  have e2 : e = ⟨j.val * 2048 + d.val, by omega⟩ := Fin.ext he
  unfold part
  rw [e1, e2]

end Args

variable (c : Dev nD) (t : Fin cfg0.N) (h : t.val < 6) (g : Fin 4) (o : ℕ) (ho : o = g.val * 512)
  (hX : ∀ a, ![0, o] a + ![1024, 512] a ≤ S1024x2048.size a) (hP : ∀ a, ![0, o] a + ![1, 512] a ≤ S1x2048.size a)
  (hM : ∀ a, ![0, 0, 0, o] a + ![1, 1, 1, 512] a ≤ S1x1x1x2048.size a)

include h ho in
/-- The tile's modulated rows. -/
theorem hids_eq (r : Fin 1024) (k : Fin 512) :
    Tile.hids (iblk m c 0 t) (View.ld (iblk m c 0 t) (Rect.unit (s := S1024x2048) ![0, o] ![1024, 512] hX))
      (View.ld (iblk m c 3 t) (Rect.unit (s := S1x2048) ![0, o] ![1, 512] hP))
      (View.ld (iblk m c 5 t) (Rect.unit (s := S1x1x1x2048) ![0, 0, 0, o] ![1, 1, 1, 512] hM))
      (View.ld (iblk m c 4 t) (Rect.unit (s := S1x1x1x2048) ![0, 0, 0, o] ![1, 1, 1, 512] hM)) (ix2 r k)
    = tok (m ((c : Thread nD τ).loc main_arg0)) (m ((c : Thread nD τ).loc main_arg3)) (m ((c : Thread nD τ).loc main_arg5))
        t.val g k r.val := by
  subst ho
  have hk : g.val * 512 + k.val < 2048 := by omega
  refine (Tile.hids_apply _ _ _ _ _ r k (fun d => m ((c : Thread nD τ).loc main_arg0) (ix2 ⟨t.val * 1024 + r.val, by omega⟩ d))
    (fun d => x_apply m c t r d h) ⟨g.val * 512 + k.val, hk⟩ ?_).trans ?_
  · rw [cols _ _ _ _ _ hk, x_apply m c t r _ h]
  · rw [cols2 _ _ _ _ hk, cols4 _ _ _ _ hk, cols4 _ _ _ _ hk, g_apply, (mods_apply m c t _ h).1, (mods_apply m c t _ h).2.1]
    unfold tok hid
    rw [dif_pos (show t.val * 1024 + r.val < 6144 by omega)]
    dsimp only
    have p0 := part_eq (m ((c : Thread nD τ).loc main_arg5)) t.val h r 0 ⟨g.val * 512 + k.val, hk⟩ ⟨t.val - 3, by omega⟩
      ⟨g.val * 512 + k.val, by omega⟩ rfl (by simp)
    have p1 := part_eq (m ((c : Thread nD τ).loc main_arg5)) t.val h r 1 ⟨g.val * 512 + k.val, hk⟩ ⟨t.val - 3, by omega⟩
      ⟨2048 + (g.val * 512 + k.val), by omega⟩ rfl (by simp)
    rw [p0, p1]

include h ho in
/-- A group's output as the reference's. -/
theorem out_eq (q : ℕ) (hq : q = g.val) (hW : ∀ a, ![q, 0, 0] a + ![1, 512, 512] a ≤ S4x512x512.size a) (r : Fin 1024) (u : Fin 512) :
    Tile.outAt (View.ld (iblk m c 0 t) (Rect.unit (s := S1024x2048) ![0, o] ![1024, 512] hX))
      (View.ld (iblk m c 1 t) (Rect.unit (s := S4x512x512) ![q, 0, 0] ![1, 512, 512] hW))
      (View.ld (iblk m c 2 t) (Rect.unit (s := S1x2048) ![0, o] ![1, 512] hP))
      (View.ld (iblk m c 6 t) (Rect.unit (s := S1x1x1x2048) ![0, 0, 0, o] ![1, 1, 1, 512] hM)) (decide (t.val < 4))
      (tok (m ((c : Thread nD τ).loc main_arg0)) (m ((c : Thread nD τ).loc main_arg3)) (m ((c : Thread nD τ).loc main_arg5)) t.val g) r u g
    = mixed (m ((c : Thread nD τ).loc main_arg0)) (m ((c : Thread nD τ).loc main_arg1)) (m ((c : Thread nD τ).loc main_arg2))
        (m ((c : Thread nD τ).loc main_arg3)) (m ((c : Thread nD τ).loc main_arg5)) ⟨t.val * 1024 + r.val, by omega⟩ g u := by
  subst ho
  have hk : g.val * 512 + u.val < 2048 := by omega
  unfold Tile.outAt mixed
  have p2 := part_eq (m ((c : Thread nD τ).loc main_arg5)) t.val h r 2 ⟨g.val * 512 + u.val, hk⟩ ⟨t.val - 3, by omega⟩
    ⟨4096 + (g.val * 512 + u.val), by omega⟩ rfl (by simp)
  rw [cols _ _ _ _ _ hk, cols2 _ _ _ _ hk, cols4 _ _ _ _ hk, x_apply m c t r _ h, p_apply, (mods_apply m c t _ h).2.2.1, p2]
  simp only [meanLess_eq _ _ _ t.val h g, mats (iblk m c 1 t) g q hq hW, w_apply]

end Cert.PoolIdeal.Whole

end
-- ==== Proof.PoolValue.lean ====
/-
  The pooling mixer's call: the arrays that it leaves.
-/
module

public import proofs.«01_k».proof.Proof.PoolBlock

@[expose] public section

set_option maxRecDepth 16384

noncomputable section

namespace Cert.PoolIdeal.Whole

open Cert.PoolIdeal Cert.PoolIdeal.Gen Cert.Ffn
open Cert.PoolRefIdeal.At (part hid mixed x3At h4At whole3 whole4)
open Idealize.ShloMosaic Idealize.ShloMosaic.TcCoe Idealize.SL.Sem
open Idealize.ShloMosaic.Pipeline (Dat)

variable (m : (ℓ : Loc nD τ sig) → Buf (Elt Ideal) ℓ)

/-- What a grid point leaves in its first output block, from the arguments. -/
theorem block3 (c : Dev nD) (t : Fin cfg0.N) (r : Fin 1024) (d : Fin 2048) (h : t.val < 6) :
    (outsAt0 m c t).1 (ix2 r d)
      = x3At (m ((c : Thread nD τ).loc main_arg0)) (m ((c : Thread nD τ).loc main_arg1)) (m ((c : Thread nD τ).loc main_arg2))
        (m ((c : Thread nD τ).loc main_arg3)) (m ((c : Thread nD τ).loc main_arg5)) ⟨t.val * 1024 + r.val, by omega⟩ d := by
  unfold outsAt0
  dsimp only
  unfold out0_A_10
  frame_out
  canon_tiles x hx
  all_goals
    obtain ⟨r', u, rfl⟩ : ∃ (r' : Fin 1024) (u : Fin 512), x = ix2 r' u := ⟨x 0, x 1, by funext a; fin_cases a <;> rfl⟩
    obtain rfl : r = r' := Fin.ext hx0
  · rw [x3At_eq _ _ _ _ _ _ 3 u d (by simpa [Nat.add_comm] using hx1)]
    refine (congrFun (Tile.pay_3 _ _ _ _ _ _ _ _ _ _) _).trans ((Tile.outs _ _ _ _ _ _ _ _ _ _ (decide (t.val < 4)) (seq_word t) (places t) _
      (fun k s => hids_eq m c t h 3 1536 rfl _ _ _ s k) r u).2.2.2.trans ?_)
    exact out_eq m c t h 3 1536 rfl _ _ _ 3 rfl _ r u
  · rw [x3At_eq _ _ _ _ _ _ 2 u d (by simpa [Nat.add_comm] using hx1)]
    refine (congrFun (Tile.pay_2 _ _ _ _ _ _ _ _ _ _) _).trans ((Tile.outs _ _ _ _ _ _ _ _ _ _ (decide (t.val < 4)) (seq_word t) (places t) _
      (fun k s => hids_eq m c t h 2 1024 rfl _ _ _ s k) r u).2.2.1.trans ?_)
    exact out_eq m c t h 2 1024 rfl _ _ _ 2 rfl _ r u
  · rw [x3At_eq _ _ _ _ _ _ 1 u d (by simpa [Nat.add_comm] using hx1)]
    refine (congrFun (Tile.pay_1 _ _ _ _ _ _ _ _ _ _) _).trans ((Tile.outs _ _ _ _ _ _ _ _ _ _ (decide (t.val < 4)) (seq_word t) (places t) _
      (fun k s => hids_eq m c t h 1 512 rfl _ _ _ s k) r u).2.1.trans ?_)
    exact out_eq m c t h 1 512 rfl _ _ _ 1 rfl _ r u
  · rw [x3At_eq _ _ _ _ _ _ 0 u d (by simpa [Nat.add_comm] using hx1)]
    refine (congrFun (Tile.pay_0 _ _ _ _ _ _ _ _ _ _) _).trans ((Tile.outs _ _ _ _ _ _ _ _ _ _ (decide (t.val < 4)) (seq_word t) (places t) _
      (fun k s => hids_eq m c t h 0 0 rfl _ _ _ s k) r u).1.trans ?_)
    exact out_eq m c t h 0 0 rfl _ _ _ 0 rfl _ r u

/-- What a grid point leaves in its second output block, from the arguments. -/
theorem block4 (c : Dev nD) (t : Fin cfg0.N) (r : Fin 1024) (d : Fin 2048) (h : t.val < 6) :
    (outsAt0 m c t).2 (ix2 r d)
      = h4At (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨t.val * 1024 + r.val, by omega⟩ d := by
  unfold outsAt0
  dsimp only
  unfold out0_A_11
  frame_out
  refine (Tile.pay_4 r _ _ _ _ d).trans ?_
  have p3 := part_eq (m ((c : Thread nD τ).loc main_arg5)) t.val h r 3 d ⟨t.val - 3, by omega⟩ ⟨6144 + d.val, by omega⟩ rfl (by simp)
  have p4 := part_eq (m ((c : Thread nD τ).loc main_arg5)) t.val h r 4 d ⟨t.val - 3, by omega⟩ ⟨8192 + d.val, by omega⟩ rfl (by simp)
  rw [g2_apply, (mods_apply m c t _ h).2.2.2.1, (mods_apply m c t _ h).2.2.2.2, p3, p4]
  unfold h4At
  refine congrArg (fun z => norm z _ d * (_ + _) + _) (funext fun k => ?_)
  refine Eq.trans ?_ (block3 m c t r k h)
  unfold outsAt0
  dsimp only
  unfold out0_A_10
  frame_out
  rw [View.readCov_eq_canon']
  refine congrArg (View.canon _) (funext fun a => Fin.ext ?_)
  fin_cases a <;> simp

/-- The call's first array. -/
theorem final3 (c : Dev nD) :
    (dats m 0 c).arrAt 10 (cfgs 0).N = whole3 (m ((c : Thread nD τ).loc main_arg0)) (m ((c : Thread nD τ).loc main_arg1))
      (m ((c : Thread nD τ).loc main_arg2)) (m ((c : Thread nD τ).loc main_arg3)) (m ((c : Thread nD τ).loc main_arg5)) := by
  refine (dats m 0 c).arrAt_eq_of_covers 10 _ (by decide +kernel) fun t hf y => ?_
  have ht := (idx t).2.2.2.2.2.2.2.2.2.2.2.2
  blk_simp
  rw [after0_10]
  obtain ⟨r, d, rfl⟩ : ∃ (r : Fin 1024) (d : Fin 2048), y = ix2 r d := ⟨y 0, y 1, by funext a; fin_cases a <;> rfl⟩
  rw [emb_apply t r d ht]
  exact block3 m c t r d ht

/-- The call's second array. -/
theorem final4 (c : Dev nD) :
    (dats m 0 c).arrAt 11 (cfgs 0).N = whole4 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 11 _ (by decide +kernel) fun t hf y => ?_
  have ht := (idx t).2.2.2.2.2.2.2.2.2.2.2.2
  blk_simp
  rw [after0_11]
  obtain ⟨r, d, rfl⟩ : ∃ (r : Fin 1024) (d : Fin 2048), y = ix2 r d := ⟨y 0, y 1, by funext a; fin_cases a <;> rfl⟩
  rw [emb_apply' t r d ht]
  exact block4 m c t r d ht

end Cert.PoolIdeal.Whole

end
-- ==== Proof.PoolClaim.lean ====
/-
  The pooling mixer's claim: the kernel's two arrays are the reference's.
-/
module

public import proofs.«01_k».proof.Defs
public import proofs.«01_k».proof.Proof.PoolValue
public import proofs.«01_k».proof.Proof.PoolRead
public import proofs.«01_k».proof.Proof.Gen.PoolIdeal.Frame
public import proofs.«01_k».proof.Proof.Gen.PoolRefIdeal.Run
public import Idealize.ShloMosaic.Lib.Claim

@[expose] public section

set_option maxRecDepth 16384

noncomputable section

namespace Cert.PoolClaim

open Idealize.ShloMosaic Idealize.ShloMosaic.TcCoe Idealize.SL.Sem
open Cert.PoolRefIdeal.At (whole3 whole4 result3 result4)

/-- The kernel ends with the two arrays. -/
theorem kernel_run (m : (ℓ : Loc Cert.PoolIdeal.nD Cert.PoolIdeal.τ Cert.PoolIdeal.sig) → Buf (Elt Ideal) ℓ) (g : Dev Cert.PoolIdeal.nD → PrngReg) :
    θ_run (Cert.PoolIdeal.defs (F := Ideal)) (onTc (τ := Cert.PoolIdeal.τ) (Cert.PoolIdeal.main (F := Ideal))) ⟨m, fun _ => 0, g⟩ (fun r => ∀ c : Dev Cert.PoolIdeal.nD,
      r.2.mem ((c.tc : Thread Cert.PoolIdeal.nD Cert.PoolIdeal.τ).loc Cert.PoolIdeal.main_v3_0) = whole3 (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg5))
      ∧ r.2.mem ((c.tc : Thread Cert.PoolIdeal.nD Cert.PoolIdeal.τ).loc Cert.PoolIdeal.main_v3_1) = whole4 (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))
      ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)) := by
  refine θ_run_mono (θ_run_and (Cert.PoolIdeal.Gen.run_main m g) (Cert.PoolIdeal.Gen.unchanged m g)) fun r h c => ?_
  exact ⟨((h.1 c).1 10).trans (Cert.PoolIdeal.Whole.final3 m c), ((h.1 c).1 11).trans (Cert.PoolIdeal.Whole.final4 m c), h.2 c⟩

/-- The reference ends with the two arrays. -/
theorem reference_run (m : (ℓ : Loc Cert.PoolRefIdeal.nD Cert.PoolRefIdeal.τ Cert.PoolRefIdeal.sig) → Buf (Elt Ideal) ℓ) (g : Dev Cert.PoolRefIdeal.nD → PrngReg) :
    θ_run (Cert.PoolRefIdeal.defs (F := Ideal)) (onTc (τ := Cert.PoolRefIdeal.τ) (Cert.PoolRefIdeal.main (F := Ideal))) ⟨m, fun _ => 0, g⟩ (fun r => ∀ c : Dev Cert.PoolRefIdeal.nD,
      r.2.mem ((c.tc : Thread Cert.PoolRefIdeal.nD Cert.PoolRefIdeal.τ).loc Cert.PoolRefIdeal.main_v104) = whole3 (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg5))
      ∧ r.2.mem ((c.tc : Thread Cert.PoolRefIdeal.nD Cert.PoolRefIdeal.τ).loc Cert.PoolRefIdeal.main_v136) = whole4 (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))
      ∧ r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)) := by
  refine θ_run_mono (Cert.PoolRefIdeal.Value.run m g) fun r h c => ?_
  obtain ⟨a, b, e⟩ := h c
  refine ⟨a.trans ?_, b.trans ?_, e⟩
  · exact (Cert.PoolRefIdeal.Read.val_main_v104_eq m c).trans (result3 _ _ _ _ _)
  · exact (Cert.PoolRefIdeal.Read.val_main_v136_eq m c).trans (result4 _ _ _ _ _ _)

/-- The claim. -/
theorem algebraic : Cert.algebraic_PoolIdeal_PoolRefIdeal := by
  intro m g m' g' hpre hagree
  refine ⟨fun c => whole3 (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg5)),
    fun c => whole4 (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)), kernel_run m g, ?_⟩
  refine θ_run_mono (reference_run m' g') fun r h c => ?_
  obtain ⟨a, b, e⟩ := h c
  obtain ⟨g0, g1, g2, g3, g4, g5⟩ := hagree c
  refine ⟨a.trans ?_, b.trans ?_, e⟩
  · rw [g0, g1, g2, g3, g5]
  · rw [g0, g1, g2, g3, g4, g5]

end Cert.PoolClaim
end
-- ==== Proof.lean ====
/- The claims about the calls, assembled from the modules under `Proof/`. -/
module

public import proofs.«01_k».proof.Defs
public import proofs.«01_k».proof.Proof.Gen.Latent.Frame
public import proofs.«01_k».proof.Proof.Gen.LatentIdeal.Value
public import proofs.«01_k».proof.Proof.Gen.LatentRefIdeal.Run
public import proofs.«01_k».proof.Proof.Gen.LatentRefIdeal.Read
public import proofs.«01_k».proof.Proof.Gen.Prompt.Frame
public import proofs.«01_k».proof.Proof.Gen.PromptIdeal.Value
public import proofs.«01_k».proof.Proof.Gen.PromptRefIdeal.Run
public import proofs.«01_k».proof.Proof.Gen.PromptRefIdeal.Read
public import proofs.«01_k».proof.Proof.Gen.Mlp.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.FinalPrompt.Frame
public import proofs.«01_k».proof.Proof.Gen.FinalPromptIdeal.Value
public import proofs.«01_k».proof.Proof.Gen.FinalPromptRefIdeal.Run
public import proofs.«01_k».proof.Proof.Gen.FinalPromptRefIdeal.Read
public import proofs.«01_k».proof.Proof.Gen.FinalSample.Frame
public import proofs.«01_k».proof.Proof.Gen.FinalSampleIdeal.Value
public import proofs.«01_k».proof.Proof.Gen.FinalSampleRefIdeal.Run
public import proofs.«01_k».proof.Proof.Gen.FinalSampleRefIdeal.Read
public import proofs.«01_k».proof.Proof.InProjBitsFrame
public import proofs.«01_k».proof.Proof.InProjFrame
public import proofs.«01_k».proof.Proof.Gen.InProjRefIdeal.Run
public import proofs.«01_k».proof.Proof.Gen.InProjRefIdeal.Read
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.Mod.Frame
public import proofs.«01_k».proof.Proof.Gen.ModIdeal.Value
public import proofs.«01_k».proof.Proof.Gen.ModRefIdeal.Run
public import proofs.«01_k».proof.Proof.Gen.ModRefIdeal.Read
public import proofs.«01_k».proof.Proof.Gen.Pool.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.On_prompt_rows
public import proofs.«01_k».proof.Proof.Gen.Pre_real_scores
public import proofs.«01_k».proof.Proof.Gen.Pre_real_proj
public import proofs.«01_k».proof.Proof.Gen.Pre_real_mlp
public import proofs.«01_k».proof.Proof.Gen.Pre_real_final
public import proofs.«01_k».proof.Proof.LatentClaim
public import proofs.«01_k».proof.Proof.PromptClaim
public import proofs.«01_k».proof.Proof.MlpClaim
public import proofs.«01_k».proof.Proof.FinalPromptClaim
public import proofs.«01_k».proof.Proof.FinalSampleClaim
public import proofs.«01_k».proof.Proof.InProjClaim
public import proofs.«01_k».proof.Proof.AdaClaim
public import proofs.«01_k».proof.Proof.ModClaim
public import proofs.«01_k».proof.Proof.PoolClaim
public import Idealize.ShloMosaic.Adequacy
public import Idealize.ShloMosaic.Init

@[expose] public section

noncomputable section

namespace Cert.Proof

open Idealize.ShloMosaic Idealize.SL.Sem

/-- The call `Latent` leaves its arguments, on the hardware's floats. -/
theorem frameLatent : Cert.quiescent_Latent := fun m g _ => Cert.Latent.Gen.frame m g

/-- The call `Latent` leaves its arguments, over the extended reals. -/
theorem frameLatentIdeal : Cert.quiescent_LatentIdeal := fun m g _ => Cert.LatentIdeal.Gen.frame m g

/-- The reference of `Latent` leaves its arguments. -/
theorem frameLatentRef : Cert.quiescent_LatentRefIdeal := fun m g _ =>
  θ_run_mono (Cert.LatentRefIdeal.Value.run m g) fun r h => ⟨fun c => (h c).2, sem_eq_zero_of_no_sems (by decide) r.2⟩

/-- The call `Prompt` leaves its arguments, on the hardware's floats. -/
theorem framePrompt : Cert.quiescent_Prompt := fun m g _ => Cert.Prompt.Gen.frame m g

/-- The call `Prompt` leaves its arguments, over the extended reals. -/
theorem framePromptIdeal : Cert.quiescent_PromptIdeal := fun m g _ => Cert.PromptIdeal.Gen.frame m g

/-- The reference of `Prompt` leaves its arguments. -/
theorem framePromptRef : Cert.quiescent_PromptRefIdeal := fun m g _ =>
  θ_run_mono (Cert.PromptRefIdeal.Value.run m g) fun r h => ⟨fun c => (h c).2, sem_eq_zero_of_no_sems (by decide) r.2⟩

/-- The call `Mlp` leaves its arguments, on the hardware's floats. -/
theorem frameMlp : Cert.quiescent_Mlp := fun m g _ => Cert.Mlp.Gen.frame m g

/-- The call `Mlp` leaves its arguments, over the extended reals. -/
theorem frameMlpIdeal : Cert.quiescent_MlpIdeal := fun m g _ => Cert.MlpIdeal.Gen.frame m g

/-- The reference of `Mlp` leaves its arguments. -/
theorem frameMlpRef : Cert.quiescent_MlpRefIdeal := fun m g _ =>
  θ_run_mono (Cert.MlpRefIdeal.Value.run m g) fun r h => ⟨fun c => (h c).2, sem_eq_zero_of_no_sems (by decide) r.2⟩

/-- The call `FinalPrompt` leaves its arguments, on the hardware's floats. -/
theorem frameFinalPrompt : Cert.quiescent_FinalPrompt := fun m g _ => Cert.FinalPrompt.Gen.frame m g

/-- The call `FinalPrompt` leaves its arguments, over the extended reals. -/
theorem frameFinalPromptIdeal : Cert.quiescent_FinalPromptIdeal := fun m g _ => Cert.FinalPromptIdeal.Gen.frame m g

/-- The reference of `FinalPrompt` leaves its arguments. -/
theorem frameFinalPromptRef : Cert.quiescent_FinalPromptRefIdeal := fun m g _ =>
  θ_run_mono (Cert.FinalPromptRefIdeal.Value.run m g) fun r h => ⟨fun c => (h c).2, sem_eq_zero_of_no_sems (by decide) r.2⟩

/-- The call `FinalSample` leaves its arguments, on the hardware's floats. -/
theorem frameFinalSample : Cert.quiescent_FinalSample := fun m g _ => Cert.FinalSample.Gen.frame m g

/-- The call `FinalSample` leaves its arguments, over the extended reals. -/
theorem frameFinalSampleIdeal : Cert.quiescent_FinalSampleIdeal := fun m g _ => Cert.FinalSampleIdeal.Gen.frame m g

/-- The reference of `FinalSample` leaves its arguments. -/
theorem frameFinalSampleRef : Cert.quiescent_FinalSampleRefIdeal := fun m g _ =>
  θ_run_mono (Cert.FinalSampleRefIdeal.Value.run m g) fun r h => ⟨fun c => (h c).2, sem_eq_zero_of_no_sems (by decide) r.2⟩

/-- The call `InProj` leaves its arguments, on the hardware's floats. -/
theorem frameInProj : Cert.quiescent_InProj := fun m g _ => Cert.InProjBits.frame m g

/-- The call `InProj` leaves its arguments, over the extended reals. -/
theorem frameInProjIdeal : Cert.quiescent_InProjIdeal := fun m g _ => Cert.InProjRun.frame m g

/-- The reference of `InProj` leaves its arguments. -/
theorem frameInProjRef : Cert.quiescent_InProjRefIdeal := fun m g _ =>
  θ_run_mono (Cert.InProjRefIdeal.Value.run m g) fun r h => ⟨fun c => (h c).2.2.2, sem_eq_zero_of_no_sems (by decide) r.2⟩

/-- The call `Ada` leaves its arguments, on the hardware's floats. -/
theorem frameAda : Cert.quiescent_Ada := fun m g _ => Cert.Ada.Gen.frame m g

/-- The call `Ada` leaves its arguments, over the extended reals. -/
theorem frameAdaIdeal : Cert.quiescent_AdaIdeal := fun m g _ => Cert.AdaIdeal.Gen.frame m g

/-- The reference of `Ada` leaves its arguments. -/
theorem frameAdaRef : Cert.quiescent_AdaRefIdeal := fun m g _ =>
  θ_run_mono (Cert.AdaRefIdeal.Value.run m g) fun r h => ⟨fun c => (h c).2, sem_eq_zero_of_no_sems (by decide) r.2⟩

/-- The call `Mod` leaves its arguments, on the hardware's floats. -/
theorem frameMod : Cert.quiescent_Mod := fun m g _ => Cert.Mod.Gen.frame m g

/-- The call `Mod` leaves its arguments, over the extended reals. -/
theorem frameModIdeal : Cert.quiescent_ModIdeal := fun m g _ => Cert.ModIdeal.Gen.frame m g

/-- The reference of `Mod` leaves its arguments. -/
theorem frameModRef : Cert.quiescent_ModRefIdeal := fun m g _ =>
  θ_run_mono (Cert.ModRefIdeal.Value.run m g) fun r h => ⟨fun c => (h c).2, sem_eq_zero_of_no_sems (by decide) r.2⟩

/-- The call `Pool` leaves its arguments, on the hardware's floats. -/
theorem framePool : Cert.quiescent_Pool := fun m g _ => Cert.Pool.Gen.frame m g

/-- The call `Pool` leaves its arguments, over the extended reals. -/
theorem framePoolIdeal : Cert.quiescent_PoolIdeal := fun m g _ => Cert.PoolIdeal.Gen.frame m g

/-- The reference of `Pool` leaves its arguments. -/
theorem framePoolRef : Cert.quiescent_PoolRefIdeal := fun m g _ =>
  θ_run_mono (Cert.PoolRefIdeal.Value.run m g) fun r h => ⟨fun c => (h c).2.2, sem_eq_zero_of_no_sems (by decide) r.2⟩

/-- All the claims. -/
theorem claim : Cert.Claim :=
  ⟨Cert.Latent.Gen.facts, Cert.LatentIdeal.Gen.facts, Cert.LatentRefIdeal.Gen.facts,
    Cert.Prompt.Gen.facts, Cert.PromptIdeal.Gen.facts, Cert.PromptRefIdeal.Gen.facts,
    Cert.Mlp.Gen.facts, Cert.MlpIdeal.Gen.facts, Cert.MlpRefIdeal.Gen.facts,
    Cert.FinalPrompt.Gen.facts, Cert.FinalPromptIdeal.Gen.facts, Cert.FinalPromptRefIdeal.Gen.facts,
    Cert.FinalSample.Gen.facts, Cert.FinalSampleIdeal.Gen.facts, Cert.FinalSampleRefIdeal.Gen.facts,
    Cert.InProj.Gen.facts, Cert.InProjIdeal.Gen.facts, Cert.InProjRefIdeal.Gen.facts,
    Cert.Ada.Gen.facts, Cert.AdaIdeal.Gen.facts, Cert.AdaRefIdeal.Gen.facts,
    Cert.Mod.Gen.facts, Cert.ModIdeal.Gen.facts, Cert.ModRefIdeal.Gen.facts,
    Cert.Pool.Gen.facts, Cert.PoolIdeal.Gen.facts, Cert.PoolRefIdeal.Gen.facts,
    Cert.Pre_real_scores.Gen.facts, Cert.Pre_real_proj.Gen.facts, Cert.Pre_real_mlp.Gen.facts,
    Cert.Pre_real_final.Gen.facts, Cert.On_prompt_rows.Gen.facts,
    frameLatent, frameLatentIdeal, fun m g _ => frameLatentIdeal m g trivial, frameLatentRef, fun m g _ => frameLatentRef m g trivial,
    framePrompt, framePromptIdeal, fun m g _ => framePromptIdeal m g trivial, framePromptRef, fun m g _ => framePromptRef m g trivial,
    frameMlp, frameMlpIdeal, fun m g _ => frameMlpIdeal m g trivial, frameMlpRef, fun m g _ => frameMlpRef m g trivial,
    frameFinalPrompt, frameFinalPromptIdeal, fun m g _ => frameFinalPromptIdeal m g trivial, frameFinalPromptRef, fun m g _ => frameFinalPromptRef m g trivial,
    frameFinalSample, frameFinalSampleIdeal, fun m g _ => frameFinalSampleIdeal m g trivial, frameFinalSampleRef, fun m g _ => frameFinalSampleRef m g trivial,
    frameInProj, frameInProjIdeal, frameInProjRef,
    frameAda, frameAdaIdeal, frameAdaRef,
    frameMod, frameModIdeal, frameModRef,
    framePool, framePoolIdeal, framePoolRef,
    trivial, Cert.LatentClaim.algebraic,
    trivial, Cert.PromptClaim.algebraic,
    trivial, Cert.MlpClaim.algebraic,
    trivial, Cert.FinalPromptClaim.algebraic,
    trivial, Cert.FinalSampleClaim.algebraic,
    trivial, Cert.InProjClaim.algebraic,
    trivial, Cert.AdaClaim.algebraic,
    trivial, Cert.ModClaim.algebraic,
    trivial, Cert.PoolClaim.algebraic⟩

end Cert.Proof

end
